-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = Layout.block ⟨3, ![2, 256, 512]⟩ ⟨3, ![32, 256, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v51) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn {F : FTy → Type} [FloatOps F] (main_arg0 : FVec F S2x256x512 .bf16) (main_arg1 : FVec F S512x256 .bf16) (main_arg2 : FVec F S32x256x64x64 .bf16) (main_arg3 : FVec F S32x256x64x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S32x256x64x64 .bf16 := Host.absf main_arg2
  let main_cst_0 : FVec F S_ .bf16 := constant S_ .bf16 0x7F80#16
  let main_v5 : FVec F S32x256x64x64 .bf16 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  main_v8
-- ==== Pre_finite_ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn {F : FTy → Type} [FloatOps F] (main_arg0 : FVec F S32x256x512 .bf16) (main_arg1 : FVec F S512x4096 .bf16) (main_arg2 : FVec F S32x256x64x64 .bf16) (main_arg3 : FVec F S32x256x64x64 .bf16) (main_arg4 : FVec F S4096x512 .bf16) : IVec S_ 1 :=
  let main_v0 : FVec F S32x256x512 .bf16 := Host.absf main_arg0
  let main_cst : FVec F S_ .bf16 := constant S_ .bf16 0x7F80#16
  let main_v1 : FVec F S32x256x512 .bf16 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S32x256x64x64 .bf16 := Host.absf main_arg2
  let main_cst_0 : FVec F S_ .bf16 := constant S_ .bf16 0x7F80#16
  let main_v5 : FVec F S32x256x64x64 .bf16 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  main_v8
-- ==== Kernel.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩
abbrev S1024x256 : Shape := ⟨2, ![1024, 256]⟩
abbrev S2x256x64x64 : Shape := ⟨4, ![2, 256, 64, 64]⟩
abbrev S2x64x64x256 : Shape := ⟨4, ![2, 64, 64, 256]⟩
abbrev S128x64x256 : Shape := ⟨3, ![128, 64, 256]⟩
abbrev S2x64x256x64 : Shape := ⟨4, ![2, 64, 256, 64]⟩
abbrev S128x256x64 : Shape := ⟨3, ![128, 256, 64]⟩
abbrev S16x1024x256 : Shape := ⟨3, ![16, 1024, 256]⟩
abbrev S16x2 : Shape := ⟨2, ![16, 2]⟩
abbrev S1x16 : Shape := ⟨2, ![1, 16]⟩
abbrev S1x1x16 : Shape := ⟨3, ![1, 1, 16]⟩
abbrev S1 : Shape := ⟨1, ![1]⟩
abbrev S1x1x1 : Shape := ⟨3, ![1, 1, 1]⟩
abbrev S1x1024x256 : Shape := ⟨3, ![1, 1024, 256]⟩
abbrev S256x256 : Shape := ⟨2, ![256, 256]⟩
abbrev S1x1 : Shape := ⟨2, ![1, 1]⟩
abbrev S1x512x256 : Shape := ⟨3, ![1, 512, 256]⟩
abbrev S1x256x512 : Shape := ⟨3, ![1, 256, 512]⟩
abbrev S1x64x256 : Shape := ⟨3, ![1, 64, 256]⟩
abbrev S64x256 : Shape := ⟨2, ![64, 256]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩

abbrev nBuf : Space → Nat
  | .hbm => 55
  | .vmem => 6
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S32x256x64x64, .bf16⟩
  | .hbm, ⟨3, _⟩ => ⟨S32x256x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S512x256, .bf16⟩
  | .hbm, ⟨12, _⟩ => ⟨S1024x256, .bf16⟩
  | .hbm, ⟨13, _⟩ => ⟨S_, .bf16⟩
  | .hbm, ⟨14, _⟩ => ⟨S1024x256, .bf16⟩
  | .hbm, ⟨15, _⟩ => ⟨S1024x256, .bf16⟩
  | .hbm, ⟨16, _⟩ => ⟨S1024x256, .bf16⟩
  | .hbm, ⟨17, _⟩ => ⟨S_, .i32⟩
  | .hbm, ⟨18, _⟩ => ⟨S_, .i32⟩
  | .hbm, ⟨19, _⟩ => ⟨S_, .bf16⟩
  | .hbm, ⟨20, _⟩ => ⟨S1024x256, .bf16⟩
  | .hbm, ⟨21, _⟩ => ⟨S1024x256, .bf16⟩
  | .hbm, ⟨22, _⟩ => ⟨S_, .bf16⟩
  | .hbm, ⟨23, _⟩ => ⟨S1024x256, .bf16⟩
  | .hbm, ⟨24, _⟩ => ⟨S1024x256, .bf16⟩
  | .hbm, ⟨25, _⟩ => ⟨S1024x256, .f32⟩
  | .hbm, ⟨26, _⟩ => ⟨S1024x256, .i32⟩
  | .hbm, ⟨27, _⟩ => ⟨S1024x256, .i8⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S2x256x64x64, .bf16⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S2x256x64x64, .bf16⟩
  | .hbm, ⟨50, _⟩ => ⟨S2x64x64x256, .bf16⟩
  | .hbm, ⟨51, _⟩ => ⟨S128x64x256, .bf16⟩
  | .hbm, ⟨52, _⟩ => ⟨S2x64x256x64, .bf16⟩
  | .hbm, ⟨53, _⟩ => ⟨S128x256x64, .bf16⟩
  | .hbm, ⟨54, _⟩ => ⟨S2x256x512, .f32⟩
  | .local _ .vmem, ⟨0, _⟩ => ⟨S2x256x512, .bf16⟩
  | .local _ .vmem, ⟨1, _⟩ => ⟨S1024x256, .i8⟩
  | .local _ .vmem, ⟨2, _⟩ => ⟨S128x64x256, .bf16⟩
  | .local _ .vmem, ⟨3, _⟩ => ⟨S128x256x64, .bf16⟩
  | .local _ .vmem, ⟨4, _⟩ => ⟨S2x256x512, .f32⟩
  | .local _ .vmem, ⟨5, _⟩ => ⟨S16x1024x256, .i8⟩
  | _, _ => ⟨S2x256x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 133 → Bool
  | ⟨i, _⟩ => dmaSemScopedAt i

abbrev sig : RefSig :=
  (ofTc nBuf bufTy 2 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_c_7 : Ref sig .tc := ⟨.hbm, 36, rfl⟩
abbrev main_c_8 : Ref sig .tc := ⟨.hbm, 37, rfl⟩
abbrev main_v18 : Ref sig .tc := ⟨.hbm, 38, rfl⟩
abbrev main_c_9 : Ref sig .tc := ⟨.hbm, 39, rfl⟩
abbrev main_v19 : Ref sig .tc := ⟨.hbm, 40, rfl⟩
abbrev main_c_10 : Ref sig .tc := ⟨.hbm, 41, rfl⟩
abbrev main_v20 : Ref sig .tc := ⟨.hbm, 42, rfl⟩
abbrev main_c_11 : Ref sig .tc := ⟨.hbm, 43, rfl⟩
abbrev main_v21 : Ref sig .tc := ⟨.hbm, 44, rfl⟩
abbrev main_v22 : Ref sig .tc := ⟨.hbm, 45, rfl⟩
abbrev main_c_12 : Ref sig .tc := ⟨.hbm, 46, rfl⟩
abbrev main_c_13 : Ref sig .tc := ⟨.hbm, 47, rfl⟩
abbrev main_c_14 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (v73 : BitVec 32) : Nat :=
  let c0_i32_22 : BitVec 32 := 0#32
  let c1_i32_21 : BitVec 32 := 1#32
  let v75 : BitVec 32 := Scalar.muli v73 c1_i32_21
  let v76 : BitVec 32 := Scalar.addi c0_i32_22 v75
  v76.toNat

def k0_dev2 (v62 : BitVec 32) : Nat :=
  let c0_i32_25 : BitVec 32 := 0#32
  let c1_i32_24 : BitVec 32 := 1#32
  let v77 : BitVec 32 := Scalar.muli v62 c1_i32_24
  let v78 : BitVec 32 := Scalar.addi c0_i32_25 v77
  v78.toNat

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v82 : Index := Scalar.indexCast v2
  let c0_28 : Index := 0#32
  let c0_29 : Index := 0#32
  ![v82.toNat, 0, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_35 : BitVec 32 := 0#32
  ![v2.toNat, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_38 : BitVec 32 := 0#32
  let c0_i32_39 : BitVec 32 := 0#32
  ![v2.toNat, 0, 0]
def k0_dev3 (v62 : BitVec 32) : Nat :=
  let c0_i32_37 : BitVec 32 := 0#32
  let c1_i32_36 : BitVec 32 := 1#32
  let v94 : BitVec 32 := Scalar.muli v62 c1_i32_36
  let v95 : BitVec 32 := Scalar.addi c0_i32_37 v94
  v95.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_43 : BitVec 32 := 1#32
  ![v2.toNat, 1]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let c0_i32_46 : BitVec 32 := 0#32
  ![v2.toNat, 512, 0]
def k0_dev4 (v62 : BitVec 32) : Nat :=
  let c0_i32_45 : BitVec 32 := 0#32
  let c1_i32_44 : BitVec 32 := 1#32
  let v104 : BitVec 32 := Scalar.muli v62 c1_i32_44
  let v105 : BitVec 32 := Scalar.addi c0_i32_45 v104
  v105.toNat
def k0_dev5 (v73 : BitVec 32) : Nat :=
  let c0_i32_52 : BitVec 32 := 0#32
  let c1_i32_51 : BitVec 32 := 1#32
  let v114 : BitVec 32 := Scalar.muli v73 c1_i32_51
  let v115 : BitVec 32 := Scalar.addi c0_i32_52 v114
  v115.toNat
def k0_dev6 (v73 : BitVec 32) : Nat :=
  let c0_i32_60 : BitVec 32 := 0#32
  let c1_i32_59 : BitVec 32 := 1#32
  let v124 : BitVec 32 := Scalar.muli v73 c1_i32_59
  let v125 : BitVec 32 := Scalar.addi c0_i32_60 v124
  v125.toNat
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v134 : Index := Scalar.indexCast v2
  let c0_65 : Index := 0#32
  let c0_66 : Index := 0#32
  ![v134.toNat, 0, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v138 : Index := Scalar.indexCast v2
  let c512 : Index := 512#32
  let c0_67 : Index := 0#32
  ![v138.toNat, 512, 0]
def k0_off8 (d0 : Dev nD) (c0_i32_74 : BitVec 32) (c0_i32_75 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_73 : BitVec 32 := 4#32
  let v148 : BitVec 32 := Scalar.muli v2 c4_i32_73
  let v149 : BitVec 32 := Scalar.addi c0_i32_74 v148
  let v150 : BitVec 32 := Scalar.addi v149 c0_i32_75
  let v151 : Index := Scalar.indexCast v150
  let c0_76 : Index := 0#32
  let c0_77 : Index := 0#32
  ![v151.toNat, 0, 0]
def k0_off9 (d0 : Dev nD) (c0_i32_74 : BitVec 32) (c0_i32_75 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_73 : BitVec 32 := 4#32
  let v148 : BitVec 32 := Scalar.muli v2 c4_i32_73
  let v149 : BitVec 32 := Scalar.addi c0_i32_74 v148
  let v150 : BitVec 32 := Scalar.addi v149 c0_i32_75
  let v155 : Index := Scalar.indexCast v150
  let c0_78 : Index := 0#32
  let c0_79 : Index := 0#32
  ![v155.toNat, 0, 0]
def k0_off10 (v73 : BitVec 32) : Fin 2 → Nat :=
  let c0_i32_188 : BitVec 32 := 0#32
  ![v73.toNat, 0]
def k0_off11 (v73 : BitVec 32) : Fin 3 → Nat :=
  let c0_i32_192 : BitVec 32 := 0#32
  let c0_i32_193 : BitVec 32 := 0#32
  ![v73.toNat, 0, 0]
def k0_off12 (v73 : BitVec 32) : Fin 2 → Nat :=
  let c1_i32_196 : BitVec 32 := 1#32
  ![v73.toNat, 1]
def k0_off13 (v73 : BitVec 32) : Fin 3 → Nat :=
  let c512_i32_200 : BitVec 32 := 512#32
  let c0_i32_201 : BitVec 32 := 0#32
  ![v73.toNat, 512, 0]
def k0_off14 (v62 : BitVec 32) : Fin 2 → Nat :=
  let c0_i32_204 : BitVec 32 := 0#32
  ![v62.toNat, 0]
def k0_off15 (v62 : BitVec 32) : Fin 3 → Nat :=
  let c0_i32_208 : BitVec 32 := 0#32
  let c0_i32_209 : BitVec 32 := 0#32
  ![v62.toNat, 0, 0]
def k0_off16 (v62 : BitVec 32) : Fin 2 → Nat :=
  let c1_i32_212 : BitVec 32 := 1#32
  ![v62.toNat, 1]
def k0_off17 (v62 : BitVec 32) : Fin 3 → Nat :=
  let c512_i32_216 : BitVec 32 := 512#32
  let c0_i32_217 : BitVec 32 := 0#32
  ![v62.toNat, 512, 0]
@[reducible] def k0_t1_loop : Scf.Loop 32 :=
  let c1_i32_248 : BitVec 32 := 1#32
  let c7_i32 : BitVec 32 := 7#32
  let v430 : BitVec 32 := Scalar.addi c1_i32_248 c7_i32
  let c1_i32_249 : BitVec 32 := 1#32
  ⟨c1_i32_248, v430, c1_i32_249⟩
def k0_cond1 (k0_t1 : Fin k0_t1_loop.trips) : BitVec 1 :=
  let c1_i32_248 : BitVec 32 := 1#32
  let c1_i32_249 : BitVec 32 := 1#32
  let arg10 : BitVec 32 := Scf.iv c1_i32_248 c1_i32_249 k0_t1
  let c7_i32_389 : BitVec 32 := 7#32
  let v704 : BitVec 1 := Scalar.cmpi .slt arg10 c7_i32_389
  let v705 : BitVec 32 := Scalar.extui v704
  let c0_i32_390 : BitVec 32 := 0#32
  let v706 : BitVec 1 := Scalar.cmpi .ne v705 c0_i32_390
  v706

def k0_off18 (v692 : BitVec 32) : Fin 2 → Nat :=
  let c0_i32_697 : BitVec 32 := 0#32
  ![v692.toNat, 0]

def k0_off19 (v692 : BitVec 32) : Fin 3 → Nat :=
  let c0_i32_700 : BitVec 32 := 0#32
  let c0_i32_701 : BitVec 32 := 0#32
  ![v692.toNat, 0, 0]
def k0_dev7 (v62 : BitVec 32) : Nat :=
  let c0_i32_699 : BitVec 32 := 0#32
  let c1_i32_698 : BitVec 32 := 1#32
  let v1250 : BitVec 32 := Scalar.muli v62 c1_i32_698
  let v1251 : BitVec 32 := Scalar.addi c0_i32_699 v1250
  v1251.toNat
def k0_off20 (v692 : BitVec 32) : Fin 2 → Nat :=
  let c1_i32_705 : BitVec 32 := 1#32
  ![v692.toNat, 1]
def k0_off21 (v692 : BitVec 32) : Fin 3 → Nat :=
  let c512_i32_708 : BitVec 32 := 512#32
  let c0_i32_709 : BitVec 32 := 0#32
  ![v692.toNat, 512, 0]
def k0_dev8 (v62 : BitVec 32) : Nat :=
  let c0_i32_707 : BitVec 32 := 0#32
  let c1_i32_706 : BitVec 32 := 1#32
  let v1260 : BitVec 32 := Scalar.muli v62 c1_i32_706
  let v1261 : BitVec 32 := Scalar.addi c0_i32_707 v1260
  v1261.toNat
def k0_off22 (v703 : BitVec 32) : Fin 2 → Nat :=
  let c0_i32_392 : BitVec 32 := 0#32
  ![v703.toNat, 0]

def k0_off23 (v703 : BitVec 32) : Fin 3 → Nat :=
  let c0_i32_395 : BitVec 32 := 0#32
  let c0_i32_396 : BitVec 32 := 0#32
  ![v703.toNat, 0, 0]
def k0_dev9 (v73 : BitVec 32) : Nat :=
  let c0_i32_394 : BitVec 32 := 0#32
  let c1_i32_393 : BitVec 32 := 1#32
  let v707 : BitVec 32 := Scalar.muli v73 c1_i32_393
  let v708 : BitVec 32 := Scalar.addi c0_i32_394 v707
  v708.toNat
def k0_off24 (v703 : BitVec 32) : Fin 2 → Nat :=
  let c1_i32_400 : BitVec 32 := 1#32
  ![v703.toNat, 1]
def k0_off25 (v703 : BitVec 32) : Fin 3 → Nat :=
  let c512_i32_403 : BitVec 32 := 512#32
  let c0_i32_404 : BitVec 32 := 0#32
  ![v703.toNat, 512, 0]
def k0_dev10 (v73 : BitVec 32) : Nat :=
  let c0_i32_402 : BitVec 32 := 0#32
  let c1_i32_401 : BitVec 32 := 1#32
  let v717 : BitVec 32 := Scalar.muli v73 c1_i32_401
  let v718 : BitVec 32 := Scalar.addi c0_i32_402 v717
  v718.toNat
def k0_off26 (v692 : BitVec 32) : Fin 3 → Nat :=
  let v727 : Index := Scalar.indexCast v692
  let c0_407 : Index := 0#32
  let c0_408 : Index := 0#32
  ![v727.toNat, 0, 0]
def k0_off27 (v692 : BitVec 32) : Fin 3 → Nat :=
  let v731 : Index := Scalar.indexCast v692
  let c512_409 : Index := 512#32
  let c0_410 : Index := 0#32
  ![v731.toNat, 512, 0]
def k0_off28 (v692 : BitVec 32) (c0_i32_417 : BitVec 32) (c0_i32_418 : BitVec 32) : Fin 3 → Nat :=
  let c4_i32_416 : BitVec 32 := 4#32
  let v741 : BitVec 32 := Scalar.muli v692 c4_i32_416
  let v742 : BitVec 32 := Scalar.addi c0_i32_417 v741
  let v743 : BitVec 32 := Scalar.addi v742 c0_i32_418
  let v744 : Index := Scalar.indexCast v743
  let c0_419 : Index := 0#32
  let c0_420 : Index := 0#32
  ![v744.toNat, 0, 0]
def k0_off29 (v692 : BitVec 32) (c0_i32_417 : BitVec 32) (c0_i32_418 : BitVec 32) : Fin 3 → Nat :=
  let c4_i32_416 : BitVec 32 := 4#32
  let v741 : BitVec 32 := Scalar.muli v692 c4_i32_416
  let v742 : BitVec 32 := Scalar.addi c0_i32_417 v741
  let v743 : BitVec 32 := Scalar.addi v742 c0_i32_418
  let v748 : Index := Scalar.indexCast v743
  let c0_421 : Index := 0#32
  let c0_422 : Index := 0#32
  ![v748.toNat, 0, 0]
def k0_off30 (v703 : BitVec 32) : Fin 3 → Nat :=
  let v967 : Index := Scalar.indexCast v703
  let c0_533 : Index := 0#32
  let c0_534 : Index := 0#32
  ![v967.toNat, 0, 0]
def k0_off31 (v703 : BitVec 32) : Fin 3 → Nat :=
  let v971 : Index := Scalar.indexCast v703
  let c512_535 : Index := 512#32
  let c0_536 : Index := 0#32
  ![v971.toNat, 512, 0]
def k0_off32 (v703 : BitVec 32) (c0_i32_543 : BitVec 32) (c0_i32_544 : BitVec 32) : Fin 3 → Nat :=
  let c4_i32_542 : BitVec 32 := 4#32
  let v981 : BitVec 32 := Scalar.muli v703 c4_i32_542
  let v982 : BitVec 32 := Scalar.addi c0_i32_543 v981
  let v983 : BitVec 32 := Scalar.addi v982 c0_i32_544
  let v984 : Index := Scalar.indexCast v983
  let c0_545 : Index := 0#32
  let c0_546 : Index := 0#32
  ![v984.toNat, 0, 0]
def k0_off33 (v703 : BitVec 32) (c0_i32_543 : BitVec 32) (c0_i32_544 : BitVec 32) : Fin 3 → Nat :=
  let c4_i32_542 : BitVec 32 := 4#32
  let v981 : BitVec 32 := Scalar.muli v703 c4_i32_542
  let v982 : BitVec 32 := Scalar.addi c0_i32_543 v981
  let v983 : BitVec 32 := Scalar.addi v982 c0_i32_544
  let v988 : Index := Scalar.indexCast v983
  let c0_547 : Index := 0#32
  let c0_548 : Index := 0#32
  ![v988.toNat, 0, 0]
def k0_cond2 (k0_t1 : Fin k0_t1_loop.trips) : BitVec 1 :=
  let c1_i32_248 : BitVec 32 := 1#32
  let c1_i32_249 : BitVec 32 := 1#32
  let arg10 : BitVec 32 := Scf.iv c1_i32_248 c1_i32_249 k0_t1
  let c7_i32_659 : BitVec 32 := 7#32
  let v1207 : BitVec 1 := Scalar.cmpi .slt arg10 c7_i32_659
  let v1208 : BitVec 32 := Scalar.extui v1207
  let c0_i32_660 : BitVec 32 := 0#32
  let v1209 : BitVec 1 := Scalar.cmpi .ne v1208 c0_i32_660
  v1209

def k0_off34 (v1261 : BitVec 32) : Fin 2 → Nat :=
  let c0_i32_701 : BitVec 32 := 0#32
  ![v1261.toNat, 0]

def k0_off35 (v1261 : BitVec 32) : Fin 3 → Nat :=
  let c0_i32_705 : BitVec 32 := 0#32
  let c0_i32_706 : BitVec 32 := 0#32
  ![v1261.toNat, 0, 0]
def k0_off36 (v1261 : BitVec 32) : Fin 2 → Nat :=
  let c1_i32_709 : BitVec 32 := 1#32
  ![v1261.toNat, 1]
def k0_off37 (v1261 : BitVec 32) : Fin 3 → Nat :=
  let c512_i32_713 : BitVec 32 := 512#32
  let c0_i32_714 : BitVec 32 := 0#32
  ![v1261.toNat, 512, 0]

def k0_chk5 (k0_t1 : Fin k0_t1_loop.trips) (v1261 : BitVec 32) : Prop :=
  (∀ (k0_h2 : k0_cond2 k0_t1 = 1#1), ∀ a, (k0_off34 v1261) a + S1x1.size a ≤ S16x2.size a) ∧
  (∀ (k0_h2 : k0_cond2 k0_t1 = 1#1), ∀ a, (k0_off35 v1261) a + S1x512x256.size a ≤ S16x1024x256.size a) ∧
  (∀ (k0_h2 : k0_cond2 k0_t1 = 1#1), ∀ (hinb : ∀ a, (k0_off35 v1261) a + S1x512x256.size a ≤ S16x1024x256.size a), (Rect.unit (s := S16x1024x256) (k0_off35 v1261) S1x512x256.size hinb).WholeWords (EltTy.packing .i8)) ∧
  (∀ (k0_h2 : k0_cond2 k0_t1 = 1#1), ∀ a, (k0_off36 v1261) a + S1x1.size a ≤ S16x2.size a) ∧
  (∀ (k0_h2 : k0_cond2 k0_t1 = 1#1), ∀ a, (k0_off37 v1261) a + S1x512x256.size a ≤ S16x1024x256.size a) ∧
  (∀ (k0_h2 : k0_cond2 k0_t1 = 1#1), ∀ (hinb : ∀ a, (k0_off37 v1261) a + S1x512x256.size a ≤ S16x1024x256.size a), (Rect.unit (s := S16x1024x256) (k0_off37 v1261) S1x512x256.size hinb).WholeWords (EltTy.packing .i8))
theorem k0_off34_inb : ∀ (k0_t1 : Fin k0_t1_loop.trips) (v1261 : BitVec 32) (k0_hw5 : k0_chk5 k0_t1 v1261), ∀ (k0_h2 : k0_cond2 k0_t1 = 1#1), ∀ a, (k0_off34 v1261) a + S1x1.size a ≤ S16x2.size a := fun k0_t1 v1261 k0_hw5 k0_h2 => k0_hw5.1 k0_h2
theorem k0_off35_inb : ∀ (k0_t1 : Fin k0_t1_loop.trips) (v1261 : BitVec 32) (k0_hw5 : k0_chk5 k0_t1 v1261), ∀ (k0_h2 : k0_cond2 k0_t1 = 1#1), ∀ a, (k0_off35 v1261) a + S1x512x256.size a ≤ S16x1024x256.size a := fun k0_t1 v1261 k0_hw5 k0_h2 => k0_hw5.2.1 k0_h2
theorem k0_off35_wordsi8 : ∀ (k0_t1 : Fin k0_t1_loop.trips) (v1261 : BitVec 32) (k0_hw5 : k0_chk5 k0_t1 v1261), ∀ (k0_h2 : k0_cond2 k0_t1 = 1#1), (Rect.unit (s := S16x1024x256) (k0_off35 v1261) S1x512x256.size (k0_off35_inb k0_t1 v1261 k0_hw5 k0_h2)).WholeWords (EltTy.packing .i8) := fun k0_t1 v1261 k0_hw5 k0_h2 => k0_hw5.2.2.1 k0_h2 (k0_off35_inb k0_t1 v1261 k0_hw5 k0_h2)
theorem k0_off36_inb : ∀ (k0_t1 : Fin k0_t1_loop.trips) (v1261 : BitVec 32) (k0_hw5 : k0_chk5 k0_t1 v1261), ∀ (k0_h2 : k0_cond2 k0_t1 = 1#1), ∀ a, (k0_off36 v1261) a + S1x1.size a ≤ S16x2.size a := fun k0_t1 v1261 k0_hw5 k0_h2 => k0_hw5.2.2.2.1 k0_h2
theorem k0_off37_inb : ∀ (k0_t1 : Fin k0_t1_loop.trips) (v1261 : BitVec 32) (k0_hw5 : k0_chk5 k0_t1 v1261), ∀ (k0_h2 : k0_cond2 k0_t1 = 1#1), ∀ a, (k0_off37 v1261) a + S1x512x256.size a ≤ S16x1024x256.size a := fun k0_t1 v1261 k0_hw5 k0_h2 => k0_hw5.2.2.2.2.1 k0_h2
theorem k0_off37_wordsi8 : ∀ (k0_t1 : Fin k0_t1_loop.trips) (v1261 : BitVec 32) (k0_hw5 : k0_chk5 k0_t1 v1261), ∀ (k0_h2 : k0_cond2 k0_t1 = 1#1), (Rect.unit (s := S16x1024x256) (k0_off37 v1261) S1x512x256.size (k0_off37_inb k0_t1 v1261 k0_hw5 k0_h2)).WholeWords (EltTy.packing .i8) := fun k0_t1 v1261 k0_hw5 k0_h2 => k0_hw5.2.2.2.2.2 k0_h2 (k0_off37_inb k0_t1 v1261 k0_hw5 k0_h2)

def k0_off38 (v692 : BitVec 32) : Fin 2 → Nat :=
  let c0_i32_717 : BitVec 32 := 0#32
  ![v692.toNat, 0]
def k0_off39 (v692 : BitVec 32) : Fin 3 → Nat :=
  let c0_i32_720 : BitVec 32 := 0#32
  let c0_i32_721 : BitVec 32 := 0#32
  ![v692.toNat, 0, 0]
def k0_off40 (v692 : BitVec 32) : Fin 2 → Nat :=
  let c1_i32_724 : BitVec 32 := 1#32
  ![v692.toNat, 1]
def k0_off41 (v692 : BitVec 32) : Fin 3 → Nat :=
  let c512_i32_727 : BitVec 32 := 512#32
  let c0_i32_728 : BitVec 32 := 0#32
  ![v692.toNat, 512, 0]

def k0_chk3 (k0_t1 : Fin k0_t1_loop.trips) (v692 : BitVec 32) : Prop :=
  (∀ (k0_h1 : k0_cond1 k0_t1 = 1#1), ∀ a, (k0_off18 v692) a + S1x1.size a ≤ S16x2.size a) ∧
  (∀ (k0_h1 : k0_cond1 k0_t1 = 1#1), ∀ a, (k0_off19 v692) a + S1x512x256.size a ≤ S16x1024x256.size a) ∧
  (∀ (k0_h1 : k0_cond1 k0_t1 = 1#1), ∀ (hinb : ∀ a, (k0_off19 v692) a + S1x512x256.size a ≤ S16x1024x256.size a), (Rect.unit (s := S16x1024x256) (k0_off19 v692) S1x512x256.size hinb).WholeWords (EltTy.packing .i8)) ∧
  (∀ (k0_h1 : k0_cond1 k0_t1 = 1#1), ∀ a, (k0_off20 v692) a + S1x1.size a ≤ S16x2.size a) ∧
  (∀ (k0_h1 : k0_cond1 k0_t1 = 1#1), ∀ a, (k0_off21 v692) a + S1x512x256.size a ≤ S16x1024x256.size a) ∧
  (∀ (k0_h1 : k0_cond1 k0_t1 = 1#1), ∀ (hinb : ∀ a, (k0_off21 v692) a + S1x512x256.size a ≤ S16x1024x256.size a), (Rect.unit (s := S16x1024x256) (k0_off21 v692) S1x512x256.size hinb).WholeWords (EltTy.packing .i8)) ∧
  (∀ a, (k0_off26 v692) a + S1x512x256.size a ≤ S16x1024x256.size a) ∧
  (∀ a, (k0_off27 v692) a + S1x512x256.size a ≤ S16x1024x256.size a) ∧
  (∀ (r₁ : Fin 2) (r₂ : Fin 4), ∀ a, (k0_off28 v692 (BitVec.ofNat 32 (64 * r₁.val)) (BitVec.ofNat 32 r₂.val)) a + S1x64x256.size a ≤ S128x64x256.size a) ∧
  (∀ (r₁ : Fin 2) (r₂ : Fin 4), ∀ a, (k0_off29 v692 (BitVec.ofNat 32 (64 * r₁.val)) (BitVec.ofNat 32 r₂.val)) a + S1x256x64.size a ≤ S128x256x64.size a) ∧
  (∀ (k0_h2 : k0_cond2 k0_t1 = 1#1), ∀ a, (k0_off38 v692) a + S1x1.size a ≤ S16x2.size a) ∧
  (∀ (k0_h2 : k0_cond2 k0_t1 = 1#1), ∀ a, (k0_off39 v692) a + S1x512x256.size a ≤ S16x1024x256.size a) ∧
  (∀ (k0_h2 : k0_cond2 k0_t1 = 1#1), ∀ (hinb : ∀ a, (k0_off39 v692) a + S1x512x256.size a ≤ S16x1024x256.size a), (Rect.unit (s := S16x1024x256) (k0_off39 v692) S1x512x256.size hinb).WholeWords (EltTy.packing .i8)) ∧
  (∀ (k0_h2 : k0_cond2 k0_t1 = 1#1), ∀ a, (k0_off40 v692) a + S1x1.size a ≤ S16x2.size a) ∧
  (∀ (k0_h2 : k0_cond2 k0_t1 = 1#1), ∀ a, (k0_off41 v692) a + S1x512x256.size a ≤ S16x1024x256.size a) ∧
  (∀ (k0_h2 : k0_cond2 k0_t1 = 1#1), ∀ (hinb : ∀ a, (k0_off41 v692) a + S1x512x256.size a ≤ S16x1024x256.size a), (Rect.unit (s := S16x1024x256) (k0_off41 v692) S1x512x256.size hinb).WholeWords (EltTy.packing .i8))
theorem k0_off18_inb : ∀ (k0_t1 : Fin k0_t1_loop.trips) (v692 : BitVec 32) (k0_hw3 : k0_chk3 k0_t1 v692), ∀ (k0_h1 : k0_cond1 k0_t1 = 1#1), ∀ a, (k0_off18 v692) a + S1x1.size a ≤ S16x2.size a := fun k0_t1 v692 k0_hw3 k0_h1 => k0_hw3.1 k0_h1
theorem k0_off19_inb : ∀ (k0_t1 : Fin k0_t1_loop.trips) (v692 : BitVec 32) (k0_hw3 : k0_chk3 k0_t1 v692), ∀ (k0_h1 : k0_cond1 k0_t1 = 1#1), ∀ a, (k0_off19 v692) a + S1x512x256.size a ≤ S16x1024x256.size a := fun k0_t1 v692 k0_hw3 k0_h1 => k0_hw3.2.1 k0_h1
theorem k0_off19_wordsi8 : ∀ (k0_t1 : Fin k0_t1_loop.trips) (v692 : BitVec 32) (k0_hw3 : k0_chk3 k0_t1 v692), ∀ (k0_h1 : k0_cond1 k0_t1 = 1#1), (Rect.unit (s := S16x1024x256) (k0_off19 v692) S1x512x256.size (k0_off19_inb k0_t1 v692 k0_hw3 k0_h1)).WholeWords (EltTy.packing .i8) := fun k0_t1 v692 k0_hw3 k0_h1 => k0_hw3.2.2.1 k0_h1 (k0_off19_inb k0_t1 v692 k0_hw3 k0_h1)
theorem k0_off20_inb : ∀ (k0_t1 : Fin k0_t1_loop.trips) (v692 : BitVec 32) (k0_hw3 : k0_chk3 k0_t1 v692), ∀ (k0_h1 : k0_cond1 k0_t1 = 1#1), ∀ a, (k0_off20 v692) a + S1x1.size a ≤ S16x2.size a := fun k0_t1 v692 k0_hw3 k0_h1 => k0_hw3.2.2.2.1 k0_h1
theorem k0_off21_inb : ∀ (k0_t1 : Fin k0_t1_loop.trips) (v692 : BitVec 32) (k0_hw3 : k0_chk3 k0_t1 v692), ∀ (k0_h1 : k0_cond1 k0_t1 = 1#1), ∀ a, (k0_off21 v692) a + S1x512x256.size a ≤ S16x1024x256.size a := fun k0_t1 v692 k0_hw3 k0_h1 => k0_hw3.2.2.2.2.1 k0_h1
theorem k0_off21_wordsi8 : ∀ (k0_t1 : Fin k0_t1_loop.trips) (v692 : BitVec 32) (k0_hw3 : k0_chk3 k0_t1 v692), ∀ (k0_h1 : k0_cond1 k0_t1 = 1#1), (Rect.unit (s := S16x1024x256) (k0_off21 v692) S1x512x256.size (k0_off21_inb k0_t1 v692 k0_hw3 k0_h1)).WholeWords (EltTy.packing .i8) := fun k0_t1 v692 k0_hw3 k0_h1 => k0_hw3.2.2.2.2.2.1 k0_h1 (k0_off21_inb k0_t1 v692 k0_hw3 k0_h1)
theorem k0_off26_inb : ∀ (k0_t1 : Fin k0_t1_loop.trips) (v692 : BitVec 32) (k0_hw3 : k0_chk3 k0_t1 v692), ∀ a, (k0_off26 v692) a + S1x512x256.size a ≤ S16x1024x256.size a := fun k0_t1 v692 k0_hw3 => k0_hw3.2.2.2.2.2.2.1
theorem k0_off27_inb : ∀ (k0_t1 : Fin k0_t1_loop.trips) (v692 : BitVec 32) (k0_hw3 : k0_chk3 k0_t1 v692), ∀ a, (k0_off27 v692) a + S1x512x256.size a ≤ S16x1024x256.size a := fun k0_t1 v692 k0_hw3 => k0_hw3.2.2.2.2.2.2.2.1
theorem k0_off28_inb : ∀ (k0_t1 : Fin k0_t1_loop.trips) (v692 : BitVec 32) (k0_hw3 : k0_chk3 k0_t1 v692), ∀ (r₁ : Fin 2) (r₂ : Fin 4), ∀ a, (k0_off28 v692 (BitVec.ofNat 32 (64 * r₁.val)) (BitVec.ofNat 32 r₂.val)) a + S1x64x256.size a ≤ S128x64x256.size a := fun k0_t1 v692 k0_hw3 r₁ r₂ => k0_hw3.2.2.2.2.2.2.2.2.1 r₁ r₂
theorem k0_off29_inb : ∀ (k0_t1 : Fin k0_t1_loop.trips) (v692 : BitVec 32) (k0_hw3 : k0_chk3 k0_t1 v692), ∀ (r₁ : Fin 2) (r₂ : Fin 4), ∀ a, (k0_off29 v692 (BitVec.ofNat 32 (64 * r₁.val)) (BitVec.ofNat 32 r₂.val)) a + S1x256x64.size a ≤ S128x256x64.size a := fun k0_t1 v692 k0_hw3 r₁ r₂ => k0_hw3.2.2.2.2.2.2.2.2.2.1 r₁ r₂
theorem k0_off38_inb : ∀ (k0_t1 : Fin k0_t1_loop.trips) (v692 : BitVec 32) (k0_hw3 : k0_chk3 k0_t1 v692), ∀ (k0_h2 : k0_cond2 k0_t1 = 1#1), ∀ a, (k0_off38 v692) a + S1x1.size a ≤ S16x2.size a := fun k0_t1 v692 k0_hw3 k0_h2 => k0_hw3.2.2.2.2.2.2.2.2.2.2.1 k0_h2
theorem k0_off39_inb : ∀ (k0_t1 : Fin k0_t1_loop.trips) (v692 : BitVec 32) (k0_hw3 : k0_chk3 k0_t1 v692), ∀ (k0_h2 : k0_cond2 k0_t1 = 1#1), ∀ a, (k0_off39 v692) a + S1x512x256.size a ≤ S16x1024x256.size a := fun k0_t1 v692 k0_hw3 k0_h2 => k0_hw3.2.2.2.2.2.2.2.2.2.2.2.1 k0_h2
theorem k0_off39_wordsi8 : ∀ (k0_t1 : Fin k0_t1_loop.trips) (v692 : BitVec 32) (k0_hw3 : k0_chk3 k0_t1 v692), ∀ (k0_h2 : k0_cond2 k0_t1 = 1#1), (Rect.unit (s := S16x1024x256) (k0_off39 v692) S1x512x256.size (k0_off39_inb k0_t1 v692 k0_hw3 k0_h2)).WholeWords (EltTy.packing .i8) := fun k0_t1 v692 k0_hw3 k0_h2 => k0_hw3.2.2.2.2.2.2.2.2.2.2.2.2.1 k0_h2 (k0_off39_inb k0_t1 v692 k0_hw3 k0_h2)
theorem k0_off40_inb : ∀ (k0_t1 : Fin k0_t1_loop.trips) (v692 : BitVec 32) (k0_hw3 : k0_chk3 k0_t1 v692), ∀ (k0_h2 : k0_cond2 k0_t1 = 1#1), ∀ a, (k0_off40 v692) a + S1x1.size a ≤ S16x2.size a := fun k0_t1 v692 k0_hw3 k0_h2 => k0_hw3.2.2.2.2.2.2.2.2.2.2.2.2.2.1 k0_h2
theorem k0_off41_inb : ∀ (k0_t1 : Fin k0_t1_loop.trips) (v692 : BitVec 32) (k0_hw3 : k0_chk3 k0_t1 v692), ∀ (k0_h2 : k0_cond2 k0_t1 = 1#1), ∀ a, (k0_off41 v692) a + S1x512x256.size a ≤ S16x1024x256.size a := fun k0_t1 v692 k0_hw3 k0_h2 => k0_hw3.2.2.2.2.2.2.2.2.2.2.2.2.2.2.1 k0_h2
theorem k0_off41_wordsi8 : ∀ (k0_t1 : Fin k0_t1_loop.trips) (v692 : BitVec 32) (k0_hw3 : k0_chk3 k0_t1 v692), ∀ (k0_h2 : k0_cond2 k0_t1 = 1#1), (Rect.unit (s := S16x1024x256) (k0_off41 v692) S1x512x256.size (k0_off41_inb k0_t1 v692 k0_hw3 k0_h2)).WholeWords (EltTy.packing .i8) := fun k0_t1 v692 k0_hw3 k0_h2 => k0_hw3.2.2.2.2.2.2.2.2.2.2.2.2.2.2.2 k0_h2 (k0_off41_inb k0_t1 v692 k0_hw3 k0_h2)

def k0_off42 (v1221 : BitVec 32) : Fin 2 → Nat :=
  let c0_i32_666 : BitVec 32 := 0#32
  ![v1221.toNat, 0]

def k0_off43 (v1221 : BitVec 32) : Fin 3 → Nat :=
  let c0_i32_670 : BitVec 32 := 0#32
  let c0_i32_671 : BitVec 32 := 0#32
  ![v1221.toNat, 0, 0]
def k0_off44 (v1221 : BitVec 32) : Fin 2 → Nat :=
  let c1_i32_674 : BitVec 32 := 1#32
  ![v1221.toNat, 1]
def k0_off45 (v1221 : BitVec 32) : Fin 3 → Nat :=
  let c512_i32_678 : BitVec 32 := 512#32
  let c0_i32_679 : BitVec 32 := 0#32
  ![v1221.toNat, 512, 0]

def k0_chk6 (v1221 : BitVec 32) : Prop :=
  (∀ a, (k0_off42 v1221) a + S1x1.size a ≤ S16x2.size a) ∧
  (∀ a, (k0_off43 v1221) a + S1x512x256.size a ≤ S16x1024x256.size a) ∧
  (∀ (hinb : ∀ a, (k0_off43 v1221) a + S1x512x256.size a ≤ S16x1024x256.size a), (Rect.unit (s := S16x1024x256) (k0_off43 v1221) S1x512x256.size hinb).WholeWords (EltTy.packing .i8)) ∧
  (∀ a, (k0_off44 v1221) a + S1x1.size a ≤ S16x2.size a) ∧
  (∀ a, (k0_off45 v1221) a + S1x512x256.size a ≤ S16x1024x256.size a) ∧
  (∀ (hinb : ∀ a, (k0_off45 v1221) a + S1x512x256.size a ≤ S16x1024x256.size a), (Rect.unit (s := S16x1024x256) (k0_off45 v1221) S1x512x256.size hinb).WholeWords (EltTy.packing .i8))
theorem k0_off42_inb : ∀ (v1221 : BitVec 32) (k0_hw6 : k0_chk6 v1221), ∀ a, (k0_off42 v1221) a + S1x1.size a ≤ S16x2.size a := fun v1221 k0_hw6 => k0_hw6.1
theorem k0_off43_inb : ∀ (v1221 : BitVec 32) (k0_hw6 : k0_chk6 v1221), ∀ a, (k0_off43 v1221) a + S1x512x256.size a ≤ S16x1024x256.size a := fun v1221 k0_hw6 => k0_hw6.2.1
theorem k0_off43_wordsi8 : ∀ (v1221 : BitVec 32) (k0_hw6 : k0_chk6 v1221), (Rect.unit (s := S16x1024x256) (k0_off43 v1221) S1x512x256.size (k0_off43_inb v1221 k0_hw6)).WholeWords (EltTy.packing .i8) := fun v1221 k0_hw6 => k0_hw6.2.2.1 (k0_off43_inb v1221 k0_hw6)
theorem k0_off44_inb : ∀ (v1221 : BitVec 32) (k0_hw6 : k0_chk6 v1221), ∀ a, (k0_off44 v1221) a + S1x1.size a ≤ S16x2.size a := fun v1221 k0_hw6 => k0_hw6.2.2.2.1
theorem k0_off45_inb : ∀ (v1221 : BitVec 32) (k0_hw6 : k0_chk6 v1221), ∀ a, (k0_off45 v1221) a + S1x512x256.size a ≤ S16x1024x256.size a := fun v1221 k0_hw6 => k0_hw6.2.2.2.2.1
theorem k0_off45_wordsi8 : ∀ (v1221 : BitVec 32) (k0_hw6 : k0_chk6 v1221), (Rect.unit (s := S16x1024x256) (k0_off45 v1221) S1x512x256.size (k0_off45_inb v1221 k0_hw6)).WholeWords (EltTy.packing .i8) := fun v1221 k0_hw6 => k0_hw6.2.2.2.2.2 (k0_off45_inb v1221 k0_hw6)

def k0_off46 (v703 : BitVec 32) : Fin 2 → Nat :=
  let c0_i32_682 : BitVec 32 := 0#32
  ![v703.toNat, 0]
def k0_off47 (v703 : BitVec 32) : Fin 3 → Nat :=
  let c0_i32_685 : BitVec 32 := 0#32
  let c0_i32_686 : BitVec 32 := 0#32
  ![v703.toNat, 0, 0]
def k0_off48 (v703 : BitVec 32) : Fin 2 → Nat :=
  let c1_i32_689 : BitVec 32 := 1#32
  ![v703.toNat, 1]
def k0_off49 (v703 : BitVec 32) : Fin 3 → Nat :=
  let c512_i32_692 : BitVec 32 := 512#32
  let c0_i32_693 : BitVec 32 := 0#32
  ![v703.toNat, 512, 0]

def k0_chk4 (v703 : BitVec 32) : Prop :=
  (∀ a, (k0_off22 v703) a + S1x1.size a ≤ S16x2.size a) ∧
  (∀ a, (k0_off23 v703) a + S1x512x256.size a ≤ S16x1024x256.size a) ∧
  (∀ (hinb : ∀ a, (k0_off23 v703) a + S1x512x256.size a ≤ S16x1024x256.size a), (Rect.unit (s := S16x1024x256) (k0_off23 v703) S1x512x256.size hinb).WholeWords (EltTy.packing .i8)) ∧
  (∀ a, (k0_off24 v703) a + S1x1.size a ≤ S16x2.size a) ∧
  (∀ a, (k0_off25 v703) a + S1x512x256.size a ≤ S16x1024x256.size a) ∧
  (∀ (hinb : ∀ a, (k0_off25 v703) a + S1x512x256.size a ≤ S16x1024x256.size a), (Rect.unit (s := S16x1024x256) (k0_off25 v703) S1x512x256.size hinb).WholeWords (EltTy.packing .i8)) ∧
  (∀ a, (k0_off30 v703) a + S1x512x256.size a ≤ S16x1024x256.size a) ∧
  (∀ a, (k0_off31 v703) a + S1x512x256.size a ≤ S16x1024x256.size a) ∧
  (∀ (r₁ : Fin 2) (r₂ : Fin 4), ∀ a, (k0_off32 v703 (BitVec.ofNat 32 (64 * r₁.val)) (BitVec.ofNat 32 r₂.val)) a + S1x64x256.size a ≤ S128x64x256.size a) ∧
  (∀ (r₁ : Fin 2) (r₂ : Fin 4), ∀ a, (k0_off33 v703 (BitVec.ofNat 32 (64 * r₁.val)) (BitVec.ofNat 32 r₂.val)) a + S1x256x64.size a ≤ S128x256x64.size a) ∧
  (∀ a, (k0_off46 v703) a + S1x1.size a ≤ S16x2.size a) ∧
  (∀ a, (k0_off47 v703) a + S1x512x256.size a ≤ S16x1024x256.size a) ∧
  (∀ (hinb : ∀ a, (k0_off47 v703) a + S1x512x256.size a ≤ S16x1024x256.size a), (Rect.unit (s := S16x1024x256) (k0_off47 v703) S1x512x256.size hinb).WholeWords (EltTy.packing .i8)) ∧
  (∀ a, (k0_off48 v703) a + S1x1.size a ≤ S16x2.size a) ∧
  (∀ a, (k0_off49 v703) a + S1x512x256.size a ≤ S16x1024x256.size a) ∧
  (∀ (hinb : ∀ a, (k0_off49 v703) a + S1x512x256.size a ≤ S16x1024x256.size a), (Rect.unit (s := S16x1024x256) (k0_off49 v703) S1x512x256.size hinb).WholeWords (EltTy.packing .i8))
theorem k0_off22_inb : ∀ (v703 : BitVec 32) (k0_hw4 : k0_chk4 v703), ∀ a, (k0_off22 v703) a + S1x1.size a ≤ S16x2.size a := fun v703 k0_hw4 => k0_hw4.1
theorem k0_off23_inb : ∀ (v703 : BitVec 32) (k0_hw4 : k0_chk4 v703), ∀ a, (k0_off23 v703) a + S1x512x256.size a ≤ S16x1024x256.size a := fun v703 k0_hw4 => k0_hw4.2.1
theorem k0_off23_wordsi8 : ∀ (v703 : BitVec 32) (k0_hw4 : k0_chk4 v703), (Rect.unit (s := S16x1024x256) (k0_off23 v703) S1x512x256.size (k0_off23_inb v703 k0_hw4)).WholeWords (EltTy.packing .i8) := fun v703 k0_hw4 => k0_hw4.2.2.1 (k0_off23_inb v703 k0_hw4)
theorem k0_off24_inb : ∀ (v703 : BitVec 32) (k0_hw4 : k0_chk4 v703), ∀ a, (k0_off24 v703) a + S1x1.size a ≤ S16x2.size a := fun v703 k0_hw4 => k0_hw4.2.2.2.1
theorem k0_off25_inb : ∀ (v703 : BitVec 32) (k0_hw4 : k0_chk4 v703), ∀ a, (k0_off25 v703) a + S1x512x256.size a ≤ S16x1024x256.size a := fun v703 k0_hw4 => k0_hw4.2.2.2.2.1
theorem k0_off25_wordsi8 : ∀ (v703 : BitVec 32) (k0_hw4 : k0_chk4 v703), (Rect.unit (s := S16x1024x256) (k0_off25 v703) S1x512x256.size (k0_off25_inb v703 k0_hw4)).WholeWords (EltTy.packing .i8) := fun v703 k0_hw4 => k0_hw4.2.2.2.2.2.1 (k0_off25_inb v703 k0_hw4)
theorem k0_off30_inb : ∀ (v703 : BitVec 32) (k0_hw4 : k0_chk4 v703), ∀ a, (k0_off30 v703) a + S1x512x256.size a ≤ S16x1024x256.size a := fun v703 k0_hw4 => k0_hw4.2.2.2.2.2.2.1
theorem k0_off31_inb : ∀ (v703 : BitVec 32) (k0_hw4 : k0_chk4 v703), ∀ a, (k0_off31 v703) a + S1x512x256.size a ≤ S16x1024x256.size a := fun v703 k0_hw4 => k0_hw4.2.2.2.2.2.2.2.1
theorem k0_off32_inb : ∀ (v703 : BitVec 32) (k0_hw4 : k0_chk4 v703), ∀ (r₁ : Fin 2) (r₂ : Fin 4), ∀ a, (k0_off32 v703 (BitVec.ofNat 32 (64 * r₁.val)) (BitVec.ofNat 32 r₂.val)) a + S1x64x256.size a ≤ S128x64x256.size a := fun v703 k0_hw4 r₁ r₂ => k0_hw4.2.2.2.2.2.2.2.2.1 r₁ r₂
theorem k0_off33_inb : ∀ (v703 : BitVec 32) (k0_hw4 : k0_chk4 v703), ∀ (r₁ : Fin 2) (r₂ : Fin 4), ∀ a, (k0_off33 v703 (BitVec.ofNat 32 (64 * r₁.val)) (BitVec.ofNat 32 r₂.val)) a + S1x256x64.size a ≤ S128x256x64.size a := fun v703 k0_hw4 r₁ r₂ => k0_hw4.2.2.2.2.2.2.2.2.2.1 r₁ r₂
theorem k0_off46_inb : ∀ (v703 : BitVec 32) (k0_hw4 : k0_chk4 v703), ∀ a, (k0_off46 v703) a + S1x1.size a ≤ S16x2.size a := fun v703 k0_hw4 => k0_hw4.2.2.2.2.2.2.2.2.2.2.1
theorem k0_off47_inb : ∀ (v703 : BitVec 32) (k0_hw4 : k0_chk4 v703), ∀ a, (k0_off47 v703) a + S1x512x256.size a ≤ S16x1024x256.size a := fun v703 k0_hw4 => k0_hw4.2.2.2.2.2.2.2.2.2.2.2.1
theorem k0_off47_wordsi8 : ∀ (v703 : BitVec 32) (k0_hw4 : k0_chk4 v703), (Rect.unit (s := S16x1024x256) (k0_off47 v703) S1x512x256.size (k0_off47_inb v703 k0_hw4)).WholeWords (EltTy.packing .i8) := fun v703 k0_hw4 => k0_hw4.2.2.2.2.2.2.2.2.2.2.2.2.1 (k0_off47_inb v703 k0_hw4)
theorem k0_off48_inb : ∀ (v703 : BitVec 32) (k0_hw4 : k0_chk4 v703), ∀ a, (k0_off48 v703) a + S1x1.size a ≤ S16x2.size a := fun v703 k0_hw4 => k0_hw4.2.2.2.2.2.2.2.2.2.2.2.2.2.1
theorem k0_off49_inb : ∀ (v703 : BitVec 32) (k0_hw4 : k0_chk4 v703), ∀ a, (k0_off49 v703) a + S1x512x256.size a ≤ S16x1024x256.size a := fun v703 k0_hw4 => k0_hw4.2.2.2.2.2.2.2.2.2.2.2.2.2.2.1
theorem k0_off49_wordsi8 : ∀ (v703 : BitVec 32) (k0_hw4 : k0_chk4 v703), (Rect.unit (s := S16x1024x256) (k0_off49 v703) S1x512x256.size (k0_off49_inb v703 k0_hw4)).WholeWords (EltTy.packing .i8) := fun v703 k0_hw4 => k0_hw4.2.2.2.2.2.2.2.2.2.2.2.2.2.2.2 (k0_off49_inb v703 k0_hw4)

def k0_off50 (v441 : BitVec 32) : Fin 3 → Nat :=
  let v442 : Index := Scalar.indexCast v441
  let c0_255 : Index := 0#32
  let c0_256 : Index := 0#32
  ![v442.toNat, 0, 0]

def k0_off51 (v441 : BitVec 32) : Fin 3 → Nat :=
  let v446 : Index := Scalar.indexCast v441
  let c512_257 : Index := 512#32
  let c0_258 : Index := 0#32
  ![v446.toNat, 512, 0]
def k0_off52 (v441 : BitVec 32) (c0_i32_265 : BitVec 32) (c0_i32_266 : BitVec 32) : Fin 3 → Nat :=
  let c4_i32_264 : BitVec 32 := 4#32
  let v456 : BitVec 32 := Scalar.muli v441 c4_i32_264
  let v457 : BitVec 32 := Scalar.addi c0_i32_265 v456
  let v458 : BitVec 32 := Scalar.addi v457 c0_i32_266
  let v459 : Index := Scalar.indexCast v458
  let c0_267 : Index := 0#32
  let c0_268 : Index := 0#32
  ![v459.toNat, 0, 0]
def k0_off53 (v441 : BitVec 32) (c0_i32_265 : BitVec 32) (c0_i32_266 : BitVec 32) : Fin 3 → Nat :=
  let c4_i32_264 : BitVec 32 := 4#32
  let v456 : BitVec 32 := Scalar.muli v441 c4_i32_264
  let v457 : BitVec 32 := Scalar.addi c0_i32_265 v456
  let v458 : BitVec 32 := Scalar.addi v457 c0_i32_266
  let v463 : Index := Scalar.indexCast v458
  let c0_269 : Index := 0#32
  let c0_270 : Index := 0#32
  ![v463.toNat, 0, 0]

def k0_chk7 (v441 : BitVec 32) : Prop :=
  (∀ a, (k0_off50 v441) a + S1x512x256.size a ≤ S16x1024x256.size a) ∧
  (∀ a, (k0_off51 v441) a + S1x512x256.size a ≤ S16x1024x256.size a) ∧
  (∀ (r₁ : Fin 2) (r₂ : Fin 4), ∀ a, (k0_off52 v441 (BitVec.ofNat 32 (64 * r₁.val)) (BitVec.ofNat 32 r₂.val)) a + S1x64x256.size a ≤ S128x64x256.size a) ∧
  (∀ (r₁ : Fin 2) (r₂ : Fin 4), ∀ a, (k0_off53 v441 (BitVec.ofNat 32 (64 * r₁.val)) (BitVec.ofNat 32 r₂.val)) a + S1x256x64.size a ≤ S128x256x64.size a)
theorem k0_off50_inb : ∀ (v441 : BitVec 32) (k0_hw7 : k0_chk7 v441), ∀ a, (k0_off50 v441) a + S1x512x256.size a ≤ S16x1024x256.size a := fun v441 k0_hw7 => k0_hw7.1
theorem k0_off51_inb : ∀ (v441 : BitVec 32) (k0_hw7 : k0_chk7 v441), ∀ a, (k0_off51 v441) a + S1x512x256.size a ≤ S16x1024x256.size a := fun v441 k0_hw7 => k0_hw7.2.1
theorem k0_off52_inb : ∀ (v441 : BitVec 32) (k0_hw7 : k0_chk7 v441), ∀ (r₁ : Fin 2) (r₂ : Fin 4), ∀ a, (k0_off52 v441 (BitVec.ofNat 32 (64 * r₁.val)) (BitVec.ofNat 32 r₂.val)) a + S1x64x256.size a ≤ S128x64x256.size a := fun v441 k0_hw7 r₁ r₂ => k0_hw7.2.2.1 r₁ r₂
theorem k0_off53_inb : ∀ (v441 : BitVec 32) (k0_hw7 : k0_chk7 v441), ∀ (r₁ : Fin 2) (r₂ : Fin 4), ∀ a, (k0_off53 v441 (BitVec.ofNat 32 (64 * r₁.val)) (BitVec.ofNat 32 r₂.val)) a + S1x256x64.size a ≤ S128x256x64.size a := fun v441 k0_hw7 r₁ r₂ => k0_hw7.2.2.2 r₁ r₂

def k0_dev11 (v73 : BitVec 32) : Nat :=
  let c0_i32_383_r0 : BitVec 32 := 0#32
  let c1_i32_382_r0 : BitVec 32 := 1#32
  let v683_r0 : BitVec 32 := Scalar.muli v73 c1_i32_382_r0
  let v684_r0 : BitVec 32 := Scalar.addi c0_i32_383_r0 v683_r0
  v684_r0.toNat

def k0_chk1 (v73 : BitVec 32) : Prop :=
  ((k0_dev1 v73) < nD) ∧
  ((k0_dev5 v73) < nD) ∧
  ((k0_dev6 v73) < nD) ∧
  (∀ a, (k0_off10 v73) a + S1x1.size a ≤ S16x2.size a) ∧
  (∀ a, (k0_off11 v73) a + S1x512x256.size a ≤ S16x1024x256.size a) ∧
  (∀ (hinb : ∀ a, (k0_off11 v73) a + S1x512x256.size a ≤ S16x1024x256.size a), (Rect.unit (s := S16x1024x256) (k0_off11 v73) S1x512x256.size hinb).WholeWords (EltTy.packing .i8)) ∧
  (∀ a, (k0_off12 v73) a + S1x1.size a ≤ S16x2.size a) ∧
  (∀ a, (k0_off13 v73) a + S1x512x256.size a ≤ S16x1024x256.size a) ∧
  (∀ (hinb : ∀ a, (k0_off13 v73) a + S1x512x256.size a ≤ S16x1024x256.size a), (Rect.unit (s := S16x1024x256) (k0_off13 v73) S1x512x256.size hinb).WholeWords (EltTy.packing .i8)) ∧
  ((k0_dev9 v73) < nD) ∧
  ((k0_dev10 v73) < nD) ∧
  ((k0_dev11 v73) < nD)
theorem k0_dev1_lt : ∀ (v73 : BitVec 32) (k0_hw1 : k0_chk1 v73), (k0_dev1 v73) < nD := fun v73 k0_hw1 => k0_hw1.1
theorem k0_dev5_lt : ∀ (v73 : BitVec 32) (k0_hw1 : k0_chk1 v73), (k0_dev5 v73) < nD := fun v73 k0_hw1 => k0_hw1.2.1
theorem k0_dev6_lt : ∀ (v73 : BitVec 32) (k0_hw1 : k0_chk1 v73), (k0_dev6 v73) < nD := fun v73 k0_hw1 => k0_hw1.2.2.1
theorem k0_off10_inb : ∀ (v73 : BitVec 32) (k0_hw1 : k0_chk1 v73), ∀ a, (k0_off10 v73) a + S1x1.size a ≤ S16x2.size a := fun v73 k0_hw1 => k0_hw1.2.2.2.1
theorem k0_off11_inb : ∀ (v73 : BitVec 32) (k0_hw1 : k0_chk1 v73), ∀ a, (k0_off11 v73) a + S1x512x256.size a ≤ S16x1024x256.size a := fun v73 k0_hw1 => k0_hw1.2.2.2.2.1
theorem k0_off11_wordsi8 : ∀ (v73 : BitVec 32) (k0_hw1 : k0_chk1 v73), (Rect.unit (s := S16x1024x256) (k0_off11 v73) S1x512x256.size (k0_off11_inb v73 k0_hw1)).WholeWords (EltTy.packing .i8) := fun v73 k0_hw1 => k0_hw1.2.2.2.2.2.1 (k0_off11_inb v73 k0_hw1)
theorem k0_off12_inb : ∀ (v73 : BitVec 32) (k0_hw1 : k0_chk1 v73), ∀ a, (k0_off12 v73) a + S1x1.size a ≤ S16x2.size a := fun v73 k0_hw1 => k0_hw1.2.2.2.2.2.2.1
theorem k0_off13_inb : ∀ (v73 : BitVec 32) (k0_hw1 : k0_chk1 v73), ∀ a, (k0_off13 v73) a + S1x512x256.size a ≤ S16x1024x256.size a := fun v73 k0_hw1 => k0_hw1.2.2.2.2.2.2.2.1
theorem k0_off13_wordsi8 : ∀ (v73 : BitVec 32) (k0_hw1 : k0_chk1 v73), (Rect.unit (s := S16x1024x256) (k0_off13 v73) S1x512x256.size (k0_off13_inb v73 k0_hw1)).WholeWords (EltTy.packing .i8) := fun v73 k0_hw1 => k0_hw1.2.2.2.2.2.2.2.2.1 (k0_off13_inb v73 k0_hw1)
theorem k0_dev9_lt : ∀ (v73 : BitVec 32) (k0_hw1 : k0_chk1 v73), (k0_dev9 v73) < nD := fun v73 k0_hw1 => k0_hw1.2.2.2.2.2.2.2.2.2.1
theorem k0_dev10_lt : ∀ (v73 : BitVec 32) (k0_hw1 : k0_chk1 v73), (k0_dev10 v73) < nD := fun v73 k0_hw1 => k0_hw1.2.2.2.2.2.2.2.2.2.2.1
theorem k0_dev11_lt : ∀ (v73 : BitVec 32) (k0_hw1 : k0_chk1 v73), (k0_dev11 v73) < nD := fun v73 k0_hw1 => k0_hw1.2.2.2.2.2.2.2.2.2.2.2

def k0_dev12 (v62 : BitVec 32) : Nat :=
  let c0_i32_386_r0 : BitVec 32 := 0#32
  let c1_i32_385_r0 : BitVec 32 := 1#32
  let v685_r0 : BitVec 32 := Scalar.muli v62 c1_i32_385_r0
  let v686_r0 : BitVec 32 := Scalar.addi c0_i32_386_r0 v685_r0
  v686_r0.toNat

def k0_chk2 (v62 : BitVec 32) : Prop :=
  ((k0_dev2 v62) < nD) ∧
  ((k0_dev3 v62) < nD) ∧
  ((k0_dev4 v62) < nD) ∧
  (∀ a, (k0_off14 v62) a + S1x1.size a ≤ S16x2.size a) ∧
  (∀ a, (k0_off15 v62) a + S1x512x256.size a ≤ S16x1024x256.size a) ∧
  (∀ (hinb : ∀ a, (k0_off15 v62) a + S1x512x256.size a ≤ S16x1024x256.size a), (Rect.unit (s := S16x1024x256) (k0_off15 v62) S1x512x256.size hinb).WholeWords (EltTy.packing .i8)) ∧
  (∀ a, (k0_off16 v62) a + S1x1.size a ≤ S16x2.size a) ∧
  (∀ a, (k0_off17 v62) a + S1x512x256.size a ≤ S16x1024x256.size a) ∧
  (∀ (hinb : ∀ a, (k0_off17 v62) a + S1x512x256.size a ≤ S16x1024x256.size a), (Rect.unit (s := S16x1024x256) (k0_off17 v62) S1x512x256.size hinb).WholeWords (EltTy.packing .i8)) ∧
  (∀ k0_t1 : Fin k0_t1_loop.trips, ∀ (k0_h1 : k0_cond1 k0_t1 = 1#1), (k0_dev7 v62) < nD) ∧
  (∀ k0_t1 : Fin k0_t1_loop.trips, ∀ (k0_h1 : k0_cond1 k0_t1 = 1#1), (k0_dev8 v62) < nD) ∧
  ((k0_dev12 v62) < nD)
theorem k0_dev2_lt : ∀ (v62 : BitVec 32) (k0_hw2 : k0_chk2 v62), (k0_dev2 v62) < nD := fun v62 k0_hw2 => k0_hw2.1
theorem k0_dev3_lt : ∀ (v62 : BitVec 32) (k0_hw2 : k0_chk2 v62), (k0_dev3 v62) < nD := fun v62 k0_hw2 => k0_hw2.2.1
theorem k0_dev4_lt : ∀ (v62 : BitVec 32) (k0_hw2 : k0_chk2 v62), (k0_dev4 v62) < nD := fun v62 k0_hw2 => k0_hw2.2.2.1
theorem k0_off14_inb : ∀ (v62 : BitVec 32) (k0_hw2 : k0_chk2 v62), ∀ a, (k0_off14 v62) a + S1x1.size a ≤ S16x2.size a := fun v62 k0_hw2 => k0_hw2.2.2.2.1
theorem k0_off15_inb : ∀ (v62 : BitVec 32) (k0_hw2 : k0_chk2 v62), ∀ a, (k0_off15 v62) a + S1x512x256.size a ≤ S16x1024x256.size a := fun v62 k0_hw2 => k0_hw2.2.2.2.2.1
theorem k0_off15_wordsi8 : ∀ (v62 : BitVec 32) (k0_hw2 : k0_chk2 v62), (Rect.unit (s := S16x1024x256) (k0_off15 v62) S1x512x256.size (k0_off15_inb v62 k0_hw2)).WholeWords (EltTy.packing .i8) := fun v62 k0_hw2 => k0_hw2.2.2.2.2.2.1 (k0_off15_inb v62 k0_hw2)
theorem k0_off16_inb : ∀ (v62 : BitVec 32) (k0_hw2 : k0_chk2 v62), ∀ a, (k0_off16 v62) a + S1x1.size a ≤ S16x2.size a := fun v62 k0_hw2 => k0_hw2.2.2.2.2.2.2.1
theorem k0_off17_inb : ∀ (v62 : BitVec 32) (k0_hw2 : k0_chk2 v62), ∀ a, (k0_off17 v62) a + S1x512x256.size a ≤ S16x1024x256.size a := fun v62 k0_hw2 => k0_hw2.2.2.2.2.2.2.2.1
theorem k0_off17_wordsi8 : ∀ (v62 : BitVec 32) (k0_hw2 : k0_chk2 v62), (Rect.unit (s := S16x1024x256) (k0_off17 v62) S1x512x256.size (k0_off17_inb v62 k0_hw2)).WholeWords (EltTy.packing .i8) := fun v62 k0_hw2 => k0_hw2.2.2.2.2.2.2.2.2.1 (k0_off17_inb v62 k0_hw2)
theorem k0_dev7_lt : ∀ (v62 : BitVec 32) (k0_hw2 : k0_chk2 v62) (k0_t1 : Fin k0_t1_loop.trips), ∀ (k0_h1 : k0_cond1 k0_t1 = 1#1), (k0_dev7 v62) < nD := fun v62 k0_hw2 k0_t1 k0_h1 => k0_hw2.2.2.2.2.2.2.2.2.2.1 k0_t1 k0_h1
theorem k0_dev8_lt : ∀ (v62 : BitVec 32) (k0_hw2 : k0_chk2 v62) (k0_t1 : Fin k0_t1_loop.trips), ∀ (k0_h1 : k0_cond1 k0_t1 = 1#1), (k0_dev8 v62) < nD := fun v62 k0_hw2 k0_t1 k0_h1 => k0_hw2.2.2.2.2.2.2.2.2.2.2.1 k0_t1 k0_h1
theorem k0_dev12_lt : ∀ (v62 : BitVec 32) (k0_hw2 : k0_chk2 v62), (k0_dev12 v62) < nD := fun v62 k0_hw2 => k0_hw2.2.2.2.2.2.2.2.2.2.2.2

abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S_ : Shape := ⟨0, ![]⟩
abbrev S32x256x4096 : Shape := ⟨3, ![32, 256, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32x64x256x256 : Shape := ⟨4, ![32, 64, 256, 256]⟩
abbrev S1x1x256x256 : Shape := ⟨4, ![1, 1, 256, 256]⟩
abbrev S32x64x256 : Shape := ⟨3, ![32, 64, 256]⟩
abbrev S32x64x256x1 : Shape := ⟨4, ![32, 64, 256, 1]⟩
abbrev S1x1x256x1 : Shape := ⟨4, ![1, 1, 256, 1]⟩
abbrev S32x64x64x256 : Shape := ⟨4, ![32, 64, 64, 256]⟩

abbrev nBuf : Space → Nat
  | .hbm => 92
  | .vmem => 0
  | .smem => 0
  | _ => 0

abbrev bufTy : (tb : Table) → Fin (tcTables nBuf tb) → BufTy
  | .hbm, ⟨0, _⟩ => ⟨S32x256x512, .bf16⟩
  | .hbm, ⟨1, _⟩ => ⟨S512x4096, .bf16⟩
  | .hbm, ⟨2, _⟩ => ⟨S32x256x64x64, .bf16⟩
  | .hbm, ⟨3, _⟩ => ⟨S32x256x64x64, .bf16⟩
  | .hbm, ⟨4, _⟩ => ⟨S4096x512, .bf16⟩
  | .hbm, ⟨5, _⟩ => ⟨S32x256x512, .f32⟩
  | .hbm, ⟨6, _⟩ => ⟨S_, .bf16⟩
  | .hbm, ⟨7, _⟩ => ⟨S512x4096, .bf16⟩
  | .hbm, ⟨8, _⟩ => ⟨S512x4096, .bf16⟩
  | .hbm, ⟨9, _⟩ => ⟨S512x4096, .bf16⟩
  | .hbm, ⟨10, _⟩ => ⟨S_, .i32⟩
  | .hbm, ⟨11, _⟩ => ⟨S_, .i32⟩
  | .hbm, ⟨12, _⟩ => ⟨S_, .bf16⟩
  | .hbm, ⟨13, _⟩ => ⟨S512x4096, .bf16⟩
  | .hbm, ⟨14, _⟩ => ⟨S512x4096, .bf16⟩
  | .hbm, ⟨15, _⟩ => ⟨S_, .bf16⟩
  | .hbm, ⟨16, _⟩ => ⟨S512x4096, .bf16⟩
  | .hbm, ⟨17, _⟩ => ⟨S512x4096, .bf16⟩
  | .hbm, ⟨18, _⟩ => ⟨S512x4096, .f32⟩
  | .hbm, ⟨19, _⟩ => ⟨S_, .f32⟩
  | .hbm, ⟨20, _⟩ => ⟨S512x4096, .f32⟩
  | .hbm, ⟨21, _⟩ => ⟨S512x4096, .f32⟩
  | .hbm, ⟨22, _⟩ => ⟨S32x256x4096, .f32⟩
  | .hbm, ⟨23, _⟩ => ⟨S32x256x64x64, .f32⟩
  | .hbm, ⟨24, _⟩ => ⟨S256, .i32⟩
  | .hbm, ⟨25, _⟩ => ⟨S256x1, .i32⟩
  | .hbm, ⟨26, _⟩ => ⟨S256, .i32⟩
  | .hbm, ⟨27, _⟩ => ⟨S1x256, .i32⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i1⟩
  | .hbm, ⟨35, _⟩ => ⟨S32x256x64x64, .f32⟩
  | .hbm, ⟨36, _⟩ => ⟨S32x64x256x256, .f32⟩
  | .hbm, ⟨37, _⟩ => ⟨S_, .f32⟩
  | .hbm, ⟨38, _⟩ => ⟨S32x64x256x256, .f32⟩
  | .hbm, ⟨39, _⟩ => ⟨S32x64x256x256, .f32⟩
  | .hbm, ⟨40, _⟩ => ⟨S1x1x256x256, .i1⟩
  | .hbm, ⟨41, _⟩ => ⟨S_, .f32⟩
  | .hbm, ⟨42, _⟩ => ⟨S_, .f32⟩
  | .hbm, ⟨43, _⟩ => ⟨S32x64x256x256, .i1⟩
  | .hbm, ⟨44, _⟩ => ⟨S32x64x256x256, .f32⟩
  | .hbm, ⟨45, _⟩ => ⟨S32x64x256x256, .f32⟩
  | .hbm, ⟨46, _⟩ => ⟨S_, .f32⟩
  | .hbm, ⟨47, _⟩ => ⟨S32x64x256, .f32⟩
  | .hbm, ⟨48, _⟩ => ⟨S32x64x256x1, .f32⟩
  | .hbm, ⟨49, _⟩ => ⟨S32x64x256x256, .f32⟩
  | .hbm, ⟨50, _⟩ => ⟨S32x64x256x256, .f32⟩
  | .hbm, ⟨51, _⟩ => ⟨S32x64x256x256, .f32⟩
  | .hbm, ⟨52, _⟩ => ⟨S_, .i1⟩
  | .hbm, ⟨53, _⟩ => ⟨S256, .i1⟩
  | .hbm, ⟨54, _⟩ => ⟨S1x1x256x1, .i1⟩
  | .hbm, ⟨55, _⟩ => ⟨S_, .f32⟩
  | .hbm, ⟨56, _⟩ => ⟨S32x64x256, .f32⟩
  | .hbm, ⟨57, _⟩ => ⟨S32x64x256x1, .f32⟩
  | .hbm, ⟨58, _⟩ => ⟨S_, .f32⟩
  | .hbm, ⟨59, _⟩ => ⟨S_, .f32⟩
  | .hbm, ⟨60, _⟩ => ⟨S32x64x256x1, .i1⟩
  | .hbm, ⟨61, _⟩ => ⟨S32x64x256x1, .f32⟩
  | .hbm, ⟨62, _⟩ => ⟨S32x64x256x1, .f32⟩
  | .hbm, ⟨63, _⟩ => ⟨S32x64x256x256, .f32⟩
  | .hbm, ⟨64, _⟩ => ⟨S32x64x256x256, .f32⟩
  | .hbm, ⟨65, _⟩ => ⟨S1x1x256x1, .i1⟩
  | .hbm, ⟨66, _⟩ => ⟨S_, .f32⟩
  | .hbm, ⟨67, _⟩ => ⟨S_, .f32⟩
  | .hbm, ⟨68, _⟩ => ⟨S32x64x256x256, .i1⟩
  | .hbm, ⟨69, _⟩ => ⟨S32x64x256x256, .f32⟩
  | .hbm, ⟨70, _⟩ => ⟨S32x64x256x256, .f32⟩
  | .hbm, ⟨71, _⟩ => ⟨S32x256x64x64, .f32⟩
  | .hbm, ⟨72, _⟩ => ⟨S32x64x64x256, .f32⟩
  | .hbm, ⟨73, _⟩ => ⟨S32x256x64x64, .f32⟩
  | .hbm, ⟨74, _⟩ => ⟨S32x256x4096, .f32⟩
  | .hbm, ⟨75, _⟩ => ⟨S_, .bf16⟩
  | .hbm, ⟨76, _⟩ => ⟨S4096x512, .bf16⟩
  | .hbm, ⟨77, _⟩ => ⟨S4096x512, .bf16⟩
  | .hbm, ⟨78, _⟩ => ⟨S4096x512, .bf16⟩
  | .hbm, ⟨79, _⟩ => ⟨S_, .i32⟩
  | .hbm, ⟨80, _⟩ => ⟨S_, .i32⟩
  | .hbm, ⟨81, _⟩ => ⟨S_, .bf16⟩
  | .hbm, ⟨82, _⟩ => ⟨S4096x512, .bf16⟩
  | .hbm, ⟨83, _⟩ => ⟨S4096x512, .bf16⟩
  | .hbm, ⟨84, _⟩ => ⟨S_, .bf16⟩
  | .hbm, ⟨85, _⟩ => ⟨S4096x512, .bf16⟩
  | .hbm, ⟨86, _⟩ => ⟨S4096x512, .bf16⟩
  | .hbm, ⟨87, _⟩ => ⟨S4096x512, .f32⟩
  | .hbm, ⟨88, _⟩ => ⟨S_, .f32⟩
  | .hbm, ⟨89, _⟩ => ⟨S4096x512, .f32⟩
  | .hbm, ⟨90, _⟩ => ⟨S4096x512, .f32⟩
  | .hbm, ⟨91, _⟩ => ⟨S32x256x512, .f32⟩
  | _, _ => ⟨S32x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_c_12 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_v47 : Ref sig .tc := ⟨.hbm, 86, rfl⟩
abbrev main_v48 : Ref sig .tc := ⟨.hbm, 87, rfl⟩
abbrev main_cst_13 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]
-- ==== Proof.Run.Common.lean ====
/- The ring the kernel walks and the closed forms of everything it computes from its own place:
   the words it reads off its two tables, the side conditions it assumes of them, the offsets
   and the devices it addresses. Each is decided once, over the sixteen devices. -/
module

public import proofs.«01_k».proof.Proof.Gen.KernelIdeal
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe

/-! ## The ring -/

/-- The device at each place of the ring. -/
def ringTab : Fin 16 → Fin 16 := ![0, 4, 8, 12, 15, 11, 7, 3, 2, 6, 10, 14, 13, 9, 5, 1]
/-- The place of each device on the ring. -/
def posTab : Fin 16 → Fin 16 := ![0, 15, 8, 7, 1, 14, 9, 6, 2, 13, 10, 5, 3, 12, 11, 4]
/-- The device `k` places before `c`: whose block comes round rightwards at hop `k`. -/
def ro (c : Dev nD) (k : ℕ) : Dev nD := ringTab (posTab c - Fin.ofNat 16 k)
/-- The device `k` places after `c`: whose block comes round leftwards at hop `k`. -/
def lo (c : Dev nD) (k : ℕ) : Dev nD := ringTab (posTab c + Fin.ofNat 16 k)
/-- The right neighbour. -/
def rt (c : Dev nD) : Dev nD := ringTab (posTab c + 1)
/-- The left neighbour. -/
def lf (c : Dev nD) : Dev nD := ringTab (posTab c - 1)
/-- A device's number as a word. -/
abbrev wd (c : Dev nD) : BitVec 32 := BitVec.ofNat 32 c.val

theorem rt_lf (c : Dev nD) : rt (lf c) = c := by revert c; decide +kernel
theorem lf_rt (c : Dev nD) : lf (rt c) = c := by revert c; decide +kernel
/-- One step to the right, a permutation of the devices. -/
def rtE : Dev nD ≃ Dev nD := ⟨rt, lf, lf_rt, rt_lf⟩
/-- One step to the left. -/
def lfE : Dev nD ≃ Dev nD := ⟨lf, rt, rt_lf, lf_rt⟩

theorem ringTab_posTab : ∀ c, ringTab (posTab c) = c := by decide +kernel
theorem posTab_ringTab : ∀ c, posTab (ringTab c) = c := by decide +kernel
theorem ro_zero (c : Dev nD) : ro c 0 = c := by revert c; decide +kernel
theorem lo_zero (c : Dev nD) : lo c 0 = c := by revert c; decide +kernel
theorem ofNat_succ16 (k : ℕ) : Fin.ofNat 16 (k + 1) = Fin.ofNat 16 k + 1 := by
  apply Fin.ext; simp [Fin.ofNat, Fin.val_add]
theorem ro_rt (c : Dev nD) (k : ℕ) : ro (rt c) (k + 1) = ro c k := by
  unfold ro rt; rw [posTab_ringTab, ofNat_succ16]; congr 1
  generalize posTab c = a; generalize Fin.ofNat 16 k = b; revert a b; decide +kernel
theorem lo_lf (c : Dev nD) (k : ℕ) : lo (lf c) (k + 1) = lo c k := by
  unfold lo lf; rw [posTab_ringTab, ofNat_succ16]; congr 1
  generalize posTab c = a; generalize Fin.ofNat 16 k = b; revert a b; decide +kernel
theorem lf_ne_rt (c : Dev nD) : lf c ≠ rt c := by revert c; decide +kernel

/-! ## The words -/

/-- The two tables and the ring positions, as the kernel computes them. -/
abbrev iotaW : IVec S1x16 32 := iota .tc S1x16 32 [1] iota_S1x16_d1_w32
abbrev tabW : IVec S1x16 32 := k0_pay53 k0_pay51 k0_pay52
abbrev posW (c : Dev nD) : BitVec 32 := BitVec.ofNat 32 (posTab c).val

theorem v2_eq : ∀ c : Dev nD, Scalar.remsi (Scalar.divsi (Dev.word c) 1#32) 16#32 = wd c := by decide +kernel
theorem v51_eq : ∀ c : Dev nD, extractAt ![0, 0, 0] (k0_pay54 (wd c) iotaW k0_pay51 k0_pay52) inpos_S1x1x1_p0_0_0 = posW c := by decide +kernel
theorem v62_eq : ∀ c : Dev nD, extractAt ![0, 0, 0] (k0_pay55 (wd c) iotaW k0_pay51 k0_pay52) inpos_S1x1x1_p0_0_0 = wd (rt c) := by decide +kernel
theorem v73_eq : ∀ c : Dev nD, extractAt ![0, 0, 0] (k0_pay56 (wd c) iotaW k0_pay51 k0_pay52) inpos_S1x1x1_p0_0_0 = wd (lf c) := by decide +kernel
theorem v692_eq : ∀ (c : Dev nD) (t : Fin k0_t1_loop.trips), extractAt ![0, 0, 0] (k0_pay3 iotaW tabW (posW c) 1#32 1#32 t) inpos_S1x1x1_p0_0_0 = wd (ro c (t.val + 1)) := by decide +kernel
theorem v703_eq : ∀ (c : Dev nD) (t : Fin k0_t1_loop.trips), extractAt ![0, 0, 0] (k0_pay4 iotaW tabW (posW c) 1#32 1#32 t) inpos_S1x1x1_p0_0_0 = wd (lo c (t.val + 1)) := by decide +kernel
theorem v1261_eq : ∀ (c : Dev nD) (t : Fin k0_t1_loop.trips), extractAt ![0, 0, 0] (k0_pay2 iotaW tabW (posW c) (Scf.iv 1#32 1#32 t)) inpos_S1x1x1_p0_0_0 = wd (ro c (t.val + 2)) := by decide +kernel
theorem v1221_eq : ∀ (c : Dev nD) (t : Fin k0_t1_loop.trips), extractAt ![0, 0, 0] (k0_pay49 iotaW tabW (posW c) (Scf.iv 1#32 1#32 t)) inpos_S1x1x1_p0_0_0 = wd (lo c (t.val + 2)) := by decide +kernel
theorem v441_eq : ∀ c : Dev nD, extractAt ![0, 0, 0] (k0_pay79 iotaW tabW (posW c)) inpos_S1x1x1_p0_0_0 = wd (lo c 8) := by decide +kernel

theorem cond1_iff : ∀ t : Fin k0_t1_loop.trips, k0_cond1 t = 1#1 ↔ t.val < 6 := by decide +kernel
theorem cond2_iff : ∀ t : Fin k0_t1_loop.trips, k0_cond2 t = 1#1 ↔ t.val < 6 := by decide +kernel

/-! ## The side conditions -/

theorem chk1 : ∀ c : Dev nD, k0_chk1 (wd c) := by decide +kernel
theorem chk2 : ∀ c : Dev nD, k0_chk2 (wd c) := by decide +kernel
theorem chk3 : ∀ (t : Fin k0_t1_loop.trips) (c : Dev nD), k0_chk3 t (wd c) := by decide +kernel
theorem chk4 : ∀ c : Dev nD, k0_chk4 (wd c) := by decide +kernel
theorem chk5 : ∀ (t : Fin k0_t1_loop.trips) (c : Dev nD), k0_chk5 t (wd c) := by decide +kernel
theorem chk6 : ∀ c : Dev nD, k0_chk6 (wd c) := by decide +kernel
theorem chk7 : ∀ c : Dev nD, k0_chk7 (wd c) := by decide +kernel

/-! ## The offsets and the devices -/

theorem off1_eq : ∀ c : Dev nD, k0_off1 c = ![c.val, 0, 0] := by decide +kernel
theorem off2_eq : ∀ c : Dev nD, k0_off2 c = ![c.val, 0] := by decide +kernel
theorem off3_eq : ∀ c : Dev nD, k0_off3 c = ![c.val, 0, 0] := by decide +kernel
theorem off4_eq : ∀ c : Dev nD, k0_off4 c = ![c.val, 1] := by decide +kernel
theorem off5_eq : ∀ c : Dev nD, k0_off5 c = ![c.val, 512, 0] := by decide +kernel
theorem off6_eq : ∀ c : Dev nD, k0_off6 c = ![c.val, 0, 0] := by decide +kernel
theorem off7_eq : ∀ c : Dev nD, k0_off7 c = ![c.val, 512, 0] := by decide +kernel
theorem off10_eq : ∀ c : Dev nD, k0_off10 (wd c) = ![c.val, 0] := by decide +kernel
theorem off11_eq : ∀ c : Dev nD, k0_off11 (wd c) = ![c.val, 0, 0] := by decide +kernel
theorem off12_eq : ∀ c : Dev nD, k0_off12 (wd c) = ![c.val, 1] := by decide +kernel
theorem off13_eq : ∀ c : Dev nD, k0_off13 (wd c) = ![c.val, 512, 0] := by decide +kernel
theorem off14_eq : ∀ c : Dev nD, k0_off14 (wd c) = ![c.val, 0] := by decide +kernel
theorem off15_eq : ∀ c : Dev nD, k0_off15 (wd c) = ![c.val, 0, 0] := by decide +kernel
theorem off16_eq : ∀ c : Dev nD, k0_off16 (wd c) = ![c.val, 1] := by decide +kernel
theorem off17_eq : ∀ c : Dev nD, k0_off17 (wd c) = ![c.val, 512, 0] := by decide +kernel
theorem off18_eq : ∀ c : Dev nD, k0_off18 (wd c) = ![c.val, 0] := by decide +kernel
theorem off19_eq : ∀ c : Dev nD, k0_off19 (wd c) = ![c.val, 0, 0] := by decide +kernel
theorem off20_eq : ∀ c : Dev nD, k0_off20 (wd c) = ![c.val, 1] := by decide +kernel
theorem off21_eq : ∀ c : Dev nD, k0_off21 (wd c) = ![c.val, 512, 0] := by decide +kernel
theorem off22_eq : ∀ c : Dev nD, k0_off22 (wd c) = ![c.val, 0] := by decide +kernel
theorem off23_eq : ∀ c : Dev nD, k0_off23 (wd c) = ![c.val, 0, 0] := by decide +kernel
theorem off24_eq : ∀ c : Dev nD, k0_off24 (wd c) = ![c.val, 1] := by decide +kernel
theorem off25_eq : ∀ c : Dev nD, k0_off25 (wd c) = ![c.val, 512, 0] := by decide +kernel
theorem off26_eq : ∀ c : Dev nD, k0_off26 (wd c) = ![c.val, 0, 0] := by decide +kernel
theorem off27_eq : ∀ c : Dev nD, k0_off27 (wd c) = ![c.val, 512, 0] := by decide +kernel
theorem off30_eq : ∀ c : Dev nD, k0_off30 (wd c) = ![c.val, 0, 0] := by decide +kernel
theorem off31_eq : ∀ c : Dev nD, k0_off31 (wd c) = ![c.val, 512, 0] := by decide +kernel
theorem off34_eq : ∀ c : Dev nD, k0_off34 (wd c) = ![c.val, 0] := by decide +kernel
theorem off35_eq : ∀ c : Dev nD, k0_off35 (wd c) = ![c.val, 0, 0] := by decide +kernel
theorem off36_eq : ∀ c : Dev nD, k0_off36 (wd c) = ![c.val, 1] := by decide +kernel
theorem off37_eq : ∀ c : Dev nD, k0_off37 (wd c) = ![c.val, 512, 0] := by decide +kernel
theorem off38_eq : ∀ c : Dev nD, k0_off38 (wd c) = ![c.val, 0] := by decide +kernel
theorem off39_eq : ∀ c : Dev nD, k0_off39 (wd c) = ![c.val, 0, 0] := by decide +kernel
theorem off40_eq : ∀ c : Dev nD, k0_off40 (wd c) = ![c.val, 1] := by decide +kernel
theorem off41_eq : ∀ c : Dev nD, k0_off41 (wd c) = ![c.val, 512, 0] := by decide +kernel
theorem off42_eq : ∀ c : Dev nD, k0_off42 (wd c) = ![c.val, 0] := by decide +kernel
theorem off43_eq : ∀ c : Dev nD, k0_off43 (wd c) = ![c.val, 0, 0] := by decide +kernel
theorem off44_eq : ∀ c : Dev nD, k0_off44 (wd c) = ![c.val, 1] := by decide +kernel
theorem off45_eq : ∀ c : Dev nD, k0_off45 (wd c) = ![c.val, 512, 0] := by decide +kernel
theorem off46_eq : ∀ c : Dev nD, k0_off46 (wd c) = ![c.val, 0] := by decide +kernel
theorem off47_eq : ∀ c : Dev nD, k0_off47 (wd c) = ![c.val, 0, 0] := by decide +kernel
theorem off48_eq : ∀ c : Dev nD, k0_off48 (wd c) = ![c.val, 1] := by decide +kernel
theorem off49_eq : ∀ c : Dev nD, k0_off49 (wd c) = ![c.val, 512, 0] := by decide +kernel
theorem off50_eq : ∀ c : Dev nD, k0_off50 (wd c) = ![c.val, 0, 0] := by decide +kernel
theorem off51_eq : ∀ c : Dev nD, k0_off51 (wd c) = ![c.val, 512, 0] := by decide +kernel
theorem off8_eq : ∀ (c : Dev nD) (b : Fin 2) (h : Fin 4), k0_off8 c (BitVec.ofNat 32 (64 * b.val)) (BitVec.ofNat 32 h.val) = ![64 * b.val + 4 * c.val + h.val, 0, 0] := by decide +kernel
theorem off9_eq : ∀ (c : Dev nD) (b : Fin 2) (h : Fin 4), k0_off9 c (BitVec.ofNat 32 (64 * b.val)) (BitVec.ofNat 32 h.val) = ![64 * b.val + 4 * c.val + h.val, 0, 0] := by decide +kernel
theorem off28_eq : ∀ (c : Dev nD) (b : Fin 2) (h : Fin 4), k0_off28 (wd c) (BitVec.ofNat 32 (64 * b.val)) (BitVec.ofNat 32 h.val) = ![64 * b.val + 4 * c.val + h.val, 0, 0] := by decide +kernel
theorem off29_eq : ∀ (c : Dev nD) (b : Fin 2) (h : Fin 4), k0_off29 (wd c) (BitVec.ofNat 32 (64 * b.val)) (BitVec.ofNat 32 h.val) = ![64 * b.val + 4 * c.val + h.val, 0, 0] := by decide +kernel
theorem off32_eq : ∀ (c : Dev nD) (b : Fin 2) (h : Fin 4), k0_off32 (wd c) (BitVec.ofNat 32 (64 * b.val)) (BitVec.ofNat 32 h.val) = ![64 * b.val + 4 * c.val + h.val, 0, 0] := by decide +kernel
theorem off33_eq : ∀ (c : Dev nD) (b : Fin 2) (h : Fin 4), k0_off33 (wd c) (BitVec.ofNat 32 (64 * b.val)) (BitVec.ofNat 32 h.val) = ![64 * b.val + 4 * c.val + h.val, 0, 0] := by decide +kernel
theorem off52_eq : ∀ (c : Dev nD) (b : Fin 2) (h : Fin 4), k0_off52 (wd c) (BitVec.ofNat 32 (64 * b.val)) (BitVec.ofNat 32 h.val) = ![64 * b.val + 4 * c.val + h.val, 0, 0] := by decide +kernel
theorem off53_eq : ∀ (c : Dev nD) (b : Fin 2) (h : Fin 4), k0_off53 (wd c) (BitVec.ofNat 32 (64 * b.val)) (BitVec.ofNat 32 h.val) = ![64 * b.val + 4 * c.val + h.val, 0, 0] := by decide +kernel
theorem dev1_eq : ∀ c : Dev nD, k0_dev1 (wd c) = c.val := by decide +kernel
theorem dev2_eq : ∀ c : Dev nD, k0_dev2 (wd c) = c.val := by decide +kernel
theorem dev3_eq : ∀ c : Dev nD, k0_dev3 (wd c) = c.val := by decide +kernel
theorem dev4_eq : ∀ c : Dev nD, k0_dev4 (wd c) = c.val := by decide +kernel
theorem dev5_eq : ∀ c : Dev nD, k0_dev5 (wd c) = c.val := by decide +kernel
theorem dev6_eq : ∀ c : Dev nD, k0_dev6 (wd c) = c.val := by decide +kernel
theorem dev7_eq : ∀ c : Dev nD, k0_dev7 (wd c) = c.val := by decide +kernel
theorem dev8_eq : ∀ c : Dev nD, k0_dev8 (wd c) = c.val := by decide +kernel
theorem dev9_eq : ∀ c : Dev nD, k0_dev9 (wd c) = c.val := by decide +kernel
theorem dev10_eq : ∀ c : Dev nD, k0_dev10 (wd c) = c.val := by decide +kernel
theorem dev11_eq : ∀ c : Dev nD, k0_dev11 (wd c) = c.val := by decide +kernel
theorem dev12_eq : ∀ c : Dev nD, k0_dev12 (wd c) = c.val := by decide +kernel

end Cert.KernelIdeal.Run
-- ==== Proof.Run.Slots.lean ====
/- The gathering buffer: sixteen slots, one per device, each in two halves. The thirty-two
   half-slots cut the buffer; the filled buffer `Wall` holds in slot `o` device `o`'s packed
   weights. -/
module

public import proofs.«01_k».proof.Proof.Run.Common
public import proofs.«01_k».proof.Proof.Gen.KernelIdeal.Launch
public import Idealize.ShloMosaic.Lib.Rounds
public import Idealize.ShloMosaic.Lib.Ring
public import Idealize.ShloMosaic.Lib.Ring.Trips
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's ghost state, and the ring protocol's. -/
abbrev UU : Type := UR sig nD τ × URounds (GSem nD τ sig) Bool

local notation "𝕄" => MT nD τ sig Unit (Elt F) ℕ UU ℕ

/-- The gathering buffer. -/
abbrev wM : Memref sig .tc .vmem S16x1024x256 .i8 := Memref.whole cc0_scratch0

theorem slot_inb (o : Dev nD) (p : Fin 2) : ∀ a, (![o.val, 512 * p.val, 0] : Fin 3 → ℕ) a + S1x512x256.size a ≤ S16x1024x256.size a := by
  revert o p; decide +kernel

/-- The elements of half `p` of slot `o`. -/
@[irreducible] def hset (o : Dev nD) (p : Fin 2) : Finset S16x1024x256.Idx :=
  (Rect.unit (s := S16x1024x256) ![o.val, 512 * p.val, 0] S1x512x256.size (slot_inb o p)).set

theorem mem_hset (o : Dev nD) (p : Fin 2) (i : S16x1024x256.Idx) :
    i ∈ hset o p ↔ (i 0).val = o.val ∧ (i 1).val / 512 = p.val := by
  unfold hset
  rw [Rect.mem_set_unit]
  have h2 : (i 2).val < 256 := (i 2).isLt
  have hp := p.isLt
  constructor
  · intro h
    have h0 := h 0; have h1 := h 1
    simp only [Matrix.cons_val_zero, Matrix.cons_val_one] at h0 h1
    change o.val ≤ (i 0).val ∧ (i 0).val < o.val + 1 at h0
    change 512 * p.val ≤ (i 1).val ∧ (i 1).val < 512 * p.val + 512 at h1
    exact ⟨by omega, by omega⟩
  · rintro ⟨h0, h1⟩ a
    fin_cases a
    · show o.val ≤ (i 0).val ∧ (i 0).val < o.val + 1; omega
    · show 512 * p.val ≤ (i 1).val ∧ (i 1).val < 512 * p.val + 512; omega
    · show 0 ≤ (i 2).val ∧ (i 2).val < 0 + 256; omega

theorem hset_disjoint {o o' : Dev nD} {p p' : Fin 2} (h : (o, p) ≠ (o', p')) : Disjoint (hset o p) (hset o' p') := by
  rw [Finset.disjoint_left]
  intro i hi hi'
  rw [mem_hset] at hi hi'
  exact h (Prod.ext (Fin.ext (hi.1.symm.trans hi'.1)) (Fin.ext (hi.2.symm.trans hi'.2)))

theorem hset_cover : (Finset.univ : Finset (Dev nD × Fin 2)).biUnion (fun q => hset q.1 q.2) = Finset.univ := by
  ext i
  simp only [Finset.mem_biUnion, Finset.mem_univ, true_and, iff_true]
  have h0 : (i 0).val < 16 := (i 0).isLt
  have h1 : (i 1).val < 1024 := (i 1).isLt
  exact ⟨(⟨(i 0).val, h0⟩, ⟨(i 1).val / 512, by omega⟩), (mem_hset _ _ _).2 ⟨rfl, rfl⟩⟩

/-- Half `p` of slot `o` of device `d`'s buffer, held at contents `f`. -/
def hPts (d o : Dev nD) (p : Fin 2) (q : PosShare TreeShare) (f : Buf (Elt F) ((d : Thread nD τ).loc cc0_scratch0)) : sProp 𝕄 :=
  ((d : Thread nD τ).loc cc0_scratch0) ↦[hset o p]{q} f

/-- The whole buffer, cut. -/
theorem whole_cut (d : Dev nD) (f : Buf (Elt F) ((d : Thread nD τ).loc cc0_scratch0)) :
    (((d : Thread nD τ).loc cc0_scratch0) ↦{fullShare} f : sProp 𝕄)
      = bigSep Finset.univ fun o : Dev nD => bigSep Finset.univ fun p : Fin 2 => hPts d o p fullShare f := by
  unfold hPts
  rw [← bigSep_univ_prod (fun q : Dev nD × Fin 2 => (((d : Thread nD τ).loc cc0_scratch0) ↦[hset q.1 q.2]{fullShare} f : sProp 𝕄))]
  have hd : ∀ t ∈ (Finset.univ : Finset (Dev nD × Fin 2)), ∀ t' ∈ (Finset.univ : Finset (Dev nD × Fin 2)), t ≠ t' →
      Disjoint (hset t.1 t.2) (hset t'.1 t'.2) := fun t _ t' _ h => hset_disjoint (o := t.1) (p := t.2) (o' := t'.1) (p' := t'.2) h
  have h : (((d : Thread nD τ).loc cc0_scratch0) ↦[(Finset.univ : Finset (Dev nD × Fin 2)).biUnion fun q => hset q.1 q.2]{fullShare} f : sProp 𝕄)
      = bigSep Finset.univ fun q : Dev nD × Fin 2 => ((d : Thread nD τ).loc cc0_scratch0) ↦[hset q.1 q.2]{fullShare} f :=
    pointsTo_biUnion _ _ hd
  rw [← h]
  exact congrArg (fun S : Finset (Idx ((d : Thread nD τ).loc cc0_scratch0)) => (((d : Thread nD τ).loc cc0_scratch0) ↦[S]{fullShare} f : sProp 𝕄)) hset_cover.symm

theorem hPts_share3 (d o : Dev nD) (p : Fin 2) (f : Buf (Elt F) ((d : Thread nD τ).loc cc0_scratch0)) :
    (hPts d o p fullShare f : sProp 𝕄) ⊣⊢ iprop(hPts d o p fullShare.left f ∗ hPts d o p fullShare.right.left f ∗ hPts d o p fullShare.right.right f) := by
  unfold hPts
  exact Idealize.ShloMosaic.Ring.pointsTo_thirds fullShare f

/-- The filled buffer: slot `o` holds device `o`'s packed weights. -/
def Wall (Wp : Dev nD → Vec F S1024x256 .i8) : cc0_scratch0.ty.Contents (Elt F) := fun i =>
  Wp (i 0) (fun a => i a.succ)

end Cert.KernelIdeal.Run
-- ==== Proof.Run.Sched.lean ====
/- The ring protocol's schedule: which cells have duties, what each pays, in which order the
   cells may be waited on. Device `c` sends the block of the device `k` places before it to its
   right neighbour (hops 0..6) and the block of the device `k` places after it to its left
   neighbour (hops 0..7), each block in two halves; each half has a cell that counts its leaving
   and a cell on the neighbour that counts its arrival. -/
module

public import proofs.«01_k».proof.Proof.Run.Slots

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline's copy of the ghost state and the protocol's. -/
abbrev EP : Emb (UR sig nD τ) (MT nD τ sig Unit (Elt F) ℕ UU ℕ) := embL
abbrev ER : Emb (URounds (GSem nD τ sig) Bool) (MT nD τ sig Unit (Elt F) ℕ UU ℕ) := embR

/-! ## Cells -/

/-- The barrier semaphore and the exit semaphore. -/
abbrev barS : Sem sig := (SemArray.scalar (sig.barrier 0 rfl) : Sems sig S_).sem
abbrev exitS : Sem sig := (cc0_scoped0 : Sems sig S_).sem

/-- Transfer cell of kind `a` (0 leaving rightwards, 1 arriving from the left, 2 leaving leftwards,
    3 arriving from the right) of half `p` of device `o`'s block. -/
def dcell (a : Fin 4) (o : Dev nD) (p : Fin 2) : DmaSem sig :=
  ⟨5 + 32 * a.val + 2 * o.val + p.val, by
    have ho : o.val < 16 := o.isLt
    show 5 + 32 * a.val + 2 * o.val + p.val < 133
    omega⟩

/-- What a transfer cell's number says. -/
def kindOf (n : DmaSem sig) : ℕ := (n.val - 5) / 32
def orgOf (n : DmaSem sig) : Dev nD := ⟨(n.val - 5) % 32 / 2, by show _ < 16; omega⟩
def halfOf (n : DmaSem sig) : Fin 2 := ⟨(n.val - 5) % 2, by omega⟩

theorem kindOf_dcell : ∀ a o p, kindOf (dcell a o p) = a.val := by decide +kernel
theorem orgOf_dcell : ∀ a o p, orgOf (dcell a o p) = o := by decide +kernel
theorem halfOf_dcell : ∀ a o p, halfOf (dcell a o p) = p := by decide +kernel
theorem dcell_inj {a a' : Fin 4} {o o' : Dev nD} {p p' : Fin 2} (h : dcell a o p = dcell a' o' p') : a = a' ∧ o = o' ∧ p = p' := by
  refine ⟨Fin.ext ?_, ?_, ?_⟩
  · rw [← kindOf_dcell a o p, ← kindOf_dcell a' o' p', h]
  · rw [← orgOf_dcell a o p, ← orgOf_dcell a' o' p', h]
  · rw [← halfOf_dcell a o p, ← halfOf_dcell a' o' p', h]

theorem soff_inb (o : Dev nD) (p : Fin 2) : ∀ a, (![o.val, p.val] : Fin 2 → ℕ) a + S1x1.size a ≤ S16x2.size a := by
  revert o p; decide +kernel

theorem sem0_eq : ∀ o p, ((cc0_scratch1.slice (Rect.unit (s := S16x2) ![o.val, p.val] S1x1.size (soff_inb o p))).squeeze S_ squeezes_S1x1_S_).sem = dcell 0 o p := by decide +kernel
theorem sem1_eq : ∀ o p, ((cc0_scratch2.slice (Rect.unit (s := S16x2) ![o.val, p.val] S1x1.size (soff_inb o p))).squeeze S_ squeezes_S1x1_S_).sem = dcell 1 o p := by decide +kernel
theorem sem2_eq : ∀ o p, ((cc0_scratch3.slice (Rect.unit (s := S16x2) ![o.val, p.val] S1x1.size (soff_inb o p))).squeeze S_ squeezes_S1x1_S_).sem = dcell 2 o p := by decide +kernel
theorem sem3_eq : ∀ o p, ((cc0_scratch4.slice (Rect.unit (s := S16x2) ![o.val, p.val] S1x1.size (soff_inb o p))).squeeze S_ squeezes_S1x1_S_).sem = dcell 3 o p := by decide +kernel

/-- How far before `c`, and how far after it, device `o` stands. -/
def dR (c o : Dev nD) : ℕ := (posTab c - posTab o).val
def dL (c o : Dev nD) : ℕ := (posTab o - posTab c).val

theorem dR_ro : ∀ (c : Dev nD), ∀ k < 16, dR c (ro c k) = k := by decide +kernel
theorem dL_lo : ∀ (c : Dev nD), ∀ k < 16, dL c (lo c k) = k := by decide +kernel
theorem ro_dR : ∀ c o : Dev nD, ro c (dR c o) = o := by decide +kernel
theorem lo_dL : ∀ c o : Dev nD, lo c (dL c o) = o := by decide +kernel
theorem lo_ne : ∀ (c : Dev nD), ∀ k < 8, 0 < k → lo c k ≠ c := by decide +kernel

/-- Does device `c` use this transfer cell? -/
def used (c : Dev nD) (n : DmaSem sig) : Prop :=
  5 ≤ n.val ∧
  (if kindOf n = 0 then dR c (orgOf n) < 7
   else if kindOf n = 1 then 1 ≤ dR c (orgOf n) ∧ dR c (orgOf n) ≤ 7
   else if kindOf n = 2 then dL c (orgOf n) < 8
   else 1 ≤ dL c (orgOf n) ∧ dL c (orgOf n) ≤ 8)
instance (c : Dev nD) (n : DmaSem sig) : Decidable (used c n) := by unfold used; infer_instance

theorem five_le (a o p) : 5 ≤ (dcell a o p).val := by show 5 ≤ 5 + 32 * a.val + 2 * o.val + p.val; omega

abbrev barC (c : Dev nD) : GSem nD τ sig := ((c : Thread nD τ), .reg barS)
abbrev exitC (c : Dev nD) : GSem nD τ sig := ((c : Thread nD τ), .reg exitS)
/-- The cells of a transfer, named by the block's origin. -/
abbrev tC (a : Fin 4) (c o : Dev nD) (p : Fin 2) : GSem nD τ sig := ((c : Thread nD τ), .dma (dcell a o p))

theorem used0 (c : Dev nD) (k : ℕ) (hk : k < 7) (p : Fin 2) : used c (dcell 0 (ro c k) p) :=
  ⟨five_le _ _ _, by rw [kindOf_dcell, if_pos (by rfl), orgOf_dcell, dR_ro c k (by omega)]; exact hk⟩
theorem used1 (c : Dev nD) (k : ℕ) (h1 : 1 ≤ k) (hk : k ≤ 7) (p : Fin 2) : used c (dcell 1 (ro c k) p) :=
  ⟨five_le _ _ _, by rw [kindOf_dcell, if_neg (by decide), if_pos (by rfl), orgOf_dcell, dR_ro c k (by omega)]; exact ⟨h1, hk⟩⟩
theorem used2 (c : Dev nD) (k : ℕ) (hk : k < 8) (p : Fin 2) : used c (dcell 2 (lo c k) p) :=
  ⟨five_le _ _ _, by rw [kindOf_dcell, if_neg (by decide), if_neg (by decide), if_pos (by rfl), orgOf_dcell, dL_lo c k (by omega)]; exact hk⟩
theorem used3 (c : Dev nD) (k : ℕ) (h1 : 1 ≤ k) (hk : k ≤ 8) (p : Fin 2) : used c (dcell 3 (lo c k) p) :=
  ⟨five_le _ _ _, by rw [kindOf_dcell, if_neg (by decide), if_neg (by decide), if_neg (by decide), orgOf_dcell, dL_lo c k (by omega)]; exact ⟨h1, hk⟩⟩

/-! ## The schedule -/

/-- One transfer's units: the credit of half a block. -/
abbrev N : ℕ := ((wM.slice (Rect.unit (s := S16x1024x256) ![(0 : Dev nD).val, 512 * (0 : Fin 2).val, 0] S1x512x256.size (slot_inb 0 0)) (fun _ => rfl)).squeeze S512x256 squeezes_S1x512x256_S512x256).view.dmaCredit
theorem N_pos : 0 < N := View.dmaCredit_pos _ (by decide)

variable (Wp : Dev nD → Vec F S1024x256 .i8)

/-- What the right neighbour's barrier signal brings `c`: the neighbour's slots `c` will write, and that the cells it
    will count on are open. -/
def barR (c : Dev nD) : sProp 𝕄 := iprop((
  bigSep (Finset.range 7) fun k => bigSep Finset.univ fun p : Fin 2 =>
    iprop((∃ f, hPts (rt c) (ro c k) p fullShare f) ∗ reached ER (tC 1 (rt c) (ro c k) p) 0)) ∗ reached ER (exitC (rt c)) 0)
/-- What the left neighbour's barrier signal brings `c`. -/
def barL (c : Dev nD) : sProp 𝕄 := iprop((
  bigSep (Finset.range 8) fun k => bigSep Finset.univ fun p : Fin 2 =>
    iprop((∃ f, hPts (lf c) (lo c k) p fullShare f) ∗ reached ER (tC 3 (lf c) (lo c k) p) 0)) ∗ reached ER (exitC (lf c)) 0)

/-- The share of a block that its sending takes. -/
def shL (c o : Dev nD) : PosShare TreeShare := if o = c then fullShare.right.left else fullShare.left

/-- What a transfer cell pays: the leaving half's share back, or the arrived half. -/
def tPay (c : Dev nD) (n : DmaSem sig) : sProp 𝕄 :=
  if kindOf n = 0 then hPts c (orgOf n) (halfOf n) fullShare.left (Wall Wp)
  else if kindOf n = 2 then hPts c (orgOf n) (halfOf n) (shL c (orgOf n)) (Wall Wp)
  else hPts c (orgOf n) (halfOf n) fullShare (Wall Wp)

/-- The schedule: one round. The barrier and the exit cell have one duty for each neighbour (`true` the right one's), a
    used transfer cell one. -/
def Rd : Rounds.Schedule (GSem nD τ sig) Bool 𝕄 where
  duties g r := if r = 0 ∧ g.1.2 = .tc then (match g.2 with | .reg _ => Finset.univ | .dma n => if used g.1.1 n then {true} else ∅) else ∅
  unitless _ := False
  amount g _ _ := match g.2 with | .reg _ => 1 | .dma _ => N
  payload g _ d := match g.2 with
    | .reg s => if s = barS then (if d then barR g.1.1 else barL g.1.1) else iprop(emp)
    | .dma n => tPay Wp g.1.1 n
  amount_pos g _ _ _ := by
    rcases g with ⟨t, _ | _⟩
    · exact Nat.one_pos
    · exact N_pos

instance Rd_payload_storable (g : GSem nD τ sig) (r : ℕ) (d : Bool) :
    BI.Storable (upEmb : UEmb _ 𝕄) ((Rd (F := F) Wp).payload g r d) := by
  rcases g with ⟨t, s | n⟩
  · show BI.Storable upEmb (if s = barS then (if d then barR t.1 else barL t.1) else iprop(emp))
    unfold barR barL hPts
    (repeat' split) <;> infer_instance
  · show BI.Storable upEmb (tPay Wp t.1 n)
    unfold tPay hPts
    (repeat' split) <;> infer_instance

theorem exit_ne_bar : (exitS : Sem sig) ≠ barS := by decide +kernel

theorem duties_reg (c : Dev nD) (s : Sem sig) : (Rd (F := F) Wp).duties ((c : Thread nD τ), .reg s) 0 = Finset.univ := by
  dsimp only [Rd]; exact if_pos ⟨rfl, rfl⟩
theorem duties_used (c : Dev nD) (n : DmaSem sig) (h : used c n) : (Rd (F := F) Wp).duties ((c : Thread nD τ), .dma n) 0 = {true} := by
  dsimp only [Rd]; rw [if_pos ⟨rfl, rfl⟩]; exact if_pos h
theorem duties_unused (c : Dev nD) (n : DmaSem sig) (h : ¬ used c n) : (Rd (F := F) Wp).duties ((c : Thread nD τ), .dma n) 0 = ∅ := by
  dsimp only [Rd]; rw [if_pos ⟨rfl, rfl⟩]; exact if_neg h
theorem duties_later (g : GSem nD τ sig) : ∀ r, 1 ≤ r → (Rd (F := F) Wp).duties g r = ∅ :=
  fun r hr => by dsimp only [Rd]; rw [if_neg (fun h => by omega)]

theorem amount_reg (c : Dev nD) (s : Sem sig) (d : Bool) : (Rd (F := F) Wp).amount ((c : Thread nD τ), .reg s) 0 d = 1 := rfl
theorem amount_dma (c : Dev nD) (n : DmaSem sig) (d : Bool) : (Rd (F := F) Wp).amount ((c : Thread nD τ), .dma n) 0 d = N := rfl
theorem expect_reg (c : Dev nD) (s : Sem sig) : (Rd (F := F) Wp).expect ((c : Thread nD τ), .reg s) 0 = 2 := by
  unfold Schedule.expect Schedule.amountOf; rw [duties_reg]; rfl
theorem expect_used (c : Dev nD) (n : DmaSem sig) (h : used c n) : (Rd (F := F) Wp).expect ((c : Thread nD τ), .dma n) 0 = N := by
  unfold Schedule.expect Schedule.amountOf; rw [duties_used Wp c n h, Finset.sum_singleton]; exact amount_dma Wp c n true

theorem payload_bar (c : Dev nD) (d : Bool) : (Rd (F := F) Wp).payload (barC c) 0 d = if d then barR c else barL c := by
  dsimp only [Rd]; exact if_pos rfl
theorem payload_exit (c : Dev nD) (d : Bool) : (Rd (F := F) Wp).payload (exitC c) 0 d = iprop(emp) := by
  dsimp only [Rd]; exact if_neg exit_ne_bar
theorem payload_0 (c o : Dev nD) (p : Fin 2) (d : Bool) : (Rd (F := F) Wp).payload (tC 0 c o p) 0 d = hPts c o p fullShare.left (Wall Wp) := by
  show tPay Wp c (dcell 0 o p) = _
  unfold tPay; rw [kindOf_dcell, orgOf_dcell, halfOf_dcell]; exact if_pos rfl
theorem payload_1 (c o : Dev nD) (p : Fin 2) (d : Bool) : (Rd (F := F) Wp).payload (tC 1 c o p) 0 d = hPts c o p fullShare (Wall Wp) := by
  show tPay Wp c (dcell 1 o p) = _
  unfold tPay; rw [kindOf_dcell, orgOf_dcell, halfOf_dcell, if_neg (by decide), if_neg (by decide)]
theorem payload_2 (c o : Dev nD) (p : Fin 2) (d : Bool) : (Rd (F := F) Wp).payload (tC 2 c o p) 0 d = hPts c o p (shL c o) (Wall Wp) := by
  show tPay Wp c (dcell 2 o p) = _
  unfold tPay; rw [kindOf_dcell, orgOf_dcell, halfOf_dcell, if_neg (by decide)]; exact if_pos rfl
theorem payload_3 (c o : Dev nD) (p : Fin 2) (d : Bool) : (Rd (F := F) Wp).payload (tC 3 c o p) 0 d = hPts c o p fullShare (Wall Wp) := by
  show tPay Wp c (dcell 3 o p) = _
  unfold tPay; rw [kindOf_dcell, orgOf_dcell, halfOf_dcell, if_neg (by decide), if_neg (by decide)]

theorem rest_bar (c : Dev nD) : bigSep ((Rd (F := F) Wp).duties (barC c) 0 \ ∅) (fun u => (Rd (F := F) Wp).payload (barC c) 0 u)
    = iprop(barL c ∗ barR c) := by
  rw [Finset.sdiff_empty, duties_reg, bigSep_congr (fun d _ => payload_bar Wp c d)]
  rw [show (Finset.univ : Finset Bool) = insert false {true} from by decide, bigSep_insert (by decide), bigSep_singleton]; rfl
theorem rest_used (c : Dev nD) (n : DmaSem sig) (h : used c n) :
    bigSep ((Rd (F := F) Wp).duties ((c : Thread nD τ), .dma n) 0 \ ∅) (fun u => (Rd (F := F) Wp).payload ((c : Thread nD τ), .dma n) 0 u)
      = (Rd (F := F) Wp).payload ((c : Thread nD τ), .dma n) 0 true := by
  rw [Finset.sdiff_empty, duties_used Wp c n h, bigSep_singleton]

/-! ## What each device owes; the levels -/

/-- The transfers device `c` still owes from hop `h` on: rightwards, leftwards; and the exit signals. -/
def OR (c : Dev nD) (h : ℕ) : CellTallies nD τ sig Unit :=
  ∑ k ∈ Finset.Ico h 7, (tallyAt (tC 1 (rt c) (ro c k) 0) () N + tallyAt (tC 1 (rt c) (ro c k) 1) () N)
def OL (c : Dev nD) (h : ℕ) : CellTallies nD τ sig Unit :=
  ∑ k ∈ Finset.Ico h 8, (tallyAt (tC 3 (lf c) (lo c k) 0) () N + tallyAt (tC 3 (lf c) (lo c k) 1) () N)
def OX (c : Dev nD) : CellTallies nD τ sig Unit := tallyAt (exitC (rt c)) () 1 + tallyAt (exitC (lf c)) () 1
def O₀ (c : Dev nD) : CellTallies nD τ sig Unit :=
  OR c 0 + OL c 0 + OX c + tallyAt (barC (rt c)) () 1 + tallyAt (barC (lf c)) () 1

def L (g : GSem nD τ sig) : Finset Unit := if g.1.2 = .tc then {()} else ∅
/-- Barrier at 1, a block arriving from distance `k` at `1 + k`, the exit above all; the rest at 0. -/
def lv (g : GSem nD τ sig) (_ : Unit) : ℕ :=
  match g.2 with
  | .reg s => if s = barS then 1 else 100
  | .dma n => if kindOf n = 1 then 1 + dR g.1.1 (orgOf n) else if kindOf n = 3 then 1 + dL g.1.1 (orgOf n) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := by dsimp only [lv]; exact if_pos rfl
theorem lv_exit (c : Dev nD) : lv (exitC c) () = 100 := by dsimp only [lv]; exact if_neg exit_ne_bar
theorem lv_0 (c o : Dev nD) (p : Fin 2) : lv (tC 0 c o p) () = 0 := by
  dsimp only [lv]; rw [kindOf_dcell, if_neg (by decide), if_neg (by decide)]
theorem lv_2 (c o : Dev nD) (p : Fin 2) : lv (tC 2 c o p) () = 0 := by
  dsimp only [lv]; rw [kindOf_dcell, if_neg (by decide), if_neg (by decide)]
theorem lv_1 (c : Dev nD) (k : ℕ) (hk : k < 16) (p : Fin 2) : lv (tC 1 c (ro c k) p) () = 1 + k := by
  dsimp only [lv]; rw [kindOf_dcell, if_pos (by rfl), orgOf_dcell, dR_ro c k hk]
theorem lv_3 (c : Dev nD) (k : ℕ) (hk : k < 16) (p : Fin 2) : lv (tC 3 c (lo c k) p) () = 1 + k := by
  dsimp only [lv]; rw [kindOf_dcell, if_neg (by decide), if_pos (by rfl), orgOf_dcell, dL_lo c k hk]

/-- Everything owed lies above level `n`. -/
def Above (n : ℕ) (O : CellTallies nD τ sig Unit) : Prop := ∀ g u, 0 < O g u → g.1.2 = .tc ∧ n < lv g u

theorem Above.add {n : ℕ} {O O' : CellTallies nD τ sig Unit} (h : Above n O) (h' : Above n O') : Above n (O + O') := fun g u hg => by
  by_cases h0 : 0 < O g u
  · exact h g u h0
  · refine h' g u ?_
    have : (O + O') g u = O g u + O' g u := rfl
    omega
theorem Above.zero (n : ℕ) : Above n 0 := fun g u hg => absurd hg (Nat.lt_irrefl 0)
theorem Above.sum {n : ℕ} {S : Finset ℕ} {f : ℕ → CellTallies nD τ sig Unit} (h : ∀ k ∈ S, Above n (f k)) : Above n (∑ k ∈ S, f k) := by
  classical
  induction S using Finset.induction_on with
  | empty => exact Above.zero n
  | insert a S ha ih =>
    rw [Finset.sum_insert ha]
    exact (h a (Finset.mem_insert_self _ _)).add (ih fun k hk => h k (Finset.mem_insert_of_mem hk))
theorem Above.tally {n : ℕ} {g : GSem nD τ sig} {k : ℕ} (ht : g.1.2 = .tc) (hl : n < lv g ()) : Above n (tallyAt g () k) := fun g' u hg => by
  rw [tallyAt_apply] at hg
  by_cases h : g' = g ∧ u = ()
  · rw [h.1]; exact ⟨ht, hl⟩
  · rw [if_neg h] at hg; exact absurd hg (Nat.lt_irrefl 0)

theorem above_OR (c : Dev nD) (h n : ℕ) (hn : n ≤ h + 1) : Above n (OR c h) :=
  Above.sum fun k hk => by
    have hk := Finset.mem_Ico.1 hk
    rw [← ro_rt c k]
    exact (Above.tally rfl (by rw [lv_1 _ _ (by omega)]; omega)).add (Above.tally rfl (by rw [lv_1 _ _ (by omega)]; omega))
theorem above_OL (c : Dev nD) (h n : ℕ) (hn : n ≤ h + 1) : Above n (OL c h) :=
  Above.sum fun k hk => by
    have hk := Finset.mem_Ico.1 hk
    rw [← lo_lf c k]
    exact (Above.tally rfl (by rw [lv_3 _ _ (by omega)]; omega)).add (Above.tally rfl (by rw [lv_3 _ _ (by omega)]; omega))
theorem above_OX (c : Dev nD) (n : ℕ) (hn : n < 100) : Above n (OX c) :=
  (Above.tally rfl (by rw [lv_exit]; exact hn)).add (Above.tally rfl (by rw [lv_exit]; exact hn))

/-- A cell at or below what everything owed lies above may be waited on. -/
theorem mayWait_above (c : Dev nD) (sm : SemLoc sig) (n : ℕ) (hsm : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have := (hO g u hg).1
      unfold L; rw [if_pos this]; exact Finset.mem_singleton_self _)
    (fun p hp => by rw [Finset.mem_singleton.mp hp]; exact hsm)
    (fun g u hg => (hO g u hg).2)

end Cert.KernelIdeal.Run
-- ==== Proof.Run.Steps.lean ====
/- The kernel's steps that talk: a half block sent, a transfer cell waited on, a barrier or exit
   signal, with the resources each takes and gives back. -/
module

public import proofs.«01_k».proof.Proof.Run.Sched

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

/-! ## The cells -/

/-- The protocol's cells of one device that the kernel owns: the exit cell, the transfer cells. -/
abbrev Key : Type := Option (Fin 4 × Dev nD × Fin 2)
def keySem : Key → SemLoc sig
  | none => .reg exitS
  | some (a, o, p) => .dma (dcell a o p)
theorem keySem_inj : Function.Injective keySem := fun x y h => by
  rcases x with _ | ⟨a, o, p⟩ <;> rcases y with _ | ⟨a', o', p'⟩
  · rfl
  · exact absurd h (fun e => by cases e)
  · exact absurd h (fun e => by cases e)
  · obtain ⟨h1, h2, h3⟩ := dcell_inj (SemLoc.dma.inj h); rw [h1, h2, h3]
theorem bar_ne_key (k : Key) : (SemLoc.reg barS : SemLoc sig) ≠ keySem k := by
  rcases k with _ | ⟨a, o, p⟩
  · exact fun h => exit_ne_bar (SemLoc.reg.inj h).symm
  · exact fun h => by cases h
theorem tc_inj {c c' : Dev nD} (h : (c : Thread nD τ) = (c' : Thread nD τ)) : c = c' := congrArg Prod.fst h

def barEmb : Dev nD ↪ GSem nD τ sig := ⟨fun c => barC c, fun c c' h => tc_inj (congrArg Prod.fst h)⟩
def scEmb : Dev nD × Key ↪ GSem nD τ sig :=
  ⟨fun q => ((q.1 : Thread nD τ), keySem q.2), fun q q' h => Prod.ext (tc_inj (congrArg Prod.fst h)) (keySem_inj (congrArg Prod.snd h))⟩
def barCells : Finset (GSem nD τ sig) := Finset.univ.map barEmb
def scCells : Finset (GSem nD τ sig) := Finset.univ.map scEmb

theorem bar_mem (c : Dev nD) : barC c ∈ barCells ∪ scCells :=
  Finset.mem_union_left _ (Finset.mem_map.2 ⟨c, Finset.mem_univ _, rfl⟩)
theorem exit_mem (c : Dev nD) : exitC c ∈ barCells ∪ scCells :=
  Finset.mem_union_right _ (Finset.mem_map.2 ⟨(c, none), Finset.mem_univ _, rfl⟩)
theorem t_mem (a : Fin 4) (c o : Dev nD) (p : Fin 2) : tC a c o p ∈ barCells ∪ scCells :=
  Finset.mem_union_right _ (Finset.mem_map.2 ⟨(c, some (a, o, p)), Finset.mem_univ _, rfl⟩)

/-- Every cell's invariant, at the names `K` the launch took. -/
def invAll (K : GSem nD τ sig → ℕ) : sProp 𝕄 := bigSep (barCells ∪ scCells) fun g => cellInv ER (Rd Wp) (K g) g
instance invAll_persistent (K : GSem nD τ sig → ℕ) : BI.Persistent (invAll Wp K) := by unfold invAll; infer_instance
theorem inv_of (K : GSem nD τ sig → ℕ) {g : GSem nD τ sig} (hg : g ∈ barCells ∪ scCells) :
    (invAll Wp K : sProp 𝕄) ⊢ cellInv ER (Rd Wp) (K g) g := bigSep_elim hg

/-- What device `c` still owes, whatever it has waited on. -/
def ow (c : Dev nD) (O : CellTallies nD τ sig Unit) : sProp 𝕄 := iprop(∃ W, owes (c : Thread nD τ) O W)

abbrev 𝒱₀ : Variants := Variants.none

/-! ## The views -/

/-- Half a slot, as the kernel names it. -/
abbrev hM (off : Fin 3 → ℕ) (h : ∀ a, off a + S1x512x256.size a ≤ S16x1024x256.size a) : Memref sig .tc .vmem S512x256 .i8 :=
  (wM.slice (Rect.unit (s := S16x1024x256) off S1x512x256.size h) (fun _ => rfl)).squeeze S512x256 squeezes_S1x512x256_S512x256

theorem hM_set {off : Fin 3 → ℕ} (h) {o : Dev nD} {p : Fin 2} (ho : off = ![o.val, 512 * p.val, 0]) : (hM off h).view.set = hset o p := by
  subst ho
  unfold hset
  exact (View.set_reshape _ _).trans (View.set_slice_whole cc0_scratch0 _)

theorem acc_set {off : Fin 3 → ℕ} (h) {o : Dev nD} {p : Fin 2} (ho : off = ![o.val, 512 * p.val, 0]) :
    (wM.access (Rect.unit (s := S16x1024x256) off S1x512x256.size h)).set = hset o p := by
  subst ho
  unfold hset
  exact View.set_slice_whole cc0_scratch0 _

/-- What lands in a half slot is what the same half slot held at the sender. -/
theorem landed (d o : Dev nD) (p : Fin 2) {off : Fin 3 → ℕ} (h) (ho : off = ![o.val, 512 * p.val, 0])
    (fd fs : Buf (Elt F) ((d : Thread nD τ).loc cc0_scratch0)) :
    ((hM off h).view.loc (d : Thread nD τ) ↦[(hM off h).view.set]{fullShare}
        ((hM off h).view.write (Elt F) fd ((hM off h).view.read (Elt F) fs) Finset.univ) : sProp 𝕄)
      = hPts d o p fullShare fs := by
  rw [View.write_read_eq_piecewise]
  unfold hPts
  rw [← hM_set h ho]
  exact pointsTo_congr fun i hi => Finset.piecewise_eq_of_mem _ _ _ hi

/-! ## Sending -/

/-- A half block sent from `c` to `e`: the sender gives a share of its copy and the receiver's half slot, and gets the
    right to wait for the leaving. -/
theorem wp_sendH (K : GSem nD τ sig → ℕ) (c e n : Dev nD) (hn : n = e) (o : Dev nD) (p : Fin 2) (a b : Fin 4) (q : PosShare TreeShare)
    {sS sR : DmaSem sig} (hsS : sS = dcell a o p) (hsR : sR = dcell b o p)
    (hua : used c (dcell a o p)) (hub : used e (dcell b o p))
    (hpa : (Rd (F := F) Wp).payload (tC a c o p) 0 true = hPts c o p q (Wall Wp))
    (hpb : (Rd (F := F) Wp).payload (tC b e o p) 0 true = hPts e o p fullShare (Wall Wp))
    {off : Fin 3 → ℕ} {h} (ho : off = ![o.val, 512 * p.val, 0])
    {hsc : (hM off h : Memref sig (Dev.tc n : Thread nD τ).2.kind .vmem S512x256 .i8).view.ref.isScScratch = false}
    {hsrc : (hM off h).view.WordExact} {hdst : (hM off h).view.WordExact}
    {hsem : DmaTarget.Typed .vmem (.dma sR) (.remote (Dev.tc n : Thread nD τ) (hM off h : Memref sig .tc .vmem S512x256 .i8) (.dma sS) hsc)}
    {α : Type} {Q : α → sProp 𝕄} {k : PUnit → Prog (TpuEff nD τ sig (Elt F) Λ₀ .tc) α}
    (O : CellTallies nD τ sig Unit) :
    iprop(invAll Wp K ∗ hPts c o p q (Wall Wp) ∗ ((∃ f, hPts e o p fullShare f) ∗ reached ER (tC b e o p) 0)
        ∗ ow c (O + tallyAt (tC b e o p) () N)
        ∗ (dutyTok ER (tC a c o p) 0 true ∗ reached ER (tC a c o p) 0) ∗ dutyTok ER (tC b e o p) 0 true)
      ⊢ iprop(((cred (tallyAt (tC a c o p) () N) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hM off h) (.remote (Dev.tc n : Thread nD τ) (hM off h) (.dma sS) hsc) (.dma sR) hsrc hdst hsem) k) Q) := by
  subst hn hsS hsR
  unfold ow
  iintro ⟨#HI, Hs, ⟨⟨%f, Hd⟩, #Hrb⟩, ⟨%W, HO⟩, ⟨Hta, #Hra⟩, Htb⟩ Hk
  ihave #Ia := (inv_of Wp K (t_mem a c o p)) $$ HI
  ihave #Ib := (inv_of Wp K (t_mem b n o p)) $$ HI
  iapply (Rounds.wp_send_pointsTo 𝒱₀ ER (Rd Wp) (c : Thread nD τ) none (c' := (n : Thread nD τ)) (src := hM off h) (dst := hM off h)
      (sS := .dma (dcell a o p)) (sem := .dma (dcell b o p)) (q := q) (fs := Wall Wp) (κ₁ := K (tC a c o p)) (κ₂ := K (tC b n o p))
      (r₁ := 0) (r₂ := 0) (d₁ := true) (d₂ := true) (fd := f)
      (by rw [duties_used Wp c _ hua]; exact Finset.mem_singleton_self _) (by rw [duties_used Wp n _ hub]; exact Finset.mem_singleton_self _)
      () () N (by subst ho; rfl) (amount_dma Wp c _ true) (amount_dma Wp n _ true) O rfl (W := W)
      (by rw [hpa]; unfold hPts; rw [hM_set h ho])
      (by rw [hpb, landed n o p h ho])) $$ [Hs Hd HO Hta Htb]
  · isplitr; · iexact Ia
    isplitr; · iexact Ib
    isplitl [Hs]; · unfold hPts; rw [hM_set h ho]; iexact Hs
    isplitl [Hd]; · unfold hPts; rw [hM_set h ho]; iexact Hd
    isplitl [HO]; · iexact HO
    isplitl [Hta]; · iexact Hta
    isplitr; · iexact Hra
    isplitl [Htb]; · iexact Htb
    iexact Hrb
  iintro ⟨Hc, HO⟩
  iapply Hk
  isplitl [Hc]; · iexact Hc
  iexists W; iexact HO

/-! ## Waiting -/

/-- A used transfer cell waited on, everything still owed lying above it: what it pays. -/
theorem wp_waitH (K : GSem nD τ sig → ℕ) (c o : Dev nD) (p : Fin 2) (a : Fin 4) {sm : DmaSem sig} (hsm : sm = dcell a o p)
    (hu : used c (dcell a o p)) {off : Fin 3 → ℕ} {h} (ho : off = ![o.val, 512 * p.val, 0])
    {hsrc : (hM off h).view.WordExact} {hdst : (hM off h).view.WordExact}
    {α : Type} {Q : α → sProp 𝕄} {k : PUnit → Prog (TpuEff nD τ sig (Elt F) Λ₀ .tc) α}
    (O : CellTallies nD τ sig Unit) (n : ℕ) (hl : lv (tC a c o p) () ≤ n) (hO : Above n O) :
    iprop(invAll Wp K ∗ levAts L lv ∗ cred (tallyAt (tC a c o p) () N) ∗ ow c O ∗ atPos ER (tC a c o p) 0 ∅ 0)
      ⊢ iprop(((ow c O ∗ atPos ER (tC a c o p) 1 ∅ 0 ∗ (Rd Wp).payload (tC a c o p) 0 true)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm (hM off h) (hM off h) hsrc hdst) k) Q) := by
  subst hsm
  have hN : (hM off h).view.dmaCredit = N := by subst ho; rfl
  unfold ow
  rw [← hN]
  iintro ⟨#HI, #Hlev, Hc, ⟨%W, HO⟩, Hat⟩ Hk
  ihave #Ia := (inv_of Wp K (t_mem a c o p)) $$ HI
  iapply (Rounds.wp_wait_rest_token 𝒱₀ ER (Rd Wp) (c : Thread nD τ) none (κ := K (tC a c o p))
      (wpE_waitDma2_eq (hsrc := hsrc) (hdst := hdst) 𝒱₀ (c : Thread nD τ) none Set.univ) (Set.mem_univ _) () (O := O) (W := W) (R := 0) (m := 0) (T := ∅)
      (by rw [Nat.zero_add, hN, expect_used Wp c _ hu])) $$ [Hc HO Hat]
  · isplitr; · iexact Ia
    isplitl [Hc]; · iexact Hc
    isplitl [HO]; · iexact HO
    isplitr; · iapply (mayWait_above c _ n hl hO); iexact Hlev
    iexact Hat
  iintro ⟨HO, Hat, -, Hpay⟩
  ihave Hp := (Entails.of_eq (rest_used Wp c _ hu)) $$ Hpay
  iapply Hk
  isplitl [HO]; · iexists _; iexact HO
  isplitl [Hat]; · iexact Hat
  iexact Hp

/-! ## Signals and regular waits -/

/-- A barrier or exit unit given to `e`. -/
theorem wp_sig (K : GSem nD τ sig → ℕ) (c e n : Dev nD) (hn : n = e) (s : Sem sig) (d : Bool) (hg : ((e : Thread nD τ), SemLoc.reg s) ∈ barCells ∪ scCells)
    {α : Type} {Q : α → sProp 𝕄} {k : PUnit → Prog (TpuEff nD τ sig (Elt F) Λ₀ .tc) α}
    (O : CellTallies nD τ sig Unit) :
    iprop(invAll Wp K ∗ ow c (O + tallyAt ((e : Thread nD τ), SemLoc.reg s) () 1) ∗ dutyTok ER ((e : Thread nD τ), SemLoc.reg s) 0 d
        ∗ (Rd Wp).payload ((e : Thread nD τ), SemLoc.reg s) 0 d ∗ reached ER ((e : Thread nD τ), SemLoc.reg s) 0)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) s 1) k) Q) := by
  subst hn
  unfold ow
  iintro ⟨#HI, ⟨%W, HO⟩, Ht, Hpay, #Hr⟩ Hk
  ihave #Ia := (inv_of Wp K hg) $$ HI
  iapply (Rounds.wp_signal 𝒱₀ ER (Rd Wp) (c : Thread nD τ) none (dst := (n : Thread nD τ)) (sem := s) (r := 0) (d := d)
      (κ := K ((n : Thread nD τ), SemLoc.reg s))
      (by rw [duties_reg]; exact Finset.mem_univ _) (amount_reg Wp n s d) () O rfl (W := W)) $$ [HO Ht Hpay]
  · isplitr; · iexact Ia
    isplitl [HO]; · iexact HO
    isplitl [Ht]; · iexact Ht
    isplitl [Hpay]; · iexact Hpay
    iexact Hr
  iintro HO
  iapply Hk
  iexists W; iexact HO

/-- Both units of a barrier or exit cell waited for. -/
theorem wp_waitR (K : GSem nD τ sig → ℕ) (c : Dev nD) (s : Sem sig) (hg : ((c : Thread nD τ), SemLoc.reg s) ∈ barCells ∪ scCells)
    {α : Type} {Q : α → sProp 𝕄} {k : PUnit → Prog (TpuEff nD τ sig (Elt F) Λ₀ .tc) α}
    (O : CellTallies nD τ sig Unit) (n : ℕ) (hl : lv ((c : Thread nD τ), SemLoc.reg s) () ≤ n) (hO : Above n O) :
    iprop(invAll Wp K ∗ levAts L lv ∗ cred (tallyAt ((c : Thread nD τ), SemLoc.reg s) () 2) ∗ ow c O ∗ atPos ER ((c : Thread nD τ), SemLoc.reg s) 0 ∅ 0)
      ⊢ iprop(((ow c O ∗ atPos ER ((c : Thread nD τ), SemLoc.reg s) 1 ∅ 0
              ∗ bigSep ((Rd (F := F) Wp).duties ((c : Thread nD τ), SemLoc.reg s) 0 \ ∅) (fun u => (Rd (F := F) Wp).payload ((c : Thread nD τ), SemLoc.reg s) 0 u))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s 2) k) Q) := by
  unfold ow
  iintro ⟨#HI, #Hlev, Hc, ⟨%W, HO⟩, Hat⟩ Hk
  ihave #Ia := (inv_of Wp K hg) $$ HI
  iapply (Rounds.wp_wait_rest_token 𝒱₀ ER (Rd Wp) (c : Thread nD τ) none (κ := K ((c : Thread nD τ), SemLoc.reg s))
      (wpE_semWait_eq 𝒱₀ (c : Thread nD τ) none Set.univ) (Set.mem_univ _) () (O := O) (W := W) (R := 0) (m := 0) (T := ∅)
      ((Nat.zero_add 2).trans (expect_reg Wp c s).symm)) $$ [Hc HO Hat]
  · isplitr; · iexact Ia
    isplitl [Hc]; · iexact Hc
    isplitl [HO]; · iexact HO
    isplitr; · iapply (mayWait_above c _ n hl hO); iexact Hlev
    iexact Hat
  iintro ⟨HO, Hat, -, Hpay⟩
  iapply Hk
  isplitl [HO]; · iexists _; iexact HO
  isplitl [Hat]; · iexact Hat
  iexact Hpay

end Cert.KernelIdeal.Run
-- ==== Proof.Run.Moves.lean ====
/- The transfers of one device by hop: hop `k` rightwards carries the block of the device `k` places before, hop `k`
   leftwards the block of the device `k` places after. -/
module

public import proofs.«01_k».proof.Proof.Run.Steps

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

/-- What a step reads without using up: the cells' invariants, the levels. -/
def ctx (K : GSem nD τ sig → ℕ) : sProp 𝕄 := iprop(invAll Wp K ∗ levAts L lv)
instance ctx_persistent (K : GSem nD τ sig → ℕ) : BI.Persistent (ctx Wp K) := by unfold ctx; infer_instance

theorem sem0_of {off : Fin 2 → ℕ} (h) {o : Dev nD} {p : Fin 2} (ho : off = ![o.val, p.val]) :
    ((cc0_scratch1.slice (Rect.unit (s := S16x2) off S1x1.size h)).squeeze S_ squeezes_S1x1_S_).sem = dcell 0 o p := by subst ho; exact sem0_eq o p
theorem sem1_of {off : Fin 2 → ℕ} (h) {o : Dev nD} {p : Fin 2} (ho : off = ![o.val, p.val]) :
    ((cc0_scratch2.slice (Rect.unit (s := S16x2) off S1x1.size h)).squeeze S_ squeezes_S1x1_S_).sem = dcell 1 o p := by subst ho; exact sem1_eq o p
theorem sem2_of {off : Fin 2 → ℕ} (h) {o : Dev nD} {p : Fin 2} (ho : off = ![o.val, p.val]) :
    ((cc0_scratch3.slice (Rect.unit (s := S16x2) off S1x1.size h)).squeeze S_ squeezes_S1x1_S_).sem = dcell 2 o p := by subst ho; exact sem2_eq o p
theorem sem3_of {off : Fin 2 → ℕ} (h) {o : Dev nD} {p : Fin 2} (ho : off = ![o.val, p.val]) :
    ((cc0_scratch4.slice (Rect.unit (s := S16x2) off S1x1.size h)).squeeze S_ squeezes_S1x1_S_).sem = dcell 3 o p := by subst ho; exact sem3_eq o p

/-! ## rightwards -/

/-- A half block's sending before it: the landing half slot, the duties at both ends, the own cell's position. -/
def TR (c : Dev nD) (k : ℕ) (p : Fin 2) : sProp 𝕄 :=
  iprop((dutyTok ER (tC 0 c (ro c k) p) 0 true ∗ reached ER (tC 0 c (ro c k) p) 0) ∗ dutyTok ER (tC 1 (rt c) (ro c k) p) 0 true
    ∗ atPos ER (tC 0 c (ro c k) p) 0 ∅ 0)
def SR (c : Dev nD) (k : ℕ) (p : Fin 2) : sProp 𝕄 :=
  iprop(((∃ f, hPts (rt c) (ro c k) p fullShare f) ∗ reached ER (tC 1 (rt c) (ro c k) p) 0) ∗ TR c k p)
/-- Under way. -/
def FR (c : Dev nD) (k : ℕ) (p : Fin 2) : sProp 𝕄 :=
  iprop(cred (tallyAt (tC 0 c (ro c k) p) () N) ∗ atPos ER (tC 0 c (ro c k) p) 0 ∅ 0)
/-- Expected here. -/
def AR (c : Dev nD) (k : ℕ) (p : Fin 2) : sProp 𝕄 :=
  iprop(cred (tallyAt (tC 1 c (ro c k) p) () N) ∗ atPos ER (tC 1 c (ro c k) p) 0 ∅ 0)
/-- The sending cell and the receiving cell behind their waits. -/
def DSR (c : Dev nD) (k : ℕ) (p : Fin 2) : sProp 𝕄 := atPos ER (tC 0 c (ro c k) p) 1 ∅ 0
def DER (c : Dev nD) (k : ℕ) (p : Fin 2) : sProp 𝕄 := atPos ER (tC 1 c (ro c k) p) 1 ∅ 0
/-- The units of a hop's half. -/
abbrev uR (c : Dev nD) (k : ℕ) (p : Fin 2) : CellTallies nD τ sig Unit := tallyAt (tC 1 (rt c) (ro c k) p) () N

theorem OR_peel (c : Dev nD) (h : ℕ) (hh : h < 7) : OR c h = OR c (h + 1) + uR c h 1 + uR c h 0 := by
  unfold OR
  rw [Ring.Ico_eq_insert hh, Finset.sum_insert (by simp)]
  show (uR c h 0 + uR c h 1) + _ = _
  ac_rfl
theorem OR_end (c : Dev nD) (h : ℕ) (hh : 7 ≤ h) : OR c h = 0 := by
  unfold OR; rw [Finset.Ico_eq_empty (by omega)]; rfl

theorem wp_sendR (K : GSem nD τ sig → ℕ) (c : Dev nD) (k : ℕ) (hk : k < 7) (p : Fin 2) {n : Dev nD} (hn : n = rt c)
    {sS sR : DmaSem sig} (hsS : sS = dcell 0 (ro c k) p) (hsR : sR = dcell 1 (ro c k) p)
    {off : Fin 3 → ℕ} {h} (ho : off = ![(ro c k).val, 512 * p.val, 0])
    {hsc : (hM off h : Memref sig (Dev.tc n : Thread nD τ).2.kind .vmem S512x256 .i8).view.ref.isScScratch = false}
    {hsrc : (hM off h).view.WordExact} {hdst : (hM off h).view.WordExact}
    {hsem : DmaTarget.Typed .vmem (.dma sR) (.remote (Dev.tc n : Thread nD τ) (hM off h : Memref sig .tc .vmem S512x256 .i8) (.dma sS) hsc)}
    {α : Type} {Q : α → sProp 𝕄} {k' : PUnit → Prog (TpuEff nD τ sig (Elt F) Λ₀ .tc) α} (O : CellTallies nD τ sig Unit) :
    iprop(ctx Wp K ∗ SR c k p ∗ hPts c (ro c k) p fullShare.left (Wall Wp) ∗ ow c (O + uR c k p))
      ⊢ iprop(((FR c k p ∗ ow c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (hM off h) (.remote (Dev.tc n : Thread nD τ) (hM off h) (.dma sS) hsc) (.dma sR) hsrc hdst hsem) k') Q) := by
  unfold ctx SR TR FR
  iintro ⟨⟨#HI, -⟩, ⟨Hd, Hta, Htb, Hat⟩, Hs, HO⟩ Hk
  iapply (wp_sendH Wp K c (rt c) n hn (ro c k) p 0 1 fullShare.left hsS hsR (used0 c k hk p)
      (by rw [← ro_rt c k]; exact used1 (rt c) (k + 1) (by omega) (by omega) p) (payload_0 Wp c _ p true) (payload_1 Wp _ _ p true) ho O)
    $$ [Hs Hd HO Hta Htb]
  · isplitr; · iexact HI
    isplitl [Hs]; · iexact Hs
    isplitl [Hd]; · iexact Hd
    isplitl [HO]; · iexact HO
    isplitl [Hta]; · iexact Hta
    iexact Htb
  iintro ⟨Hc, HO⟩
  iapply Hk
  isplitl [Hc Hat]
  · isplitl [Hc]; · iexact Hc
    iexact Hat
  iexact HO

theorem wp_leftR (K : GSem nD τ sig → ℕ) (c : Dev nD) (k : ℕ) (hk : k < 7) (p : Fin 2)
    {sm : DmaSem sig} (hsm : sm = dcell 0 (ro c k) p) {off : Fin 3 → ℕ} {h} (ho : off = ![(ro c k).val, 512 * p.val, 0])
    {hsrc : (hM off h).view.WordExact} {hdst : (hM off h).view.WordExact}
    {α : Type} {Q : α → sProp 𝕄} {k' : PUnit → Prog (TpuEff nD τ sig (Elt F) Λ₀ .tc) α}
    (O : CellTallies nD τ sig Unit) (hO : Above 0 O) :
    iprop(ctx Wp K ∗ FR c k p ∗ ow c O)
      ⊢ iprop(((DSR c k p ∗ hPts c (ro c k) p fullShare.left (Wall Wp) ∗ ow c O)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm (hM off h) (hM off h) hsrc hdst) k') Q) := by
  unfold ctx FR DSR
  iintro ⟨⟨#HI, #Hlev⟩, ⟨Hc, Hat⟩, HO⟩ Hk
  iapply (wp_waitH Wp K c (ro c k) p 0 hsm (used0 c k hk p) ho O 0 (by rw [lv_0]) hO) $$ [Hc HO Hat]
  · isplitr; · iexact HI
    isplitr; · iexact Hlev
    isplitl [Hc]; · iexact Hc
    isplitl [HO]; · iexact HO
    iexact Hat
  rw [payload_0]
  iintro ⟨HO, Hat, Hp⟩
  iapply Hk
  isplitl [Hat]; · iexact Hat
  isplitl [Hp]; · iexact Hp
  iexact HO

theorem wp_comeR (K : GSem nD τ sig → ℕ) (c : Dev nD) (k : ℕ) (h1 : 1 ≤ k) (hk : k ≤ 7) (p : Fin 2)
    {sm : DmaSem sig} (hsm : sm = dcell 1 (ro c k) p) {off : Fin 3 → ℕ} {h} (ho : off = ![(ro c k).val, 512 * p.val, 0])
    {hsrc : (hM off h).view.WordExact} {hdst : (hM off h).view.WordExact}
    {α : Type} {Q : α → sProp 𝕄} {k' : PUnit → Prog (TpuEff nD τ sig (Elt F) Λ₀ .tc) α}
    (O : CellTallies nD τ sig Unit) (hO : Above (1 + k) O) :
    iprop(ctx Wp K ∗ AR c k p ∗ ow c O)
      ⊢ iprop(((DER c k p ∗ hPts c (ro c k) p fullShare (Wall Wp) ∗ ow c O)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm (hM off h) (hM off h) hsrc hdst) k') Q) := by
  unfold ctx AR DER
  iintro ⟨⟨#HI, #Hlev⟩, ⟨Hc, Hat⟩, HO⟩ Hk
  iapply (wp_waitH Wp K c (ro c k) p 1 hsm (used1 c k h1 hk p) ho O (1 + k) (by rw [lv_1 c k (by omega)]) hO) $$ [Hc HO Hat]
  · isplitr; · iexact HI
    isplitr; · iexact Hlev
    isplitl [Hc]; · iexact Hc
    isplitl [HO]; · iexact HO
    iexact Hat
  rw [payload_1]
  iintro ⟨HO, Hat, Hp⟩
  iapply Hk
  isplitl [Hat]; · iexact Hat
  isplitl [Hp]; · iexact Hp
  iexact HO

/-! ## leftwards -/

/-- A half block's sending before it: the landing half slot, the duties at both ends, the own cell's position. -/
def TL (c : Dev nD) (k : ℕ) (p : Fin 2) : sProp 𝕄 :=
  iprop((dutyTok ER (tC 2 c (lo c k) p) 0 true ∗ reached ER (tC 2 c (lo c k) p) 0) ∗ dutyTok ER (tC 3 (lf c) (lo c k) p) 0 true
    ∗ atPos ER (tC 2 c (lo c k) p) 0 ∅ 0)
def SL (c : Dev nD) (k : ℕ) (p : Fin 2) : sProp 𝕄 :=
  iprop(((∃ f, hPts (lf c) (lo c k) p fullShare f) ∗ reached ER (tC 3 (lf c) (lo c k) p) 0) ∗ TL c k p)
/-- Under way. -/
def FL (c : Dev nD) (k : ℕ) (p : Fin 2) : sProp 𝕄 :=
  iprop(cred (tallyAt (tC 2 c (lo c k) p) () N) ∗ atPos ER (tC 2 c (lo c k) p) 0 ∅ 0)
/-- Expected here. -/
def AL (c : Dev nD) (k : ℕ) (p : Fin 2) : sProp 𝕄 :=
  iprop(cred (tallyAt (tC 3 c (lo c k) p) () N) ∗ atPos ER (tC 3 c (lo c k) p) 0 ∅ 0)
/-- The sending cell and the receiving cell behind their waits. -/
def DSL (c : Dev nD) (k : ℕ) (p : Fin 2) : sProp 𝕄 := atPos ER (tC 2 c (lo c k) p) 1 ∅ 0
def DEL (c : Dev nD) (k : ℕ) (p : Fin 2) : sProp 𝕄 := atPos ER (tC 3 c (lo c k) p) 1 ∅ 0
/-- The units of a hop's half. -/
abbrev uL (c : Dev nD) (k : ℕ) (p : Fin 2) : CellTallies nD τ sig Unit := tallyAt (tC 3 (lf c) (lo c k) p) () N

theorem OL_peel (c : Dev nD) (h : ℕ) (hh : h < 8) : OL c h = OL c (h + 1) + uL c h 1 + uL c h 0 := by
  unfold OL
  rw [Ring.Ico_eq_insert hh, Finset.sum_insert (by simp)]
  show (uL c h 0 + uL c h 1) + _ = _
  ac_rfl
theorem OL_end (c : Dev nD) (h : ℕ) (hh : 8 ≤ h) : OL c h = 0 := by
  unfold OL; rw [Finset.Ico_eq_empty (by omega)]; rfl

theorem wp_sendL (K : GSem nD τ sig → ℕ) (c : Dev nD) (k : ℕ) (hk : k < 8) (p : Fin 2) {n : Dev nD} (hn : n = lf c)
    {sS sR : DmaSem sig} (hsS : sS = dcell 2 (lo c k) p) (hsR : sR = dcell 3 (lo c k) p)
    {off : Fin 3 → ℕ} {h} (ho : off = ![(lo c k).val, 512 * p.val, 0])
    {hsc : (hM off h : Memref sig (Dev.tc n : Thread nD τ).2.kind .vmem S512x256 .i8).view.ref.isScScratch = false}
    {hsrc : (hM off h).view.WordExact} {hdst : (hM off h).view.WordExact}
    {hsem : DmaTarget.Typed .vmem (.dma sR) (.remote (Dev.tc n : Thread nD τ) (hM off h : Memref sig .tc .vmem S512x256 .i8) (.dma sS) hsc)}
    {α : Type} {Q : α → sProp 𝕄} {k' : PUnit → Prog (TpuEff nD τ sig (Elt F) Λ₀ .tc) α} (O : CellTallies nD τ sig Unit) :
    iprop(ctx Wp K ∗ SL c k p ∗ hPts c (lo c k) p (shL c (lo c k)) (Wall Wp) ∗ ow c (O + uL c k p))
      ⊢ iprop(((FL c k p ∗ ow c O) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (hM off h) (.remote (Dev.tc n : Thread nD τ) (hM off h) (.dma sS) hsc) (.dma sR) hsrc hdst hsem) k') Q) := by
  unfold ctx SL TL FL
  iintro ⟨⟨#HI, -⟩, ⟨Hd, Hta, Htb, Hat⟩, Hs, HO⟩ Hk
  iapply (wp_sendH Wp K c (lf c) n hn (lo c k) p 2 3 (shL c (lo c k)) hsS hsR (used2 c k hk p)
      (by rw [← lo_lf c k]; exact used3 (lf c) (k + 1) (by omega) (by omega) p) (payload_2 Wp c _ p true) (payload_3 Wp _ _ p true) ho O)
    $$ [Hs Hd HO Hta Htb]
  · isplitr; · iexact HI
    isplitl [Hs]; · iexact Hs
    isplitl [Hd]; · iexact Hd
    isplitl [HO]; · iexact HO
    isplitl [Hta]; · iexact Hta
    iexact Htb
  iintro ⟨Hc, HO⟩
  iapply Hk
  isplitl [Hc Hat]
  · isplitl [Hc]; · iexact Hc
    iexact Hat
  iexact HO

theorem wp_leftL (K : GSem nD τ sig → ℕ) (c : Dev nD) (k : ℕ) (hk : k < 8) (p : Fin 2)
    {sm : DmaSem sig} (hsm : sm = dcell 2 (lo c k) p) {off : Fin 3 → ℕ} {h} (ho : off = ![(lo c k).val, 512 * p.val, 0])
    {hsrc : (hM off h).view.WordExact} {hdst : (hM off h).view.WordExact}
    {α : Type} {Q : α → sProp 𝕄} {k' : PUnit → Prog (TpuEff nD τ sig (Elt F) Λ₀ .tc) α}
    (O : CellTallies nD τ sig Unit) (hO : Above 0 O) :
    iprop(ctx Wp K ∗ FL c k p ∗ ow c O)
      ⊢ iprop(((DSL c k p ∗ hPts c (lo c k) p (shL c (lo c k)) (Wall Wp) ∗ ow c O)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm (hM off h) (hM off h) hsrc hdst) k') Q) := by
  unfold ctx FL DSL
  iintro ⟨⟨#HI, #Hlev⟩, ⟨Hc, Hat⟩, HO⟩ Hk
  iapply (wp_waitH Wp K c (lo c k) p 2 hsm (used2 c k hk p) ho O 0 (by rw [lv_2]) hO) $$ [Hc HO Hat]
  · isplitr; · iexact HI
    isplitr; · iexact Hlev
    isplitl [Hc]; · iexact Hc
    isplitl [HO]; · iexact HO
    iexact Hat
  rw [payload_2]
  iintro ⟨HO, Hat, Hp⟩
  iapply Hk
  isplitl [Hat]; · iexact Hat
  isplitl [Hp]; · iexact Hp
  iexact HO

theorem wp_comeL (K : GSem nD τ sig → ℕ) (c : Dev nD) (k : ℕ) (h1 : 1 ≤ k) (hk : k ≤ 8) (p : Fin 2)
    {sm : DmaSem sig} (hsm : sm = dcell 3 (lo c k) p) {off : Fin 3 → ℕ} {h} (ho : off = ![(lo c k).val, 512 * p.val, 0])
    {hsrc : (hM off h).view.WordExact} {hdst : (hM off h).view.WordExact}
    {α : Type} {Q : α → sProp 𝕄} {k' : PUnit → Prog (TpuEff nD τ sig (Elt F) Λ₀ .tc) α}
    (O : CellTallies nD τ sig Unit) (hO : Above (1 + k) O) :
    iprop(ctx Wp K ∗ AL c k p ∗ ow c O)
      ⊢ iprop(((DEL c k p ∗ hPts c (lo c k) p fullShare (Wall Wp) ∗ ow c O)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm (hM off h) (hM off h) hsrc hdst) k') Q) := by
  unfold ctx AL DEL
  iintro ⟨⟨#HI, #Hlev⟩, ⟨Hc, Hat⟩, HO⟩ Hk
  iapply (wp_waitH Wp K c (lo c k) p 3 hsm (used3 c k h1 hk p) ho O (1 + k) (by rw [lv_3 c k (by omega)]) hO) $$ [Hc HO Hat]
  · isplitr; · iexact HI
    isplitr; · iexact Hlev
    isplitl [Hc]; · iexact Hc
    isplitl [HO]; · iexact HO
    iexact Hat
  rw [payload_3]
  iintro ⟨HO, Hat, Hp⟩
  iapply Hk
  isplitl [Hat]; · iexact Hat
  isplitl [Hp]; · iexact Hp
  iexact HO

/-! ## What may be owed at a wait -/

theorem above_mid (c : Dev nD) (h n : ℕ) (hn : n ≤ h + 1) (h100 : n < 100) : Above n (OR c h + OL c h + OX c) :=
  ((above_OR c h n hn).add (above_OL c h n hn)).add (above_OX c n h100)

end Cert.KernelIdeal.Run
-- ==== Proof.Run.Locals.lean ====
/- The parts of the kernel that only read the staged inputs, compute, and add to the staged result. -/
module

public import proofs.«01_k».proof.Proof.Run.Moves
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The staged inputs and the staged result. -/
abbrev a0 : Memref sig .tc .vmem S2x256x512 .bf16 := Memref.whole cc0_stg0_0
abbrev a1 : Memref sig .tc .vmem S1024x256 .i8 := Memref.whole cc0_stg1_0
abbrev a2 : Memref sig .tc .vmem S128x64x256 .bf16 := Memref.whole cc0_stg2_0
abbrev a3 : Memref sig .tc .vmem S128x256x64 .bf16 := Memref.whole cc0_stg3_0
abbrev a4 : Memref sig .tc .vmem S2x256x512 .f32 := Memref.whole cc0_stg4_0

/-- A buffer of device `c` held whole. -/
abbrev held (c : Dev nD) (b : Ref sig .tc) (f : b.ty.Contents (Elt F)) : sProp 𝕄 := (Memref.whole b).view.loc (c : Thread nD τ) ↦{fullShare} f

/-- The inputs at their contents and the result so far. -/
def loc (c : Dev nD) (x : Vec F S2x256x512 .bf16) (k : Vec F S128x64x256 .bf16) (v : Vec F S128x256x64 .bf16) (O : Vec F S2x256x512 .f32) : sProp 𝕄 :=
  iprop(held c cc0_stg0_0 x ∗ held c cc0_stg2_0 k ∗ held c cc0_stg3_0 v ∗ held c cc0_stg4_0 O)

/-- One batch's rows of the result read, and replaced. -/
abbrev rd (O : Vec F S2x256x512 .f32) (off : Fin 3 → ℕ) (h : ∀ a, off a + S1x256x512.size a ≤ S2x256x512.size a) : Vec F S1x256x512 .f32 :=
  View.readAt (Elt F) a4.view (Rect.unit (s := S2x256x512) off S1x256x512.size h).toLoadRect O
abbrev wr (O : Vec F S2x256x512 .f32) (off : Fin 3 → ℕ) (h : ∀ a, off a + S1x256x512.size a ≤ S2x256x512.size a) (y : Vec F S1x256x512 .f32) : Vec F S2x256x512 .f32 :=
  (a4.access (Rect.unit (s := S2x256x512) off S1x256x512.size h)).write (Elt F) O y Finset.univ
/-- Reads of the other inputs, and of the gathered weights. -/
abbrev rx (x : Vec F S2x256x512 .bf16) (off : Fin 3 → ℕ) (h : ∀ a, off a + S1x256x512.size a ≤ S2x256x512.size a) : Vec F S1x256x512 .bf16 :=
  View.readAt (Elt F) a0.view (Rect.unit (s := S2x256x512) off S1x256x512.size h).toLoadRect x
abbrev rk (k : Vec F S128x64x256 .bf16) (off : Fin 3 → ℕ) (h : ∀ a, off a + S1x64x256.size a ≤ S128x64x256.size a) : Vec F S1x64x256 .bf16 :=
  View.readAt (Elt F) a2.view (Rect.unit (s := S128x64x256) off S1x64x256.size h).toLoadRect k
abbrev rv (v : Vec F S128x256x64 .bf16) (off : Fin 3 → ℕ) (h : ∀ a, off a + S1x256x64.size a ≤ S128x256x64.size a) : Vec F S1x256x64 .bf16 :=
  View.readAt (Elt F) a3.view (Rect.unit (s := S128x256x64) off S1x256x64.size h).toLoadRect v
abbrev rw5 (W : Vec F S16x1024x256 .i8) (off : Fin 3 → ℕ) (h : ∀ a, off a + S1x512x256.size a ≤ S16x1024x256.size a) : Vec F S1x512x256 .i8 :=
  View.readAt (Elt F) wM.view (Rect.unit (s := S16x1024x256) off S1x512x256.size h).toLoadRect W

theorem run_p21 (c : Dev nD) (x : Vec F S2x256x512 .bf16) (k : Vec F S128x64x256 .bf16) (v : Vec F S128x256x64 .bf16) (O : Vec F S2x256x512 .f32) (v2 : BitVec 32) (v93 : IVec S256x256 1) (v137 : FVec F S512x256 .bf16) (v143 : FVec F S256x512 .bf16) (Q : (Σ' (v147 : FVec F S256x256 .bf16) (v172 : FVec F S256x64 .bf16) (v179 : FVec F S64x256 .bf16), FVec F S1x256x64 .bf16) → sProp 𝕄) :
    iprop(loc c x k v O ∗ (loc c x k v O -∗ Q ⟨k0_pay63 v137 v143, k0_pay64 v93 v137 v143 (rk k ((k0_off8 c 0#32 0#32)) ((k0_off8_inb c 0 0))) (rv v ((k0_off9 c 0#32 0#32)) ((k0_off9_inb c 0 0))), k0_pay65 (rk k ((k0_off8 c 0#32 1#32)) ((k0_off8_inb c 0 1))), k0_pay66 (rv v ((k0_off9 c 0#32 1#32)) ((k0_off9_inb c 0 1)))⟩))
      ⊢ wp frame (wpE (defs₀ (F := F)) 𝒱₀ (c : Thread nD τ) none) Set.univ (k0_part21 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c v2 v93 v137 v143) Q := by
  unfold loc
  iintro ⟨⟨H0, H2, H3, H4⟩, Hk⟩
  rw [k0_part21_eq_skeleton]
  unfold k0_part21_skel
  sl_exec
  sl_step
  try sl_unfold_run_names
  iapply Hk
  isplitl [H0]; · iexact H0
  isplitl [H2]; · iexact H2
  isplitl [H3]; · iexact H3
  iexact H4

theorem run_p22 (c : Dev nD) (x : Vec F S2x256x512 .bf16) (k : Vec F S128x64x256 .bf16) (v : Vec F S128x256x64 .bf16) (O : Vec F S2x256x512 .f32) (v2 : BitVec 32) (v93 : IVec S256x256 1) (v147 : FVec F S256x256 .bf16) (v179 : FVec F S64x256 .bf16) (v182 : FVec F S1x256x64 .bf16) (Q : (Σ' (v197 : FVec F S256x64 .bf16) (v222 : FVec F S256x64 .bf16) (v223 : BitVec 32), BitVec 32) → sProp 𝕄) :
    iprop(loc c x k v O ∗ (loc c x k v O -∗ Q ⟨k0_pay67 v93 v147 v179 v182, k0_pay68 v93 v147 (rk k ((k0_off8 c 0#32 2#32)) ((k0_off8_inb c 0 2))) (rv v ((k0_off9 c 0#32 2#32)) ((k0_off9_inb c 0 2))), (Scalar.muli v2 4#32), 0#32⟩))
      ⊢ wp frame (wpE (defs₀ (F := F)) 𝒱₀ (c : Thread nD τ) none) Set.univ (k0_part22 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c v2 v93 v147 v179 v182) Q := by
  unfold loc
  iintro ⟨⟨H0, H2, H3, H4⟩, Hk⟩
  rw [k0_part22_eq_skeleton]
  unfold k0_part22_skel
  sl_exec
  sl_step
  try sl_unfold_run_names
  iapply Hk
  isplitl [H0]; · iexact H0
  isplitl [H2]; · iexact H2
  isplitl [H3]; · iexact H3
  iexact H4

theorem run_p23 (c : Dev nD) (x : Vec F S2x256x512 .bf16) (k : Vec F S128x64x256 .bf16) (v : Vec F S128x256x64 .bf16) (O : Vec F S2x256x512 .f32) (v93 : IVec S256x256 1) (v137 : FVec F S512x256 .bf16) (v141 : FVec F S512x256 .bf16) (v147 : FVec F S256x256 .bf16) (v172 : FVec F S256x64 .bf16) (v197 : FVec F S256x64 .bf16) (v222 : FVec F S256x64 .bf16) (v223 : BitVec 32) (c0_i32_110 : BitVec 32) (Q : (FVec F S256x256 .f32) → sProp 𝕄) :
    iprop(loc c x k v O ∗ (loc c x k v (wr O (![0, 0, 0]) (inb_S2x256x512_S1x256x512_0_0_0) (k0_pay69 v93 v141 v147 v172 v197 v222 (rk k ((k0_off8 c 0#32 3#32)) ((k0_off8_inb c 0 3))) (rv v ((k0_off9 c 0#32 3#32)) ((k0_off9_inb c 0 3))) (rd O (![0, 0, 0]) (inb_S2x256x512_S1x256x512_0_0_0)))) -∗ Q (k0_pay70 v137 (rx x (![1, 0, 0]) (inb_S2x256x512_S1x256x512_1_0_0)))))
      ⊢ wp frame (wpE (defs₀ (F := F)) 𝒱₀ (c : Thread nD τ) none) Set.univ (k0_part23 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c v93 v137 v141 v147 v172 v197 v222 v223 c0_i32_110) Q := by
  unfold loc
  iintro ⟨⟨H0, H2, H3, H4⟩, Hk⟩
  rw [k0_part23_eq_skeleton]
  unfold k0_part23_skel
  sl_exec
  sl_step
  try sl_unfold_run_names
  iapply Hk
  isplitl [H0]; · iexact H0
  isplitl [H2]; · iexact H2
  isplitl [H3]; · iexact H3
  iexact H4

theorem run_p24 (c : Dev nD) (x : Vec F S2x256x512 .bf16) (k : Vec F S128x64x256 .bf16) (v : Vec F S128x256x64 .bf16) (O : Vec F S2x256x512 .f32) (v2 : BitVec 32) (v93 : IVec S256x256 1) (v260 : FVec F S256x256 .f32) (Q : (Σ' (v263 : FVec F S256x256 .bf16) (v288 : FVec F S256x64 .bf16) (v295 : FVec F S64x256 .bf16) (v299 : FVec F S256x64 .bf16), FVec F S256x64 .bf16) → sProp 𝕄) :
    iprop(loc c x k v O ∗ (loc c x k v O -∗ Q ⟨k0_pay71 v260, k0_pay72 v93 v260 (rk k ((k0_off8 c 64#32 0#32)) ((k0_off8_inb c 1 0))) (rv v ((k0_off9 c 64#32 0#32)) ((k0_off9_inb c 1 0))), k0_pay73 (rk k ((k0_off8 c 64#32 1#32)) ((k0_off8_inb c 1 1))), k0_pay74 (rv v ((k0_off9 c 64#32 1#32)) ((k0_off9_inb c 1 1))), k0_pay75 v260⟩))
      ⊢ wp frame (wpE (defs₀ (F := F)) 𝒱₀ (c : Thread nD τ) none) Set.univ (k0_part24 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c v2 v93 v260) Q := by
  unfold loc
  iintro ⟨⟨H0, H2, H3, H4⟩, Hk⟩
  rw [k0_part24_eq_skeleton]
  unfold k0_part24_skel
  sl_exec
  sl_step
  try sl_unfold_run_names
  iapply Hk
  isplitl [H0]; · iexact H0
  isplitl [H2]; · iexact H2
  isplitl [H3]; · iexact H3
  iexact H4

theorem run_p25 (c : Dev nD) (x : Vec F S2x256x512 .bf16) (k : Vec F S128x64x256 .bf16) (v : Vec F S128x256x64 .bf16) (O : Vec F S2x256x512 .f32) (v2 : BitVec 32) (v93 : IVec S256x256 1) (v263 : FVec F S256x256 .bf16) (v295 : FVec F S64x256 .bf16) (v299 : FVec F S256x64 .bf16) (v300 : FVec F S256x64 .bf16) (Q : (Σ' (v313 : FVec F S256x64 .bf16) (v338 : FVec F S256x64 .bf16) (v340 : BitVec 32), BitVec 32) → sProp 𝕄) :
    iprop(loc c x k v O ∗ (loc c x k v O -∗ Q ⟨k0_pay76 v93 v295 v299 v300, k0_pay77 v93 v263 (rk k ((k0_off8 c 64#32 2#32)) ((k0_off8_inb c 1 2))) (rv v ((k0_off9 c 64#32 2#32)) ((k0_off9_inb c 1 2))), (Scalar.addi 64#32 (Scalar.muli v2 4#32)), 3#32⟩))
      ⊢ wp frame (wpE (defs₀ (F := F)) 𝒱₀ (c : Thread nD τ) none) Set.univ (k0_part25 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c v2 v93 v263 v295 v299 v300) Q := by
  unfold loc
  iintro ⟨⟨H0, H2, H3, H4⟩, Hk⟩
  rw [k0_part25_eq_skeleton]
  unfold k0_part25_skel
  sl_exec
  sl_step
  try sl_unfold_run_names
  iapply Hk
  isplitl [H0]; · iexact H0
  isplitl [H2]; · iexact H2
  isplitl [H3]; · iexact H3
  iexact H4

theorem run_p26 (c : Dev nD) (x : Vec F S2x256x512 .bf16) (k : Vec F S128x64x256 .bf16) (v : Vec F S128x256x64 .bf16) (O : Vec F S2x256x512 .f32) (v62 : BitVec 32) (v73 : BitVec 32) (k0_hw1 : k0_chk1 v73) (v93 : IVec S256x256 1) (v141 : FVec F S512x256 .bf16) (v263 : FVec F S256x256 .bf16) (v288 : FVec F S256x64 .bf16) (v313 : FVec F S256x64 .bf16) (v338 : FVec F S256x64 .bf16) (v340 : BitVec 32) (c3_i32_170 : BitVec 32) (Q : (PUnit) → sProp 𝕄) :
    iprop(loc c x k v O ∗ (loc c x k v (wr O (![1, 0, 0]) (inb_S2x256x512_S1x256x512_1_0_0) (k0_pay78 v93 v141 v263 v288 v313 v338 (rk k ((k0_off8 c 64#32 3#32)) ((k0_off8_inb c 1 3))) (rv v ((k0_off9 c 64#32 3#32)) ((k0_off9_inb c 1 3))) (rd O (![1, 0, 0]) (inb_S2x256x512_S1x256x512_1_0_0)))) -∗ Q ⟨⟩))
      ⊢ wp frame (wpE (defs₀ (F := F)) 𝒱₀ (c : Thread nD τ) none) Set.univ (k0_part26 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c v62 v73 k0_hw1 v93 v141 v263 v288 v313 v338 v340 c3_i32_170) Q := by
  unfold loc
  iintro ⟨⟨H0, H2, H3, H4⟩, Hk⟩
  rw [k0_part26_eq_skeleton]
  unfold k0_part26_skel
  sl_exec
  sl_step
  try sl_unfold_run_names
  iapply Hk
  isplitl [H0]; · iexact H0
  isplitl [H2]; · iexact H2
  isplitl [H3]; · iexact H3
  iexact H4

theorem run_p4 (c : Dev nD) (x : Vec F S2x256x512 .bf16) (k : Vec F S128x64x256 .bf16) (v : Vec F S128x256x64 .bf16) (O : Vec F S2x256x512 .f32) (v93 : IVec S256x256 1) (k0_t1 : Fin k0_t1_loop.trips) (v692 : BitVec 32) (k0_hw3 : k0_chk3 k0_t1 v692) (v740 : FVec F S256x256 .bf16) (v747 : FVec F S64x256 .bf16) (v751 : FVec F S256x64 .bf16) (v752 : FVec F S256x64 .bf16) (cst_423 : FVec F S256x256 .f32) (Q : (Σ' (v765 : FVec F S256x64 .bf16) (v790 : FVec F S256x64 .bf16), BitVec 32) → sProp 𝕄) :
    iprop(loc c x k v O ∗ (loc c x k v O -∗ Q ⟨k0_pay11 v93 v747 v751 v752 cst_423, k0_pay12 v93 v740 (rk k ((k0_off28 v692 0#32 1#32)) ((k0_off28_inb k0_t1 v692 k0_hw3 0 1))) (rv v ((k0_off29 v692 0#32 1#32)) ((k0_off29_inb k0_t1 v692 k0_hw3 0 1))), (Scalar.addi (Scalar.addi 0#32 (Scalar.muli v692 4#32)) 2#32)⟩))
      ⊢ wp frame (wpE (defs₀ (F := F)) 𝒱₀ (c : Thread nD τ) none) Set.univ (k0_part4 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 k0_t1 v692 k0_hw3 v740 v747 v751 v752 cst_423) Q := by
  unfold loc
  iintro ⟨⟨H0, H2, H3, H4⟩, Hk⟩
  rw [k0_part4_eq_skeleton]
  unfold k0_part4_skel
  sl_exec
  sl_step
  try sl_unfold_run_names
  iapply Hk
  isplitl [H0]; · iexact H0
  isplitl [H2]; · iexact H2
  isplitl [H3]; · iexact H3
  iexact H4

theorem run_p5 (c : Dev nD) (x : Vec F S2x256x512 .bf16) (k : Vec F S128x64x256 .bf16) (v : Vec F S128x256x64 .bf16) (O : Vec F S2x256x512 .f32) (v93 : IVec S256x256 1) (k0_t1 : Fin k0_t1_loop.trips) (v692 : BitVec 32) (k0_hw3 : k0_chk3 k0_t1 v692) (v740 : FVec F S256x256 .bf16) (v793 : BitVec 32) (Q : (Σ' (v815 : FVec F S256x64 .bf16) (v826 : FVec F S256x64 .bf16) (v831 : FVec F S256x256 .f32) (v833 : FVec F S256x1 .f32), F .f32) → sProp 𝕄) :
    iprop(loc c x k v O ∗ (loc c x k v O -∗ Q ⟨k0_pay13 v93 v740 (rk k ((k0_off28 v692 0#32 2#32)) ((k0_off28_inb k0_t1 v692 k0_hw3 0 2))) (rv v ((k0_off29 v692 0#32 2#32)) ((k0_off29_inb k0_t1 v692 k0_hw3 0 2))), k0_pay14 (rv v ((k0_off29 v692 0#32 3#32)) ((k0_off29_inb k0_t1 v692 k0_hw3 0 3))), k0_pay15 v93 v740 (rk k ((k0_off28 v692 0#32 3#32)) ((k0_off28_inb k0_t1 v692 k0_hw3 0 3))), k0_pay16 v93 v740 (rk k ((k0_off28 v692 0#32 3#32)) ((k0_off28_inb k0_t1 v692 k0_hw3 0 3))), (Scalar.ofBits .f32 0x3F800000#32)⟩))
      ⊢ wp frame (wpE (defs₀ (F := F)) 𝒱₀ (c : Thread nD τ) none) Set.univ (k0_part5 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 k0_t1 v692 k0_hw3 v740 v793) Q := by
  unfold loc
  iintro ⟨⟨H0, H2, H3, H4⟩, Hk⟩
  rw [k0_part5_eq_skeleton]
  unfold k0_part5_skel
  sl_exec
  sl_step
  try sl_unfold_run_names
  iapply Hk
  isplitl [H0]; · iexact H0
  isplitl [H2]; · iexact H2
  isplitl [H3]; · iexact H3
  iexact H4

theorem run_p6 (c : Dev nD) (x : Vec F S2x256x512 .bf16) (k : Vec F S128x64x256 .bf16) (v : Vec F S128x256x64 .bf16) (O : Vec F S2x256x512 .f32) (k0_t1 : Fin k0_t1_loop.trips) (v692 : BitVec 32) (k0_hw3 : k0_chk3 k0_t1 v692) (v730 : FVec F S512x256 .bf16) (v734 : FVec F S512x256 .bf16) (v765 : FVec F S256x64 .bf16) (v790 : FVec F S256x64 .bf16) (v815 : FVec F S256x64 .bf16) (v826 : FVec F S256x64 .bf16) (v831 : FVec F S256x256 .f32) (v833 : FVec F S256x1 .f32) (cst_462 : F .f32) (Q : (Σ' (v856 : FVec F S256x256 .bf16) (v867 : FVec F S256x64 .bf16), FVec F S256x256 .f32) → sProp 𝕄) :
    iprop(loc c x k v O ∗ (loc c x k v (wr O (![0, 0, 0]) (inb_S2x256x512_S1x256x512_0_0_0) (k0_pay17 v734 v765 v790 v815 v826 v831 v833 cst_462 (rd O (![0, 0, 0]) (inb_S2x256x512_S1x256x512_0_0_0)))) -∗ Q ⟨k0_pay18 v730 (rx x (![1, 0, 0]) (inb_S2x256x512_S1x256x512_1_0_0)), k0_pay19 (rv v ((k0_off29 v692 64#32 0#32)) ((k0_off29_inb k0_t1 v692 k0_hw3 1 0))), k0_pay20 v730 (rx x (![1, 0, 0]) (inb_S2x256x512_S1x256x512_1_0_0)) (rk k ((k0_off28 v692 64#32 0#32)) ((k0_off28_inb k0_t1 v692 k0_hw3 1 0)))⟩))
      ⊢ wp frame (wpE (defs₀ (F := F)) 𝒱₀ (c : Thread nD τ) none) Set.univ (k0_part6 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 k0_t1 v692 k0_hw3 v730 v734 v765 v790 v815 v826 v831 v833 cst_462) Q := by
  unfold loc
  iintro ⟨⟨H0, H2, H3, H4⟩, Hk⟩
  rw [k0_part6_eq_skeleton]
  unfold k0_part6_skel
  sl_exec
  sl_step
  try sl_unfold_run_names
  iapply Hk
  isplitl [H0]; · iexact H0
  isplitl [H2]; · iexact H2
  isplitl [H3]; · iexact H3
  iexact H4

theorem run_p7 (c : Dev nD) (x : Vec F S2x256x512 .bf16) (k : Vec F S128x64x256 .bf16) (v : Vec F S128x256x64 .bf16) (O : Vec F S2x256x512 .f32) (v93 : IVec S256x256 1) (k0_t1 : Fin k0_t1_loop.trips) (v692 : BitVec 32) (k0_hw3 : k0_chk3 k0_t1 v692) (v856 : FVec F S256x256 .bf16) (v867 : FVec F S256x64 .bf16) (v870 : FVec F S256x256 .f32) (Q : (Σ' (v881 : FVec F S256x64 .bf16) (v906 : FVec F S256x64 .bf16), BitVec 32) → sProp 𝕄) :
    iprop(loc c x k v O ∗ (loc c x k v O -∗ Q ⟨k0_pay21 v93 v867 v870, k0_pay22 v93 v856 (rk k ((k0_off28 v692 64#32 1#32)) ((k0_off28_inb k0_t1 v692 k0_hw3 1 1))) (rv v ((k0_off29 v692 64#32 1#32)) ((k0_off29_inb k0_t1 v692 k0_hw3 1 1))), (Scalar.addi (Scalar.addi 64#32 (Scalar.muli v692 4#32)) 2#32)⟩))
      ⊢ wp frame (wpE (defs₀ (F := F)) 𝒱₀ (c : Thread nD τ) none) Set.univ (k0_part7 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 k0_t1 v692 k0_hw3 v856 v867 v870) Q := by
  unfold loc
  iintro ⟨⟨H0, H2, H3, H4⟩, Hk⟩
  rw [k0_part7_eq_skeleton]
  unfold k0_part7_skel
  sl_exec
  sl_step
  try sl_unfold_run_names
  iapply Hk
  isplitl [H0]; · iexact H0
  isplitl [H2]; · iexact H2
  isplitl [H3]; · iexact H3
  iexact H4

theorem run_p8 (c : Dev nD) (x : Vec F S2x256x512 .bf16) (k : Vec F S128x64x256 .bf16) (v : Vec F S128x256x64 .bf16) (O : Vec F S2x256x512 .f32) (v93 : IVec S256x256 1) (k0_t1 : Fin k0_t1_loop.trips) (v692 : BitVec 32) (k0_hw3 : k0_chk3 k0_t1 v692) (v856 : FVec F S256x256 .bf16) (v909 : BitVec 32) (Q : (Σ' (v931 : FVec F S256x64 .bf16) (v942 : FVec F S256x64 .bf16) (v947 : FVec F S256x256 .f32), FVec F S256x1 .f32) → sProp 𝕄) :
    iprop(loc c x k v O ∗ (loc c x k v O -∗ Q ⟨k0_pay23 v93 v856 (rk k ((k0_off28 v692 64#32 2#32)) ((k0_off28_inb k0_t1 v692 k0_hw3 1 2))) (rv v ((k0_off29 v692 64#32 2#32)) ((k0_off29_inb k0_t1 v692 k0_hw3 1 2))), k0_pay24 (rv v ((k0_off29 v692 64#32 3#32)) ((k0_off29_inb k0_t1 v692 k0_hw3 1 3))), k0_pay25 v93 v856 (rk k ((k0_off28 v692 64#32 3#32)) ((k0_off28_inb k0_t1 v692 k0_hw3 1 3))), k0_pay26 v93 v856 (rk k ((k0_off28 v692 64#32 3#32)) ((k0_off28_inb k0_t1 v692 k0_hw3 1 3)))⟩))
      ⊢ wp frame (wpE (defs₀ (F := F)) 𝒱₀ (c : Thread nD τ) none) Set.univ (k0_part8 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 k0_t1 v692 k0_hw3 v856 v909) Q := by
  unfold loc
  iintro ⟨⟨H0, H2, H3, H4⟩, Hk⟩
  rw [k0_part8_eq_skeleton]
  unfold k0_part8_skel
  sl_exec
  sl_step
  try sl_unfold_run_names
  iapply Hk
  isplitl [H0]; · iexact H0
  isplitl [H2]; · iexact H2
  isplitl [H3]; · iexact H3
  iexact H4

theorem run_p10 (c : Dev nD) (x : Vec F S2x256x512 .bf16) (k : Vec F S128x64x256 .bf16) (v : Vec F S128x256x64 .bf16) (O : Vec F S2x256x512 .f32) (v93 : IVec S256x256 1) (v703 : BitVec 32) (k0_hw4 : k0_chk4 v703) (v980 : FVec F S256x256 .bf16) (v983 : BitVec 32) (v987 : FVec F S64x256 .bf16) (Q : (Σ' (v1005 : FVec F S256x64 .bf16) (v1027 : FVec F S256x64 .f32), FVec F S256x64 .f32) → sProp 𝕄) :
    iprop(loc c x k v O ∗ (loc c x k v O -∗ Q ⟨k0_pay32 v93 v980 v987 (rv v ((k0_off33 v703 0#32 0#32)) ((k0_off33_inb v703 k0_hw4 0 0))), k0_pay34 v93 v980 (rk k ((k0_off32 v703 0#32 1#32)) ((k0_off32_inb v703 k0_hw4 0 1))) (rv v ((k0_off33 v703 0#32 1#32)) ((k0_off33_inb v703 k0_hw4 0 1))), k0_pay35 v93 v980 (rk k ((k0_off32 v703 0#32 1#32)) ((k0_off32_inb v703 k0_hw4 0 1)))⟩))
      ⊢ wp frame (wpE (defs₀ (F := F)) 𝒱₀ (c : Thread nD τ) none) Set.univ (k0_part10 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 v703 k0_hw4 v980 v983 v987) Q := by
  unfold loc
  iintro ⟨⟨H0, H2, H3, H4⟩, Hk⟩
  rw [k0_part10_eq_skeleton]
  unfold k0_part10_skel
  sl_exec
  sl_step
  try sl_unfold_run_names
  iapply Hk
  isplitl [H0]; · iexact H0
  isplitl [H2]; · iexact H2
  isplitl [H3]; · iexact H3
  iexact H4

theorem run_p11 (c : Dev nD) (x : Vec F S2x256x512 .bf16) (k : Vec F S128x64x256 .bf16) (v : Vec F S128x256x64 .bf16) (O : Vec F S2x256x512 .f32) (v93 : IVec S256x256 1) (v703 : BitVec 32) (k0_hw4 : k0_chk4 v703) (v980 : FVec F S256x256 .bf16) (v1027 : FVec F S256x64 .f32) (v1028 : FVec F S256x64 .f32) (Q : (Σ' (v1030 : FVec F S256x64 .bf16) (v1055 : FVec F S256x64 .bf16) (v1066 : FVec F S256x64 .bf16), FVec F S256x256 .f32) → sProp 𝕄) :
    iprop(loc c x k v O ∗ (loc c x k v O -∗ Q ⟨k0_pay36 v1027 v1028, k0_pay37 v93 v980 (rk k ((k0_off32 v703 0#32 2#32)) ((k0_off32_inb v703 k0_hw4 0 2))) (rv v ((k0_off33 v703 0#32 2#32)) ((k0_off33_inb v703 k0_hw4 0 2))), k0_pay38 (rv v ((k0_off33 v703 0#32 3#32)) ((k0_off33_inb v703 k0_hw4 0 3))), k0_pay39 v980 (rk k ((k0_off32 v703 0#32 3#32)) ((k0_off32_inb v703 k0_hw4 0 3)))⟩))
      ⊢ wp frame (wpE (defs₀ (F := F)) 𝒱₀ (c : Thread nD τ) none) Set.univ (k0_part11 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 v703 k0_hw4 v980 v1027 v1028) Q := by
  unfold loc
  iintro ⟨⟨H0, H2, H3, H4⟩, Hk⟩
  rw [k0_part11_eq_skeleton]
  unfold k0_part11_skel
  sl_exec
  sl_step
  try sl_unfold_run_names
  iapply Hk
  isplitl [H0]; · iexact H0
  isplitl [H2]; · iexact H2
  isplitl [H3]; · iexact H3
  iexact H4

theorem run_p12 (c : Dev nD) (x : Vec F S2x256x512 .bf16) (k : Vec F S128x64x256 .bf16) (v : Vec F S128x256x64 .bf16) (O : Vec F S2x256x512 .f32) (v93 : IVec S256x256 1) (v703 : BitVec 32) (k0_hw4 : k0_chk4 v703) (v970 : FVec F S512x256 .bf16) (v974 : FVec F S512x256 .bf16) (v1005 : FVec F S256x64 .bf16) (v1030 : FVec F S256x64 .bf16) (v1055 : FVec F S256x64 .bf16) (v1066 : FVec F S256x64 .bf16) (v1068 : FVec F S256x256 .f32) (Q : (Σ' (v1096 : FVec F S256x256 .bf16), FVec F S64x256 .bf16) → sProp 𝕄) :
    iprop(loc c x k v O ∗ (loc c x k v (wr O (![0, 0, 0]) (inb_S2x256x512_S1x256x512_0_0_0) (k0_pay40 v93 v974 v1005 v1030 v1055 v1066 v1068 (rd O (![0, 0, 0]) (inb_S2x256x512_S1x256x512_0_0_0)))) -∗ Q ⟨k0_pay41 v970 (rx x (![1, 0, 0]) (inb_S2x256x512_S1x256x512_1_0_0)), k0_pay42 (rk k ((k0_off32 v703 64#32 0#32)) ((k0_off32_inb v703 k0_hw4 1 0)))⟩))
      ⊢ wp frame (wpE (defs₀ (F := F)) 𝒱₀ (c : Thread nD τ) none) Set.univ (k0_part12 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 v703 k0_hw4 v970 v974 v1005 v1030 v1055 v1066 v1068) Q := by
  unfold loc
  iintro ⟨⟨H0, H2, H3, H4⟩, Hk⟩
  rw [k0_part12_eq_skeleton]
  unfold k0_part12_skel
  sl_exec
  sl_step
  try sl_unfold_run_names
  iapply Hk
  isplitl [H0]; · iexact H0
  isplitl [H2]; · iexact H2
  isplitl [H3]; · iexact H3
  iexact H4

theorem run_p13 (c : Dev nD) (x : Vec F S2x256x512 .bf16) (k : Vec F S128x64x256 .bf16) (v : Vec F S128x256x64 .bf16) (O : Vec F S2x256x512 .f32) (v93 : IVec S256x256 1) (v703 : BitVec 32) (k0_hw4 : k0_chk4 v703) (v1096 : FVec F S256x256 .bf16) (v1103 : FVec F S64x256 .bf16) (Q : (Σ' (v1121 : FVec F S256x64 .bf16), FVec F S256x64 .bf16) → sProp 𝕄) :
    iprop(loc c x k v O ∗ (loc c x k v O -∗ Q ⟨k0_pay43 v93 v1096 v1103 (rv v ((k0_off33 v703 64#32 0#32)) ((k0_off33_inb v703 k0_hw4 1 0))), k0_pay44 v93 v1096 (rk k ((k0_off32 v703 64#32 1#32)) ((k0_off32_inb v703 k0_hw4 1 1))) (rv v ((k0_off33 v703 64#32 1#32)) ((k0_off33_inb v703 k0_hw4 1 1)))⟩))
      ⊢ wp frame (wpE (defs₀ (F := F)) 𝒱₀ (c : Thread nD τ) none) Set.univ (k0_part13 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 v703 k0_hw4 v1096 v1103) Q := by
  unfold loc
  iintro ⟨⟨H0, H2, H3, H4⟩, Hk⟩
  rw [k0_part13_eq_skeleton]
  unfold k0_part13_skel
  sl_exec
  sl_step
  try sl_unfold_run_names
  iapply Hk
  isplitl [H0]; · iexact H0
  isplitl [H2]; · iexact H2
  isplitl [H3]; · iexact H3
  iexact H4

theorem run_p14 (c : Dev nD) (x : Vec F S2x256x512 .bf16) (k : Vec F S128x64x256 .bf16) (v : Vec F S128x256x64 .bf16) (O : Vec F S2x256x512 .f32) (v93 : IVec S256x256 1) (v703 : BitVec 32) (k0_hw4 : k0_chk4 v703) (v1096 : FVec F S256x256 .bf16) (Q : (Σ' (v1171 : FVec F S256x64 .bf16) (v1182 : FVec F S256x64 .bf16) (v1185 : FVec F S256x256 .f32), F .f32) → sProp 𝕄) :
    iprop(loc c x k v O ∗ (loc c x k v O -∗ Q ⟨k0_pay45 v93 v1096 (rk k ((k0_off32 v703 64#32 2#32)) ((k0_off32_inb v703 k0_hw4 1 2))) (rv v ((k0_off33 v703 64#32 2#32)) ((k0_off33_inb v703 k0_hw4 1 2))), k0_pay46 (rv v ((k0_off33 v703 64#32 3#32)) ((k0_off33_inb v703 k0_hw4 1 3))), k0_pay47 v1096 (rk k ((k0_off32 v703 64#32 3#32)) ((k0_off32_inb v703 k0_hw4 1 3))), (Scalar.ofBits .f32 0x00000000#32)⟩))
      ⊢ wp frame (wpE (defs₀ (F := F)) 𝒱₀ (c : Thread nD τ) none) Set.univ (k0_part14 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 v703 k0_hw4 v1096) Q := by
  unfold loc
  iintro ⟨⟨H0, H2, H3, H4⟩, Hk⟩
  rw [k0_part14_eq_skeleton]
  unfold k0_part14_skel
  sl_exec
  sl_step
  try sl_unfold_run_names
  iapply Hk
  isplitl [H0]; · iexact H0
  isplitl [H2]; · iexact H2
  isplitl [H3]; · iexact H3
  iexact H4

theorem run_p30 (c : Dev nD) (x : Vec F S2x256x512 .bf16) (k : Vec F S128x64x256 .bf16) (v : Vec F S128x256x64 .bf16) (O : Vec F S2x256x512 .f32) (v93 : IVec S256x256 1) (v441 : BitVec 32) (k0_hw7 : k0_chk7 v441) (v455 : FVec F S256x256 .bf16) (v462 : FVec F S64x256 .bf16) (v466 : FVec F S256x64 .bf16) (v467 : FVec F S256x64 .bf16) (Q : (Σ' (v480 : FVec F S256x64 .bf16) (v505 : FVec F S256x64 .bf16) (v507 : BitVec 32), BitVec 32) → sProp 𝕄) :
    iprop(loc c x k v O ∗ (loc c x k v O -∗ Q ⟨k0_pay86 v93 v462 v466 v467, k0_pay87 v93 v455 (rk k ((k0_off52 v441 0#32 1#32)) ((k0_off52_inb v441 k0_hw7 0 1))) (rv v ((k0_off53 v441 0#32 1#32)) ((k0_off53_inb v441 k0_hw7 0 1))), (Scalar.addi 0#32 (Scalar.muli v441 4#32)), 2#32⟩))
      ⊢ wp frame (wpE (defs₀ (F := F)) 𝒱₀ (c : Thread nD τ) none) Set.univ (k0_part30 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 v441 k0_hw7 v455 v462 v466 v467) Q := by
  unfold loc
  iintro ⟨⟨H0, H2, H3, H4⟩, Hk⟩
  rw [k0_part30_eq_skeleton]
  unfold k0_part30_skel
  sl_exec
  sl_step
  try sl_unfold_run_names
  iapply Hk
  isplitl [H0]; · iexact H0
  isplitl [H2]; · iexact H2
  isplitl [H3]; · iexact H3
  iexact H4

theorem run_p31 (c : Dev nD) (x : Vec F S2x256x512 .bf16) (k : Vec F S128x64x256 .bf16) (v : Vec F S128x256x64 .bf16) (O : Vec F S2x256x512 .f32) (v93 : IVec S256x256 1) (v441 : BitVec 32) (k0_hw7 : k0_chk7 v441) (v455 : FVec F S256x256 .bf16) (v507 : BitVec 32) (c2_i32_290 : BitVec 32) (Q : (Σ' (v530 : FVec F S256x64 .bf16) (v541 : FVec F S256x64 .bf16) (v546 : FVec F S256x256 .f32), FVec F S256x1 .f32) → sProp 𝕄) :
    iprop(loc c x k v O ∗ (loc c x k v O -∗ Q ⟨k0_pay88 v93 v455 (rk k ((k0_off52 v441 0#32 2#32)) ((k0_off52_inb v441 k0_hw7 0 2))) (rv v ((k0_off53 v441 0#32 2#32)) ((k0_off53_inb v441 k0_hw7 0 2))), k0_pay89 (rv v ((k0_off53 v441 0#32 3#32)) ((k0_off53_inb v441 k0_hw7 0 3))), k0_pay90 v93 v455 (rk k ((k0_off52 v441 0#32 3#32)) ((k0_off52_inb v441 k0_hw7 0 3))), k0_pay91 v93 v455 (rk k ((k0_off52 v441 0#32 3#32)) ((k0_off52_inb v441 k0_hw7 0 3)))⟩))
      ⊢ wp frame (wpE (defs₀ (F := F)) 𝒱₀ (c : Thread nD τ) none) Set.univ (k0_part31 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 v441 k0_hw7 v455 v507 c2_i32_290) Q := by
  unfold loc
  iintro ⟨⟨H0, H2, H3, H4⟩, Hk⟩
  rw [k0_part31_eq_skeleton]
  unfold k0_part31_skel
  sl_exec
  sl_step
  try sl_unfold_run_names
  iapply Hk
  isplitl [H0]; · iexact H0
  isplitl [H2]; · iexact H2
  isplitl [H3]; · iexact H3
  iexact H4

theorem run_p32 (c : Dev nD) (x : Vec F S2x256x512 .bf16) (k : Vec F S128x64x256 .bf16) (v : Vec F S128x256x64 .bf16) (O : Vec F S2x256x512 .f32) (v441 : BitVec 32) (k0_hw7 : k0_chk7 v441) (v445 : FVec F S512x256 .bf16) (v449 : FVec F S512x256 .bf16) (v480 : FVec F S256x64 .bf16) (v505 : FVec F S256x64 .bf16) (v530 : FVec F S256x64 .bf16) (v541 : FVec F S256x64 .bf16) (v546 : FVec F S256x256 .f32) (v548 : FVec F S256x1 .f32) (Q : (Σ' (v571 : FVec F S256x256 .bf16) (v582 : FVec F S256x64 .bf16), FVec F S256x256 .f32) → sProp 𝕄) :
    iprop(loc c x k v O ∗ (loc c x k v (wr O (![0, 0, 0]) (inb_S2x256x512_S1x256x512_0_0_0) (k0_pay92 v449 v480 v505 v530 v541 v546 v548 (rd O (![0, 0, 0]) (inb_S2x256x512_S1x256x512_0_0_0)))) -∗ Q ⟨k0_pay93 v445 (rx x (![1, 0, 0]) (inb_S2x256x512_S1x256x512_1_0_0)), k0_pay94 (rv v ((k0_off53 v441 64#32 0#32)) ((k0_off53_inb v441 k0_hw7 1 0))), k0_pay95 v445 (rx x (![1, 0, 0]) (inb_S2x256x512_S1x256x512_1_0_0)) (rk k ((k0_off52 v441 64#32 0#32)) ((k0_off52_inb v441 k0_hw7 1 0)))⟩))
      ⊢ wp frame (wpE (defs₀ (F := F)) 𝒱₀ (c : Thread nD τ) none) Set.univ (k0_part32 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v441 k0_hw7 v445 v449 v480 v505 v530 v541 v546 v548) Q := by
  unfold loc
  iintro ⟨⟨H0, H2, H3, H4⟩, Hk⟩
  rw [k0_part32_eq_skeleton]
  unfold k0_part32_skel
  sl_exec
  sl_step
  try sl_unfold_run_names
  iapply Hk
  isplitl [H0]; · iexact H0
  isplitl [H2]; · iexact H2
  isplitl [H3]; · iexact H3
  iexact H4

theorem run_p33 (c : Dev nD) (x : Vec F S2x256x512 .bf16) (k : Vec F S128x64x256 .bf16) (v : Vec F S128x256x64 .bf16) (O : Vec F S2x256x512 .f32) (v93 : IVec S256x256 1) (v441 : BitVec 32) (k0_hw7 : k0_chk7 v441) (v571 : FVec F S256x256 .bf16) (v582 : FVec F S256x64 .bf16) (v584 : FVec F S256x256 .f32) (Q : (Σ' (v596 : FVec F S256x64 .bf16) (v621 : FVec F S256x64 .bf16), BitVec 32) → sProp 𝕄) :
    iprop(loc c x k v O ∗ (loc c x k v O -∗ Q ⟨k0_pay96 v93 v582 v584, k0_pay97 v93 v571 (rk k ((k0_off52 v441 64#32 1#32)) ((k0_off52_inb v441 k0_hw7 1 1))) (rv v ((k0_off53 v441 64#32 1#32)) ((k0_off53_inb v441 k0_hw7 1 1))), (Scalar.addi (Scalar.addi 64#32 (Scalar.muli v441 4#32)) 2#32)⟩))
      ⊢ wp frame (wpE (defs₀ (F := F)) 𝒱₀ (c : Thread nD τ) none) Set.univ (k0_part33 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 v441 k0_hw7 v571 v582 v584) Q := by
  unfold loc
  iintro ⟨⟨H0, H2, H3, H4⟩, Hk⟩
  rw [k0_part33_eq_skeleton]
  unfold k0_part33_skel
  sl_exec
  sl_step
  try sl_unfold_run_names
  iapply Hk
  isplitl [H0]; · iexact H0
  isplitl [H2]; · iexact H2
  isplitl [H3]; · iexact H3
  iexact H4

theorem run_p34 (c : Dev nD) (x : Vec F S2x256x512 .bf16) (k : Vec F S128x64x256 .bf16) (v : Vec F S128x256x64 .bf16) (O : Vec F S2x256x512 .f32) (v93 : IVec S256x256 1) (v441 : BitVec 32) (k0_hw7 : k0_chk7 v441) (v571 : FVec F S256x256 .bf16) (v624 : BitVec 32) (Q : (Σ' (v646 : FVec F S256x64 .bf16) (v657 : FVec F S256x64 .bf16) (v662 : FVec F S256x256 .f32) (v664 : FVec F S256x1 .f32), FVec F S256x1 .f32) → sProp 𝕄) :
    iprop(loc c x k v O ∗ (loc c x k v O -∗ Q ⟨k0_pay98 v93 v571 (rk k ((k0_off52 v441 64#32 2#32)) ((k0_off52_inb v441 k0_hw7 1 2))) (rv v ((k0_off53 v441 64#32 2#32)) ((k0_off53_inb v441 k0_hw7 1 2))), k0_pay99 (rv v ((k0_off53 v441 64#32 3#32)) ((k0_off53_inb v441 k0_hw7 1 3))), k0_pay100 v93 v571 (rk k ((k0_off52 v441 64#32 3#32)) ((k0_off52_inb v441 k0_hw7 1 3))), k0_pay101 v93 v571 (rk k ((k0_off52 v441 64#32 3#32)) ((k0_off52_inb v441 k0_hw7 1 3))), k0_pay102 (F := F)⟩))
      ⊢ wp frame (wpE (defs₀ (F := F)) 𝒱₀ (c : Thread nD τ) none) Set.univ (k0_part34 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v93 v441 k0_hw7 v571 v624) Q := by
  unfold loc
  iintro ⟨⟨H0, H2, H3, H4⟩, Hk⟩
  rw [k0_part34_eq_skeleton]
  unfold k0_part34_skel
  sl_exec
  sl_step
  try sl_unfold_run_names
  iapply Hk
  isplitl [H0]; · iexact H0
  isplitl [H2]; · iexact H2
  isplitl [H3]; · iexact H3
  iexact H4

end Cert.KernelIdeal.Run
-- ==== Proof.Run.Acc.lean ====
/- What one block of weights adds to the result: the same for the own block, a block from either side, and the last. -/
module

public import proofs.«01_k».proof.Proof.Run.Locals

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem kin (o : Dev nD) (b : Fin 2) (i : Fin 4) : ∀ a, (![64 * b.val + 4 * o.val + i.val, 0, 0] : Fin 3 → ℕ) a + S1x64x256.size a ≤ S128x64x256.size a := by
  revert o b i; decide +kernel
theorem vin (o : Dev nD) (b : Fin 2) (i : Fin 4) : ∀ a, (![64 * b.val + 4 * o.val + i.val, 0, 0] : Fin 3 → ℕ) a + S1x256x64.size a ≤ S128x256x64.size a := by
  revert o b i; decide +kernel

/-- Keys and values of batch `b`'s head `4 o + i`; half `p` of the block of device `o`. -/
def kAt (k : Vec F S128x64x256 .bf16) (o : Dev nD) (b : Fin 2) (i : Fin 4) : Vec F S1x64x256 .bf16 := rk k ![64 * b.val + 4 * o.val + i.val, 0, 0] (kin o b i)
def vAt (v : Vec F S128x256x64 .bf16) (o : Dev nD) (b : Fin 2) (i : Fin 4) : Vec F S1x256x64 .bf16 := rv v ![64 * b.val + 4 * o.val + i.val, 0, 0] (vin o b i)
def wAt (W : Vec F S16x1024x256 .i8) (o : Dev nD) (p : Fin 2) : Vec F S1x512x256 .i8 := rw5 W ![o.val, 512 * p.val, 0] (slot_inb o p)

theorem rk_of (k : Vec F S128x64x256 .bf16) {off : Fin 3 → ℕ} (h) {o : Dev nD} {b : Fin 2} {i : Fin 4} (ho : off = ![64 * b.val + 4 * o.val + i.val, 0, 0]) :
    rk k off h = kAt k o b i := by subst ho; rfl
theorem rv_of (v : Vec F S128x256x64 .bf16) {off : Fin 3 → ℕ} (h) {o : Dev nD} {b : Fin 2} {i : Fin 4} (ho : off = ![64 * b.val + 4 * o.val + i.val, 0, 0]) :
    rv v off h = vAt v o b i := by subst ho; rfl
theorem rw5_of (W : Vec F S16x1024x256 .i8) {off : Fin 3 → ℕ} (h) {o : Dev nD} {p : Fin 2} (ho : off = ![o.val, 512 * p.val, 0]) :
    rw5 W off h = wAt W o p := by subst ho; rfl

/-- The heads' contexts side by side through the output weights, scaled and added. -/
def accEnd (wo : FVec F S512x256 .bf16) (h0 h1 h2 h3 : FVec F S256x64 .bf16) (O : Vec F S1x256x512 .f32) : Vec F S1x256x512 .f32 :=
  shapeCast S1x256x512 (addf (shapeCast S256x512 O shapeCasts_S1x256x512_S256x512)
    (mulf (matmul dot_S256x256_S512x256_S256x512_1_1_0_0_n_n none
        (concatenate S256x256 1 [⟨S256x64, h0⟩, ⟨S256x64, h1⟩, ⟨S256x64, h2⟩, ⟨S256x64, h3⟩] concatenates_S256x64_S256x64_S256x64_S256x64_S256x256_d1)
        wo (constant S256x512 .f32 0x00000000#32))
      (broadcast S256x512 (Scalar.ofBits .f32 0x3A200000#32)))) shapeCasts_S256x512_S1x256x512

/-- One batch's sum with one block's four heads: `qw` and `ow` the block's halves, `x` the batch's input. -/
def accWith (qw ow : Vec F S1x512x256 .i8) (x : Vec F S1x256x512 .bf16) (k0 k1 k2 k3 : Vec F S1x64x256 .bf16) (v0 v1 v2 v3 : Vec F S1x256x64 .bf16)
    (O : Vec F S1x256x512 .f32) : Vec F S1x256x512 .f32 :=
  accEnd (k0_pay61 ow)
    (k0_pay76 k0_pay59 (k0_pay73 k0) (k0_pay74 v0) (extractStridedSlice S256x64 ![0, 0] (k0_pay63 (k0_pay60 qw) (k0_pay62 x)) slices_S256x256_o0_0_S256x64))
    (k0_pay76 k0_pay59 (k0_pay73 k1) (k0_pay74 v1) (extractStridedSlice S256x64 ![0, 64] (k0_pay63 (k0_pay60 qw) (k0_pay62 x)) slices_S256x256_o0_64_S256x64))
    (k0_pay76 k0_pay59 (k0_pay73 k2) (k0_pay74 v2) (extractStridedSlice S256x64 ![0, 128] (k0_pay63 (k0_pay60 qw) (k0_pay62 x)) slices_S256x256_o0_128_S256x64))
    (k0_pay76 k0_pay59 (k0_pay73 k3) (k0_pay74 v3) (extractStridedSlice S256x64 ![0, 192] (k0_pay63 (k0_pay60 qw) (k0_pay62 x)) slices_S256x256_o0_192_S256x64))
    O

/-- The result with the block of device `o` added, for the first batch, for the second. -/
def acc0 (W : Vec F S16x1024x256 .i8) (x : Vec F S2x256x512 .bf16) (k : Vec F S128x64x256 .bf16) (v : Vec F S128x256x64 .bf16) (o : Dev nD)
    (O : Vec F S2x256x512 .f32) : Vec F S2x256x512 .f32 :=
  wr O ![0, 0, 0] inb_S2x256x512_S1x256x512_0_0_0
    (accWith (wAt W o 0) (wAt W o 1) (rx x ![0, 0, 0] inb_S2x256x512_S1x256x512_0_0_0) (kAt k o 0 0) (kAt k o 0 1) (kAt k o 0 2) (kAt k o 0 3)
      (vAt v o 0 0) (vAt v o 0 1) (vAt v o 0 2) (vAt v o 0 3) (rd O ![0, 0, 0] inb_S2x256x512_S1x256x512_0_0_0))
def acc1 (W : Vec F S16x1024x256 .i8) (x : Vec F S2x256x512 .bf16) (k : Vec F S128x64x256 .bf16) (v : Vec F S128x256x64 .bf16) (o : Dev nD)
    (O : Vec F S2x256x512 .f32) : Vec F S2x256x512 .f32 :=
  wr O ![1, 0, 0] inb_S2x256x512_S1x256x512_1_0_0
    (accWith (wAt W o 0) (wAt W o 1) (rx x ![1, 0, 0] inb_S2x256x512_S1x256x512_1_0_0) (kAt k o 1 0) (kAt k o 1 1) (kAt k o 1 2) (kAt k o 1 3)
      (vAt v o 1 0) (vAt v o 1 1) (vAt v o 1 2) (vAt v o 1 3) (rd O ![1, 0, 0] inb_S2x256x512_S1x256x512_1_0_0))

/-- The result after the own block and `n` trips of the loop, and at the end. -/
def outAt (W : Vec F S16x1024x256 .i8) (x : Vec F S2x256x512 .bf16) (k : Vec F S128x64x256 .bf16) (v : Vec F S128x256x64 .bf16) (c : Dev nD) :
    ℕ → Vec F S2x256x512 .f32
  | 0 => acc1 W x k v c (acc0 W x k v c k0_pay58)
  | n + 1 => acc1 W x k v (lo c (n + 1)) (acc0 W x k v (lo c (n + 1)) (acc1 W x k v (ro c (n + 1)) (acc0 W x k v (ro c (n + 1)) (outAt W x k v c n))))
def outEnd (W : Vec F S16x1024x256 .i8) (x : Vec F S2x256x512 .bf16) (k : Vec F S128x64x256 .bf16) (v : Vec F S128x256x64 .bf16) (c : Dev nD) : Vec F S2x256x512 .f32 :=
  acc1 W x k v (lo c 8) (acc0 W x k v (lo c 8) (outAt W x k v c 7))

theorem acc_own0 (W : Vec F S16x1024x256 .i8) (x : Vec F S2x256x512 .bf16) (k : Vec F S128x64x256 .bf16) (v : Vec F S128x256x64 .bf16) (o : Dev nD) (O : Vec F S2x256x512 .f32) :
    wr O (![0, 0, 0]) (inb_S2x256x512_S1x256x512_0_0_0) (k0_pay69 k0_pay59 (k0_pay61 (rw5 W ((k0_off7 o)) ((k0_off7_inb o)))) (k0_pay63 (k0_pay60 (rw5 W ((k0_off6 o)) ((k0_off6_inb o)))) (k0_pay62 (rx x (![0, 0, 0]) (inb_S2x256x512_S1x256x512_0_0_0)))) (k0_pay64 k0_pay59 (k0_pay60 (rw5 W ((k0_off6 o)) ((k0_off6_inb o)))) (k0_pay62 (rx x (![0, 0, 0]) (inb_S2x256x512_S1x256x512_0_0_0))) (rk k ((k0_off8 o 0#32 0#32)) ((k0_off8_inb o 0 0))) (rv v ((k0_off9 o 0#32 0#32)) ((k0_off9_inb o 0 0)))) (k0_pay67 k0_pay59 (k0_pay63 (k0_pay60 (rw5 W ((k0_off6 o)) ((k0_off6_inb o)))) (k0_pay62 (rx x (![0, 0, 0]) (inb_S2x256x512_S1x256x512_0_0_0)))) (k0_pay65 (rk k ((k0_off8 o 0#32 1#32)) ((k0_off8_inb o 0 1)))) (k0_pay66 (rv v ((k0_off9 o 0#32 1#32)) ((k0_off9_inb o 0 1))))) (k0_pay68 k0_pay59 (k0_pay63 (k0_pay60 (rw5 W ((k0_off6 o)) ((k0_off6_inb o)))) (k0_pay62 (rx x (![0, 0, 0]) (inb_S2x256x512_S1x256x512_0_0_0)))) (rk k ((k0_off8 o 0#32 2#32)) ((k0_off8_inb o 0 2))) (rv v ((k0_off9 o 0#32 2#32)) ((k0_off9_inb o 0 2)))) (rk k ((k0_off8 o 0#32 3#32)) ((k0_off8_inb o 0 3))) (rv v ((k0_off9 o 0#32 3#32)) ((k0_off9_inb o 0 3))) (rd O (![0, 0, 0]) (inb_S2x256x512_S1x256x512_0_0_0))) = acc0 W x k v o O := by
  unfold acc0 accWith
  rw [rw5_of W (k0_off6_inb o) (p := 0) (off6_eq o), rw5_of W (k0_off7_inb o) (p := 1) (off7_eq o)]
  rw [rk_of k (off := k0_off8 o 0#32 0#32) (k0_off8_inb o 0 0) (b := 0) (i := 0) (show k0_off8 o 0#32 0#32 = ![64 * ((0 : Fin 2)).val + 4 * o.val + ((0 : Fin 4)).val, 0, 0] from off8_eq o 0 0), rv_of v (off := k0_off9 o 0#32 0#32) (k0_off9_inb o 0 0) (b := 0) (i := 0) (show k0_off9 o 0#32 0#32 = ![64 * ((0 : Fin 2)).val + 4 * o.val + ((0 : Fin 4)).val, 0, 0] from off9_eq o 0 0)]
  rw [rk_of k (off := k0_off8 o 0#32 1#32) (k0_off8_inb o 0 1) (b := 0) (i := 1) (show k0_off8 o 0#32 1#32 = ![64 * ((0 : Fin 2)).val + 4 * o.val + ((1 : Fin 4)).val, 0, 0] from off8_eq o 0 1), rv_of v (off := k0_off9 o 0#32 1#32) (k0_off9_inb o 0 1) (b := 0) (i := 1) (show k0_off9 o 0#32 1#32 = ![64 * ((0 : Fin 2)).val + 4 * o.val + ((1 : Fin 4)).val, 0, 0] from off9_eq o 0 1)]
  rw [rk_of k (off := k0_off8 o 0#32 2#32) (k0_off8_inb o 0 2) (b := 0) (i := 2) (show k0_off8 o 0#32 2#32 = ![64 * ((0 : Fin 2)).val + 4 * o.val + ((2 : Fin 4)).val, 0, 0] from off8_eq o 0 2), rv_of v (off := k0_off9 o 0#32 2#32) (k0_off9_inb o 0 2) (b := 0) (i := 2) (show k0_off9 o 0#32 2#32 = ![64 * ((0 : Fin 2)).val + 4 * o.val + ((2 : Fin 4)).val, 0, 0] from off9_eq o 0 2)]
  rw [rk_of k (off := k0_off8 o 0#32 3#32) (k0_off8_inb o 0 3) (b := 0) (i := 3) (show k0_off8 o 0#32 3#32 = ![64 * ((0 : Fin 2)).val + 4 * o.val + ((3 : Fin 4)).val, 0, 0] from off8_eq o 0 3), rv_of v (off := k0_off9 o 0#32 3#32) (k0_off9_inb o 0 3) (b := 0) (i := 3) (show k0_off9 o 0#32 3#32 = ![64 * ((0 : Fin 2)).val + 4 * o.val + ((3 : Fin 4)).val, 0, 0] from off9_eq o 0 3)]
  rfl

theorem acc_own1 (W : Vec F S16x1024x256 .i8) (x : Vec F S2x256x512 .bf16) (k : Vec F S128x64x256 .bf16) (v : Vec F S128x256x64 .bf16) (o : Dev nD) (O : Vec F S2x256x512 .f32) :
    wr O (![1, 0, 0]) (inb_S2x256x512_S1x256x512_1_0_0) (k0_pay78 k0_pay59 (k0_pay61 (rw5 W ((k0_off7 o)) ((k0_off7_inb o)))) (k0_pay71 ((k0_pay70 (k0_pay60 (rw5 W ((k0_off6 o)) ((k0_off6_inb o)))) (rx x (![1, 0, 0]) (inb_S2x256x512_S1x256x512_1_0_0))))) (k0_pay72 k0_pay59 ((k0_pay70 (k0_pay60 (rw5 W ((k0_off6 o)) ((k0_off6_inb o)))) (rx x (![1, 0, 0]) (inb_S2x256x512_S1x256x512_1_0_0)))) (rk k ((k0_off8 o 64#32 0#32)) ((k0_off8_inb o 1 0))) (rv v ((k0_off9 o 64#32 0#32)) ((k0_off9_inb o 1 0)))) (k0_pay76 k0_pay59 (k0_pay73 (rk k ((k0_off8 o 64#32 1#32)) ((k0_off8_inb o 1 1)))) (k0_pay74 (rv v ((k0_off9 o 64#32 1#32)) ((k0_off9_inb o 1 1)))) (k0_pay75 ((k0_pay70 (k0_pay60 (rw5 W ((k0_off6 o)) ((k0_off6_inb o)))) (rx x (![1, 0, 0]) (inb_S2x256x512_S1x256x512_1_0_0)))))) (k0_pay77 k0_pay59 (k0_pay71 ((k0_pay70 (k0_pay60 (rw5 W ((k0_off6 o)) ((k0_off6_inb o)))) (rx x (![1, 0, 0]) (inb_S2x256x512_S1x256x512_1_0_0))))) (rk k ((k0_off8 o 64#32 2#32)) ((k0_off8_inb o 1 2))) (rv v ((k0_off9 o 64#32 2#32)) ((k0_off9_inb o 1 2)))) (rk k ((k0_off8 o 64#32 3#32)) ((k0_off8_inb o 1 3))) (rv v ((k0_off9 o 64#32 3#32)) ((k0_off9_inb o 1 3))) (rd O (![1, 0, 0]) (inb_S2x256x512_S1x256x512_1_0_0))) = acc1 W x k v o O := by
  unfold acc1 accWith
  rw [rw5_of W (k0_off6_inb o) (p := 0) (off6_eq o), rw5_of W (k0_off7_inb o) (p := 1) (off7_eq o)]
  rw [rk_of k (off := k0_off8 o 64#32 0#32) (k0_off8_inb o 1 0) (b := 1) (i := 0) (show k0_off8 o 64#32 0#32 = ![64 * ((1 : Fin 2)).val + 4 * o.val + ((0 : Fin 4)).val, 0, 0] from off8_eq o 1 0), rv_of v (off := k0_off9 o 64#32 0#32) (k0_off9_inb o 1 0) (b := 1) (i := 0) (show k0_off9 o 64#32 0#32 = ![64 * ((1 : Fin 2)).val + 4 * o.val + ((0 : Fin 4)).val, 0, 0] from off9_eq o 1 0)]
  rw [rk_of k (off := k0_off8 o 64#32 1#32) (k0_off8_inb o 1 1) (b := 1) (i := 1) (show k0_off8 o 64#32 1#32 = ![64 * ((1 : Fin 2)).val + 4 * o.val + ((1 : Fin 4)).val, 0, 0] from off8_eq o 1 1), rv_of v (off := k0_off9 o 64#32 1#32) (k0_off9_inb o 1 1) (b := 1) (i := 1) (show k0_off9 o 64#32 1#32 = ![64 * ((1 : Fin 2)).val + 4 * o.val + ((1 : Fin 4)).val, 0, 0] from off9_eq o 1 1)]
  rw [rk_of k (off := k0_off8 o 64#32 2#32) (k0_off8_inb o 1 2) (b := 1) (i := 2) (show k0_off8 o 64#32 2#32 = ![64 * ((1 : Fin 2)).val + 4 * o.val + ((2 : Fin 4)).val, 0, 0] from off8_eq o 1 2), rv_of v (off := k0_off9 o 64#32 2#32) (k0_off9_inb o 1 2) (b := 1) (i := 2) (show k0_off9 o 64#32 2#32 = ![64 * ((1 : Fin 2)).val + 4 * o.val + ((2 : Fin 4)).val, 0, 0] from off9_eq o 1 2)]
  rw [rk_of k (off := k0_off8 o 64#32 3#32) (k0_off8_inb o 1 3) (b := 1) (i := 3) (show k0_off8 o 64#32 3#32 = ![64 * ((1 : Fin 2)).val + 4 * o.val + ((3 : Fin 4)).val, 0, 0] from off8_eq o 1 3), rv_of v (off := k0_off9 o 64#32 3#32) (k0_off9_inb o 1 3) (b := 1) (i := 3) (show k0_off9 o 64#32 3#32 = ![64 * ((1 : Fin 2)).val + 4 * o.val + ((3 : Fin 4)).val, 0, 0] from off9_eq o 1 3)]
  rfl

theorem acc_r0 (W : Vec F S16x1024x256 .i8) (x : Vec F S2x256x512 .bf16) (k : Vec F S128x64x256 .bf16) (v : Vec F S128x256x64 .bf16) (o : Dev nD) (k0_t1 : Fin k0_t1_loop.trips) (k0_hw3 : k0_chk3 k0_t1 (wd o)) (O : Vec F S2x256x512 .f32) :
    wr O (![0, 0, 0]) (inb_S2x256x512_S1x256x512_0_0_0) (k0_pay17 (k0_pay6 (rw5 W ((k0_off27 (wd o))) ((k0_off27_inb k0_t1 (wd o) k0_hw3)))) (k0_pay11 k0_pay59 (k0_pay8 (rk k ((k0_off28 (wd o) 0#32 0#32)) ((k0_off28_inb k0_t1 (wd o) k0_hw3 0 0)))) (k0_pay9 (rv v ((k0_off29 (wd o) 0#32 0#32)) ((k0_off29_inb k0_t1 (wd o) k0_hw3 0 0)))) (k0_pay10 (rw5 W ((k0_off26 (wd o))) ((k0_off26_inb k0_t1 (wd o) k0_hw3))) (rx x (![0, 0, 0]) (inb_S2x256x512_S1x256x512_0_0_0))) ((constant S256x256 .f32 0x00000000#32))) (k0_pay12 k0_pay59 (k0_pay7 (rw5 W ((k0_off26 (wd o))) ((k0_off26_inb k0_t1 (wd o) k0_hw3))) (rx x (![0, 0, 0]) (inb_S2x256x512_S1x256x512_0_0_0))) (rk k ((k0_off28 (wd o) 0#32 1#32)) ((k0_off28_inb k0_t1 (wd o) k0_hw3 0 1))) (rv v ((k0_off29 (wd o) 0#32 1#32)) ((k0_off29_inb k0_t1 (wd o) k0_hw3 0 1)))) (k0_pay13 k0_pay59 (k0_pay7 (rw5 W ((k0_off26 (wd o))) ((k0_off26_inb k0_t1 (wd o) k0_hw3))) (rx x (![0, 0, 0]) (inb_S2x256x512_S1x256x512_0_0_0))) (rk k ((k0_off28 (wd o) 0#32 2#32)) ((k0_off28_inb k0_t1 (wd o) k0_hw3 0 2))) (rv v ((k0_off29 (wd o) 0#32 2#32)) ((k0_off29_inb k0_t1 (wd o) k0_hw3 0 2)))) (k0_pay14 (rv v ((k0_off29 (wd o) 0#32 3#32)) ((k0_off29_inb k0_t1 (wd o) k0_hw3 0 3)))) (k0_pay15 k0_pay59 (k0_pay7 (rw5 W ((k0_off26 (wd o))) ((k0_off26_inb k0_t1 (wd o) k0_hw3))) (rx x (![0, 0, 0]) (inb_S2x256x512_S1x256x512_0_0_0))) (rk k ((k0_off28 (wd o) 0#32 3#32)) ((k0_off28_inb k0_t1 (wd o) k0_hw3 0 3)))) (k0_pay16 k0_pay59 (k0_pay7 (rw5 W ((k0_off26 (wd o))) ((k0_off26_inb k0_t1 (wd o) k0_hw3))) (rx x (![0, 0, 0]) (inb_S2x256x512_S1x256x512_0_0_0))) (rk k ((k0_off28 (wd o) 0#32 3#32)) ((k0_off28_inb k0_t1 (wd o) k0_hw3 0 3)))) ((Scalar.ofBits .f32 0x3F800000#32)) (rd O (![0, 0, 0]) (inb_S2x256x512_S1x256x512_0_0_0))) = acc0 W x k v o O := by
  unfold acc0 accWith
  rw [rw5_of W (k0_off26_inb k0_t1 (wd o) k0_hw3) (p := 0) (off26_eq o), rw5_of W (k0_off27_inb k0_t1 (wd o) k0_hw3) (p := 1) (off27_eq o)]
  rw [rk_of k (off := k0_off28 (wd o) 0#32 0#32) (k0_off28_inb k0_t1 (wd o) k0_hw3 0 0) (b := 0) (i := 0) (show k0_off28 (wd o) 0#32 0#32 = ![64 * ((0 : Fin 2)).val + 4 * o.val + ((0 : Fin 4)).val, 0, 0] from off28_eq o 0 0), rv_of v (off := k0_off29 (wd o) 0#32 0#32) (k0_off29_inb k0_t1 (wd o) k0_hw3 0 0) (b := 0) (i := 0) (show k0_off29 (wd o) 0#32 0#32 = ![64 * ((0 : Fin 2)).val + 4 * o.val + ((0 : Fin 4)).val, 0, 0] from off29_eq o 0 0)]
  rw [rk_of k (off := k0_off28 (wd o) 0#32 1#32) (k0_off28_inb k0_t1 (wd o) k0_hw3 0 1) (b := 0) (i := 1) (show k0_off28 (wd o) 0#32 1#32 = ![64 * ((0 : Fin 2)).val + 4 * o.val + ((1 : Fin 4)).val, 0, 0] from off28_eq o 0 1), rv_of v (off := k0_off29 (wd o) 0#32 1#32) (k0_off29_inb k0_t1 (wd o) k0_hw3 0 1) (b := 0) (i := 1) (show k0_off29 (wd o) 0#32 1#32 = ![64 * ((0 : Fin 2)).val + 4 * o.val + ((1 : Fin 4)).val, 0, 0] from off29_eq o 0 1)]
  rw [rk_of k (off := k0_off28 (wd o) 0#32 2#32) (k0_off28_inb k0_t1 (wd o) k0_hw3 0 2) (b := 0) (i := 2) (show k0_off28 (wd o) 0#32 2#32 = ![64 * ((0 : Fin 2)).val + 4 * o.val + ((2 : Fin 4)).val, 0, 0] from off28_eq o 0 2), rv_of v (off := k0_off29 (wd o) 0#32 2#32) (k0_off29_inb k0_t1 (wd o) k0_hw3 0 2) (b := 0) (i := 2) (show k0_off29 (wd o) 0#32 2#32 = ![64 * ((0 : Fin 2)).val + 4 * o.val + ((2 : Fin 4)).val, 0, 0] from off29_eq o 0 2)]
  rw [rk_of k (off := k0_off28 (wd o) 0#32 3#32) (k0_off28_inb k0_t1 (wd o) k0_hw3 0 3) (b := 0) (i := 3) (show k0_off28 (wd o) 0#32 3#32 = ![64 * ((0 : Fin 2)).val + 4 * o.val + ((3 : Fin 4)).val, 0, 0] from off28_eq o 0 3), rv_of v (off := k0_off29 (wd o) 0#32 3#32) (k0_off29_inb k0_t1 (wd o) k0_hw3 0 3) (b := 0) (i := 3) (show k0_off29 (wd o) 0#32 3#32 = ![64 * ((0 : Fin 2)).val + 4 * o.val + ((3 : Fin 4)).val, 0, 0] from off29_eq o 0 3)]
  rfl

theorem acc_r1 (W : Vec F S16x1024x256 .i8) (x : Vec F S2x256x512 .bf16) (k : Vec F S128x64x256 .bf16) (v : Vec F S128x256x64 .bf16) (o : Dev nD) (k0_t1 : Fin k0_t1_loop.trips) (k0_hw3 : k0_chk3 k0_t1 (wd o)) (O : Vec F S2x256x512 .f32) :
    wr O (![1, 0, 0]) (inb_S2x256x512_S1x256x512_1_0_0) (k0_pay27 (k0_pay6 (rw5 W ((k0_off27 (wd o))) ((k0_off27_inb k0_t1 (wd o) k0_hw3)))) (k0_pay21 k0_pay59 (k0_pay19 (rv v ((k0_off29 (wd o) 64#32 0#32)) ((k0_off29_inb k0_t1 (wd o) k0_hw3 1 0)))) (k0_pay20 (k0_pay5 (rw5 W ((k0_off26 (wd o))) ((k0_off26_inb k0_t1 (wd o) k0_hw3)))) (rx x (![1, 0, 0]) (inb_S2x256x512_S1x256x512_1_0_0)) (rk k ((k0_off28 (wd o) 64#32 0#32)) ((k0_off28_inb k0_t1 (wd o) k0_hw3 1 0))))) (k0_pay22 k0_pay59 (k0_pay18 (k0_pay5 (rw5 W ((k0_off26 (wd o))) ((k0_off26_inb k0_t1 (wd o) k0_hw3)))) (rx x (![1, 0, 0]) (inb_S2x256x512_S1x256x512_1_0_0))) (rk k ((k0_off28 (wd o) 64#32 1#32)) ((k0_off28_inb k0_t1 (wd o) k0_hw3 1 1))) (rv v ((k0_off29 (wd o) 64#32 1#32)) ((k0_off29_inb k0_t1 (wd o) k0_hw3 1 1)))) (k0_pay23 k0_pay59 (k0_pay18 (k0_pay5 (rw5 W ((k0_off26 (wd o))) ((k0_off26_inb k0_t1 (wd o) k0_hw3)))) (rx x (![1, 0, 0]) (inb_S2x256x512_S1x256x512_1_0_0))) (rk k ((k0_off28 (wd o) 64#32 2#32)) ((k0_off28_inb k0_t1 (wd o) k0_hw3 1 2))) (rv v ((k0_off29 (wd o) 64#32 2#32)) ((k0_off29_inb k0_t1 (wd o) k0_hw3 1 2)))) (k0_pay24 (rv v ((k0_off29 (wd o) 64#32 3#32)) ((k0_off29_inb k0_t1 (wd o) k0_hw3 1 3)))) (k0_pay25 k0_pay59 (k0_pay18 (k0_pay5 (rw5 W ((k0_off26 (wd o))) ((k0_off26_inb k0_t1 (wd o) k0_hw3)))) (rx x (![1, 0, 0]) (inb_S2x256x512_S1x256x512_1_0_0))) (rk k ((k0_off28 (wd o) 64#32 3#32)) ((k0_off28_inb k0_t1 (wd o) k0_hw3 1 3)))) (k0_pay26 k0_pay59 (k0_pay18 (k0_pay5 (rw5 W ((k0_off26 (wd o))) ((k0_off26_inb k0_t1 (wd o) k0_hw3)))) (rx x (![1, 0, 0]) (inb_S2x256x512_S1x256x512_1_0_0))) (rk k ((k0_off28 (wd o) 64#32 3#32)) ((k0_off28_inb k0_t1 (wd o) k0_hw3 1 3)))) (rd O (![1, 0, 0]) (inb_S2x256x512_S1x256x512_1_0_0))) = acc1 W x k v o O := by
  unfold acc1 accWith
  rw [rw5_of W (k0_off26_inb k0_t1 (wd o) k0_hw3) (p := 0) (off26_eq o), rw5_of W (k0_off27_inb k0_t1 (wd o) k0_hw3) (p := 1) (off27_eq o)]
  rw [rk_of k (off := k0_off28 (wd o) 64#32 0#32) (k0_off28_inb k0_t1 (wd o) k0_hw3 1 0) (b := 1) (i := 0) (show k0_off28 (wd o) 64#32 0#32 = ![64 * ((1 : Fin 2)).val + 4 * o.val + ((0 : Fin 4)).val, 0, 0] from off28_eq o 1 0), rv_of v (off := k0_off29 (wd o) 64#32 0#32) (k0_off29_inb k0_t1 (wd o) k0_hw3 1 0) (b := 1) (i := 0) (show k0_off29 (wd o) 64#32 0#32 = ![64 * ((1 : Fin 2)).val + 4 * o.val + ((0 : Fin 4)).val, 0, 0] from off29_eq o 1 0)]
  rw [rk_of k (off := k0_off28 (wd o) 64#32 1#32) (k0_off28_inb k0_t1 (wd o) k0_hw3 1 1) (b := 1) (i := 1) (show k0_off28 (wd o) 64#32 1#32 = ![64 * ((1 : Fin 2)).val + 4 * o.val + ((1 : Fin 4)).val, 0, 0] from off28_eq o 1 1), rv_of v (off := k0_off29 (wd o) 64#32 1#32) (k0_off29_inb k0_t1 (wd o) k0_hw3 1 1) (b := 1) (i := 1) (show k0_off29 (wd o) 64#32 1#32 = ![64 * ((1 : Fin 2)).val + 4 * o.val + ((1 : Fin 4)).val, 0, 0] from off29_eq o 1 1)]
  rw [rk_of k (off := k0_off28 (wd o) 64#32 2#32) (k0_off28_inb k0_t1 (wd o) k0_hw3 1 2) (b := 1) (i := 2) (show k0_off28 (wd o) 64#32 2#32 = ![64 * ((1 : Fin 2)).val + 4 * o.val + ((2 : Fin 4)).val, 0, 0] from off28_eq o 1 2), rv_of v (off := k0_off29 (wd o) 64#32 2#32) (k0_off29_inb k0_t1 (wd o) k0_hw3 1 2) (b := 1) (i := 2) (show k0_off29 (wd o) 64#32 2#32 = ![64 * ((1 : Fin 2)).val + 4 * o.val + ((2 : Fin 4)).val, 0, 0] from off29_eq o 1 2)]
  rw [rk_of k (off := k0_off28 (wd o) 64#32 3#32) (k0_off28_inb k0_t1 (wd o) k0_hw3 1 3) (b := 1) (i := 3) (show k0_off28 (wd o) 64#32 3#32 = ![64 * ((1 : Fin 2)).val + 4 * o.val + ((3 : Fin 4)).val, 0, 0] from off28_eq o 1 3), rv_of v (off := k0_off29 (wd o) 64#32 3#32) (k0_off29_inb k0_t1 (wd o) k0_hw3 1 3) (b := 1) (i := 3) (show k0_off29 (wd o) 64#32 3#32 = ![64 * ((1 : Fin 2)).val + 4 * o.val + ((3 : Fin 4)).val, 0, 0] from off29_eq o 1 3)]
  rfl

theorem acc_l0 (W : Vec F S16x1024x256 .i8) (x : Vec F S2x256x512 .bf16) (k : Vec F S128x64x256 .bf16) (v : Vec F S128x256x64 .bf16) (o : Dev nD) (k0_hw4 : k0_chk4 (wd o)) (O : Vec F S2x256x512 .f32) :
    wr O (![0, 0, 0]) (inb_S2x256x512_S1x256x512_0_0_0) (k0_pay40 k0_pay59 (k0_pay29 (rw5 W ((k0_off31 (wd o))) ((k0_off31_inb (wd o) k0_hw4)))) (k0_pay32 k0_pay59 (k0_pay30 (rw5 W ((k0_off30 (wd o))) ((k0_off30_inb (wd o) k0_hw4))) (rx x (![0, 0, 0]) (inb_S2x256x512_S1x256x512_0_0_0))) (k0_pay31 (rk k ((k0_off32 (wd o) 0#32 0#32)) ((k0_off32_inb (wd o) k0_hw4 0 0)))) (rv v ((k0_off33 (wd o) 0#32 0#32)) ((k0_off33_inb (wd o) k0_hw4 0 0)))) (k0_pay36 (k0_pay34 k0_pay59 (k0_pay30 (rw5 W ((k0_off30 (wd o))) ((k0_off30_inb (wd o) k0_hw4))) (rx x (![0, 0, 0]) (inb_S2x256x512_S1x256x512_0_0_0))) (rk k ((k0_off32 (wd o) 0#32 1#32)) ((k0_off32_inb (wd o) k0_hw4 0 1))) (rv v ((k0_off33 (wd o) 0#32 1#32)) ((k0_off33_inb (wd o) k0_hw4 0 1)))) (k0_pay35 k0_pay59 (k0_pay30 (rw5 W ((k0_off30 (wd o))) ((k0_off30_inb (wd o) k0_hw4))) (rx x (![0, 0, 0]) (inb_S2x256x512_S1x256x512_0_0_0))) (rk k ((k0_off32 (wd o) 0#32 1#32)) ((k0_off32_inb (wd o) k0_hw4 0 1))))) (k0_pay37 k0_pay59 (k0_pay30 (rw5 W ((k0_off30 (wd o))) ((k0_off30_inb (wd o) k0_hw4))) (rx x (![0, 0, 0]) (inb_S2x256x512_S1x256x512_0_0_0))) (rk k ((k0_off32 (wd o) 0#32 2#32)) ((k0_off32_inb (wd o) k0_hw4 0 2))) (rv v ((k0_off33 (wd o) 0#32 2#32)) ((k0_off33_inb (wd o) k0_hw4 0 2)))) (k0_pay38 (rv v ((k0_off33 (wd o) 0#32 3#32)) ((k0_off33_inb (wd o) k0_hw4 0 3)))) (k0_pay39 (k0_pay30 (rw5 W ((k0_off30 (wd o))) ((k0_off30_inb (wd o) k0_hw4))) (rx x (![0, 0, 0]) (inb_S2x256x512_S1x256x512_0_0_0))) (rk k ((k0_off32 (wd o) 0#32 3#32)) ((k0_off32_inb (wd o) k0_hw4 0 3)))) (rd O (![0, 0, 0]) (inb_S2x256x512_S1x256x512_0_0_0))) = acc0 W x k v o O := by
  unfold acc0 accWith
  rw [rw5_of W (k0_off30_inb (wd o) k0_hw4) (p := 0) (off30_eq o), rw5_of W (k0_off31_inb (wd o) k0_hw4) (p := 1) (off31_eq o)]
  rw [rk_of k (off := k0_off32 (wd o) 0#32 0#32) (k0_off32_inb (wd o) k0_hw4 0 0) (b := 0) (i := 0) (show k0_off32 (wd o) 0#32 0#32 = ![64 * ((0 : Fin 2)).val + 4 * o.val + ((0 : Fin 4)).val, 0, 0] from off32_eq o 0 0), rv_of v (off := k0_off33 (wd o) 0#32 0#32) (k0_off33_inb (wd o) k0_hw4 0 0) (b := 0) (i := 0) (show k0_off33 (wd o) 0#32 0#32 = ![64 * ((0 : Fin 2)).val + 4 * o.val + ((0 : Fin 4)).val, 0, 0] from off33_eq o 0 0)]
  rw [rk_of k (off := k0_off32 (wd o) 0#32 1#32) (k0_off32_inb (wd o) k0_hw4 0 1) (b := 0) (i := 1) (show k0_off32 (wd o) 0#32 1#32 = ![64 * ((0 : Fin 2)).val + 4 * o.val + ((1 : Fin 4)).val, 0, 0] from off32_eq o 0 1), rv_of v (off := k0_off33 (wd o) 0#32 1#32) (k0_off33_inb (wd o) k0_hw4 0 1) (b := 0) (i := 1) (show k0_off33 (wd o) 0#32 1#32 = ![64 * ((0 : Fin 2)).val + 4 * o.val + ((1 : Fin 4)).val, 0, 0] from off33_eq o 0 1)]
  rw [rk_of k (off := k0_off32 (wd o) 0#32 2#32) (k0_off32_inb (wd o) k0_hw4 0 2) (b := 0) (i := 2) (show k0_off32 (wd o) 0#32 2#32 = ![64 * ((0 : Fin 2)).val + 4 * o.val + ((2 : Fin 4)).val, 0, 0] from off32_eq o 0 2), rv_of v (off := k0_off33 (wd o) 0#32 2#32) (k0_off33_inb (wd o) k0_hw4 0 2) (b := 0) (i := 2) (show k0_off33 (wd o) 0#32 2#32 = ![64 * ((0 : Fin 2)).val + 4 * o.val + ((2 : Fin 4)).val, 0, 0] from off33_eq o 0 2)]
  rw [rk_of k (off := k0_off32 (wd o) 0#32 3#32) (k0_off32_inb (wd o) k0_hw4 0 3) (b := 0) (i := 3) (show k0_off32 (wd o) 0#32 3#32 = ![64 * ((0 : Fin 2)).val + 4 * o.val + ((3 : Fin 4)).val, 0, 0] from off32_eq o 0 3), rv_of v (off := k0_off33 (wd o) 0#32 3#32) (k0_off33_inb (wd o) k0_hw4 0 3) (b := 0) (i := 3) (show k0_off33 (wd o) 0#32 3#32 = ![64 * ((0 : Fin 2)).val + 4 * o.val + ((3 : Fin 4)).val, 0, 0] from off33_eq o 0 3)]
  rfl

theorem acc_l1 (W : Vec F S16x1024x256 .i8) (x : Vec F S2x256x512 .bf16) (k : Vec F S128x64x256 .bf16) (v : Vec F S128x256x64 .bf16) (o : Dev nD) (k0_hw4 : k0_chk4 (wd o)) (O : Vec F S2x256x512 .f32) :
    wr O (![1, 0, 0]) (inb_S2x256x512_S1x256x512_1_0_0) (k0_pay48 k0_pay59 (k0_pay29 (rw5 W ((k0_off31 (wd o))) ((k0_off31_inb (wd o) k0_hw4)))) (k0_pay43 k0_pay59 (k0_pay41 (k0_pay28 (rw5 W ((k0_off30 (wd o))) ((k0_off30_inb (wd o) k0_hw4)))) (rx x (![1, 0, 0]) (inb_S2x256x512_S1x256x512_1_0_0))) (k0_pay42 (rk k ((k0_off32 (wd o) 64#32 0#32)) ((k0_off32_inb (wd o) k0_hw4 1 0)))) (rv v ((k0_off33 (wd o) 64#32 0#32)) ((k0_off33_inb (wd o) k0_hw4 1 0)))) (k0_pay44 k0_pay59 (k0_pay41 (k0_pay28 (rw5 W ((k0_off30 (wd o))) ((k0_off30_inb (wd o) k0_hw4)))) (rx x (![1, 0, 0]) (inb_S2x256x512_S1x256x512_1_0_0))) (rk k ((k0_off32 (wd o) 64#32 1#32)) ((k0_off32_inb (wd o) k0_hw4 1 1))) (rv v ((k0_off33 (wd o) 64#32 1#32)) ((k0_off33_inb (wd o) k0_hw4 1 1)))) (k0_pay45 k0_pay59 (k0_pay41 (k0_pay28 (rw5 W ((k0_off30 (wd o))) ((k0_off30_inb (wd o) k0_hw4)))) (rx x (![1, 0, 0]) (inb_S2x256x512_S1x256x512_1_0_0))) (rk k ((k0_off32 (wd o) 64#32 2#32)) ((k0_off32_inb (wd o) k0_hw4 1 2))) (rv v ((k0_off33 (wd o) 64#32 2#32)) ((k0_off33_inb (wd o) k0_hw4 1 2)))) (k0_pay46 (rv v ((k0_off33 (wd o) 64#32 3#32)) ((k0_off33_inb (wd o) k0_hw4 1 3)))) (k0_pay47 (k0_pay41 (k0_pay28 (rw5 W ((k0_off30 (wd o))) ((k0_off30_inb (wd o) k0_hw4)))) (rx x (![1, 0, 0]) (inb_S2x256x512_S1x256x512_1_0_0))) (rk k ((k0_off32 (wd o) 64#32 3#32)) ((k0_off32_inb (wd o) k0_hw4 1 3)))) ((Scalar.ofBits .f32 0x00000000#32)) (rd O (![1, 0, 0]) (inb_S2x256x512_S1x256x512_1_0_0))) = acc1 W x k v o O := by
  unfold acc1 accWith
  rw [rw5_of W (k0_off30_inb (wd o) k0_hw4) (p := 0) (off30_eq o), rw5_of W (k0_off31_inb (wd o) k0_hw4) (p := 1) (off31_eq o)]
  rw [rk_of k (off := k0_off32 (wd o) 64#32 0#32) (k0_off32_inb (wd o) k0_hw4 1 0) (b := 1) (i := 0) (show k0_off32 (wd o) 64#32 0#32 = ![64 * ((1 : Fin 2)).val + 4 * o.val + ((0 : Fin 4)).val, 0, 0] from off32_eq o 1 0), rv_of v (off := k0_off33 (wd o) 64#32 0#32) (k0_off33_inb (wd o) k0_hw4 1 0) (b := 1) (i := 0) (show k0_off33 (wd o) 64#32 0#32 = ![64 * ((1 : Fin 2)).val + 4 * o.val + ((0 : Fin 4)).val, 0, 0] from off33_eq o 1 0)]
  rw [rk_of k (off := k0_off32 (wd o) 64#32 1#32) (k0_off32_inb (wd o) k0_hw4 1 1) (b := 1) (i := 1) (show k0_off32 (wd o) 64#32 1#32 = ![64 * ((1 : Fin 2)).val + 4 * o.val + ((1 : Fin 4)).val, 0, 0] from off32_eq o 1 1), rv_of v (off := k0_off33 (wd o) 64#32 1#32) (k0_off33_inb (wd o) k0_hw4 1 1) (b := 1) (i := 1) (show k0_off33 (wd o) 64#32 1#32 = ![64 * ((1 : Fin 2)).val + 4 * o.val + ((1 : Fin 4)).val, 0, 0] from off33_eq o 1 1)]
  rw [rk_of k (off := k0_off32 (wd o) 64#32 2#32) (k0_off32_inb (wd o) k0_hw4 1 2) (b := 1) (i := 2) (show k0_off32 (wd o) 64#32 2#32 = ![64 * ((1 : Fin 2)).val + 4 * o.val + ((2 : Fin 4)).val, 0, 0] from off32_eq o 1 2), rv_of v (off := k0_off33 (wd o) 64#32 2#32) (k0_off33_inb (wd o) k0_hw4 1 2) (b := 1) (i := 2) (show k0_off33 (wd o) 64#32 2#32 = ![64 * ((1 : Fin 2)).val + 4 * o.val + ((2 : Fin 4)).val, 0, 0] from off33_eq o 1 2)]
  rw [rk_of k (off := k0_off32 (wd o) 64#32 3#32) (k0_off32_inb (wd o) k0_hw4 1 3) (b := 1) (i := 3) (show k0_off32 (wd o) 64#32 3#32 = ![64 * ((1 : Fin 2)).val + 4 * o.val + ((3 : Fin 4)).val, 0, 0] from off32_eq o 1 3), rv_of v (off := k0_off33 (wd o) 64#32 3#32) (k0_off33_inb (wd o) k0_hw4 1 3) (b := 1) (i := 3) (show k0_off33 (wd o) 64#32 3#32 = ![64 * ((1 : Fin 2)).val + 4 * o.val + ((3 : Fin 4)).val, 0, 0] from off33_eq o 1 3)]
  rfl

theorem acc_f0 (W : Vec F S16x1024x256 .i8) (x : Vec F S2x256x512 .bf16) (k : Vec F S128x64x256 .bf16) (v : Vec F S128x256x64 .bf16) (o : Dev nD) (k0_hw7 : k0_chk7 (wd o)) (O : Vec F S2x256x512 .f32) :
    wr O (![0, 0, 0]) (inb_S2x256x512_S1x256x512_0_0_0) (k0_pay92 (k0_pay81 (rw5 W ((k0_off51 (wd o))) ((k0_off51_inb (wd o) k0_hw7)))) (k0_pay86 k0_pay59 (k0_pay83 (rk k ((k0_off52 (wd o) 0#32 0#32)) ((k0_off52_inb (wd o) k0_hw7 0 0)))) (k0_pay84 (rv v ((k0_off53 (wd o) 0#32 0#32)) ((k0_off53_inb (wd o) k0_hw7 0 0)))) (k0_pay85 (rw5 W ((k0_off50 (wd o))) ((k0_off50_inb (wd o) k0_hw7))) (rx x (![0, 0, 0]) (inb_S2x256x512_S1x256x512_0_0_0)))) (k0_pay87 k0_pay59 (k0_pay82 (rw5 W ((k0_off50 (wd o))) ((k0_off50_inb (wd o) k0_hw7))) (rx x (![0, 0, 0]) (inb_S2x256x512_S1x256x512_0_0_0))) (rk k ((k0_off52 (wd o) 0#32 1#32)) ((k0_off52_inb (wd o) k0_hw7 0 1))) (rv v ((k0_off53 (wd o) 0#32 1#32)) ((k0_off53_inb (wd o) k0_hw7 0 1)))) (k0_pay88 k0_pay59 (k0_pay82 (rw5 W ((k0_off50 (wd o))) ((k0_off50_inb (wd o) k0_hw7))) (rx x (![0, 0, 0]) (inb_S2x256x512_S1x256x512_0_0_0))) (rk k ((k0_off52 (wd o) 0#32 2#32)) ((k0_off52_inb (wd o) k0_hw7 0 2))) (rv v ((k0_off53 (wd o) 0#32 2#32)) ((k0_off53_inb (wd o) k0_hw7 0 2)))) (k0_pay89 (rv v ((k0_off53 (wd o) 0#32 3#32)) ((k0_off53_inb (wd o) k0_hw7 0 3)))) (k0_pay90 k0_pay59 (k0_pay82 (rw5 W ((k0_off50 (wd o))) ((k0_off50_inb (wd o) k0_hw7))) (rx x (![0, 0, 0]) (inb_S2x256x512_S1x256x512_0_0_0))) (rk k ((k0_off52 (wd o) 0#32 3#32)) ((k0_off52_inb (wd o) k0_hw7 0 3)))) (k0_pay91 k0_pay59 (k0_pay82 (rw5 W ((k0_off50 (wd o))) ((k0_off50_inb (wd o) k0_hw7))) (rx x (![0, 0, 0]) (inb_S2x256x512_S1x256x512_0_0_0))) (rk k ((k0_off52 (wd o) 0#32 3#32)) ((k0_off52_inb (wd o) k0_hw7 0 3)))) (rd O (![0, 0, 0]) (inb_S2x256x512_S1x256x512_0_0_0))) = acc0 W x k v o O := by
  unfold acc0 accWith
  rw [rw5_of W (k0_off50_inb (wd o) k0_hw7) (p := 0) (off50_eq o), rw5_of W (k0_off51_inb (wd o) k0_hw7) (p := 1) (off51_eq o)]
  rw [rk_of k (off := k0_off52 (wd o) 0#32 0#32) (k0_off52_inb (wd o) k0_hw7 0 0) (b := 0) (i := 0) (show k0_off52 (wd o) 0#32 0#32 = ![64 * ((0 : Fin 2)).val + 4 * o.val + ((0 : Fin 4)).val, 0, 0] from off52_eq o 0 0), rv_of v (off := k0_off53 (wd o) 0#32 0#32) (k0_off53_inb (wd o) k0_hw7 0 0) (b := 0) (i := 0) (show k0_off53 (wd o) 0#32 0#32 = ![64 * ((0 : Fin 2)).val + 4 * o.val + ((0 : Fin 4)).val, 0, 0] from off53_eq o 0 0)]
  rw [rk_of k (off := k0_off52 (wd o) 0#32 1#32) (k0_off52_inb (wd o) k0_hw7 0 1) (b := 0) (i := 1) (show k0_off52 (wd o) 0#32 1#32 = ![64 * ((0 : Fin 2)).val + 4 * o.val + ((1 : Fin 4)).val, 0, 0] from off52_eq o 0 1), rv_of v (off := k0_off53 (wd o) 0#32 1#32) (k0_off53_inb (wd o) k0_hw7 0 1) (b := 0) (i := 1) (show k0_off53 (wd o) 0#32 1#32 = ![64 * ((0 : Fin 2)).val + 4 * o.val + ((1 : Fin 4)).val, 0, 0] from off53_eq o 0 1)]
  rw [rk_of k (off := k0_off52 (wd o) 0#32 2#32) (k0_off52_inb (wd o) k0_hw7 0 2) (b := 0) (i := 2) (show k0_off52 (wd o) 0#32 2#32 = ![64 * ((0 : Fin 2)).val + 4 * o.val + ((2 : Fin 4)).val, 0, 0] from off52_eq o 0 2), rv_of v (off := k0_off53 (wd o) 0#32 2#32) (k0_off53_inb (wd o) k0_hw7 0 2) (b := 0) (i := 2) (show k0_off53 (wd o) 0#32 2#32 = ![64 * ((0 : Fin 2)).val + 4 * o.val + ((2 : Fin 4)).val, 0, 0] from off53_eq o 0 2)]
  rw [rk_of k (off := k0_off52 (wd o) 0#32 3#32) (k0_off52_inb (wd o) k0_hw7 0 3) (b := 0) (i := 3) (show k0_off52 (wd o) 0#32 3#32 = ![64 * ((0 : Fin 2)).val + 4 * o.val + ((3 : Fin 4)).val, 0, 0] from off52_eq o 0 3), rv_of v (off := k0_off53 (wd o) 0#32 3#32) (k0_off53_inb (wd o) k0_hw7 0 3) (b := 0) (i := 3) (show k0_off53 (wd o) 0#32 3#32 = ![64 * ((0 : Fin 2)).val + 4 * o.val + ((3 : Fin 4)).val, 0, 0] from off53_eq o 0 3)]
  rfl

theorem acc_f1 (W : Vec F S16x1024x256 .i8) (x : Vec F S2x256x512 .bf16) (k : Vec F S128x64x256 .bf16) (v : Vec F S128x256x64 .bf16) (o : Dev nD) (k0_hw7 : k0_chk7 (wd o)) (O : Vec F S2x256x512 .f32) :
    wr O (![1, 0, 0]) (inb_S2x256x512_S1x256x512_1_0_0) (k0_pay1 (k0_pay81 (rw5 W ((k0_off51 (wd o))) ((k0_off51_inb (wd o) k0_hw7)))) (k0_pay96 k0_pay59 (k0_pay94 (rv v ((k0_off53 (wd o) 64#32 0#32)) ((k0_off53_inb (wd o) k0_hw7 1 0)))) (k0_pay95 (k0_pay80 (rw5 W ((k0_off50 (wd o))) ((k0_off50_inb (wd o) k0_hw7)))) (rx x (![1, 0, 0]) (inb_S2x256x512_S1x256x512_1_0_0)) (rk k ((k0_off52 (wd o) 64#32 0#32)) ((k0_off52_inb (wd o) k0_hw7 1 0))))) (k0_pay97 k0_pay59 (k0_pay93 (k0_pay80 (rw5 W ((k0_off50 (wd o))) ((k0_off50_inb (wd o) k0_hw7)))) (rx x (![1, 0, 0]) (inb_S2x256x512_S1x256x512_1_0_0))) (rk k ((k0_off52 (wd o) 64#32 1#32)) ((k0_off52_inb (wd o) k0_hw7 1 1))) (rv v ((k0_off53 (wd o) 64#32 1#32)) ((k0_off53_inb (wd o) k0_hw7 1 1)))) (k0_pay98 k0_pay59 (k0_pay93 (k0_pay80 (rw5 W ((k0_off50 (wd o))) ((k0_off50_inb (wd o) k0_hw7)))) (rx x (![1, 0, 0]) (inb_S2x256x512_S1x256x512_1_0_0))) (rk k ((k0_off52 (wd o) 64#32 2#32)) ((k0_off52_inb (wd o) k0_hw7 1 2))) (rv v ((k0_off53 (wd o) 64#32 2#32)) ((k0_off53_inb (wd o) k0_hw7 1 2)))) (k0_pay99 (rv v ((k0_off53 (wd o) 64#32 3#32)) ((k0_off53_inb (wd o) k0_hw7 1 3)))) (k0_pay100 k0_pay59 (k0_pay93 (k0_pay80 (rw5 W ((k0_off50 (wd o))) ((k0_off50_inb (wd o) k0_hw7)))) (rx x (![1, 0, 0]) (inb_S2x256x512_S1x256x512_1_0_0))) (rk k ((k0_off52 (wd o) 64#32 3#32)) ((k0_off52_inb (wd o) k0_hw7 1 3)))) (k0_pay101 k0_pay59 (k0_pay93 (k0_pay80 (rw5 W ((k0_off50 (wd o))) ((k0_off50_inb (wd o) k0_hw7)))) (rx x (![1, 0, 0]) (inb_S2x256x512_S1x256x512_1_0_0))) (rk k ((k0_off52 (wd o) 64#32 3#32)) ((k0_off52_inb (wd o) k0_hw7 1 3)))) (k0_pay102 (F := F)) (rd O (![1, 0, 0]) (inb_S2x256x512_S1x256x512_1_0_0))) = acc1 W x k v o O := by
  unfold acc1 accWith
  rw [rw5_of W (k0_off50_inb (wd o) k0_hw7) (p := 0) (off50_eq o), rw5_of W (k0_off51_inb (wd o) k0_hw7) (p := 1) (off51_eq o)]
  rw [rk_of k (off := k0_off52 (wd o) 64#32 0#32) (k0_off52_inb (wd o) k0_hw7 1 0) (b := 1) (i := 0) (show k0_off52 (wd o) 64#32 0#32 = ![64 * ((1 : Fin 2)).val + 4 * o.val + ((0 : Fin 4)).val, 0, 0] from off52_eq o 1 0), rv_of v (off := k0_off53 (wd o) 64#32 0#32) (k0_off53_inb (wd o) k0_hw7 1 0) (b := 1) (i := 0) (show k0_off53 (wd o) 64#32 0#32 = ![64 * ((1 : Fin 2)).val + 4 * o.val + ((0 : Fin 4)).val, 0, 0] from off53_eq o 1 0)]
  rw [rk_of k (off := k0_off52 (wd o) 64#32 1#32) (k0_off52_inb (wd o) k0_hw7 1 1) (b := 1) (i := 1) (show k0_off52 (wd o) 64#32 1#32 = ![64 * ((1 : Fin 2)).val + 4 * o.val + ((1 : Fin 4)).val, 0, 0] from off52_eq o 1 1), rv_of v (off := k0_off53 (wd o) 64#32 1#32) (k0_off53_inb (wd o) k0_hw7 1 1) (b := 1) (i := 1) (show k0_off53 (wd o) 64#32 1#32 = ![64 * ((1 : Fin 2)).val + 4 * o.val + ((1 : Fin 4)).val, 0, 0] from off53_eq o 1 1)]
  rw [rk_of k (off := k0_off52 (wd o) 64#32 2#32) (k0_off52_inb (wd o) k0_hw7 1 2) (b := 1) (i := 2) (show k0_off52 (wd o) 64#32 2#32 = ![64 * ((1 : Fin 2)).val + 4 * o.val + ((2 : Fin 4)).val, 0, 0] from off52_eq o 1 2), rv_of v (off := k0_off53 (wd o) 64#32 2#32) (k0_off53_inb (wd o) k0_hw7 1 2) (b := 1) (i := 2) (show k0_off53 (wd o) 64#32 2#32 = ![64 * ((1 : Fin 2)).val + 4 * o.val + ((2 : Fin 4)).val, 0, 0] from off53_eq o 1 2)]
  rw [rk_of k (off := k0_off52 (wd o) 64#32 3#32) (k0_off52_inb (wd o) k0_hw7 1 3) (b := 1) (i := 3) (show k0_off52 (wd o) 64#32 3#32 = ![64 * ((1 : Fin 2)).val + 4 * o.val + ((3 : Fin 4)).val, 0, 0] from off52_eq o 1 3), rv_of v (off := k0_off53 (wd o) 64#32 3#32) (k0_off53_inb (wd o) k0_hw7 1 3) (b := 1) (i := 3) (show k0_off53 (wd o) 64#32 3#32 = ![64 * ((1 : Fin 2)).val + 4 * o.val + ((3 : Fin 4)).val, 0, 0] from off53_eq o 1 3)]
  rfl

end Cert.KernelIdeal.Run
-- ==== Proof.Run.BodyA.lean ====
/- The first parts of the body: the device's place, the barrier, the own block stored and sent both ways. -/
module

public import proofs.«01_k».proof.Proof.Run.Acc
public import proofs.«01_k».proof.Proof.Run.Moves

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

theorem one_toInt : (1#32 : BitVec 32).toInt = 1 := by decide
theorem two_toInt : (2#32 : BitVec 32).toInt = 2 := by decide

theorem dev1_is {w : BitVec 32} {c : Dev nD} (h : w = wd c) (hl : k0_dev1 w < nD) : (⟨k0_dev1 w, hl⟩ : Dev nD) = c := Fin.ext (by subst h; exact dev1_eq c)
theorem dev2_is {w : BitVec 32} {c : Dev nD} (h : w = wd c) (hl : k0_dev2 w < nD) : (⟨k0_dev2 w, hl⟩ : Dev nD) = c := Fin.ext (by subst h; exact dev2_eq c)
theorem dev3_is {w : BitVec 32} {c : Dev nD} (h : w = wd c) (hl : k0_dev3 w < nD) : (⟨k0_dev3 w, hl⟩ : Dev nD) = c := Fin.ext (by subst h; exact dev3_eq c)
theorem dev4_is {w : BitVec 32} {c : Dev nD} (h : w = wd c) (hl : k0_dev4 w < nD) : (⟨k0_dev4 w, hl⟩ : Dev nD) = c := Fin.ext (by subst h; exact dev4_eq c)
theorem dev5_is {w : BitVec 32} {c : Dev nD} (h : w = wd c) (hl : k0_dev5 w < nD) : (⟨k0_dev5 w, hl⟩ : Dev nD) = c := Fin.ext (by subst h; exact dev5_eq c)
theorem dev6_is {w : BitVec 32} {c : Dev nD} (h : w = wd c) (hl : k0_dev6 w < nD) : (⟨k0_dev6 w, hl⟩ : Dev nD) = c := Fin.ext (by subst h; exact dev6_eq c)
theorem dev7_is {w : BitVec 32} {c : Dev nD} (h : w = wd c) (hl : k0_dev7 w < nD) : (⟨k0_dev7 w, hl⟩ : Dev nD) = c := Fin.ext (by subst h; exact dev7_eq c)
theorem dev8_is {w : BitVec 32} {c : Dev nD} (h : w = wd c) (hl : k0_dev8 w < nD) : (⟨k0_dev8 w, hl⟩ : Dev nD) = c := Fin.ext (by subst h; exact dev8_eq c)
theorem dev9_is {w : BitVec 32} {c : Dev nD} (h : w = wd c) (hl : k0_dev9 w < nD) : (⟨k0_dev9 w, hl⟩ : Dev nD) = c := Fin.ext (by subst h; exact dev9_eq c)
theorem dev10_is {w : BitVec 32} {c : Dev nD} (h : w = wd c) (hl : k0_dev10 w < nD) : (⟨k0_dev10 w, hl⟩ : Dev nD) = c := Fin.ext (by subst h; exact dev10_eq c)
theorem dev11_is {w : BitVec 32} {c : Dev nD} (h : w = wd c) (hl : k0_dev11 w < nD) : (⟨k0_dev11 w, hl⟩ : Dev nD) = c := Fin.ext (by subst h; exact dev11_eq c)
theorem dev12_is {w : BitVec 32} {c : Dev nD} (h : w = wd c) (hl : k0_dev12 w < nD) : (⟨k0_dev12 w, hl⟩ : Dev nD) = c := Fin.ext (by subst h; exact dev12_eq c)

/-- A load of half `p` of slot `o`. -/
theorem wp_ld5 (c o : Dev nD) (p : Fin 2) (q : PosShare TreeShare) (W : Vec F S16x1024x256 .i8) {off : Fin 3 → ℕ} {h} (ho : off = ![o.val, 512 * p.val, 0])
    {hl : wM.view.LoadsAt (Rect.unit (s := S16x1024x256) off S1x512x256.size h).toLoadRect}
    {α : Type} {Q : α → sProp 𝕄} {k' : Vec F S1x512x256 .i8 → Prog (TpuEff nD τ sig (Elt F) Λ₀ .tc) α} :
    hPts c o p q W ⊢ iprop((hPts c o p q W -∗ wp frame (wpE (defs₀ (F := F)) 𝒱₀ (c : Thread nD τ) none) Set.univ (k' (rw5 W off h)) Q)
      -∗ wp frame (wpE (defs₀ (F := F)) 𝒱₀ (c : Thread nD τ) none) Set.univ
          (.op (.load wM (Rect.unit (s := S16x1024x256) off S1x512x256.size h).toLoadRect hl) k') Q) := by
  unfold hPts
  exact wp_load_rect 𝒱₀ (c : Thread nD τ) none Set.univ (m := wM) (r := Rect.unit (s := S16x1024x256) off S1x512x256.size h) (k := k') (hl := hl)
    (by rw [acc_set h ho])

theorem run_p17 (c : Dev nD) (Q : (Σ' (d0 : Dev nD) (v2 : BitVec 32) (v3 : IVec S1x16 32) (v38 : IVec S1x16 32), IVec S1x16 32) → sProp 𝕄) :
    Q ⟨c, wd c, iotaW, k0_pay51, k0_pay52⟩
      ⊢ wp frame (wpE (defs₀ (F := F)) 𝒱₀ (c : Thread nD τ) none) Set.univ (k0_part17 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0) Q := by
  rw [k0_part17_eq_skeleton]
  unfold k0_part17_skel
  simp only [Prog.lift, Prog.bind_op, Prog.bind_ret, Prog.pure_eq_ret, wp_deviceId, wp_ret]
  rw [show Scalar.remsi (Scalar.divsi (Dev.word ((c : Thread nD τ)).1) 1#32) 16#32 = wd c from v2_eq c]
  iintro H
  imodintro
  iexact H

theorem ret18 {t : IVec S1x16 32} {s : Sems sig S_} {p p' w2 w2' w1 w1' : BitVec 32} (e : p = p') (e2 : w2 = w2') (e1 : w1 = w1') {h2 : k0_chk2 w2} {h1 : k0_chk1 w1}
    (h2' : k0_chk2 w2') (h1' : k0_chk1 w1') :
    (⟨t, p, w2, h2, w1, h1, s⟩ : Σ' (v43 : IVec S1x16 32) (v51 : BitVec 32) (v62 : BitVec 32) (k0_hw2 : k0_chk2 v62) (v73 : BitVec 32) (k0_hw1 : k0_chk1 v73), Sems sig S_)
      = ⟨t, p', w2', h2', w1', h1', s⟩ := by
  subst e e2 e1; rfl

theorem run_p18 (K : GSem nD τ sig → ℕ) (c : Dev nD) (v2 : BitVec 32) (v3 v38 v42 : IVec S1x16 32)
    (h51 : extractAt ![0, 0, 0] (k0_pay54 v2 v3 v38 v42) inpos_S1x1x1_p0_0_0 = posW c)
    (h62 : extractAt ![0, 0, 0] (k0_pay55 v2 v3 v38 v42) inpos_S1x1x1_p0_0_0 = wd (rt c))
    (h73 : extractAt ![0, 0, 0] (k0_pay56 v2 v3 v38 v42) inpos_S1x1x1_p0_0_0 = wd (lf c)) (O : CellTallies nD τ sig Unit)
    (Q : (Σ' (v43 : IVec S1x16 32) (v51 : BitVec 32) (v62 : BitVec 32) (k0_hw2 : k0_chk2 v62) (v73 : BitVec 32) (k0_hw1 : k0_chk1 v73), Sems sig S_) → sProp 𝕄) :
    iprop(ctx Wp K ∗ ow c (O + tallyAt (barC (rt c)) () 1 + tallyAt (barC (lf c)) () 1)
        ∗ (dutyTok ER (barC (lf c)) 0 true ∗ barR (lf c) ∗ reached ER (barC (lf c)) 0)
        ∗ (dutyTok ER (barC (rt c)) 0 false ∗ barL (rt c) ∗ reached ER (barC (rt c)) 0)
        ∗ (ow c O -∗ Q ⟨k0_pay53 v38 v42, posW c, wd (rt c), chk2 (rt c), wd (lf c), chk1 (lf c), SemArray.scalar (sig.barrier 0 rfl)⟩))
      ⊢ wp frame (wpE (defs₀ (F := F)) 𝒱₀ (c : Thread nD τ) none) Set.univ (k0_part18 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v2 v3 v38 v42) Q := by
  unfold ctx
  iintro ⟨⟨#HI, #Hlev⟩, HO, ⟨Ht1, Hp1, Hr1⟩, ⟨Ht2, Hp2, Hr2⟩, Hk⟩
  rw [k0_part18_eq_skeleton]
  unfold k0_part18_skel
  simp only [Prog.lift, Prog.bind_op, Prog.bind_ret, Prog.pure_eq_ret, semSignalWord, one_toInt]
  iapply (wp_assume 𝒱₀ (c : Thread nD τ) none Set.univ (h62 ▸ chk2 (rt c)))
  iapply (wp_assume 𝒱₀ (c : Thread nD τ) none Set.univ (h73 ▸ chk1 (lf c)))
  iapply (wp_sig Wp K c (lf c) _ (dev1_is h73 (k0_dev1_lt _ (h73 ▸ chk1 (lf c)))) barS true (bar_mem (lf c)) (O + tallyAt (barC (rt c)) () 1)) $$ [HO Ht1 Hp1 Hr1]
  · isplitr; · iexact HI
    isplitl [HO]; · iexact HO
    isplitl [Ht1]; · iexact Ht1
    isplitl [Hp1]
    · rw [show (Rd (F := F) Wp).payload ((lf c : Thread nD τ), SemLoc.reg barS) 0 true = barR (lf c) from payload_bar Wp (lf c) true]
      iexact Hp1
    iexact Hr1
  iintro HO
  iapply (wp_sig Wp K c (rt c) _ (dev2_is h62 (k0_dev2_lt _ (h62 ▸ chk2 (rt c)))) barS false (bar_mem (rt c)) O) $$ [HO Ht2 Hp2 Hr2]
  · isplitr; · iexact HI
    isplitl [HO]; · iexact HO
    isplitl [Ht2]; · iexact Ht2
    isplitl [Hp2]
    · rw [show (Rd (F := F) Wp).payload ((rt c : Thread nD τ), SemLoc.reg barS) 0 false = barL (rt c) from payload_bar Wp (rt c) false]
      iexact Hp2
    iexact Hr2
  iintro HO
  rw [wp_ret]
  imodintro
  rw [ret18 h51 h62 h73 (chk2 (rt c)) (chk1 (lf c))]
  iapply Hk
  iexact HO

end Cert.KernelIdeal.Run
-- ==== Proof.Run.BodyB.lean ====
/- The own slot loaded and stored. -/
module

public import proofs.«01_k».proof.Proof.Run.BodyA
public import Idealize.ShloMosaic.Lib.ValueLayout
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

variable (Wp : Dev nD → Vec F S1024x256 .i8)

/-- The own slot. -/
theorem own_set (c : Dev nD) (h) : (wM.access (Rect.unit (s := S16x1024x256) (k0_off1 c) S1x1024x256.size h)).set = hset c 0 ∪ hset c 1 := by
  refine (View.set_slice_whole cc0_scratch0 _).trans ?_
  ext i
  rw [Rect.mem_set_unit, Finset.mem_union, mem_hset, mem_hset, off1_eq c]
  have h1 : (i 1).val < 1024 := (i 1).isLt
  have h2 : (i 2).val < 256 := (i 2).isLt
  constructor
  · intro h
    have h0 := h 0
    change c.val ≤ (i 0).val ∧ (i 0).val < c.val + 1 at h0
    have : (i 1).val / 512 = 0 ∨ (i 1).val / 512 = 1 := by omega
    rcases this with h' | h'
    · exact Or.inl ⟨by omega, h'⟩
    · exact Or.inr ⟨by omega, h'⟩
  · intro h a
    have h0 : (i 0).val = c.val := by rcases h with h | h <;> exact h.1
    fin_cases a
    · show c.val ≤ (i 0).val ∧ (i 0).val < c.val + 1; omega
    · show 0 ≤ (i 1).val ∧ (i 1).val < 0 + 1024; omega
    · show 0 ≤ (i 2).val ∧ (i 2).val < 0 + 256; omega

/-- What the store leaves in the own slot. -/
theorem own_write (c : Dev nD) (h) (f : Vec F S16x1024x256 .i8) (i : S16x1024x256.Idx) (hi : i ∈ hset c 0 ∪ hset c 1) :
    (wM.access (Rect.unit (s := S16x1024x256) (k0_off1 c) S1x1024x256.size h)).write (Elt F) f (k0_pay57 (Wp c)) Finset.univ i = Wall Wp i := by
  have h0 : (i 0).val = c.val := by
    rcases Finset.mem_union.1 hi with h | h <;> exact ((mem_hset _ _ _).1 h).1
  have he : i = (wM.access (Rect.unit (s := S16x1024x256) (k0_off1 c) S1x1024x256.size h)).emb (ix3 (⟨0, Nat.one_pos⟩ : Fin 1) (i 1) (i 2)) := by
    funext a
    refine Fin.ext ?_
    show (i a).val = k0_off1 c a + 1 * ((ix3 (⟨0, Nat.one_pos⟩ : Fin 1) (i 1) (i 2) : S1x1024x256.Idx) a).val
    rw [off1_eq c]
    fin_cases a
    · show (i 0).val = c.val + 1 * 0; omega
    · show (i 1).val = 0 + 1 * (i 1).val; omega
    · show (i 2).val = 0 + 1 * (i 2).val; omega
  have hw : k0_pay57 (Wp c) (ix3 (⟨0, Nat.one_pos⟩ : Fin 1) (i 1) (i 2) : S1x1024x256.Idx) = Wall Wp i := by
    unfold k0_pay57 Wall
    dsimp only
    rw [shapeCast_self, shapeCast_self]
    refine (shapeCast_ab_1ab_apply (a := 1024) (b := 256) (Wp c) _ _ (i 1) (i 2)).trans ?_
    rw [show (i 0 : Fin 16) = c from Fin.ext h0]
    refine congrArg (Wp c) (funext fun a => ?_)
    fin_cases a <;> rfl
  rw [← hw]
  conv_lhs => rw [he]
  exact View.write_emb_of_mem (Val := Elt F) (v := wM.access (Rect.unit (s := S16x1024x256) (k0_off1 c) S1x1024x256.size h)) f (k0_pay57 (Wp c)) (Finset.mem_univ _)

theorem wp_ownld (c : Dev nD) (f : Vec F S16x1024x256 .i8) {h}
    {hl : wM.view.LoadsAt (Rect.unit (s := S16x1024x256) (k0_off1 c) S1x1024x256.size h).toLoadRect}
    {α : Type} {Q : α → sProp 𝕄} {k' : Vec F S1x1024x256 .i8 → Prog (TpuEff nD τ sig (Elt F) Λ₀ .tc) α} :
    iprop(hPts c c 0 fullShare f ∗ hPts c c 1 fullShare f) ⊢ iprop((∀ y, (hPts c c 0 fullShare f ∗ hPts c c 1 fullShare f)
          -∗ wp frame (wpE (defs₀ (F := F)) 𝒱₀ (c : Thread nD τ) none) Set.univ (k' y) Q)
      -∗ wp frame (wpE (defs₀ (F := F)) 𝒱₀ (c : Thread nD τ) none) Set.univ
          (.op (.load wM (Rect.unit (s := S16x1024x256) (k0_off1 c) S1x1024x256.size h).toLoadRect hl) k') Q) := by
  have hu := (pointsTo_union (ℓ := ((c : Thread nD τ).loc cc0_scratch0)) (q := fullShare) (f := f) (Val := Elt F) (U := UU) (Ix := Unit) (Name := ℕ) (Lvl := ℕ)
    (hset_disjoint (o := c) (p := 0) (o' := c) (p' := 1) (fun h => Fin.zero_ne_one (Prod.ext_iff.1 h).2)))
  unfold hPts
  refine hu.2.trans ?_
  iintro H Hk
  iapply (wp_load_rect 𝒱₀ (c : Thread nD τ) none Set.univ (m := wM) (r := Rect.unit (s := S16x1024x256) (k0_off1 c) S1x1024x256.size h) (k := k') (hl := hl)
    (S := hset c 0 ∪ hset c 1) (by rw [own_set])) $$ H
  iintro H
  iapply Hk
  iapply hu.1
  iexact H

theorem rd1 (f : Vec F S1024x256 .i8) :
    View.readAt (Elt F) a1.view (Rect.unit (s := S1024x256) ![0, 0] S1024x256.size inb_S1024x256_S1024x256_0_0).toLoadRect f = f := by
  refine Memref.readAt_unit_zero (Elt F) cc0_stg1_0 (off := ![0, 0]) ?_ inb_S1024x256_S1024x256_0_0 f
  decide

/-- A store whose buffer agrees with `g` on the elements held afterwards. -/
theorem wp_store_to (c : Thread nD τ) {cs : CoreSpace} {s : Shape} {e : EltTy} {m : Memref sig c.2.kind cs s e} {r : Rect s} {w : r.shape.Idx → Elt F e}
    {hx : (m.access r).Stores Finset.univ} {hm : Finset.univ = Finset.univ ∨ ∀ a, r.stride a = 1}
    {α : Type} {Q : α → sProp 𝕄} {k : PUnit → Prog (TpuEff nD τ sig (Elt F) Λ₀ c.2) α} {S : Finset (Idx ((m.access r).loc c))} {f : Buf (Elt F) ((m.access r).loc c)}
    (g : Buf (Elt F) ((m.access r).loc c)) (hS : (m.access r).setOn Finset.univ ⊆ S) (hg : ∀ i ∈ S, (m.access r).write (Elt F) f w Finset.univ i = g i) :
    (((m.access r).loc c ↦[S]{fullShare} f) : sProp 𝕄)
      ⊢ iprop((((m.access r).loc c ↦[S]{fullShare} g) -∗ wp frame (wpE (defs₀ (F := F)) 𝒱₀ c none) Set.univ (k ⟨⟩) Q)
        -∗ wp frame (wpE (defs₀ (F := F)) 𝒱₀ c none) Set.univ (.op (.store m r w Finset.univ hx hm) k) Q) := by
  rw [← pointsTo_congr hg]
  exact wp_store 𝒱₀ c none Set.univ hS

theorem wp_ownst (c : Dev nD) (f : Vec F S16x1024x256 .i8) {w : IVec S1x1024x256 8} (hw : w = k0_pay57 (Wp c)) {h}
    {hx : (wM.access (Rect.unit (s := S16x1024x256) (k0_off1 c) S1x1024x256.size h)).Stores Finset.univ} {hm}
    {α : Type} {Q : α → sProp 𝕄} {k' : PUnit → Prog (TpuEff nD τ sig (Elt F) Λ₀ .tc) α} :
    iprop(hPts c c 0 fullShare f ∗ hPts c c 1 fullShare f) ⊢ iprop(((hPts c c 0 fullShare (Wall Wp) ∗ hPts c c 1 fullShare (Wall Wp))
          -∗ wp frame (wpE (defs₀ (F := F)) 𝒱₀ (c : Thread nD τ) none) Set.univ (k' ⟨⟩) Q)
      -∗ wp frame (wpE (defs₀ (F := F)) 𝒱₀ (c : Thread nD τ) none) Set.univ
          (.op (.store wM (Rect.unit (s := S16x1024x256) (k0_off1 c) S1x1024x256.size h) w Finset.univ hx hm) k') Q) := by
  subst hw
  have hd : Disjoint (hset c 0) (hset c 1) := hset_disjoint (o := c) (p := 0) (o' := c) (p' := 1) (fun h => Fin.zero_ne_one (Prod.ext_iff.1 h).2)
  have hu := (pointsTo_union (ℓ := ((c : Thread nD τ).loc cc0_scratch0)) (q := fullShare) (f := f) (Val := Elt F) (U := UU) (Ix := Unit) (Name := ℕ) (Lvl := ℕ) hd)
  have hw' := (pointsTo_union (ℓ := ((c : Thread nD τ).loc cc0_scratch0)) (q := fullShare) (f := Wall Wp) (Val := Elt F) (U := UU) (Ix := Unit) (Name := ℕ) (Lvl := ℕ) hd)
  unfold hPts
  refine hu.2.trans ?_
  have hst := wp_store_to (F := F) (c : Thread nD τ) (m := wM) (r := Rect.unit (s := S16x1024x256) (k0_off1 c) S1x1024x256.size h) (w := k0_pay57 (Wp c)) (hx := hx) (hm := hm)
    (Q := Q) (k := k') (S := hset c 0 ∪ hset c 1) (f := f) (Wall Wp) (by rw [View.setOn_univ, own_set]) (own_write Wp c h f)
  refine hst.trans (wand_mono_left (wand_mono_left ?_))
  exact hw'.1

end Cert.KernelIdeal.Run
-- ==== Proof.Run.BodyC.lean ====
/- The own block sent both ways. -/
module

public import proofs.«01_k».proof.Proof.Run.BodyB
public import Idealize.ShloMosaic.Lib.ValueLayout
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

theorem wr4 (g : Vec F S2x256x512 .f32) :
    (a4.access (Rect.unit (s := S2x256x512) ![0, 0, 0] S2x256x512.size inb_S2x256x512_S2x256x512_0_0_0)).write (Elt F) g k0_pay58 Finset.univ = k0_pay58 := by
  refine Memref.write_access_unit_zero_univ (Elt F) cc0_stg4_0 (off := ![0, 0, 0]) ?_ inb_S2x256x512_S2x256x512_0_0_0 g k0_pay58
  decide

/-- A half slot of a neighbour given for a hop to land in. -/
def landR (c : Dev nD) (k : ℕ) (p : Fin 2) : sProp 𝕄 := iprop((∃ f, hPts (rt c) (ro c k) p fullShare f) ∗ reached ER (tC 1 (rt c) (ro c k) p) 0)
def landL (c : Dev nD) (k : ℕ) (p : Fin 2) : sProp 𝕄 := iprop((∃ f, hPts (lf c) (lo c k) p fullShare f) ∗ reached ER (tC 3 (lf c) (lo c k) p) 0)

theorem barR_eq (c : Dev nD) : (barR c : sProp 𝕄) = iprop(((landR c 0 0 ∗ landR c 0 1) ∗ bigSep (Finset.Ico 1 7) fun k => iprop(landR c k 0 ∗ landR c k 1)) ∗ reached ER (exitC (rt c)) 0) := by
  unfold barR
  rw [Finset.range_eq_Ico, Ring.Ico_eq_insert (by decide), bigSep_insert (by decide)]
  simp only [bigSep_fin_two]
  rfl
theorem barL_eq (c : Dev nD) : (barL c : sProp 𝕄) = iprop(((landL c 0 0 ∗ landL c 0 1) ∗ bigSep (Finset.Ico 1 8) fun k => iprop(landL c k 0 ∗ landL c k 1)) ∗ reached ER (exitC (lf c)) 0) := by
  unfold barL
  rw [Finset.range_eq_Ico, Ring.Ico_eq_insert (by decide), bigSep_insert (by decide)]
  simp only [bigSep_fin_two]
  rfl
theorem SR_of (c : Dev nD) (k : ℕ) (p : Fin 2) : iprop(landR c k p ∗ TR c k p) ⊢ (SR c k p : sProp 𝕄) := by unfold SR landR; exact .rfl
theorem SL_of (c : Dev nD) (k : ℕ) (p : Fin 2) : iprop(landL c k p ∗ TL c k p) ⊢ (SL c k p : sProp 𝕄) := by unfold SL landL; exact .rfl

theorem run_p19 (K : GSem nD τ sig → ℕ) (c : Dev nD) (O : CellTallies nD τ sig Unit) (hO : Above 1 (O + uR c 0 0)) (f : Vec F S16x1024x256 .i8)
    (g : Vec F S2x256x512 .f32) (v2 : BitVec 32) (h2 : k0_chk2 (wd (rt c))) (Q : IVec S256x256 1 → sProp 𝕄) :
    iprop(ctx Wp K ∗ ow c (O + uR c 0 0) ∗ (cred (tallyAt (barC c) () 2) ∗ atPos ER (barC c) 0 ∅ 0) ∗ held c cc0_stg1_0 (Wp c)
        ∗ (hPts c c 0 fullShare f ∗ hPts c c 1 fullShare f) ∗ held c cc0_stg4_0 g ∗ TR c 0 0
        ∗ ((atPos ER (barC c) 1 ∅ 0 ∗ barL c ∗ (landR c 0 1 ∗ (bigSep (Finset.Ico 1 7) fun k => iprop(landR c k 0 ∗ landR c k 1)) ∗ reached ER (exitC (rt c)) 0) ∗ held c cc0_stg1_0 (Wp c)
            ∗ (hPts c c 0 fullShare.right.left (Wall Wp) ∗ hPts c c 0 fullShare.right.right (Wall Wp)) ∗ hPts c c 1 fullShare (Wall Wp)
            ∗ held c cc0_stg4_0 k0_pay58 ∗ FR c 0 0 ∗ ow c O) -∗ Q k0_pay59))
      ⊢ wp frame (wpE (defs₀ (F := F)) 𝒱₀ (c : Thread nD τ) none) Set.univ (k0_part19 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c v2 (wd (rt c)) h2 (SemArray.scalar (sig.barrier 0 rfl))) Q := by
  iintro ⟨#Hctx, HO, ⟨Hcr, Hat⟩, H1, Hown, H4, HT, Hk⟩
  rw [k0_part19_eq_skeleton]
  unfold k0_part19_skel
  simp only [Prog.lift, Prog.bind_op, Prog.bind_ret, Prog.pure_eq_ret, semWaitWord, two_toInt]
  iapply (wp_waitR Wp K c barS (bar_mem c) (O + uR c 0 0) 1 (by rw [lv_bar]) hO) $$ [HO Hcr Hat]
  · unfold ctx
    icases Hctx with ⟨#HI, #Hlev⟩
    isplitr; · iexact HI
    isplitr; · iexact Hlev
    isplitl [Hcr]; · iexact Hcr
    isplitl [HO]; · iexact HO
    iexact Hat
  rw [rest_bar, barR_eq]
  iintro ⟨HO, Hat, HbL, ⟨⟨HbR0, HbR1⟩, HbR⟩, Hre⟩
  sl_step
  iapply (wp_ownld c f) $$ Hown
  iintro %y Hown
  iapply (wp_ownst Wp c f (congrArg k0_pay57 (rd1 (Wp c)))) $$ Hown
  iintro ⟨Hown0, Hown1⟩
  sl_step
  sl_step
  ihave H4 := (Entails.of_eq (congrArg (held c cc0_stg4_0) (wr4 g))) $$ H4
  ihave Hsh := (hPts_share3 c c 0 (Wall Wp)).1 $$ Hown0
  icases Hsh with ⟨Hs0, Hs1, Hs2⟩
  iapply (wp_sendR Wp K c 0 (by omega) 0 (dev3_is rfl _) (sem0_of _ (by rw [ro_zero]; exact off2_eq c)) (sem1_of _ (by rw [ro_zero]; exact off2_eq c))
    (by rw [ro_zero]; exact off3_eq c) O) $$ [HbR0 HT Hs0 HO]
  · isplitr; · iexact Hctx
    isplitl [HbR0 HT]
    · iapply (SR_of c 0 0)
      isplitl [HbR0]; · iexact HbR0
      iexact HT
    rw [ro_zero]
    isplitl [Hs0]; · iexact Hs0
    iexact HO
  iintro ⟨HF, HO⟩
  rw [wp_ret]
  imodintro
  iapply Hk
  isplitl [Hat]; · iexact Hat
  isplitl [HbL]; · iexact HbL
  isplitl [HbR1 HbR Hre]
  · isplitl [HbR1]; · iexact HbR1
    isplitl [HbR]; · iexact HbR
    iexact Hre
  isplitl [H1]; · iexact H1
  isplitl [Hs1 Hs2]
  · isplitl [Hs1]; · iexact Hs1
    iexact Hs2
  isplitl [Hown1]; · iexact Hown1
  isplitl [H4]; · iexact H4
  isplitl [HF]; · iexact HF
  iexact HO

end Cert.KernelIdeal.Run
-- ==== Proof.Run.BodyD.lean ====
/- The parts of the body that send, wait and load the gathered weights, outside the loop. -/
module

public import proofs.«01_k».proof.Proof.Run.BodyC

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

theorem run_p20 (K : GSem nD τ sig → ℕ) (c : Dev nD) (Ow : CellTallies nD τ sig Unit) (x : Vec F S2x256x512 .bf16) (k : Vec F S128x64x256 .bf16) (v : Vec F S128x256x64 .bf16) (O : Vec F S2x256x512 .f32) (v2 : BitVec 32) (h2 : k0_chk2 (wd (rt c))) (h1 : k0_chk1 (wd (lf c)))
    (Q : (Σ' (v137 : FVec F S512x256 .bf16) (v141 : FVec F S512x256 .bf16), FVec F S256x512 .bf16) → sProp 𝕄) :
    iprop(ctx Wp K ∗ ow c (Ow + uL c 0 1 + uL c 0 0 + uR c 0 1) ∗ SR c 0 1 ∗ SL c 0 0 ∗ SL c 0 1
        ∗ hPts c (ro c 0) 1 fullShare.left (Wall Wp) ∗ hPts c (lo c 0) 0 (shL c (lo c 0)) (Wall Wp) ∗ hPts c (lo c 0) 1 (shL c (lo c 0)) (Wall Wp)
        ∗ hPts c c 0 fullShare.right.right (Wall Wp) ∗ hPts c c 1 fullShare.right.right (Wall Wp) ∗ loc c x k v O
        ∗ ((FR c 0 1 ∗ FL c 0 0 ∗ FL c 0 1 ∗ ow c Ow ∗ hPts c c 0 fullShare.right.right (Wall Wp) ∗ hPts c c 1 fullShare.right.right (Wall Wp) ∗ loc c x k v O)
            -∗ Q ⟨k0_pay60 (rw5 (Wall Wp) (k0_off6 c) (k0_off6_inb c)), k0_pay61 (rw5 (Wall Wp) (k0_off7 c) (k0_off7_inb c)), k0_pay62 (rx x ![0, 0, 0] inb_S2x256x512_S1x256x512_0_0_0)⟩))
      ⊢ wp frame (wpE (defs₀ (F := F)) 𝒱₀ (c : Thread nD τ) none) Set.univ (k0_part20 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c v2 (wd (rt c)) h2 (wd (lf c)) h1) Q := by
  unfold loc
  iintro ⟨#Hctx, HO, HS1, HS2, HS3, Hb1, Hb2, Hb3, Hq0, Hq1, ⟨H0, H2, H3, H4⟩, Hk⟩
  rw [k0_part20_eq_skeleton]
  unfold k0_part20_skel
  simp only [Prog.lift, Prog.bind_op, Prog.bind_ret, Prog.pure_eq_ret]
  iapply (wp_sendR Wp K c (0) (by omega) 1 (dev4_is rfl _) (sem0_of _ (by rw [ro_zero]; exact off4_eq c)) (sem1_of _ (by rw [ro_zero]; exact off4_eq c)) (by rw [ro_zero]; exact off5_eq c) (Ow + uL c 0 1 + uL c 0 0)) $$ [HS1 Hb1 HO]
  · isplitr; · iexact Hctx
    isplitl [HS1]; · iexact HS1
    isplitl [Hb1]; · iexact Hb1
    iexact HO
  iintro ⟨HF1, HO⟩
  iapply (wp_sendL Wp K c (0) (by omega) 0 (dev5_is rfl _) (sem2_of _ (by rw [lo_zero]; exact off2_eq c)) (sem3_of _ (by rw [lo_zero]; exact off2_eq c)) (by rw [lo_zero]; exact off3_eq c) (Ow + uL c 0 1)) $$ [HS2 Hb2 HO]
  · isplitr; · iexact Hctx
    isplitl [HS2]; · iexact HS2
    isplitl [Hb2]; · iexact Hb2
    iexact HO
  iintro ⟨HF2, HO⟩
  iapply (wp_sendL Wp K c (0) (by omega) 1 (dev6_is rfl _) (sem2_of _ (by rw [lo_zero]; exact off4_eq c)) (sem3_of _ (by rw [lo_zero]; exact off4_eq c)) (by rw [lo_zero]; exact off5_eq c) (Ow)) $$ [HS3 Hb3 HO]
  · isplitr; · iexact Hctx
    isplitl [HS3]; · iexact HS3
    isplitl [Hb3]; · iexact Hb3
    iexact HO
  iintro ⟨HF3, HO⟩
  iapply (wp_ld5 c c 0 fullShare.right.right (Wall Wp) (off6_eq c)) $$ Hq0
  iintro Hq0
  iapply (wp_ld5 c c 1 fullShare.right.right (Wall Wp) (off7_eq c)) $$ Hq1
  iintro Hq1
  sl_step
  rw [wp_ret]
  imodintro
  iapply Hk
  isplitl [HF1]
  · iexact HF1
  isplitl [HF2]
  · iexact HF2
  isplitl [HF3]
  · iexact HF3
  isplitl [HO]
  · iexact HO
  isplitl [Hq0]
  · iexact Hq0
  isplitl [Hq1]
  · iexact Hq1
  isplitl [H0]
  · iexact H0
  isplitl [H2]
  · iexact H2
  isplitl [H3]
  · iexact H3
  iexact H4

/-- A received block: both halves, and the receiving cells behind their waits. -/
def BR (c : Dev nD) (k : ℕ) : sProp 𝕄 := iprop((hPts c (ro c k) 0 fullShare (Wall Wp) ∗ hPts c (ro c k) 1 fullShare (Wall Wp)) ∗ DER c k 0 ∗ DER c k 1)
def BL (c : Dev nD) (k : ℕ) : sProp 𝕄 := iprop((hPts c (lo c k) 0 fullShare (Wall Wp) ∗ hPts c (lo c k) 1 fullShare (Wall Wp)) ∗ DEL c k 0 ∗ DEL c k 1)

theorem ro_one : ∀ c : Dev nD, ro c 1 = lf c := by decide +kernel
theorem lo_one : ∀ c : Dev nD, lo c 1 = rt c := by decide +kernel

theorem run_p27 (K : GSem nD τ sig → ℕ) (c : Dev nD) (Ow : CellTallies nD τ sig Unit) (hO : Above 2 Ow) (h2 : k0_chk2 (wd (rt c))) (h1 : k0_chk1 (wd (lf c)))
    (Q : PUnit → sProp 𝕄) :
    iprop(ctx Wp K ∗ ow c Ow ∗ (AR c 1 0 ∗ AR c 1 1) ∗ (AL c 1 0 ∗ AL c 1 1) ∗ ((ow c Ow ∗ BR Wp c 1 ∗ BL Wp c 1) -∗ Q ⟨⟩))
      ⊢ wp frame (wpE (defs₀ (F := F)) 𝒱₀ (c : Thread nD τ) none) Set.univ (k0_part27 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 (wd (rt c)) h2 (wd (lf c)) h1) Q := by
  unfold BR BL
  iintro ⟨#Hctx, HO, ⟨HA0, HA1⟩, ⟨HA2, HA3⟩, Hk⟩
  rw [k0_part27_eq_skeleton]
  unfold k0_part27_skel
  simp only [Prog.lift, Prog.bind_op, Prog.bind_ret, Prog.pure_eq_ret]
  iapply (wp_comeR Wp K c (1) (by omega) (by omega) 0 (sem1_of _ (by rw [ro_one]; exact off10_eq (lf c))) (by rw [ro_one]; exact off11_eq (lf c)) (Ow) hO) $$ [HA0 HO]
  · isplitr; · iexact Hctx
    isplitl [HA0]; · iexact HA0
    iexact HO
  iintro ⟨HD0, HB0, HO⟩
  iapply (wp_comeR Wp K c (1) (by omega) (by omega) 1 (sem1_of _ (by rw [ro_one]; exact off12_eq (lf c))) (by rw [ro_one]; exact off13_eq (lf c)) (Ow) hO) $$ [HA1 HO]
  · isplitr; · iexact Hctx
    isplitl [HA1]; · iexact HA1
    iexact HO
  iintro ⟨HD1, HB1, HO⟩
  iapply (wp_comeL Wp K c (1) (by omega) (by omega) 0 (sem3_of _ (by rw [lo_one]; exact off14_eq (rt c))) (by rw [lo_one]; exact off15_eq (rt c)) (Ow) hO) $$ [HA2 HO]
  · isplitr; · iexact Hctx
    isplitl [HA2]; · iexact HA2
    iexact HO
  iintro ⟨HD2, HB2, HO⟩
  iapply (wp_comeL Wp K c (1) (by omega) (by omega) 1 (sem3_of _ (by rw [lo_one]; exact off16_eq (rt c))) (by rw [lo_one]; exact off17_eq (rt c)) (Ow) hO) $$ [HA3 HO]
  · isplitr; · iexact Hctx
    isplitl [HA3]; · iexact HA3
    iexact HO
  iintro ⟨HD3, HB3, HO⟩
  rw [wp_ret]
  imodintro
  iapply Hk
  isplitl [HO]
  · iexact HO
  isplitl [HB0 HB1 HD0 HD1]
  · isplitl [HB0 HB1]
    · isplitl [HB0]
      · iexact HB0
      iexact HB1
    isplitl [HD0]
    · iexact HD0
    iexact HD1
  isplitl [HB2 HB3]
  · isplitl [HB2]
    · iexact HB2
    iexact HB3
  isplitl [HD2]
  · iexact HD2
  iexact HD3

theorem ret29 {F : FTy → Type} {w w' : BitVec 32} (e : w = w') {h : k0_chk7 w} (h' : k0_chk7 w') {p445 p449 : FVec F S512x256 .bf16} {p455 : FVec F S256x256 .bf16} {p462 : FVec F S64x256 .bf16} {p466 p467 : FVec F S256x64 .bf16}
    {q445 q449 : FVec F S512x256 .bf16} {q455 : FVec F S256x256 .bf16} {q462 : FVec F S64x256 .bf16} {q466 q467 : FVec F S256x64 .bf16}
    (e1 : p445 = q445) (e2 : p449 = q449) (e3 : p455 = q455) (e4 : p462 = q462) (e5 : p466 = q466) (e6 : p467 = q467) :
    (⟨w, h, p445, p449, p455, p462, p466, p467⟩ : Σ' (v441 : BitVec 32) (k0_hw7 : k0_chk7 v441) (v445 : FVec F S512x256 .bf16) (v449 : FVec F S512x256 .bf16) (v455 : FVec F S256x256 .bf16) (v462 : FVec F S64x256 .bf16) (v466 : FVec F S256x64 .bf16), FVec F S256x64 .bf16)
      = ⟨w', h', q445, q449, q455, q462, q466, q467⟩ := by
  subst e e1 e2 e3 e4 e5 e6; rfl

theorem rw5_eq (W : Vec F S16x1024x256 .i8) {off off' : Fin 3 → ℕ} {h h'} (ho : off = off') : rw5 W off h = rw5 W off' h' := by subst ho; rfl
theorem rk_eq (k : Vec F S128x64x256 .bf16) {off off' : Fin 3 → ℕ} {h h'} (ho : off = off') : rk k off h = rk k off' h' := by subst ho; rfl
theorem rv_eq (v : Vec F S128x256x64 .bf16) {off off' : Fin 3 → ℕ} {h h'} (ho : off = off') : rv v off h = rv v off' h' := by subst ho; rfl

theorem run_p29 (c o : Dev nD) (q : PosShare TreeShare) (x : Vec F S2x256x512 .bf16) (k : Vec F S128x64x256 .bf16) (v : Vec F S128x256x64 .bf16) (O : Vec F S2x256x512 .f32) (v3 v43 : IVec S1x16 32) (v51 : BitVec 32)
    (h441 : extractAt ![0, 0, 0] (k0_pay79 v3 v43 v51) inpos_S1x1x1_p0_0_0 = wd o)
    (Q : (Σ' (v441 : BitVec 32) (k0_hw7 : k0_chk7 v441) (v445 : FVec F S512x256 .bf16) (v449 : FVec F S512x256 .bf16) (v455 : FVec F S256x256 .bf16) (v462 : FVec F S64x256 .bf16) (v466 : FVec F S256x64 .bf16), FVec F S256x64 .bf16) → sProp 𝕄) :
    iprop((hPts c o 0 q (Wall Wp) ∗ hPts c o 1 q (Wall Wp)) ∗ loc c x k v O
        ∗ (((hPts c o 0 q (Wall Wp) ∗ hPts c o 1 q (Wall Wp)) ∗ loc c x k v O)
            -∗ Q ⟨wd o, chk7 o, k0_pay80 (rw5 (Wall Wp) (k0_off50 (wd o)) (k0_off50_inb (wd o) (chk7 o))), k0_pay81 (rw5 (Wall Wp) (k0_off51 (wd o)) (k0_off51_inb (wd o) (chk7 o))),
              k0_pay82 (rw5 (Wall Wp) (k0_off50 (wd o)) (k0_off50_inb (wd o) (chk7 o))) (rx x ![0, 0, 0] inb_S2x256x512_S1x256x512_0_0_0),
              k0_pay83 (rk k (k0_off52 (wd o) 0#32 0#32) (k0_off52_inb (wd o) (chk7 o) 0 0)), k0_pay84 (rv v (k0_off53 (wd o) 0#32 0#32) (k0_off53_inb (wd o) (chk7 o) 0 0)),
              k0_pay85 (rw5 (Wall Wp) (k0_off50 (wd o)) (k0_off50_inb (wd o) (chk7 o))) (rx x ![0, 0, 0] inb_S2x256x512_S1x256x512_0_0_0)⟩))
      ⊢ wp frame (wpE (defs₀ (F := F)) 𝒱₀ (c : Thread nD τ) none) Set.univ (k0_part29 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v3 v43 v51) Q := by
  unfold loc
  iintro ⟨⟨Hq0, Hq1⟩, ⟨H0, H2, H3, H4⟩, Hk⟩
  rw [k0_part29_eq_skeleton]
  unfold k0_part29_skel
  simp only [Prog.lift, Prog.bind_op, Prog.bind_ret, Prog.pure_eq_ret]
  iapply (wp_assume 𝒱₀ (c : Thread nD τ) none Set.univ (h441 ▸ chk7 o))
  iapply (wp_ld5 c o 0 q (Wall Wp) ((congrArg k0_off50 h441).trans (off50_eq o))) $$ Hq0
  iintro Hq0
  iapply (wp_ld5 c o 1 q (Wall Wp) ((congrArg k0_off51 h441).trans (off51_eq o))) $$ Hq1
  iintro Hq1
  sl_step
  sl_step
  sl_step
  rw [wp_ret]
  imodintro
  have e0 := rw5_eq (Wall Wp) (h := k0_off50_inb _ (h441 ▸ chk7 o)) (h' := k0_off50_inb (wd o) (chk7 o)) (congrArg k0_off50 h441)
  have e1 := rw5_eq (Wall Wp) (h := k0_off51_inb _ (h441 ▸ chk7 o)) (h' := k0_off51_inb (wd o) (chk7 o)) (congrArg k0_off51 h441)
  have e2 := rk_eq k (off := k0_off52 _ 0#32 0#32) (off' := k0_off52 (wd o) 0#32 0#32) (h := k0_off52_inb _ (h441 ▸ chk7 o) 0 0) (h' := k0_off52_inb (wd o) (chk7 o) 0 0) (congrArg (fun w => k0_off52 w 0#32 0#32) h441)
  have e3 := rv_eq v (off := k0_off53 _ 0#32 0#32) (off' := k0_off53 (wd o) 0#32 0#32) (h := k0_off53_inb _ (h441 ▸ chk7 o) 0 0) (h' := k0_off53_inb (wd o) (chk7 o) 0 0) (congrArg (fun w => k0_off53 w 0#32 0#32) h441)
  iapply (Entails.of_eq (congrArg Q (ret29 h441 (chk7 o) (congrArg k0_pay80 e0) (congrArg k0_pay81 e1) (congrArg (k0_pay82 · (rx x ![0, 0, 0] inb_S2x256x512_S1x256x512_0_0_0)) e0) (congrArg k0_pay83 e2) (congrArg k0_pay84 e3) (congrArg (k0_pay85 · (rx x ![0, 0, 0] inb_S2x256x512_S1x256x512_0_0_0)) e0)).symm))
  iapply Hk
  isplitl [Hq0 Hq1]
  · isplitl [Hq0]
    · iexact Hq0
    iexact Hq1
  isplitl [H0]
  · iexact H0
  isplitl [H2]
  · iexact H2
  isplitl [H3]
  · iexact H3
  iexact H4

end Cert.KernelIdeal.Run
-- ==== Proof.Run.BodyE.lean ====
/- The parts of one trip of the loop that send, wait and load the gathered weights. -/
module

public import proofs.«01_k».proof.Proof.Run.BodyD

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

theorem Above.mono {m n : ℕ} {O : CellTallies nD τ sig Unit} (h : Above n O) (hm : m ≤ n) : Above m O := fun g u hg => ⟨(h g u hg).1, lt_of_le_of_lt hm (h g u hg).2⟩
theorem ret2 {t : Fin k0_t1_loop.trips} {a w w' u u' : BitVec 32} (e : w = w') (e' : u = u') {h : k0_chk3 t w} {g : k0_chk4 u} (h' : k0_chk3 t w') (g' : k0_chk4 u') :
    (⟨a, w, h, u, g⟩ : Σ' (arg10 : BitVec 32) (v692 : BitVec 32) (k0_hw3 : k0_chk3 t v692) (v703 : BitVec 32), k0_chk4 v703) = ⟨a, w', h', u', g'⟩ := by
  subst e e'; rfl

theorem run_p2_lt (K : GSem nD τ sig → ℕ) (c : Dev nD) (Ow : CellTallies nD τ sig Unit) (v3 v43 : IVec S1x16 32) (v51 c1 c1' : BitVec 32) (k0_t1 : Fin k0_t1_loop.trips) (h : ℕ) (hh : h < 8)
    (h692 : extractAt ![0, 0, 0] (k0_pay3 v3 v43 v51 c1 c1' k0_t1) inpos_S1x1x1_p0_0_0 = wd (ro c h))
    (h703 : extractAt ![0, 0, 0] (k0_pay4 v3 v43 v51 c1 c1' k0_t1) inpos_S1x1x1_p0_0_0 = wd (lo c h)) (h7 : h < 7) (hc : k0_cond1 k0_t1 = 1#1)
    (h2 : k0_chk2 (wd (rt c))) (h1 : k0_chk1 (wd (lf c))) (Q : (Σ' (arg10 : BitVec 32) (v692 : BitVec 32) (k0_hw3 : k0_chk3 k0_t1 v692) (v703 : BitVec 32), k0_chk4 v703) → sProp 𝕄) :
    iprop(ctx Wp K ∗ ow c (Ow + uL c h 0 + uR c h 1 + uR c h 0) ∗ (SR c h 0 ∗ SR c h 1) ∗ SL c h 0
        ∗ (hPts c (ro c h) 0 fullShare.left (Wall Wp) ∗ hPts c (ro c h) 1 fullShare.left (Wall Wp)) ∗ hPts c (lo c h) 0 (shL c (lo c h)) (Wall Wp)
        ∗ (((FR c h 0 ∗ FR c h 1) ∗ FL c h 0 ∗ ow c Ow) -∗ Q ⟨Scf.iv c1 c1' k0_t1, wd (ro c h), chk3 k0_t1 _, wd (lo c h), chk4 _⟩))
      ⊢ wp frame (wpE (defs₀ (F := F)) 𝒱₀ (c : Thread nD τ) none) Set.univ (k0_part2 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v3 v43 v51 (wd (rt c)) h2 (wd (lf c)) h1 c1 c1' k0_t1) Q := by
  iintro ⟨#Hctx, HO, ⟨HS0, HS1⟩, HS2, ⟨Hb0, Hb1⟩, Hb2, Hk⟩
  rw [k0_part2_eq_skeleton]
  unfold k0_part2_skel
  simp only [dif_pos hc]
  simp only [Prog.lift, Prog.bind_op, Prog.bind_ret, Prog.pure_eq_ret]
  iapply (wp_assume 𝒱₀ (c : Thread nD τ) none Set.univ (h692 ▸ chk3 k0_t1 (ro c h)))
  iapply (wp_assume 𝒱₀ (c : Thread nD τ) none Set.univ (h703 ▸ chk4 (lo c h)))
  iapply (wp_sendR Wp K c (h) h7 0 (dev7_is rfl _) (sem0_of _ ((congrArg k0_off18 h692).trans (off18_eq _))) (sem1_of _ ((congrArg k0_off18 h692).trans (off18_eq _))) ((congrArg k0_off19 h692).trans (off19_eq _)) (Ow + uL c h 0 + uR c h 1)) $$ [HS0 Hb0 HO]
  · isplitr; · iexact Hctx
    isplitl [HS0]; · iexact HS0
    isplitl [Hb0]; · iexact Hb0
    iexact HO
  iintro ⟨HF0, HO⟩
  iapply (wp_sendR Wp K c (h) h7 1 (dev8_is rfl _) (sem0_of _ ((congrArg k0_off20 h692).trans (off20_eq _))) (sem1_of _ ((congrArg k0_off20 h692).trans (off20_eq _))) ((congrArg k0_off21 h692).trans (off21_eq _)) (Ow + uL c h 0)) $$ [HS1 Hb1 HO]
  · isplitr; · iexact Hctx
    isplitl [HS1]; · iexact HS1
    isplitl [Hb1]; · iexact Hb1
    iexact HO
  iintro ⟨HF1, HO⟩
  iapply (wp_sendL Wp K c (h) hh 0 (dev9_is rfl _) (sem2_of _ ((congrArg k0_off22 h703).trans (off22_eq _))) (sem3_of _ ((congrArg k0_off22 h703).trans (off22_eq _))) ((congrArg k0_off23 h703).trans (off23_eq _)) (Ow)) $$ [HS2 Hb2 HO]
  · isplitr; · iexact Hctx
    isplitl [HS2]; · iexact HS2
    isplitl [Hb2]; · iexact Hb2
    iexact HO
  iintro ⟨HF2, HO⟩
  rw [wp_ret]
  imodintro
  iapply (Entails.of_eq (congrArg Q (ret2 h692 h703 (chk3 k0_t1 _) (chk4 _)).symm))
  iapply Hk
  isplitl [HF0 HF1]
  · isplitl [HF0]
    · iexact HF0
    iexact HF1
  isplitl [HF2]
  · iexact HF2
  iexact HO

theorem run_p2_ge (K : GSem nD τ sig → ℕ) (c : Dev nD) (Ow : CellTallies nD τ sig Unit) (v3 v43 : IVec S1x16 32) (v51 c1 c1' : BitVec 32) (k0_t1 : Fin k0_t1_loop.trips) (h : ℕ) (hh : h < 8)
    (h692 : extractAt ![0, 0, 0] (k0_pay3 v3 v43 v51 c1 c1' k0_t1) inpos_S1x1x1_p0_0_0 = wd (ro c h))
    (h703 : extractAt ![0, 0, 0] (k0_pay4 v3 v43 v51 c1 c1' k0_t1) inpos_S1x1x1_p0_0_0 = wd (lo c h))  (hc : ¬ k0_cond1 k0_t1 = 1#1)
    (h2 : k0_chk2 (wd (rt c))) (h1 : k0_chk1 (wd (lf c))) (Q : (Σ' (arg10 : BitVec 32) (v692 : BitVec 32) (k0_hw3 : k0_chk3 k0_t1 v692) (v703 : BitVec 32), k0_chk4 v703) → sProp 𝕄) :
    iprop(ctx Wp K ∗ ow c (Ow + uL c h 0) ∗ SL c h 0
         ∗ hPts c (lo c h) 0 (shL c (lo c h)) (Wall Wp)
        ∗ ((FL c h 0 ∗ ow c Ow) -∗ Q ⟨Scf.iv c1 c1' k0_t1, wd (ro c h), chk3 k0_t1 _, wd (lo c h), chk4 _⟩))
      ⊢ wp frame (wpE (defs₀ (F := F)) 𝒱₀ (c : Thread nD τ) none) Set.univ (k0_part2 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v3 v43 v51 (wd (rt c)) h2 (wd (lf c)) h1 c1 c1' k0_t1) Q := by
  iintro ⟨#Hctx, HO, HS2, Hb2, Hk⟩
  rw [k0_part2_eq_skeleton]
  unfold k0_part2_skel
  simp only [dif_neg hc]
  simp only [Prog.lift, Prog.bind_op, Prog.bind_ret, Prog.pure_eq_ret]
  iapply (wp_assume 𝒱₀ (c : Thread nD τ) none Set.univ (h692 ▸ chk3 k0_t1 (ro c h)))
  iapply (wp_assume 𝒱₀ (c : Thread nD τ) none Set.univ (h703 ▸ chk4 (lo c h)))
  iapply (wp_sendL Wp K c (h) hh 0 (dev9_is rfl _) (sem2_of _ ((congrArg k0_off22 h703).trans (off22_eq _))) (sem3_of _ ((congrArg k0_off22 h703).trans (off22_eq _))) ((congrArg k0_off23 h703).trans (off23_eq _)) (Ow)) $$ [HS2 Hb2 HO]
  · isplitr; · iexact Hctx
    isplitl [HS2]; · iexact HS2
    isplitl [Hb2]; · iexact Hb2
    iexact HO
  iintro ⟨HF2, HO⟩
  rw [wp_ret]
  imodintro
  iapply (Entails.of_eq (congrArg Q (ret2 h692 h703 (chk3 k0_t1 _) (chk4 _)).symm))
  iapply Hk
  isplitl [HF2]
  · iexact HF2
  iexact HO

theorem run_p3 (K : GSem nD τ sig → ℕ) (c : Dev nD) (Ow : CellTallies nD τ sig Unit) (h : ℕ) (hh : h < 8) (q : PosShare TreeShare) (x : Vec F S2x256x512 .bf16) (k : Vec F S128x64x256 .bf16) (v : Vec F S128x256x64 .bf16) (O : Vec F S2x256x512 .f32) (k0_t1 : Fin k0_t1_loop.trips)
    (h1 : k0_chk1 (wd (lf c))) (h3 : k0_chk3 k0_t1 (wd (ro c h))) (h4 : k0_chk4 (wd (lo c h)))
    (Q : (Σ' (v730 : FVec F S512x256 .bf16) (v734 : FVec F S512x256 .bf16) (v740 : FVec F S256x256 .bf16) (v747 : FVec F S64x256 .bf16) (v751 : FVec F S256x64 .bf16) (v752 : FVec F S256x64 .bf16), FVec F S256x256 .f32) → sProp 𝕄) :
    iprop(ctx Wp K ∗ ow c (Ow + uL c h 1) ∗ SL c h 1 ∗ hPts c (lo c h) 1 (shL c (lo c h)) (Wall Wp) ∗ (hPts c (ro c h) 0 q (Wall Wp) ∗ hPts c (ro c h) 1 q (Wall Wp)) ∗ loc c x k v O
        ∗ ((FL c h 1 ∗ ow c Ow ∗ (hPts c (ro c h) 0 q (Wall Wp) ∗ hPts c (ro c h) 1 q (Wall Wp)) ∗ loc c x k v O)
          -∗ Q ⟨k0_pay5 (rw5 (Wall Wp) (k0_off26 (wd (ro c h))) (k0_off26_inb k0_t1 _ h3)), k0_pay6 (rw5 (Wall Wp) (k0_off27 (wd (ro c h))) (k0_off27_inb k0_t1 _ h3)), k0_pay7 (rw5 (Wall Wp) (k0_off26 (wd (ro c h))) (k0_off26_inb k0_t1 _ h3)) (rx x ![0, 0, 0] inb_S2x256x512_S1x256x512_0_0_0), k0_pay8 (rk k (k0_off28 (wd (ro c h)) 0#32 0#32) (k0_off28_inb k0_t1 _ h3 0 0)), k0_pay9 (rv v (k0_off29 (wd (ro c h)) 0#32 0#32) (k0_off29_inb k0_t1 _ h3 0 0)), k0_pay10 (rw5 (Wall Wp) (k0_off26 (wd (ro c h))) (k0_off26_inb k0_t1 _ h3)) (rx x ![0, 0, 0] inb_S2x256x512_S1x256x512_0_0_0), constant S256x256 .f32 0x00000000#32⟩))
      ⊢ wp frame (wpE (defs₀ (F := F)) 𝒱₀ (c : Thread nD τ) none) Set.univ (k0_part3 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 (wd (lf c)) h1 k0_t1 (wd (ro c h)) h3 (wd (lo c h)) h4) Q := by
  unfold loc
  iintro ⟨#Hctx, HO, HS1, Hb1, ⟨Hq0, Hq1⟩, ⟨H0, H2, H3, H4⟩, Hk⟩
  rw [k0_part3_eq_skeleton]
  unfold k0_part3_skel
  simp only [Prog.lift, Prog.bind_op, Prog.bind_ret, Prog.pure_eq_ret]
  iapply (wp_sendL Wp K c (h) hh 1 (dev10_is rfl _) (sem2_of _ (off24_eq _)) (sem3_of _ (off24_eq _)) (off25_eq _) (Ow)) $$ [HS1 Hb1 HO]
  · isplitr; · iexact Hctx
    isplitl [HS1]; · iexact HS1
    isplitl [Hb1]; · iexact Hb1
    iexact HO
  iintro ⟨HF1, HO⟩
  iapply (wp_ld5 c _ 0 q (Wall Wp) (off26_eq _)) $$ Hq0
  iintro Hq0
  iapply (wp_ld5 c _ 1 q (Wall Wp) (off27_eq _)) $$ Hq1
  iintro Hq1
  sl_step
  sl_step
  sl_step
  rw [wp_ret]
  imodintro
  iapply Hk
  isplitl [HF1]
  · iexact HF1
  isplitl [HO]
  · iexact HO
  isplitl [Hq0 Hq1]
  · isplitl [Hq0]
    · iexact Hq0
    iexact Hq1
  isplitl [H0]
  · iexact H0
  isplitl [H2]
  · iexact H2
  isplitl [H3]
  · iexact H3
  iexact H4

theorem run_p9 (c o : Dev nD) (q : PosShare TreeShare) (x : Vec F S2x256x512 .bf16) (k : Vec F S128x64x256 .bf16) (v : Vec F S128x256x64 .bf16) (O : Vec F S2x256x512 .f32) (h4 : k0_chk4 (wd o)) (v734 : FVec F S512x256 .bf16) (v881 v906 v931 v942 : FVec F S256x64 .bf16) (v947 : FVec F S256x256 .f32) (v951 : FVec F S256x1 .f32)
    (Q : (Σ' (v970 : FVec F S512x256 .bf16) (v974 : FVec F S512x256 .bf16) (v980 : FVec F S256x256 .bf16) (v983 : BitVec 32), FVec F S64x256 .bf16) → sProp 𝕄) :
    iprop((hPts c o 0 q (Wall Wp) ∗ hPts c o 1 q (Wall Wp)) ∗ loc c x k v O
        ∗ (((hPts c o 0 q (Wall Wp) ∗ hPts c o 1 q (Wall Wp))
            ∗ loc c x k v (wr O ![1, 0, 0] inb_S2x256x512_S1x256x512_1_0_0 (k0_pay27 v734 v881 v906 v931 v942 v947 v951 (rd O ![1, 0, 0] inb_S2x256x512_S1x256x512_1_0_0))))
          -∗ Q ⟨k0_pay28 (rw5 (Wall Wp) (k0_off30 (wd o)) (k0_off30_inb _ h4)), k0_pay29 (rw5 (Wall Wp) (k0_off31 (wd o)) (k0_off31_inb _ h4)), k0_pay30 (rw5 (Wall Wp) (k0_off30 (wd o)) (k0_off30_inb _ h4)) (rx x ![0, 0, 0] inb_S2x256x512_S1x256x512_0_0_0), Scalar.addi (Scalar.addi 0#32 (Scalar.muli (wd o) 4#32)) 0#32, k0_pay31 (rk k (k0_off32 (wd o) 0#32 0#32) (k0_off32_inb _ h4 0 0))⟩))
      ⊢ wp frame (wpE (defs₀ (F := F)) 𝒱₀ (c : Thread nD τ) none) Set.univ (k0_part9 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 (wd o) h4 v734 v881 v906 v931 v942 v947 v951) Q := by
  unfold loc
  iintro ⟨⟨Hq0, Hq1⟩, ⟨H0, H2, H3, H4⟩, Hk⟩
  rw [k0_part9_eq_skeleton]
  unfold k0_part9_skel
  simp only [Prog.lift, Prog.bind_op, Prog.bind_ret, Prog.pure_eq_ret]
  sl_step
  sl_step
  sl_step
  iapply (wp_ld5 c _ 0 q (Wall Wp) (off30_eq _)) $$ Hq0
  iintro Hq0
  iapply (wp_ld5 c _ 1 q (Wall Wp) (off31_eq _)) $$ Hq1
  iintro Hq1
  sl_step
  sl_step
  rw [wp_ret]
  imodintro
  iapply Hk
  isplitl [Hq0 Hq1]
  · isplitl [Hq0]
    · iexact Hq0
    iexact Hq1
  isplitl [H0]
  · iexact H0
  isplitl [H2]
  · iexact H2
  isplitl [H3]
  · iexact H3
  iexact H4

theorem run_p1 (K : GSem nD τ sig → ℕ) (c : Dev nD) (Ow : CellTallies nD τ sig Unit) (h : ℕ) (hh : h < 7) (hO : Above (1 + (h + 1)) Ow) (v3 v43 : IVec S1x16 32) (v51 v62 arg10 : BitVec 32) (k0_t1 : Fin k0_t1_loop.trips)
    (w : BitVec 32) (h3 : k0_chk3 k0_t1 w) (hc : k0_cond2 k0_t1 = 1#1)
    (h1261 : extractAt ![0, 0, 0] (k0_pay2 v3 v43 v51 arg10) inpos_S1x1x1_p0_0_0 = wd (ro c (h + 1))) (Q : PUnit → sProp 𝕄) :
    iprop(ctx Wp K ∗ ow c Ow ∗ (AR c (h + 1) 0 ∗ AR c (h + 1) 1) ∗ ((ow c Ow ∗ BR Wp c (h + 1)) -∗ Q ⟨⟩))
      ⊢ wp frame (wpE (defs₀ (F := F)) 𝒱₀ (c : Thread nD τ) none) Set.univ (k0_part1 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v3 v43 v51 v62 k0_t1 arg10 w h3 hc) Q := by
  unfold BR
  iintro ⟨#Hctx, HO, ⟨HA0, HA1⟩, Hk⟩
  rw [k0_part1_eq_skeleton]
  unfold k0_part1_skel
  simp only [Prog.lift, Prog.bind_op, Prog.bind_ret, Prog.pure_eq_ret]
  iapply (wp_assume 𝒱₀ (c : Thread nD τ) none Set.univ (h1261 ▸ chk5 k0_t1 (ro c (h + 1))))
  iapply (wp_comeR Wp K c (h + 1) (by omega) (by omega) 0 (sem1_of _ ((congrArg k0_off34 h1261).trans (off34_eq _))) ((congrArg k0_off35 h1261).trans (off35_eq _)) (Ow) hO) $$ [HA0 HO]
  · isplitr; · iexact Hctx
    isplitl [HA0]; · iexact HA0
    iexact HO
  iintro ⟨HD0, HB0, HO⟩
  iapply (wp_comeR Wp K c (h + 1) (by omega) (by omega) 1 (sem1_of _ ((congrArg k0_off36 h1261).trans (off36_eq _))) ((congrArg k0_off37 h1261).trans (off37_eq _)) (Ow) hO) $$ [HA1 HO]
  · isplitr; · iexact Hctx
    isplitl [HA1]; · iexact HA1
    iexact HO
  iintro ⟨HD1, HB1, HO⟩
  rw [wp_ret]
  imodintro
  iapply Hk
  isplitl [HO]
  · iexact HO
  isplitl [HB0 HB1]
  · isplitl [HB0]
    · iexact HB0
    iexact HB1
  isplitl [HD0]
  · iexact HD0
  iexact HD1

theorem ret15 {w w' a : BitVec 32} (e : w = w') {h : k0_chk6 w} (h' : k0_chk6 w') :
    (⟨w, h, a⟩ : Σ' (v1221 : BitVec 32) (k0_hw6 : k0_chk6 v1221), BitVec 32) = ⟨w', h', a⟩ := by
  subst e; rfl

theorem run_p15_lt (K : GSem nD τ sig → ℕ) (c : Dev nD) (Ow : CellTallies nD τ sig Unit) (h : ℕ) (hh : h < 7) (hO : Above (1 + (h + 1)) Ow) (x : Vec F S2x256x512 .bf16) (k : Vec F S128x64x256 .bf16) (v : Vec F S128x256x64 .bf16) (O : Vec F S2x256x512 .f32) (v3 v43 : IVec S1x16 32) (v51 v62 arg10 : BitVec 32) (v93 : IVec S256x256 1) (k0_t1 : Fin k0_t1_loop.trips)
    (h3 : k0_chk3 k0_t1 (wd (ro c h))) (hc : k0_cond2 k0_t1 = 1#1)
    (h1261 : extractAt ![0, 0, 0] (k0_pay2 v3 v43 v51 arg10) inpos_S1x1x1_p0_0_0 = wd (ro c (h + 1)))
    (h1221 : extractAt ![0, 0, 0] (k0_pay49 v3 v43 v51 arg10) inpos_S1x1x1_p0_0_0 = wd (lo c (h + 1)))
    (v974 : FVec F S512x256 .bf16) (v1121 v1146 v1171 v1182 : FVec F S256x64 .bf16) (v1185 : FVec F S256x256 .f32) (cst_647 : F .f32) (Q : (Σ' (v1221 : BitVec 32) (k0_hw6 : k0_chk6 v1221), BitVec 32) → sProp 𝕄) :
    iprop(ctx Wp K ∗ ow c Ow ∗ (AR c (h + 1) 0 ∗ AR c (h + 1) 1) ∗ (FR c h 0 ∗ FR c h 1) ∗ loc c x k v O
        ∗ ((ow c Ow ∗ BR Wp c (h + 1) ∗ ((DSR c h 0 ∗ DSR c h 1) ∗ hPts c (ro c h) 0 fullShare.left (Wall Wp) ∗ hPts c (ro c h) 1 fullShare.left (Wall Wp)) ∗
            loc c x k v (wr O ![1, 0, 0] inb_S2x256x512_S1x256x512_1_0_0 (k0_pay48 v93 v974 v1121 v1146 v1171 v1182 v1185 cst_647 (rd O ![1, 0, 0] inb_S2x256x512_S1x256x512_1_0_0))))
          -∗ Q ⟨wd (lo c (h + 1)), chk6 _, 1#32⟩))
      ⊢ wp frame (wpE (defs₀ (F := F)) 𝒱₀ (c : Thread nD τ) none) Set.univ (k0_part15 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v3 v43 v51 v62 v93 k0_t1 arg10 (wd (ro c h)) h3 v974 v1121 v1146 v1171 v1182 v1185 cst_647) Q := by
  unfold loc
  iintro ⟨#Hctx, HO, HA, ⟨HF0, HF1⟩, ⟨H0, H2, H3, H4⟩, Hk⟩
  rw [k0_part15_eq_skeleton]
  unfold k0_part15_skel
  simp only [dif_pos hc]
  simp only [Prog.lift, Prog.bind_op, Prog.bind_ret, Prog.pure_eq_ret]
  sl_step
  sl_step
  sl_step

  rw [wp_bind]
  iapply (run_p1 Wp K c Ow h hh hO v3 v43 v51 v62 arg10 k0_t1 (wd (ro c h)) h3 hc h1261)
  isplitr; · iexact Hctx
  isplitl [HO]; · iexact HO
  isplitl [HA]; · iexact HA
  iintro ⟨HO, HB⟩
  simp only [Prog.bind_op, Prog.bind_ret]
  iapply (wp_leftR Wp K c (h) hh 0 (sem0_of _ (off38_eq _)) (off39_eq _) (Ow) (Above.mono hO (by omega))) $$ [HF0 HO]
  · isplitr; · iexact Hctx
    isplitl [HF0]; · iexact HF0
    iexact HO
  iintro ⟨HD0, Hs0, HO⟩
  iapply (wp_leftR Wp K c (h) hh 1 (sem0_of _ (off40_eq _)) (off41_eq _) (Ow) (Above.mono hO (by omega))) $$ [HF1 HO]
  · isplitr; · iexact Hctx
    isplitl [HF1]; · iexact HF1
    iexact HO
  iintro ⟨HD1, Hs1, HO⟩
  iapply (wp_assume 𝒱₀ (c : Thread nD τ) none Set.univ (h1221 ▸ chk6 (lo c (h + 1))))
  rw [wp_ret]
  imodintro
  iapply (Entails.of_eq (congrArg Q (ret15 h1221 (chk6 _)).symm))
  iapply Hk
  isplitl [HO]
  · iexact HO
  isplitl [HB]
  · iexact HB
  isplitl [HD0 HD1 Hs0 Hs1]
  · isplitl [HD0 HD1]
    · isplitl [HD0]
      · iexact HD0
      iexact HD1
    isplitl [Hs0]
    · iexact Hs0
    iexact Hs1
  isplitl [H0]
  · iexact H0
  isplitl [H2]
  · iexact H2
  isplitl [H3]
  · iexact H3
  iexact H4

theorem run_p15_ge (K : GSem nD τ sig → ℕ) (c : Dev nD) (Ow : CellTallies nD τ sig Unit) (h : ℕ)  (x : Vec F S2x256x512 .bf16) (k : Vec F S128x64x256 .bf16) (v : Vec F S128x256x64 .bf16) (O : Vec F S2x256x512 .f32) (v3 v43 : IVec S1x16 32) (v51 v62 arg10 : BitVec 32) (v93 : IVec S256x256 1) (k0_t1 : Fin k0_t1_loop.trips)
    (h3 : k0_chk3 k0_t1 (wd (ro c h))) (hc : ¬ k0_cond2 k0_t1 = 1#1)

    (h1221 : extractAt ![0, 0, 0] (k0_pay49 v3 v43 v51 arg10) inpos_S1x1x1_p0_0_0 = wd (lo c (h + 1)))
    (v974 : FVec F S512x256 .bf16) (v1121 v1146 v1171 v1182 : FVec F S256x64 .bf16) (v1185 : FVec F S256x256 .f32) (cst_647 : F .f32) (Q : (Σ' (v1221 : BitVec 32) (k0_hw6 : k0_chk6 v1221), BitVec 32) → sProp 𝕄) :
    iprop(ctx Wp K ∗  loc c x k v O
        ∗ ((
            loc c x k v (wr O ![1, 0, 0] inb_S2x256x512_S1x256x512_1_0_0 (k0_pay48 v93 v974 v1121 v1146 v1171 v1182 v1185 cst_647 (rd O ![1, 0, 0] inb_S2x256x512_S1x256x512_1_0_0))))
          -∗ Q ⟨wd (lo c (h + 1)), chk6 _, 1#32⟩))
      ⊢ wp frame (wpE (defs₀ (F := F)) 𝒱₀ (c : Thread nD τ) none) Set.univ (k0_part15 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v3 v43 v51 v62 v93 k0_t1 arg10 (wd (ro c h)) h3 v974 v1121 v1146 v1171 v1182 v1185 cst_647) Q := by
  unfold loc
  iintro ⟨#Hctx, ⟨H0, H2, H3, H4⟩, Hk⟩
  rw [k0_part15_eq_skeleton]
  unfold k0_part15_skel
  simp only [dif_neg hc]
  simp only [Prog.lift, Prog.bind_op, Prog.bind_ret, Prog.pure_eq_ret]
  sl_step
  sl_step
  sl_step
  iapply (wp_assume 𝒱₀ (c : Thread nD τ) none Set.univ (h1221 ▸ chk6 (lo c (h + 1))))
  rw [wp_ret]
  imodintro
  iapply (Entails.of_eq (congrArg Q (ret15 h1221 (chk6 _)).symm))
  iapply Hk
  isplitl [H0]
  · iexact H0
  isplitl [H2]
  · iexact H2
  isplitl [H3]
  · iexact H3
  iexact H4

end Cert.KernelIdeal.Run
-- ==== Proof.Run.BodyE2.lean ====
/- One trip of the loop: a forwarded block in each direction is passed on and used. -/
module

public import proofs.«01_k».proof.Proof.Run.BodyE

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

theorem run_p16_lt (K : GSem nD τ sig → ℕ) (c : Dev nD) (Ow : CellTallies nD τ sig Unit) (v3 v43 : IVec S1x16 32) (v51 c1 c1' : BitVec 32) (k0_t1 : Fin k0_t1_loop.trips) (h : ℕ) (hh : h < 7)
    (hO : Above (1 + (h + 1)) Ow) (x : Vec F S2x256x512 .bf16) (k : Vec F S128x64x256 .bf16) (v : Vec F S128x256x64 .bf16) (O : Vec F S2x256x512 .f32)
    (h692 : extractAt ![0, 0, 0] (k0_pay3 v3 v43 v51 c1 c1' k0_t1) inpos_S1x1x1_p0_0_0 = wd (ro c h))
    (h703 : extractAt ![0, 0, 0] (k0_pay4 v3 v43 v51 c1 c1' k0_t1) inpos_S1x1x1_p0_0_0 = wd (lo c h))
    (h1261 : extractAt ![0, 0, 0] (k0_pay2 v3 v43 v51 (Scf.iv c1 c1' k0_t1)) inpos_S1x1x1_p0_0_0 = wd (ro c (h + 1)))
    (h1221 : extractAt ![0, 0, 0] (k0_pay49 v3 v43 v51 (Scf.iv c1 c1' k0_t1)) inpos_S1x1x1_p0_0_0 = wd (lo c (h + 1)))
    (hc1 : k0_cond1 k0_t1 = 1#1) (hc2 : k0_cond2 k0_t1 = 1#1) (h2 : k0_chk2 (wd (rt c))) (h1 : k0_chk1 (wd (lf c)))
    (Q : (Σ' (v703 : BitVec 32), k0_chk4 v703) → sProp 𝕄) :
    iprop(ctx Wp K ∗ ow c (Ow + uL c h 1 + uL c h 0 + uR c h 1 + uR c h 0) ∗ (SR c h 0 ∗ SR c h 1) ∗ SL c h 0 ∗ SL c h 1
        ∗ (AR c (h + 1) 0 ∗ AR c (h + 1) 1) ∗ AL c (h + 1) 0 ∗ AL c (h + 1) 1
        ∗ (hPts c (ro c h) 0 fullShare.left (Wall Wp) ∗ hPts c (ro c h) 1 fullShare.left (Wall Wp))
        ∗ hPts c (lo c h) 0 (shL c (lo c h)) (Wall Wp) ∗ hPts c (lo c h) 1 (shL c (lo c h)) (Wall Wp)
        ∗ (hPts c (ro c h) 0 fullShare.right (Wall Wp) ∗ hPts c (ro c h) 1 fullShare.right (Wall Wp)) ∗ (hPts c (lo c h) 0 fullShare.right (Wall Wp) ∗ hPts c (lo c h) 1 fullShare.right (Wall Wp))
        ∗ loc c x k v O
        ∗ ((ow c Ow ∗ BR Wp c (h + 1) ∗ ((DSR c h 0 ∗ DSR c h 1) ∗ hPts c (ro c h) 0 fullShare.left (Wall Wp) ∗ hPts c (ro c h) 1 fullShare.left (Wall Wp))
              ∗ BL Wp c (h + 1) ∗ DSL c h 0 ∗ hPts c (lo c h) 0 (shL c (lo c h)) (Wall Wp) ∗ FL c h 1
              ∗ (hPts c (ro c h) 0 fullShare.right (Wall Wp) ∗ hPts c (ro c h) 1 fullShare.right (Wall Wp)) ∗ (hPts c (lo c h) 0 fullShare.right (Wall Wp) ∗ hPts c (lo c h) 1 fullShare.right (Wall Wp))
              ∗ loc c x k v (acc1 (Wall Wp) x k v (lo c h) (acc0 (Wall Wp) x k v (lo c h) (acc1 (Wall Wp) x k v (ro c h) (acc0 (Wall Wp) x k v (ro c h) O)))))
            -∗ Q ⟨wd (lo c h), chk4 _⟩))
      ⊢ wp frame (wpE (defs₀ (F := F)) 𝒱₀ (c : Thread nD τ) none) Set.univ (k0_part16 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v3 v43 v51 (wd (rt c)) h2 (wd (lf c)) h1 k0_pay59 c1 c1' k0_t1) Q := by
  iintro ⟨#Hctx, HO, HSR, HS0, HS1, HAR, HA0, HA1, HRl, Hl0, Hl1, HRq, HLr, Hloc, Hk⟩
  rw [k0_part16_eq_skeleton]
  unfold k0_part16_skel
  rw [wp_bind]
  iapply (run_p2_lt Wp K c (Ow + uL c h 1) v3 v43 v51 c1 c1' k0_t1 h (by omega) h692 h703 hh hc1 h2 h1 _)
  isplitr; · iexact Hctx
  isplitl [HO]; · iexact HO
  isplitl [HSR]; · iexact HSR
  isplitl [HS0]; · iexact HS0
  isplitl [HRl]; · iexact HRl
  isplitl [Hl0]; · iexact Hl0
  iintro ⟨HFR, HF0, HO⟩
  dsimp only
  rw [wp_bind]
  iapply (run_p3 Wp K c Ow h (by omega) fullShare.right x k v O k0_t1 h1 _ _ _)
  isplitr; · iexact Hctx
  isplitl [HO]; · iexact HO
  isplitl [HS1]; · iexact HS1
  isplitl [Hl1]; · iexact Hl1
  isplitl [HRq]; · iexact HRq
  isplitl [Hloc]; · iexact Hloc
  iintro ⟨HF1, HO, HRq, Hloc⟩
  dsimp only
  rw [wp_bind]
  iapply (run_p4 c x k v _ _ _ _ _ _ _ _ _ _ _)
  isplitl [Hloc]; · iexact Hloc
  iintro Hloc
  dsimp only
  rw [wp_bind]
  iapply (run_p5 c x k v _ _ _ _ _ _ _ _)
  isplitl [Hloc]; · iexact Hloc
  iintro Hloc
  dsimp only
  rw [wp_bind]
  iapply (run_p6 c x k v _ _ _ _ _ _ _ _ _ _ _ _ _ _)
  isplitl [Hloc]; · iexact Hloc
  iintro Hloc
  dsimp only
  ihave Hloc := (Entails.of_eq (congrArg (loc c x k v) (acc_r0 (Wall Wp) x k v _ k0_t1 (chk3 k0_t1 _) _))) $$ Hloc
  rw [wp_bind]
  iapply (run_p7 c x k v _ _ _ _ _ _ _ _ _)
  isplitl [Hloc]; · iexact Hloc
  iintro Hloc
  dsimp only
  rw [wp_bind]
  iapply (run_p8 c x k v _ _ _ _ _ _ _ _)
  isplitl [Hloc]; · iexact Hloc
  iintro Hloc
  dsimp only
  rw [wp_bind]
  iapply (run_p9 Wp c (lo c h) fullShare.right x k v _ _ _ _ _ _ _ _ _ _)
  isplitl [HLr]; · iexact HLr
  isplitl [Hloc]; · iexact Hloc
  iintro ⟨HLr, Hloc⟩
  dsimp only
  ihave Hloc := (Entails.of_eq (congrArg (loc c x k v) (acc_r1 (Wall Wp) x k v _ k0_t1 (chk3 k0_t1 _) _))) $$ Hloc
  rw [wp_bind]
  iapply (run_p10 c x k v _ _ _ _ _ _ _ _)
  isplitl [Hloc]; · iexact Hloc
  iintro Hloc
  dsimp only
  rw [wp_bind]
  iapply (run_p11 c x k v _ _ _ _ _ _ _ _)
  isplitl [Hloc]; · iexact Hloc
  iintro Hloc
  dsimp only
  rw [wp_bind]
  iapply (run_p12 c x k v _ _ _ _ _ _ _ _ _ _ _ _)
  isplitl [Hloc]; · iexact Hloc
  iintro Hloc
  dsimp only
  ihave Hloc := (Entails.of_eq (congrArg (loc c x k v) (acc_l0 (Wall Wp) x k v _ (chk4 _) _))) $$ Hloc
  rw [wp_bind]
  iapply (run_p13 c x k v _ _ _ _ _ _ _)
  isplitl [Hloc]; · iexact Hloc
  iintro Hloc
  dsimp only
  rw [wp_bind]
  iapply (run_p14 c x k v _ _ _ _ _ _)
  isplitl [Hloc]; · iexact Hloc
  iintro Hloc
  dsimp only
  rw [wp_bind]
  iapply (run_p15_lt Wp K c Ow h hh hO x k v _ v3 v43 v51 _ _ _ k0_t1 _ hc2 h1261 h1221 _ _ _ _ _ _ _ _)
  isplitr; · iexact Hctx
  isplitl [HO]; · iexact HO
  isplitl [HAR]; · iexact HAR
  isplitl [HFR]; · iexact HFR
  isplitl [Hloc]; · iexact Hloc
  iintro ⟨HO, HBR, HDR, Hloc⟩
  dsimp only
  ihave Hloc := (Entails.of_eq (congrArg (loc c x k v) (acc_l1 (Wall Wp) x k v _ (chk4 _) _))) $$ Hloc
  simp only [Prog.lift, Prog.bind_op, Prog.bind_ret, Prog.pure_eq_ret]
  iapply (wp_comeL Wp K c (h + 1) (by omega) (by omega) 0 (sem3_of _ (off42_eq _)) (off43_eq _) (Ow) hO) $$ [HA0 HO]
  · isplitr; · iexact Hctx
    isplitl [HA0]; · iexact HA0
    iexact HO
  iintro ⟨HD0, HB0, HO⟩
  iapply (wp_comeL Wp K c (h + 1) (by omega) (by omega) 1 (sem3_of _ (off44_eq _)) (off45_eq _) (Ow) hO) $$ [HA1 HO]
  · isplitr; · iexact Hctx
    isplitl [HA1]; · iexact HA1
    iexact HO
  iintro ⟨HD1, HB1, HO⟩
  iapply (wp_leftL Wp K c (h) (by omega) 0 (sem2_of _ (off46_eq _)) (off47_eq _) (Ow) (Above.mono hO (by omega))) $$ [HF0 HO]
  · isplitr; · iexact Hctx
    isplitl [HF0]; · iexact HF0
    iexact HO
  iintro ⟨HD2, Hs2, HO⟩
  rw [wp_ret]
  imodintro
  iapply Hk
  unfold BL
  isplitl [HO]
  · iexact HO
  isplitl [HBR]
  · iexact HBR
  isplitl [HDR]
  · iexact HDR
  isplitl [HB0 HB1 HD0 HD1]
  · isplitl [HB0 HB1]
    · isplitl [HB0]
      · iexact HB0
      iexact HB1
    isplitl [HD0]
    · iexact HD0
    iexact HD1
  isplitl [HD2]
  · iexact HD2
  isplitl [Hs2]
  · iexact Hs2
  isplitl [HF1]
  · iexact HF1
  isplitl [HRq]
  · iexact HRq
  isplitl [HLr]
  · iexact HLr
  iexact Hloc

theorem run_p16_ge (K : GSem nD τ sig → ℕ) (c : Dev nD) (Ow : CellTallies nD τ sig Unit) (v3 v43 : IVec S1x16 32) (v51 c1 c1' : BitVec 32) (k0_t1 : Fin k0_t1_loop.trips) (h : ℕ) (hh : h < 8)
    (hO : Above (1 + (h + 1)) Ow) (x : Vec F S2x256x512 .bf16) (k : Vec F S128x64x256 .bf16) (v : Vec F S128x256x64 .bf16) (O : Vec F S2x256x512 .f32)
    (h692 : extractAt ![0, 0, 0] (k0_pay3 v3 v43 v51 c1 c1' k0_t1) inpos_S1x1x1_p0_0_0 = wd (ro c h))
    (h703 : extractAt ![0, 0, 0] (k0_pay4 v3 v43 v51 c1 c1' k0_t1) inpos_S1x1x1_p0_0_0 = wd (lo c h))

    (h1221 : extractAt ![0, 0, 0] (k0_pay49 v3 v43 v51 (Scf.iv c1 c1' k0_t1)) inpos_S1x1x1_p0_0_0 = wd (lo c (h + 1)))
    (hc1 : ¬ k0_cond1 k0_t1 = 1#1) (hc2 : ¬ k0_cond2 k0_t1 = 1#1) (h2 : k0_chk2 (wd (rt c))) (h1 : k0_chk1 (wd (lf c)))
    (Q : (Σ' (v703 : BitVec 32), k0_chk4 v703) → sProp 𝕄) :
    iprop(ctx Wp K ∗ ow c (Ow + uL c h 1 + uL c h 0) ∗ SL c h 0 ∗ SL c h 1
         ∗ AL c (h + 1) 0 ∗ AL c (h + 1) 1

        ∗ hPts c (lo c h) 0 (shL c (lo c h)) (Wall Wp) ∗ hPts c (lo c h) 1 (shL c (lo c h)) (Wall Wp)
        ∗ (hPts c (ro c h) 0 fullShare (Wall Wp) ∗ hPts c (ro c h) 1 fullShare (Wall Wp)) ∗ (hPts c (lo c h) 0 fullShare.right (Wall Wp) ∗ hPts c (lo c h) 1 fullShare.right (Wall Wp))
        ∗ loc c x k v O
        ∗ ((ow c Ow
              ∗ BL Wp c (h + 1) ∗ DSL c h 0 ∗ hPts c (lo c h) 0 (shL c (lo c h)) (Wall Wp) ∗ FL c h 1
              ∗ (hPts c (ro c h) 0 fullShare (Wall Wp) ∗ hPts c (ro c h) 1 fullShare (Wall Wp)) ∗ (hPts c (lo c h) 0 fullShare.right (Wall Wp) ∗ hPts c (lo c h) 1 fullShare.right (Wall Wp))
              ∗ loc c x k v (acc1 (Wall Wp) x k v (lo c h) (acc0 (Wall Wp) x k v (lo c h) (acc1 (Wall Wp) x k v (ro c h) (acc0 (Wall Wp) x k v (ro c h) O)))))
            -∗ Q ⟨wd (lo c h), chk4 _⟩))
      ⊢ wp frame (wpE (defs₀ (F := F)) 𝒱₀ (c : Thread nD τ) none) Set.univ (k0_part16 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 v3 v43 v51 (wd (rt c)) h2 (wd (lf c)) h1 k0_pay59 c1 c1' k0_t1) Q := by
  iintro ⟨#Hctx, HO, HS0, HS1, HA0, HA1, Hl0, Hl1, HRq, HLr, Hloc, Hk⟩
  rw [k0_part16_eq_skeleton]
  unfold k0_part16_skel
  rw [wp_bind]
  iapply (run_p2_ge Wp K c (Ow + uL c h 1) v3 v43 v51 c1 c1' k0_t1 h (by omega) h692 h703  hc1 h2 h1 _)
  isplitr; · iexact Hctx
  isplitl [HO]; · iexact HO
  isplitl [HS0]; · iexact HS0
  isplitl [Hl0]; · iexact Hl0
  iintro ⟨HF0, HO⟩
  dsimp only
  rw [wp_bind]
  iapply (run_p3 Wp K c Ow h (by omega) fullShare x k v O k0_t1 h1 _ _ _)
  isplitr; · iexact Hctx
  isplitl [HO]; · iexact HO
  isplitl [HS1]; · iexact HS1
  isplitl [Hl1]; · iexact Hl1
  isplitl [HRq]; · iexact HRq
  isplitl [Hloc]; · iexact Hloc
  iintro ⟨HF1, HO, HRq, Hloc⟩
  dsimp only
  rw [wp_bind]
  iapply (run_p4 c x k v _ _ _ _ _ _ _ _ _ _ _)
  isplitl [Hloc]; · iexact Hloc
  iintro Hloc
  dsimp only
  rw [wp_bind]
  iapply (run_p5 c x k v _ _ _ _ _ _ _ _)
  isplitl [Hloc]; · iexact Hloc
  iintro Hloc
  dsimp only
  rw [wp_bind]
  iapply (run_p6 c x k v _ _ _ _ _ _ _ _ _ _ _ _ _ _)
  isplitl [Hloc]; · iexact Hloc
  iintro Hloc
  dsimp only
  ihave Hloc := (Entails.of_eq (congrArg (loc c x k v) (acc_r0 (Wall Wp) x k v _ k0_t1 (chk3 k0_t1 _) _))) $$ Hloc
  rw [wp_bind]
  iapply (run_p7 c x k v _ _ _ _ _ _ _ _ _)
  isplitl [Hloc]; · iexact Hloc
  iintro Hloc
  dsimp only
  rw [wp_bind]
  iapply (run_p8 c x k v _ _ _ _ _ _ _ _)
  isplitl [Hloc]; · iexact Hloc
  iintro Hloc
  dsimp only
  rw [wp_bind]
  iapply (run_p9 Wp c (lo c h) fullShare.right x k v _ _ _ _ _ _ _ _ _ _)
  isplitl [HLr]; · iexact HLr
  isplitl [Hloc]; · iexact Hloc
  iintro ⟨HLr, Hloc⟩
  dsimp only
  ihave Hloc := (Entails.of_eq (congrArg (loc c x k v) (acc_r1 (Wall Wp) x k v _ k0_t1 (chk3 k0_t1 _) _))) $$ Hloc
  rw [wp_bind]
  iapply (run_p10 c x k v _ _ _ _ _ _ _ _)
  isplitl [Hloc]; · iexact Hloc
  iintro Hloc
  dsimp only
  rw [wp_bind]
  iapply (run_p11 c x k v _ _ _ _ _ _ _ _)
  isplitl [Hloc]; · iexact Hloc
  iintro Hloc
  dsimp only
  rw [wp_bind]
  iapply (run_p12 c x k v _ _ _ _ _ _ _ _ _ _ _ _)
  isplitl [Hloc]; · iexact Hloc
  iintro Hloc
  dsimp only
  ihave Hloc := (Entails.of_eq (congrArg (loc c x k v) (acc_l0 (Wall Wp) x k v _ (chk4 _) _))) $$ Hloc
  rw [wp_bind]
  iapply (run_p13 c x k v _ _ _ _ _ _ _)
  isplitl [Hloc]; · iexact Hloc
  iintro Hloc
  dsimp only
  rw [wp_bind]
  iapply (run_p14 c x k v _ _ _ _ _ _)
  isplitl [Hloc]; · iexact Hloc
  iintro Hloc
  dsimp only
  rw [wp_bind]
  iapply (run_p15_ge Wp K c Ow h x k v _ v3 v43 v51 _ _ _ k0_t1 _ hc2  h1221 _ _ _ _ _ _ _ _)
  isplitr; · iexact Hctx
  isplitl [Hloc]; · iexact Hloc
  iintro Hloc
  dsimp only
  ihave Hloc := (Entails.of_eq (congrArg (loc c x k v) (acc_l1 (Wall Wp) x k v _ (chk4 _) _))) $$ Hloc
  simp only [Prog.lift, Prog.bind_op, Prog.bind_ret, Prog.pure_eq_ret]
  iapply (wp_comeL Wp K c (h + 1) (by omega) (by omega) 0 (sem3_of _ (off42_eq _)) (off43_eq _) (Ow) hO) $$ [HA0 HO]
  · isplitr; · iexact Hctx
    isplitl [HA0]; · iexact HA0
    iexact HO
  iintro ⟨HD0, HB0, HO⟩
  iapply (wp_comeL Wp K c (h + 1) (by omega) (by omega) 1 (sem3_of _ (off44_eq _)) (off45_eq _) (Ow) hO) $$ [HA1 HO]
  · isplitr; · iexact Hctx
    isplitl [HA1]; · iexact HA1
    iexact HO
  iintro ⟨HD1, HB1, HO⟩
  iapply (wp_leftL Wp K c (h) (by omega) 0 (sem2_of _ (off46_eq _)) (off47_eq _) (Ow) (Above.mono hO (by omega))) $$ [HF0 HO]
  · isplitr; · iexact Hctx
    isplitl [HF0]; · iexact HF0
    iexact HO
  iintro ⟨HD2, Hs2, HO⟩
  rw [wp_ret]
  imodintro
  iapply Hk
  unfold BL
  isplitl [HO]
  · iexact HO
  isplitl [HB0 HB1 HD0 HD1]
  · isplitl [HB0 HB1]
    · isplitl [HB0]
      · iexact HB0
      iexact HB1
    isplitl [HD0]
    · iexact HD0
    iexact HD1
  isplitl [HD2]
  · iexact HD2
  isplitl [Hs2]
  · iexact Hs2
  isplitl [HF1]
  · iexact HF1
  isplitl [HRq]
  · iexact HRq
  isplitl [HLr]
  · iexact HLr
  iexact Hloc

end Cert.KernelIdeal.Run
-- ==== Proof.Run.BodyF.lean ====
/- What the loop holds before each trip, and one trip at a symbolic trip number. -/
module

public import proofs.«01_k».proof.Proof.Run.BodyE2

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

theorem hPts_share2 (d o : Dev nD) (p : Fin 2) (f : Buf (Elt F) ((d : Thread nD τ).loc cc0_scratch0)) :
    (hPts d o p fullShare f : sProp 𝕄) ⊣⊢ iprop(hPts d o p fullShare.left f ∗ hPts d o p fullShare.right f) := by
  unfold hPts
  exact pointsTo_share (PosShare.mem_left_op_right fullShare)

theorem lo_ne9 : ∀ (c : Dev nD) (k : Fin 9), 1 ≤ k.val → lo c k.val ≠ c := by decide +kernel
theorem shL_lo (c : Dev nD) (k : ℕ) (h1 : 1 ≤ k) (hk : k ≤ 8) : shL c (lo c k) = fullShare.left :=
  if_neg (lo_ne9 c ⟨k, by omega⟩ h1)

/-- Both halves of a slot at one share. -/
abbrev both (c o : Dev nD) (q : PosShare TreeShare) : sProp 𝕄 := iprop(hPts c o 0 q (Wall Wp) ∗ hPts c o 1 q (Wall Wp))

theorem both_split (c o : Dev nD) : (both Wp c o fullShare : sProp 𝕄) ⊢ iprop(both Wp c o fullShare.left ∗ both Wp c o fullShare.right) := by
  iintro ⟨H0, H1⟩
  ihave H0 := (hPts_share2 c o 0 (Wall Wp)).1 $$ H0
  ihave H1 := (hPts_share2 c o 1 (Wall Wp)).1 $$ H1
  icases H0 with ⟨A0, B0⟩
  icases H1 with ⟨A1, B1⟩
  isplitl [A0 A1]
  · isplitl [A0]; · iexact A0
    iexact A1
  isplitl [B0]; · iexact B0
  iexact B1
theorem both_join (c o : Dev nD) : (iprop(both Wp c o fullShare.left ∗ both Wp c o fullShare.right) : sProp 𝕄) ⊢ both Wp c o fullShare := by
  iintro ⟨⟨A0, A1⟩, ⟨B0, B1⟩⟩
  isplitl [A0 B0]
  · iapply (hPts_share2 c o 0 (Wall Wp)).2
    isplitl [A0]; · iexact A0
    iexact B0
  iapply (hPts_share2 c o 1 (Wall Wp)).2
  isplitl [A1]; · iexact A1
  iexact B1

/-- What hop `h` still needs to the right, and to the left. -/
def RIN (c : Dev nD) (h : ℕ) : sProp 𝕄 := if h < 7 then iprop((SR c h 0 ∗ SR c h 1) ∗ AR c (h + 1) 0 ∗ AR c (h + 1) 1) else iprop(emp)
def LIN (c : Dev nD) (h : ℕ) : sProp 𝕄 := iprop((SL c h 0 ∗ SL c h 1) ∗ AL c (h + 1) 0 ∗ AL c (h + 1) 1)
/-- What hop `h` leaves. -/
def ROUT (c : Dev nD) (h : ℕ) : sProp 𝕄 := iprop(BR Wp c h ∗ if h < 7 then iprop(DSR c h 0 ∗ DSR c h 1) else iprop(emp))
def LOUT (c : Dev nD) (h : ℕ) : sProp 𝕄 := iprop(BL Wp c h ∗ DSL c h 0 ∗ DSL c h 1)

/-- Before trip `t`, which passes on the blocks of hop `t + 1`. -/
def inv (K : GSem nD τ sig → ℕ) (c : Dev nD) (x : Vec F S2x256x512 .bf16) (k : Vec F S128x64x256 .bf16) (v : Vec F S128x256x64 .bf16) (t : ℕ) (_ : Unit) : sProp 𝕄 :=
  iprop(ctx Wp K ∗ loc c x k v (outAt (Wall Wp) x k v c t) ∗ (if t < 7 then BR Wp c (t + 1) else iprop(emp)) ∗ BL Wp c (t + 1)
    ∗ bigSep (Finset.Ico (t + 1) 8) (RIN c) ∗ bigSep (Finset.Ico (t + 1) 8) (LIN c)
    ∗ bigSep (Finset.Ico 1 (t + 1)) (ROUT Wp c) ∗ bigSep (Finset.Ico 1 (t + 1)) (LOUT Wp c)
    ∗ ow c (OR c (t + 1) + OL c (t + 1) + OX c))

theorem bigSep_peel (Φ : ℕ → sProp 𝕄) {a b : ℕ} (h : a < b) : bigSep (Finset.Ico a b) Φ = iprop(Φ a ∗ bigSep (Finset.Ico (a + 1) b) Φ) := by
  rw [Ring.Ico_eq_insert h, bigSep_insert (by simp)]
  rfl
theorem bigSep_push (Φ : ℕ → sProp 𝕄) {a b : ℕ} (h : a ≤ b) : bigSep (Finset.Ico a (b + 1)) Φ = iprop(Φ b ∗ bigSep (Finset.Ico a b) Φ) := by
  have e : Finset.Ico a (b + 1) = insert b (Finset.Ico a b) := by
    ext i; simp only [Finset.mem_Ico, Finset.mem_insert]; omega
  rw [e, bigSep_insert (by simp)]
  rfl

theorem owes_lt (c : Dev nD) (h : ℕ) (hh : h < 7) : OR c h + OL c h + OX c = (OR c (h + 1) + OL c (h + 1) + OX c) + uL c h 1 + uL c h 0 + uR c h 1 + uR c h 0 := by
  rw [OR_peel c h hh, OL_peel c h (by omega)]
  ac_rfl
theorem owes_ge (c : Dev nD) (h : ℕ) (h7 : 7 ≤ h) (hh : h < 8) : OR c h + OL c h + OX c = (OR c (h + 1) + OL c (h + 1) + OX c) + uL c h 1 + uL c h 0 := by
  rw [OR_end c h h7, OR_end c (h + 1) (by omega), OL_peel c h hh]
  ac_rfl

theorem trip_lt (K : GSem nD τ sig → ℕ) (c : Dev nD) (x : Vec F S2x256x512 .bf16) (k : Vec F S128x64x256 .bf16) (v : Vec F S128x256x64 .bf16) (h2 : k0_chk2 (wd (rt c))) (h1 : k0_chk1 (wd (lf c)))
    (k0_t1 : Fin k0_t1_loop.trips) (a : Unit) (ht : k0_t1.val < 6) :
    inv Wp K c x k v k0_t1.val a ⊢ wp frame (wpE (defs₀ (F := F)) 𝒱₀ (c : Thread nD τ) none) Set.univ (k0_t1_body a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c iotaW tabW (posW c) (wd (rt c)) h2 (wd (lf c)) h1 k0_pay59 k0_t1 a) (inv Wp K c x k v (k0_t1.val + 1)) := by
  unfold inv
  rw [if_pos (show k0_t1.val < 7 by omega), bigSep_peel (RIN c) (show k0_t1.val + 1 < 8 by omega), bigSep_peel (LIN c) (show k0_t1.val + 1 < 8 by omega), owes_lt c (k0_t1.val + 1) (by omega)]
  iintro ⟨#Hctx, Hloc, HBR, HBL, ⟨HR, HRs⟩, ⟨HL, HLs⟩, HRo, HLo, HO⟩
  unfold k0_t1_body
  rw [wp_bind]
  iapply (run_p16_lt Wp K c (OR c (k0_t1.val + 1 + 1) + OL c (k0_t1.val + 1 + 1) + OX c) iotaW tabW (posW c) 1#32 1#32 k0_t1 (k0_t1.val + 1) (by omega)
    (above_mid c (k0_t1.val + 1 + 1) _ (by omega) (by omega)) x k v (outAt (Wall Wp) x k v c k0_t1.val) (v692_eq c k0_t1) (v703_eq c k0_t1) (v1261_eq c k0_t1) (v1221_eq c k0_t1)
    ((cond1_iff k0_t1).2 ht) ((cond2_iff k0_t1).2 ht) h2 h1 _)
  ihave HR := (Entails.of_eq ((RIN.eq_1 c (k0_t1.val + 1)).trans (if_pos (show k0_t1.val + 1 < 7 by omega)))) $$ HR
  icases HR with ⟨HSR, HAR⟩
  ihave HL := (Entails.of_eq (LIN.eq_1 c (k0_t1.val + 1))) $$ HL
  icases HL with ⟨⟨HS0, HS1⟩, HA0, HA1⟩
  ihave HBR := (Entails.of_eq (BR.eq_1 Wp c (k0_t1.val + 1))) $$ HBR
  ihave HBL := (Entails.of_eq (BL.eq_1 Wp c (k0_t1.val + 1))) $$ HBL
  icases HBR with ⟨HBb, HBd⟩
  icases HBL with ⟨HLb, HLd⟩
  ihave HLb := (both_split Wp c (lo c (k0_t1.val + 1))) $$ HLb
  icases HLb with ⟨⟨Hl0, Hl1⟩, HLr⟩
  ihave HBb := (both_split Wp c (ro c (k0_t1.val + 1))) $$ HBb
  icases HBb with ⟨HBl, HBb⟩
  rw [shL_lo c (k0_t1.val + 1) (by omega) (by omega)]
  isplitr; · iexact Hctx
  isplitl [HO]; · iexact HO
  isplitl [HSR]; · iexact HSR
  isplitl [HS0]; · iexact HS0
  isplitl [HS1]; · iexact HS1
  isplitl [HAR]; · iexact HAR
  isplitl [HA0]; · iexact HA0
  isplitl [HA1]; · iexact HA1
  isplitl [HBl]; · iexact HBl
  isplitl [Hl0]; · iexact Hl0
  isplitl [Hl1]; · iexact Hl1
  isplitl [HBb]; · iexact HBb
  isplitl [HLr]; · iexact HLr
  isplitl [Hloc]; · iexact Hloc
  iintro ⟨HO, HBR, ⟨HDR, HBl⟩, HBL, HD0, Hl0, HF1, HBb, HLr, Hloc⟩
  simp only [Prog.lift, Prog.bind_op, Prog.bind_ret, Prog.pure_eq_ret]
  iapply (wp_leftL Wp K c (k0_t1.val + 1) (by omega) 1 (sem2_of _ (off48_eq _)) (off49_eq _) (OR c (k0_t1.val + 1 + 1) + OL c (k0_t1.val + 1 + 1) + OX c) (above_mid c (k0_t1.val + 1 + 1) 0 (by omega) (by omega))) $$ [HF1 HO]
  · isplitr; · iexact Hctx
    isplitl [HF1]; · iexact HF1
    iexact HO
  iintro ⟨HD1, Hl1, HO⟩
  rw [wp_ret]
  imodintro
  rw [shL_lo c (k0_t1.val + 1) (by omega) (by omega), bigSep_push (ROUT Wp c) (show 1 ≤ k0_t1.val + 1 by omega), bigSep_push (LOUT Wp c) (show 1 ≤ k0_t1.val + 1 by omega)]
  isplitr; · iexact Hctx
  isplitl [Hloc]; · iexact Hloc
  rw [if_pos (show k0_t1.val + 1 < 7 by omega)]
  isplitl [HBR]; · iexact HBR
  isplitl [HBL]; · iexact HBL
  isplitl [HRs]; · iexact HRs
  isplitl [HLs]; · iexact HLs
  ihave HBb := (both_join Wp c (ro c (k0_t1.val + 1))) $$ [HBl HBb]
  · isplitl [HBl]; · iexact HBl
    iexact HBb
  ihave HLb := (both_join Wp c (lo c (k0_t1.val + 1))) $$ [Hl0 Hl1 HLr]
  · isplitl [Hl0 Hl1]
    · isplitl [Hl0]; · iexact Hl0
      iexact Hl1
    iexact HLr
  isplitl [HBb HBd HDR HRo]
  · isplitl [HBb HBd HDR]
    · unfold ROUT BR
      isplitl [HBb HBd]
      · isplitl [HBb]; · iexact HBb
        iexact HBd
      rw [if_pos (show k0_t1.val + 1 < 7 by omega)]
      iexact HDR
    iexact HRo
  isplitl [HLb HLd HD0 HD1 HLo]
  · isplitl [HLb HLd HD0 HD1]
    · unfold LOUT BL
      isplitl [HLb HLd]
      · isplitl [HLb]; · iexact HLb
        iexact HLd
      isplitl [HD0]; · iexact HD0
      iexact HD1
    iexact HLo
  iexact HO

theorem trip_ge (K : GSem nD τ sig → ℕ) (c : Dev nD) (x : Vec F S2x256x512 .bf16) (k : Vec F S128x64x256 .bf16) (v : Vec F S128x256x64 .bf16) (h2 : k0_chk2 (wd (rt c))) (h1 : k0_chk1 (wd (lf c)))
    (k0_t1 : Fin k0_t1_loop.trips) (a : Unit) (ht : k0_t1.val = 6) :
    inv Wp K c x k v k0_t1.val a ⊢ wp frame (wpE (defs₀ (F := F)) 𝒱₀ (c : Thread nD τ) none) Set.univ (k0_t1_body a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c iotaW tabW (posW c) (wd (rt c)) h2 (wd (lf c)) h1 k0_pay59 k0_t1 a) (inv Wp K c x k v (k0_t1.val + 1)) := by
  unfold inv
  rw [if_pos (show k0_t1.val < 7 by omega), bigSep_peel (RIN c) (show k0_t1.val + 1 < 8 by omega), bigSep_peel (LIN c) (show k0_t1.val + 1 < 8 by omega), owes_ge c (k0_t1.val + 1) (by omega) (by omega)]
  iintro ⟨#Hctx, Hloc, HBR, HBL, ⟨HR, HRs⟩, ⟨HL, HLs⟩, HRo, HLo, HO⟩
  unfold k0_t1_body
  rw [wp_bind]
  iapply (run_p16_ge Wp K c (OR c (k0_t1.val + 1 + 1) + OL c (k0_t1.val + 1 + 1) + OX c) iotaW tabW (posW c) 1#32 1#32 k0_t1 (k0_t1.val + 1) (by omega)
    (above_mid c (k0_t1.val + 1 + 1) _ (by omega) (by omega)) x k v (outAt (Wall Wp) x k v c k0_t1.val) (v692_eq c k0_t1) (v703_eq c k0_t1) (v1221_eq c k0_t1)
    (fun e => by have := (cond1_iff k0_t1).1 e; omega) (fun e => by have := (cond2_iff k0_t1).1 e; omega) h2 h1 _)
  ihave HL := (Entails.of_eq (LIN.eq_1 c (k0_t1.val + 1))) $$ HL
  icases HL with ⟨⟨HS0, HS1⟩, HA0, HA1⟩
  ihave HBR := (Entails.of_eq (BR.eq_1 Wp c (k0_t1.val + 1))) $$ HBR
  ihave HBL := (Entails.of_eq (BL.eq_1 Wp c (k0_t1.val + 1))) $$ HBL
  icases HBR with ⟨HBb, HBd⟩
  icases HBL with ⟨HLb, HLd⟩
  ihave HLb := (both_split Wp c (lo c (k0_t1.val + 1))) $$ HLb
  icases HLb with ⟨⟨Hl0, Hl1⟩, HLr⟩
  rw [shL_lo c (k0_t1.val + 1) (by omega) (by omega)]
  isplitr; · iexact Hctx
  isplitl [HO]; · iexact HO
  isplitl [HS0]; · iexact HS0
  isplitl [HS1]; · iexact HS1
  isplitl [HA0]; · iexact HA0
  isplitl [HA1]; · iexact HA1
  isplitl [Hl0]; · iexact Hl0
  isplitl [Hl1]; · iexact Hl1
  isplitl [HBb]; · iexact HBb
  isplitl [HLr]; · iexact HLr
  isplitl [Hloc]; · iexact Hloc
  iintro ⟨HO, HBL, HD0, Hl0, HF1, HBb, HLr, Hloc⟩
  simp only [Prog.lift, Prog.bind_op, Prog.bind_ret, Prog.pure_eq_ret]
  iapply (wp_leftL Wp K c (k0_t1.val + 1) (by omega) 1 (sem2_of _ (off48_eq _)) (off49_eq _) (OR c (k0_t1.val + 1 + 1) + OL c (k0_t1.val + 1 + 1) + OX c) (above_mid c (k0_t1.val + 1 + 1) 0 (by omega) (by omega))) $$ [HF1 HO]
  · isplitr; · iexact Hctx
    isplitl [HF1]; · iexact HF1
    iexact HO
  iintro ⟨HD1, Hl1, HO⟩
  rw [wp_ret]
  imodintro
  rw [shL_lo c (k0_t1.val + 1) (by omega) (by omega), bigSep_push (ROUT Wp c) (show 1 ≤ k0_t1.val + 1 by omega), bigSep_push (LOUT Wp c) (show 1 ≤ k0_t1.val + 1 by omega)]
  isplitr; · iexact Hctx
  isplitl [Hloc]; · iexact Hloc
  rw [if_neg (show ¬ k0_t1.val + 1 < 7 by omega)]
  isplitr; · iempintro
  isplitl [HBL]; · iexact HBL
  isplitl [HRs]; · iexact HRs
  isplitl [HLs]; · iexact HLs
  ihave HLb := (both_join Wp c (lo c (k0_t1.val + 1))) $$ [Hl0 Hl1 HLr]
  · isplitl [Hl0 Hl1]
    · isplitl [Hl0]; · iexact Hl0
      iexact Hl1
    iexact HLr
  isplitl [HBb HBd HRo]
  · isplitl [HBb HBd]
    · unfold ROUT BR
      isplitl [HBb HBd]
      · isplitl [HBb]; · iexact HBb
        iexact HBd
      rw [if_neg (show ¬ k0_t1.val + 1 < 7 by omega)]
      iempintro
    iexact HRo
  isplitl [HLb HLd HD0 HD1 HLo]
  · isplitl [HLb HLd HD0 HD1]
    · unfold LOUT BL
      isplitl [HLb HLd]
      · isplitl [HLb]; · iexact HLb
        iexact HLd
      isplitl [HD0]; · iexact HD0
      iexact HD1
    iexact HLo
  iexact HO

theorem trip (K : GSem nD τ sig → ℕ) (c : Dev nD) (x : Vec F S2x256x512 .bf16) (k : Vec F S128x64x256 .bf16) (v : Vec F S128x256x64 .bf16) (h2 : k0_chk2 (wd (rt c))) (h1 : k0_chk1 (wd (lf c)))
    (k0_t1 : Fin k0_t1_loop.trips) (a : Unit) :
    inv Wp K c x k v k0_t1.val a ⊢ wp frame (wpE (defs₀ (F := F)) 𝒱₀ (c : Thread nD τ) none) Set.univ (k0_t1_body a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c iotaW tabW (posW c) (wd (rt c)) h2 (wd (lf c)) h1 k0_pay59 k0_t1 a) (inv Wp K c x k v (k0_t1.val + 1)) := by
  rcases Nat.lt_or_ge k0_t1.val 6 with h | h
  · exact trip_lt Wp K c x k v h2 h1 k0_t1 a h
  · exact trip_ge Wp K c x k v h2 h1 k0_t1 a (by have := k0_t1.isLt; have e : k0_t1_loop.trips = 7 := (by decide +kernel); omega)

/-- The waits on the own block's sends, then the loop. -/
theorem run_p28 (K : GSem nD τ sig → ℕ) (c : Dev nD) (x : Vec F S2x256x512 .bf16) (k : Vec F S128x64x256 .bf16) (v : Vec F S128x256x64 .bf16) (h2 : k0_chk2 (wd (rt c))) (h1 : k0_chk1 (wd (lf c))) (Q : PUnit → sProp 𝕄) :
    iprop(ctx Wp K ∗ ow c (OR c 1 + OL c 1 + OX c) ∗ (FR c 0 0 ∗ FR c 0 1) ∗ (FL c 0 0 ∗ FL c 0 1) ∗ both Wp c c fullShare.right.right ∗ loc c x k v (outAt (Wall Wp) x k v c 0)
        ∗ BR Wp c 1 ∗ BL Wp c 1 ∗ bigSep (Finset.Ico 1 8) (RIN c) ∗ bigSep (Finset.Ico 1 8) (LIN c)
        ∗ ((ow c (OX c) ∗ (DSR c 0 0 ∗ DSR c 0 1) ∗ (DSL c 0 0 ∗ DSL c 0 1) ∗ both Wp c c fullShare ∗ loc c x k v (outAt (Wall Wp) x k v c 7)
              ∗ BL Wp c 8 ∗ bigSep (Finset.Ico 1 8) (ROUT Wp c) ∗ bigSep (Finset.Ico 1 8) (LOUT Wp c)) -∗ Q ⟨⟩))
      ⊢ wp frame (wpE (defs₀ (F := F)) 𝒱₀ (c : Thread nD τ) none) Set.univ (k0_part28 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0 c iotaW tabW (posW c) (wd (rt c)) h2 (wd (lf c)) h1 k0_pay59) Q := by
  iintro ⟨#Hctx, HO, ⟨HF0, HF1⟩, ⟨HF2, HF3⟩, ⟨Hr0, Hr1⟩, Hloc, HBR, HBL, HRs, HLs, Hk⟩
  rw [k0_part28_eq_skeleton]
  unfold k0_part28_skel
  simp only [Prog.lift, Prog.bind_op, Prog.bind_ret, Prog.pure_eq_ret]
  iapply (wp_leftR Wp K c (0) (by omega) 0 (sem0_of _ (by rw [ro_zero]; exact off2_eq c)) (by rw [ro_zero]; exact off3_eq c) (OR c 1 + OL c 1 + OX c) (above_mid c 1 0 (by omega) (by omega))) $$ [HF0 HO]
  · isplitr; · iexact Hctx
    isplitl [HF0]; · iexact HF0
    iexact HO
  iintro ⟨HD0, Ha0, HO⟩
  iapply (wp_leftR Wp K c (0) (by omega) 1 (sem0_of _ (by rw [ro_zero]; exact off4_eq c)) (by rw [ro_zero]; exact off5_eq c) (OR c 1 + OL c 1 + OX c) (above_mid c 1 0 (by omega) (by omega))) $$ [HF1 HO]
  · isplitr; · iexact Hctx
    isplitl [HF1]; · iexact HF1
    iexact HO
  iintro ⟨HD1, Ha1, HO⟩
  iapply (wp_leftL Wp K c (0) (by omega) 0 (sem2_of _ (by rw [lo_zero]; exact off2_eq c)) (by rw [lo_zero]; exact off3_eq c) (OR c 1 + OL c 1 + OX c) (above_mid c 1 0 (by omega) (by omega))) $$ [HF2 HO]
  · isplitr; · iexact Hctx
    isplitl [HF2]; · iexact HF2
    iexact HO
  iintro ⟨HD2, Hb0, HO⟩
  iapply (wp_leftL Wp K c (0) (by omega) 1 (sem2_of _ (by rw [lo_zero]; exact off4_eq c)) (by rw [lo_zero]; exact off5_eq c) (OR c 1 + OL c 1 + OX c) (above_mid c 1 0 (by omega) (by omega))) $$ [HF3 HO]
  · isplitr; · iexact Hctx
    isplitl [HF3]; · iexact HF3
    iexact HO
  iintro ⟨HD3, Hb1, HO⟩
  rw [ro_zero, lo_zero, show shL c c = fullShare.right.left from if_pos rfl]
  sl_for (inv Wp K c x k v) $$ [HO Hloc HBR HBL HRs HLs]
  case region => intro t a; exact trip Wp K c x k v h2 h1 t a
  · unfold inv
    rw [if_pos (by omega)]
    isplitr; · iexact Hctx
    isplitl [Hloc]; · iexact Hloc
    isplitl [HBR]; · iexact HBR
    isplitl [HBL]; · iexact HBL
    isplitl [HRs]; · iexact HRs
    isplitl [HLs]; · iexact HLs
    isplitr; · rw [Finset.Ico_self]; iempintro
    isplitr; · rw [Finset.Ico_self]; iempintro
    iexact HO
  iintro %a HI
  rw [show Scf.trips k0_t1_loop.lb k0_t1_loop.ub k0_t1_loop.st = 7 by decide +kernel]
  sl_unfold_run_names
  unfold inv
  rw [if_neg (by omega), OR_end c (7 + 1) (by omega), OL_end c (7 + 1) (by omega), zero_add, zero_add]
  icases HI with ⟨-, Hloc, -, HBL, -, -, HRo, HLo, HO⟩
  rw [wp_ret]
  imodintro
  iapply Hk
  isplitl [HO]; · iexact HO
  isplitl [HD0 HD1]
  · isplitl [HD0]; · iexact HD0
    iexact HD1
  isplitl [HD2 HD3]
  · isplitl [HD2]; · iexact HD2
    iexact HD3
  isplitl [Ha0 Ha1 Hb0 Hb1 Hr0 Hr1]
  · isplitl [Ha0 Hb0 Hr0]
    · iapply (hPts_share3 c c 0 (Wall Wp)).2
      isplitl [Ha0]; · iexact Ha0
      isplitl [Hb0]; · iexact Hb0
      iexact Hr0
    iapply (hPts_share3 c c 1 (Wall Wp)).2
    isplitl [Ha1]; · iexact Ha1
    isplitl [Hb1]; · iexact Hb1
    iexact Hr1
  isplitl [Hloc]; · iexact Hloc
  isplitl [HBL]; · iexact HBL
  isplitl [HRo]; · iexact HRo
  iexact HLo

end Cert.KernelIdeal.Run
-- ==== Proof.Run.BodyG.lean ====
/- The body of one device, from the barrier to the exit. -/
module

public import proofs.«01_k».proof.Proof.Run.BodyF

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

/-- What device `c` starts with besides its buffers: the duties it will fulfil, and the arrivals it waits for. -/
def Toks (c : Dev nD) : sProp 𝕄 :=
  iprop((dutyTok ER (barC (lf c)) 0 true ∗ reached ER (barC (lf c)) 0) ∗ (dutyTok ER (barC (rt c)) 0 false ∗ reached ER (barC (rt c)) 0)
    ∗ dutyTok ER (exitC (lf c)) 0 true ∗ dutyTok ER (exitC (rt c)) 0 false
    ∗ (cred (tallyAt (barC c) () 2) ∗ atPos ER (barC c) 0 ∅ 0) ∗ (cred (tallyAt (exitC c) () 2) ∗ atPos ER (exitC c) 0 ∅ 0)
    ∗ (bigSep (Finset.Ico 0 7) fun k => iprop(TR c k 0 ∗ TR c k 1)) ∗ (bigSep (Finset.Ico 0 8) fun k => iprop(TL c k 0 ∗ TL c k 1))
    ∗ (bigSep (Finset.Ico 0 7) fun k => iprop(AR c (k + 1) 0 ∗ AR c (k + 1) 1)) ∗ (bigSep (Finset.Ico 0 8) fun k => iprop(AL c (k + 1) 0 ∗ AL c (k + 1) 1)))

/-- What device `c` ends with besides its buffers: every cell behind its last wait, and every slot filled. -/
def Done (c : Dev nD) : sProp 𝕄 :=
  iprop(atPos ER (barC c) 1 ∅ 0 ∗ atPos ER (exitC c) 1 ∅ 0 ∗ (DSR c 0 0 ∗ DSR c 0 1) ∗ (DSL c 0 0 ∗ DSL c 0 1) ∗ both Wp c c fullShare
    ∗ BL Wp c 8 ∗ bigSep (Finset.Ico 1 8) (ROUT Wp c) ∗ bigSep (Finset.Ico 1 8) (LOUT Wp c))

theorem bigSep_both (S : Finset ℕ) (Φ Ψ : ℕ → sProp 𝕄) : bigSep S (fun i => iprop(Φ i ∗ Ψ i)) = iprop(bigSep S Φ ∗ bigSep S Ψ) := bigSep_sep S Φ Ψ

theorem mono7 {S : Finset ℕ} {Φ Ψ : ℕ → sProp 𝕄} (h : ∀ i ∈ S, Φ i ⊢ Ψ i) : bigSep S Φ ⊢ bigSep S Ψ := bigSep_mono h
theorem RIN_one (c : Dev nD) (k : ℕ) (hk : k ∈ Finset.Ico 1 7) :
    (iprop((landR c k 0 ∗ landR c k 1) ∗ (TR c k 0 ∗ TR c k 1) ∗ AR c (k + 1) 0 ∗ AR c (k + 1) 1) : sProp 𝕄) ⊢ RIN c k := by
  rw [RIN, if_pos (Finset.mem_Ico.1 hk).2]
  iintro ⟨⟨H0, H1⟩, ⟨T0, T1⟩, HA⟩
  isplitr [HA]
  · isplitl [H0 T0]
    · iapply (SR_of c k 0)
      isplitl [H0]; · iexact H0
      iexact T0
    iapply (SR_of c k 1)
    isplitl [H1]; · iexact H1
    iexact T1
  iexact HA
theorem LIN_one (c : Dev nD) (k : ℕ) :
    (iprop((landL c k 0 ∗ landL c k 1) ∗ (TL c k 0 ∗ TL c k 1) ∗ AL c (k + 1) 0 ∗ AL c (k + 1) 1) : sProp 𝕄) ⊢ LIN c k := by
  unfold LIN
  iintro ⟨⟨H0, H1⟩, ⟨T0, T1⟩, HA⟩
  isplitr [HA]
  · isplitl [H0 T0]
    · iapply (SL_of c k 0)
      isplitl [H0]; · iexact H0
      iexact T0
    iapply (SL_of c k 1)
    isplitl [H1]; · iexact H1
    iexact T1
  iexact HA

theorem RIN_of (c : Dev nD) :
    (iprop((bigSep (Finset.Ico 1 7) fun k => iprop(landR c k 0 ∗ landR c k 1)) ∗ (bigSep (Finset.Ico 1 7) fun k => iprop(TR c k 0 ∗ TR c k 1))
        ∗ (bigSep (Finset.Ico 1 7) fun k => iprop(AR c (k + 1) 0 ∗ AR c (k + 1) 1))) : sProp 𝕄) ⊢ bigSep (Finset.Ico 1 8) (RIN c) := by
  rw [bigSep_push (RIN c) (show 1 ≤ 7 by omega), ← bigSep_both, ← bigSep_both]
  iintro H
  isplitr
  · rw [RIN, if_neg (by omega)]; iempintro
  iapply (mono7 (Φ := fun k => iprop((landR c k 0 ∗ landR c k 1) ∗ (TR c k 0 ∗ TR c k 1) ∗ AR c (k + 1) 0 ∗ AR c (k + 1) 1)) (Ψ := RIN c) fun k hk => RIN_one c k hk) $$ H
theorem LIN_of (c : Dev nD) :
    (iprop((bigSep (Finset.Ico 1 8) fun k => iprop(landL c k 0 ∗ landL c k 1)) ∗ (bigSep (Finset.Ico 1 8) fun k => iprop(TL c k 0 ∗ TL c k 1))
        ∗ (bigSep (Finset.Ico 1 8) fun k => iprop(AL c (k + 1) 0 ∗ AL c (k + 1) 1))) : sProp 𝕄) ⊢ bigSep (Finset.Ico 1 8) (LIN c) := by
  rw [← bigSep_both, ← bigSep_both]
  exact mono7 (Φ := fun k => iprop((landL c k 0 ∗ landL c k 1) ∗ (TL c k 0 ∗ TL c k 1) ∗ AL c (k + 1) 0 ∗ AL c (k + 1) 1)) fun k _ => LIN_one c k

/-- From the last waits' blocks to the end: the block half way round, and the exit. -/
theorem run_tail (K : GSem nD τ sig → ℕ) (c : Dev nD) (x : Vec F S2x256x512 .bf16) (k : Vec F S128x64x256 .bf16) (v : Vec F S128x256x64 .bf16) (O : Vec F S2x256x512 .f32)
    (v449 : FVec F S512x256 .bf16) (v596 v621 v646 v657 : FVec F S256x64 .bf16) (v662 : FVec F S256x256 .f32) (v664 v665 : FVec F S256x1 .f32) (h2 : k0_chk2 (wd (rt c))) (h1 : k0_chk1 (wd (lf c))) (Q : PUnit → sProp 𝕄) :
    iprop(ctx Wp K ∗ ow c (OX c) ∗ (dutyTok ER (exitC (lf c)) 0 true ∗ reached ER (exitC (lf c)) 0) ∗ (dutyTok ER (exitC (rt c)) 0 false ∗ reached ER (exitC (rt c)) 0)
        ∗ (cred (tallyAt (exitC c) () 2) ∗ atPos ER (exitC c) 0 ∅ 0) ∗ loc c x k v O
        ∗ ((ow c 0 ∗ atPos ER (exitC c) 1 ∅ 0 ∗ loc c x k v (wr O ![1, 0, 0] inb_S2x256x512_S1x256x512_1_0_0 (k0_pay1 v449 v596 v621 v646 v657 v662 v664 v665 (rd O ![1, 0, 0] inb_S2x256x512_S1x256x512_1_0_0)))) -∗ Q ⟨⟩))
      ⊢ wp frame (wpE (defs₀ (F := F)) 𝒱₀ (c : Thread nD τ) none) Set.univ (do
          let v674 : Vec F S1x256x512 .f32 ← Prog.lift (.load a4 (Rect.unit (s := S2x256x512) ![1, 0, 0] S1x256x512.size inb_S2x256x512_S1x256x512_1_0_0).toLoadRect (View.loadsAt_vmem h_S1x256x512))
          let v679 : Vec F S1x256x512 .f32 ← Prog.lift (.load a4 (Rect.unit (s := S2x256x512) ![1, 0, 0] S1x256x512.size inb_S2x256x512_S1x256x512_1_0_0).toLoadRect (View.loadsAt_vmem h_S1x256x512))
          Prog.lift (.store a4 (Rect.unit (s := S2x256x512) ![1, 0, 0] S1x256x512.size inb_S2x256x512_S1x256x512_1_0_0) (k0_pay1 v449 v596 v621 v646 v657 v662 v664 v665 v674) Finset.univ (View.stores_vmem_bits_univ h_S1x256x512 rfl) (.inl rfl))
          semSignalWord (⟨k0_dev11 (wd (lf c)), k0_dev11_lt _ h1⟩ : Dev nD) (cc0_scoped0 : Sems sig S_).sem 1#32
          semSignalWord (⟨k0_dev12 (wd (rt c)), k0_dev12_lt _ h2⟩ : Dev nD) (cc0_scoped0 : Sems sig S_).sem 1#32
          semWaitWord (cc0_scoped0 : Sems sig S_).sem 2#32
          pure ⟨⟩) Q := by
  unfold ctx loc
  iintro ⟨⟨#HI, #Hlev⟩, HO, ⟨Ht1, Hr1⟩, ⟨Ht2, Hr2⟩, ⟨Hcr, Hat⟩, ⟨H0, H2, H3, H4⟩, Hk⟩
  simp only [Prog.lift, Prog.bind_op, Prog.bind_ret, Prog.pure_eq_ret, semSignalWord, semWaitWord, one_toInt, two_toInt]
  sl_step
  sl_step
  sl_step
  iapply (wp_sig Wp K c (lf c) _ (dev11_is rfl _) exitS true (exit_mem (lf c)) (tallyAt (exitC (rt c)) () 1)) $$ [HO Ht1 Hr1]
  · isplitr; · iexact HI
    isplitl [HO]; · iexact HO
    isplitl [Ht1]; · iexact Ht1
    isplitr [Hr1]
    · rw [show (Rd (F := F) Wp).payload ((lf c : Thread nD τ), SemLoc.reg exitS) 0 true = iprop(emp) from payload_exit Wp (lf c) true]
      iempintro
    iexact Hr1
  iintro HO
  iapply (wp_sig Wp K c (rt c) _ (dev12_is rfl _) exitS false (exit_mem (rt c)) 0) $$ [HO Ht2 Hr2]
  · isplitr; · iexact HI
    isplitl [HO]; · rw [zero_add]; iexact HO
    isplitl [Ht2]; · iexact Ht2
    isplitr [Hr2]
    · rw [show (Rd (F := F) Wp).payload ((rt c : Thread nD τ), SemLoc.reg exitS) 0 false = iprop(emp) from payload_exit Wp (rt c) false]
      iempintro
    iexact Hr2
  iintro HO
  iapply (wp_waitR Wp K c exitS (exit_mem c) 0 100 (by rw [lv_exit]) (Above.zero 100)) $$ [HO Hcr Hat]
  · isplitr; · iexact HI
    isplitr; · iexact Hlev
    isplitl [Hcr]; · iexact Hcr
    isplitl [HO]; · iexact HO
    iexact Hat
  iintro ⟨HO, Hat, -⟩
  rw [wp_ret]
  imodintro
  iapply Hk
  isplitl [HO]
  · iexact HO
  isplitl [Hat]
  · iexact Hat
  isplitl [H0]
  · iexact H0
  isplitl [H2]
  · iexact H2
  isplitl [H3]
  · iexact H3
  iexact H4

theorem run_p17_wand (c : Dev nD) (Q : (Σ' (d0 : Dev nD) (v2 : BitVec 32) (v3 : IVec S1x16 32) (v38 : IVec S1x16 32), IVec S1x16 32) → sProp 𝕄) :
    iprop(emp ∗ (emp -∗ Q ⟨c, wd c, iotaW, k0_pay51, k0_pay52⟩)) ⊢ wp frame (wpE (defs₀ (F := F)) 𝒱₀ (c : Thread nD τ) none) Set.univ (k0_part17 a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0) Q := by
  iintro ⟨-, H⟩
  ihave H := H $$ []
  · iempintro
  ihave H := (run_p17 c Q) $$ H
  iexact H

/-- The body. -/
theorem run_body (K : GSem nD τ sig → ℕ) (c : Dev nD) (x : Vec F S2x256x512 .bf16) (k : Vec F S128x64x256 .bf16) (v : Vec F S128x256x64 .bf16) (f : Vec F S16x1024x256 .i8) (g : Vec F S2x256x512 .f32) (Q : PUnit → sProp 𝕄) :
    iprop(ctx Wp K ∗ ow c (O₀ c) ∗ Toks c ∗ barR (lf c) ∗ barL (rt c) ∗ held c cc0_stg1_0 (Wp c) ∗ (hPts c c 0 fullShare f ∗ hPts c c 1 fullShare f) ∗ loc c x k v g
        ∗ ((ow c 0 ∗ Done Wp c ∗ held c cc0_stg1_0 (Wp c) ∗ loc c x k v (outEnd (Wall Wp) x k v c)) -∗ Q ⟨⟩))
      ⊢ wp frame (wpE (defs₀ (F := F)) 𝒱₀ (c : Thread nD τ) none) Set.univ (cc0_body a0 (Memref.isWhole_whole _) a1 (Memref.isWhole_whole _) a2 (Memref.isWhole_whole _) a3 (Memref.isWhole_whole _) a4 (Memref.isWhole_whole _) wM (Memref.isWhole_whole _) cc0_scratch1 cc0_scratch2 cc0_scratch3 cc0_scratch4 cc0_scoped0) Q := by
  unfold Toks
  iintro ⟨#Hctx, HO, ⟨⟨Tb1, Rb1⟩, ⟨Tb2, Rb2⟩, He1, He2, Hbar, Hexit, HTR, HTL, HAR, HAL⟩, HbR, HbL, H1, Hown, Hloc, Hk⟩
  ihave HTR := (Entails.of_eq (bigSep_peel (fun k => iprop(TR c k 0 ∗ TR c k 1)) (show 0 < 7 by omega))) $$ HTR
  ihave HTL := (Entails.of_eq (bigSep_peel (fun k => iprop(TL c k 0 ∗ TL c k 1)) (show 0 < 8 by omega))) $$ HTL
  ihave HAR := (Entails.of_eq (bigSep_peel (fun k => iprop(AR c (k + 1) 0 ∗ AR c (k + 1) 1)) (show 0 < 7 by omega))) $$ HAR
  ihave HAL := (Entails.of_eq (bigSep_peel (fun k => iprop(AL c (k + 1) 0 ∗ AL c (k + 1) 1)) (show 0 < 8 by omega))) $$ HAL
  rw [cc0_body_eq_skeleton]
  unfold cc0_body_skel
  icases HTR with ⟨⟨HT0, HT1⟩, HTR⟩
  icases HTL with ⟨⟨HT2, HT3⟩, HTL⟩
  icases HAR with ⟨HA1, HAR⟩
  icases HAL with ⟨HA2, HAL⟩
  rw [wp_bind]
  iapply (run_p17_wand c _)
  isplitr; · iempintro
  iintro -
  try dsimp only
  rw [wp_bind]
  iapply (run_p18 Wp K c (wd c) iotaW k0_pay51 k0_pay52 (v51_eq c) (v62_eq c) (v73_eq c) (OR c 0 + OL c 0 + OX c) _)
  isplitr; · iexact Hctx
  isplitl [HO]; · iexact HO
  isplitl [Tb1 HbR Rb1]
  · isplitl [Tb1]; · iexact Tb1
    isplitl [HbR]; · iexact HbR
    iexact Rb1
  isplitl [Tb2 HbL Rb2]
  · isplitl [Tb2]; · iexact Tb2
    isplitl [HbL]; · iexact HbL
    iexact Rb2
  iintro HO
  try dsimp only
  rw [wp_bind]
  ihave HO := (Entails.of_eq (congrArg (ow c) (owes_lt c 0 (by omega)))) $$ HO
  ihave Hloc := (Entails.of_eq (loc.eq_1 c x k v g)) $$ Hloc
  icases Hloc with ⟨Hl0, Hl2, Hl3, Hl4⟩
  iapply (run_p19 Wp K c ((OR c 1 + OL c 1 + OX c) + uL c 0 1 + uL c 0 0 + uR c 0 1) (by rw [← owes_lt c 0 (by omega)]; exact above_mid c 0 1 (by omega) (by omega)) f g (wd c) _ _)
  isplitr; · iexact Hctx
  isplitl [HO]; · iexact HO
  isplitl [Hbar]; · iexact Hbar
  isplitl [H1]; · iexact H1
  isplitl [Hown]; · iexact Hown
  isplitl [Hl4]; · iexact Hl4
  isplitl [HT0]; · iexact HT0
  iintro ⟨Hbar, HlL, ⟨HlR1, HlR, HreR⟩, H1, ⟨Hs2, Hq0⟩, Hown1, Hl4, HF0, HO⟩
  ihave Hown1 := (hPts_share3 c c 1 (Wall Wp)).1 $$ Hown1
  icases Hown1 with ⟨Hs1, Hs3, Hq1⟩
  ihave HlL := (Entails.of_eq (barL_eq c)) $$ HlL
  icases HlL with ⟨⟨⟨HlL0, HlL1⟩, HlL⟩, HreL⟩
  ihave HS1 := (SR_of c 0 1) $$ [HlR1 HT1]
  · isplitl [HlR1]; · iexact HlR1
    iexact HT1
  ihave HS2 := (SL_of c 0 0) $$ [HlL0 HT2]
  · isplitl [HlL0]; · iexact HlL0
    iexact HT2
  ihave HS3 := (SL_of c 0 1) $$ [HlL1 HT3]
  · isplitl [HlL1]; · iexact HlL1
    iexact HT3
  ihave HRs := (RIN_of c) $$ [HlR HTR HAR]
  · isplitl [HlR]; · iexact HlR
    isplitl [HTR]; · iexact HTR
    iexact HAR
  ihave HLs := (LIN_of c) $$ [HlL HTL HAL]
  · isplitl [HlL]; · iexact HlL
    isplitl [HTL]; · iexact HTL
    iexact HAL
  ihave Hloc : loc c x k v k0_pay58 $$ [Hl0 Hl2 Hl3 Hl4]
  · unfold loc
    isplitl [Hl0]; · iexact Hl0
    isplitl [Hl2]; · iexact Hl2
    isplitl [Hl3]; · iexact Hl3
    iexact Hl4
  try dsimp only
  rw [wp_bind]
  iapply (run_p20 Wp K c (OR c 1 + OL c 1 + OX c) x k v k0_pay58 (wd c) _ _ _)
  rw [ro_zero, lo_zero, show shL c c = fullShare.right.left from if_pos rfl]
  isplitr; · iexact Hctx
  isplitl [HO]; · iexact HO
  isplitl [HS1]; · iexact HS1
  isplitl [HS2]; · iexact HS2
  isplitl [HS3]; · iexact HS3
  isplitl [Hs1]; · iexact Hs1
  isplitl [Hs2]; · iexact Hs2
  isplitl [Hs3]; · iexact Hs3
  isplitl [Hq0]; · iexact Hq0
  isplitl [Hq1]; · iexact Hq1
  isplitl [Hloc]; · iexact Hloc
  iintro ⟨HF1, HF2, HF3, HO, Hq0, Hq1, Hloc⟩
  try dsimp only
  rw [wp_bind]
  iapply (run_p21 c x k v _ _ _ _ _ _)
  isplitl [Hloc]; · iexact Hloc
  iintro Hloc
  try dsimp only
  rw [wp_bind]
  iapply (run_p22 c x k v _ _ _ _ _ _ _)
  isplitl [Hloc]; · iexact Hloc
  iintro Hloc
  try dsimp only
  rw [wp_bind]
  iapply (run_p23 c x k v _ _ _ _ _ _ _ _ _ _ _)
  isplitl [Hloc]; · iexact Hloc
  iintro Hloc
  try dsimp only
  ihave Hloc := (Entails.of_eq (congrArg (loc c x k v) (acc_own0 (Wall Wp) x k v _  _))) $$ Hloc
  rw [wp_bind]
  iapply (run_p24 c x k v _ _ _ _ _)
  isplitl [Hloc]; · iexact Hloc
  iintro Hloc
  try dsimp only
  rw [wp_bind]
  iapply (run_p25 c x k v _ _ _ _ _ _ _ _)
  isplitl [Hloc]; · iexact Hloc
  iintro Hloc
  try dsimp only
  rw [wp_bind]
  iapply (run_p26 c x k v _ _ _ _ _ _ _ _ _ _ _ _ _)
  isplitl [Hloc]; · iexact Hloc
  iintro Hloc
  try dsimp only
  ihave Hloc := (Entails.of_eq (congrArg (loc c x k v) (acc_own1 (Wall Wp) x k v _  _))) $$ Hloc
  rw [wp_bind]
  iapply (run_p27 Wp K c (OR c 1 + OL c 1 + OX c) (above_mid c 1 2 (by omega) (by omega)) _ _ _)
  isplitr; · iexact Hctx
  isplitl [HO]; · iexact HO
  isplitl [HA1]; · iexact HA1
  isplitl [HA2]; · iexact HA2
  iintro ⟨HO, HBR, HBL⟩
  try dsimp only
  rw [wp_bind]
  iapply (run_p28 Wp K c x k v _ _ _)
  isplitr; · iexact Hctx
  isplitl [HO]; · iexact HO
  isplitl [HF0 HF1]
  · isplitl [HF0]; · iexact HF0
    iexact HF1
  isplitl [HF2 HF3]
  · isplitl [HF2]; · iexact HF2
    iexact HF3
  isplitl [Hq0 Hq1]
  · isplitl [Hq0]; · iexact Hq0
    iexact Hq1
  isplitl [Hloc]; · iexact Hloc
  isplitl [HBR]; · iexact HBR
  isplitl [HBL]; · iexact HBL
  isplitl [HRs]; · iexact HRs
  isplitl [HLs]; · iexact HLs
  iintro ⟨HO, HDR, HDL, Hboth, Hloc, HBL, HRo, HLo⟩
  try dsimp only
  rw [wp_bind]
  ihave HBL := (Entails.of_eq (BL.eq_1 Wp c 8)) $$ HBL
  icases HBL with ⟨HB8, HD8⟩
  iapply (run_p29 Wp c (lo c 8) fullShare x k v _ iotaW tabW (posW c) (v441_eq c) _)
  isplitl [HB8]; · iexact HB8
  isplitl [Hloc]; · iexact Hloc
  iintro ⟨HB8, Hloc⟩
  try dsimp only
  rw [wp_bind]
  iapply (run_p30 c x k v _ _ _ _ _ _ _ _ _)
  isplitl [Hloc]; · iexact Hloc
  iintro Hloc
  try dsimp only
  rw [wp_bind]
  iapply (run_p31 c x k v _ _ _ _ _ _ _ _)
  isplitl [Hloc]; · iexact Hloc
  iintro Hloc
  try dsimp only
  rw [wp_bind]
  iapply (run_p32 c x k v _ _ _ _ _ _ _ _ _ _ _ _)
  isplitl [Hloc]; · iexact Hloc
  iintro Hloc
  try dsimp only
  ihave Hloc := (Entails.of_eq (congrArg (loc c x k v) (acc_f0 (Wall Wp) x k v _ (chk7 _) _))) $$ Hloc
  rw [wp_bind]
  iapply (run_p33 c x k v _ _ _ _ _ _ _ _)
  isplitl [Hloc]; · iexact Hloc
  iintro Hloc
  try dsimp only
  rw [wp_bind]
  iapply (run_p34 c x k v _ _ _ _ _ _ _)
  isplitl [Hloc]; · iexact Hloc
  iintro Hloc
  try dsimp only
  iapply (run_tail Wp K c x k v _ _ _ _ _ _ _ _ _ (chk2 (rt c)) (chk1 (lf c)) Q)
  isplitr; · iexact Hctx
  isplitl [HO]; · iexact HO
  isplitl [He1 HreL]
  · isplitl [He1]; · iexact He1
    iexact HreL
  isplitl [He2 HreR]
  · isplitl [He2]; · iexact He2
    iexact HreR
  isplitl [Hexit]; · iexact Hexit
  isplitl [Hloc]; · iexact Hloc
  iintro ⟨HO, Hexit, Hloc⟩
  ihave Hloc := (Entails.of_eq (congrArg (loc c x k v) (acc_f1 (Wall Wp) x k v _ (chk7 _) _))) $$ Hloc
  iapply Hk
  unfold Done BL
  isplitl [HO]
  · iexact HO
  isplitl [Hbar Hexit HDR HDL Hboth HB8 HD8 HRo HLo]
  · isplitl [Hbar]
    · iexact Hbar
    isplitl [Hexit]
    · iexact Hexit
    isplitl [HDR]
    · iexact HDR
    isplitl [HDL]
    · iexact HDL
    isplitl [Hboth]
    · iexact Hboth
    isplitl [HB8 HD8]
    · isplitl [HB8]
      · iexact HB8
      iexact HD8
    isplitl [HRo]
    · iexact HRo
    iexact HLo
  isplitl [H1]
  · iexact H1
  ihave Hloc := (Entails.of_eq (congrArg (loc c x k v) (outEnd.eq_1 (Wall Wp) x k v c).symm)) $$ Hloc
  iexact Hloc

end Cert.KernelIdeal.Run
-- ==== Proof.Run.Open.lean ====
/- Opening the cells when the kernel starts, dealing out what the body needs, and closing the cells when it ends. -/
module

public import proofs.«01_k».proof.Proof.Run.BodyG

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wp : Dev nD → Vec F S1024x256 .i8)

/-! ## Families over the ring -/

theorem ins {I : Type} [DecidableEq I] {i : I} {S : Finset I} (hi : i ∉ S) (Φ : I → sProp 𝕄) : bigSep (insert i S) Φ = iprop(Φ i ∗ bigSep S Φ) := bigSep_insert hi
theorem two (Φ : Fin 2 → sProp 𝕄) : bigSep Finset.univ Φ = iprop(Φ 0 ∗ Φ 1) := bigSep_fin_two Φ
theorem fupd_all {I : Type} [DecidableEq I] {S : Finset I} {R : sProp 𝕄} [BI.Persistent R] {Φ Ψ : I → sProp 𝕄}
    (h : ∀ i ∈ S, iprop(R ∗ Φ i) ⊢ iprop(|={Set.univ}=> Ψ i)) : iprop(R ∗ bigSep S Φ) ⊢ iprop(|={Set.univ}=> bigSep S Ψ) := by
  induction S using Finset.induction_on with
  | empty =>
    rw [bigSep_empty, bigSep_empty]
    iintro ⟨-, H⟩
    imodintro
    iexact H
  | insert i S hi ih =>
    rw [ins hi, ins hi]
    iintro ⟨#HR, H1, H2⟩
    imod (h i (Finset.mem_insert_self _ _)) $$ [H1] with H1
    · isplitr; · iexact HR
      iexact H1
    imod (ih fun j hj => h j (Finset.mem_insert_of_mem hj)) $$ [H2] with H2
    · isplitr; · iexact HR
      iexact H2
    imodintro
    isplitl [H1]; · iexact H1
    iexact H2

theorem by_hop (e : ℕ → Dev nD) (he : Function.Bijective fun k : Fin 16 => e k.val) (Φ : Dev nD → sProp 𝕄) :
    bigSep Finset.univ Φ = bigSep (Finset.Ico 0 16) fun k => Φ (e k) := by
  rw [bigSep_univ_equiv (Equiv.ofBijective _ he) Φ,
    show Finset.Ico 0 16 = (Finset.univ : Finset (Fin 16)).map ⟨Fin.val, Fin.val_injective⟩ from by decide, bigSep_map]
  rfl
theorem cut {a b d : ℕ} (h : a ≤ b) (h' : b ≤ d) (Φ : ℕ → sProp 𝕄) :
    bigSep (Finset.Ico a d) Φ = iprop(bigSep (Finset.Ico a b) Φ ∗ bigSep (Finset.Ico b d) Φ) := by
  rw [← Finset.Ico_union_Ico_eq_Ico h h', bigSep_union (Finset.Ico_disjoint_Ico_consecutive a b d)]; rfl
theorem shift (a b n : ℕ) (Φ : ℕ → sProp 𝕄) : bigSep (Finset.Ico (a + n) (b + n)) Φ = bigSep (Finset.Ico a b) fun k => Φ (k + n) := by
  rw [show Finset.Ico (a + n) (b + n) = (Finset.Ico a b).map ⟨fun k => k + n, fun x y h => Nat.add_right_cancel h⟩ from by
    ext x
    simp only [Finset.mem_Ico, Finset.mem_map, Function.Embedding.coeFn_mk]
    constructor
    · intro h; exact ⟨x - n, by omega, by show x - n + n = x; omega⟩
    · rintro ⟨y, h, rfl⟩
      show a + n ≤ y + n ∧ y + n < b + n
      omega, bigSep_map]
  rfl
theorem one (a : ℕ) (Φ : ℕ → sProp 𝕄) : bigSep (Finset.Ico a (a + 1)) Φ = Φ a := by
  rw [show Finset.Ico a (a + 1) = {a} from by ext x; simp only [Finset.mem_Ico, Finset.mem_singleton]; omega, bigSep_singleton]

theorem ro_bij (c : Dev nD) : Function.Bijective fun k : Fin 16 => ro c k.val :=
  ⟨fun a b h => Fin.ext (by rw [← dR_ro c a.val a.isLt, ← dR_ro c b.val b.isLt]; exact congrArg (dR c) h),
    fun o => ⟨⟨dR c o, (posTab c - posTab o).isLt⟩, ro_dR c o⟩⟩
theorem lo_bij (c : Dev nD) : Function.Bijective fun k : Fin 16 => lo c k.val :=
  ⟨fun a b h => Fin.ext (by rw [← dL_lo c a.val a.isLt, ← dL_lo c b.val b.isLt]; exact congrArg (dL c) h),
    fun o => ⟨⟨dL c o, (posTab o - posTab c).isLt⟩, lo_dL c o⟩⟩
/-- All devices from `c`'s side: `c`, the seven before it, the eight after it. -/
def mix (c : Dev nD) (k : ℕ) : Dev nD := if k < 8 then ro c k else lo c (k - 7)
theorem mix_inv : ∀ (c : Dev nD) (k : Fin 16), (if dR c (mix c k.val) < 8 then dR c (mix c k.val) else dL c (mix c k.val) + 7) = k.val := by decide +kernel
theorem mix_bij (c : Dev nD) : Function.Bijective fun k : Fin 16 => mix c k.val :=
  (Finite.injective_iff_bijective (α := Fin 16)).1 (fun a b h => Fin.ext (by
    rw [← mix_inv c a, ← mix_inv c b, show mix c a.val = mix c b.val from h]))

theorem ro_lf (c : Dev nD) (k : ℕ) : ro (lf c) k = ro c (k + 1) := by rw [← ro_rt (lf c) k, rt_lf]
theorem lo_rt (c : Dev nD) (k : ℕ) : lo (rt c) k = lo c (k + 1) := by rw [← lo_lf (rt c) k, lf_rt]

/-- Everything of one kind: over the devices and the halves. -/
def fam (Φ : Dev nD → Fin 2 → sProp 𝕄) : sProp 𝕄 := bigSep Finset.univ fun o => iprop(Φ o 0 ∗ Φ o 1)
theorem fam_ro (c : Dev nD) (Φ : Dev nD → Fin 2 → sProp 𝕄) : fam Φ = bigSep (Finset.Ico 0 16) fun k => iprop(Φ (ro c k) 0 ∗ Φ (ro c k) 1) :=
  by_hop (ro c) (ro_bij c) _
theorem fam_lo (c : Dev nD) (Φ : Dev nD → Fin 2 → sProp 𝕄) : fam Φ = bigSep (Finset.Ico 0 16) fun k => iprop(Φ (lo c k) 0 ∗ Φ (lo c k) 1) :=
  by_hop (lo c) (lo_bij c) _
theorem fam_sep (Φ Ψ : Dev nD → Fin 2 → sProp 𝕄) : fam (fun o p => iprop(Φ o p ∗ Ψ o p)) ⊢ iprop(fam Φ ∗ fam Ψ) := by
  have h : fam (fun o p => iprop(Φ o p ∗ Ψ o p)) ⊢ bigSep Finset.univ fun o => iprop((Φ o 0 ∗ Φ o 1) ∗ (Ψ o 0 ∗ Ψ o 1)) :=
    bigSep_mono fun o _ => by
      show iprop((Φ o 0 ∗ Ψ o 0) ∗ (Φ o 1 ∗ Ψ o 1)) ⊢ iprop((Φ o 0 ∗ Φ o 1) ∗ (Ψ o 0 ∗ Ψ o 1))
      iintro ⟨⟨H1, H2⟩, H3, H4⟩
      isplitl [H1 H3]
      · isplitl [H1]; · iexact H1
        iexact H3
      isplitl [H2]; · iexact H2
      iexact H4
  exact h.trans (Entails.of_eq (bigSep_sep _ _ _))
theorem keys_eq (Φ : Key → sProp 𝕄) : bigSep Finset.univ Φ = iprop(Φ none ∗ fam (fun o p => Φ (some (0, o, p))) ∗ fam (fun o p => Φ (some (1, o, p)))
    ∗ fam (fun o p => Φ (some (2, o, p))) ∗ fam (fun o p => Φ (some (3, o, p)))) := by
  rw [show (Finset.univ : Finset Key) = insert none (Finset.univ.map Function.Embedding.some) from by ext x; cases x <;> simp,
    bigSep_insert (by simp), bigSep_map, bigSep_univ_prod,
    bigSep_univ_eq_bigSepL [(0 : Fin 4), 1, 2, 3] (by decide) (by decide)]
  simp only [bigSep_univ_prod, bigSep_fin_two]
  rfl

/-! ## Closing -/

/-- A cell no duty of which is outstanding. -/
def Cl (g : GSem nD τ sig) : sProp 𝕄 := iprop(∃ R : ℕ, ⌜∀ r, R ≤ r → (Rd (F := F) Wp).duties g r = ∅⌝ ∗ atPos ER g R ∅ 0)
theorem cl_past (g : GSem nD τ sig) : (atPos ER g 1 ∅ 0 : sProp 𝕄) ⊢ Cl Wp g := by
  unfold Cl
  iintro H
  iexists 1
  isplitr; · ipureintro; exact duties_later Wp g
  iexact H
theorem cl_unused (c : Dev nD) (n : DmaSem sig) (h : ¬ used c n) : (atPos ER ((c : Thread nD τ), SemLoc.dma n) 0 ∅ 0 : sProp 𝕄) ⊢ Cl Wp ((c : Thread nD τ), SemLoc.dma n) := by
  unfold Cl
  iintro H
  iexists 0
  isplitr
  · ipureintro
    intro r _
    rcases Nat.eq_zero_or_pos r with rfl | hr
    · exact duties_unused Wp c n h
    · exact duties_later Wp _ r hr
  iexact H
theorem cl_close (K : GSem nD τ sig → ℕ) (g : GSem nD τ sig) (hg : g ∈ barCells ∪ scCells) :
    iprop(invAll Wp K ∗ Cl Wp g) ⊢ iprop(|={Set.univ}=> (semVal g 0 : sProp 𝕄)) := by
  unfold Cl
  iintro ⟨#HI, ⟨%R, %hR, H⟩⟩
  iapply (Rounds.cell_close ER (Rd Wp) (Set.mem_univ (K g)) id hR)
  isplitr; · iapply (inv_of Wp K hg); iexact HI
  iexact H
theorem key_mem (c : Dev nD) (k : Key) : (((c : Thread nD τ), keySem k) : GSem nD τ sig) ∈ barCells ∪ scCells :=
  Finset.mem_union_right _ (Finset.mem_map.2 ⟨(c, k), Finset.mem_univ _, rfl⟩)
theorem close_keys (K : GSem nD τ sig → ℕ) (c : Dev nD) :
    iprop(invAll Wp K ∗ bigSep Finset.univ fun k : Key => Cl Wp ((c : Thread nD τ), keySem k))
      ⊢ iprop(|={Set.univ}=> (bigSep Finset.univ fun k : Key => semVal ((c : Thread nD τ), keySem k) 0 : sProp 𝕄)) :=
  fupd_all fun k _ => cl_close Wp K _ (key_mem c k)
theorem open_keys (K : GSem nD τ sig → ℕ) (c : Dev nD) :
    iprop(invAll Wp K ∗ bigSep Finset.univ fun k : Key => iprop(openTok ER ((c : Thread nD τ), keySem k) ∗ semVal ((c : Thread nD τ), keySem k) 0))
      ⊢ iprop(|={Set.univ}=> (bigSep Finset.univ fun k : Key => iprop(atPos ER ((c : Thread nD τ), keySem k) 0 ∅ 0 ∗ reached ER ((c : Thread nD τ), keySem k) 0) : sProp 𝕄)) :=
  fupd_all fun k _ => by
    iintro ⟨#HI, Ho, Hv⟩
    iapply (Rounds.cell_open ER (Rd Wp) (g := ((c : Thread nD τ), keySem k)) (Set.mem_univ (K ((c : Thread nD τ), keySem k))))
    isplitr; · iapply (inv_of Wp K (key_mem c k)); iexact HI
    isplitl [Ho]; · iexact Ho
    iexact Hv

/-! ## Dealing out -/

/-- The tokens of the duties `c` fulfils. -/
def Pays (c : Dev nD) : sProp 𝕄 :=
  iprop((dutyTok ER (barC (lf c)) 0 true ∗ dutyTok ER (barC (rt c)) 0 false) ∗ (dutyTok ER (exitC (lf c)) 0 true ∗ dutyTok ER (exitC (rt c)) 0 false)
    ∗ fam (fun o p => dutyTok ER (tC 0 c o p) 0 true) ∗ fam (fun o p => dutyTok ER (tC 1 (rt c) o p) 0 true)
    ∗ fam (fun o p => dutyTok ER (tC 2 c o p) 0 true) ∗ fam (fun o p => dutyTok ER (tC 3 (lf c) o p) 0 true))
/-- The arrivals `c` waits for. -/
def Creds (c : Dev nD) : sProp 𝕄 :=
  iprop(cred (tallyAt (barC c) () 2) ∗ cred (tallyAt (exitC c) () 2)
    ∗ (bigSep (Finset.Ico 0 7) fun k => iprop(cred (tallyAt (tC 1 c (ro c (k + 1)) 0) () N) ∗ cred (tallyAt (tC 1 c (ro c (k + 1)) 1) () N)))
    ∗ (bigSep (Finset.Ico 0 8) fun k => iprop(cred (tallyAt (tC 3 c (lo c (k + 1)) 0) () N) ∗ cred (tallyAt (tC 3 c (lo c (k + 1)) 1) () N))))
/-- The own cells, open. -/
def Cells (c : Dev nD) : sProp 𝕄 :=
  bigSep Finset.univ fun k : Key => iprop(atPos ER ((c : Thread nD τ), keySem k) 0 ∅ 0 ∗ reached ER ((c : Thread nD τ), keySem k) 0)

/-- Two cells of one block. -/
abbrev cl2 (a : Fin 4) (c o : Dev nD) : sProp 𝕄 := iprop(Cl Wp (tC a c o 0) ∗ Cl Wp (tC a c o 1))
abbrev at2 (a : Fin 4) (c o : Dev nD) (R : ℕ) : sProp 𝕄 := iprop(atPos ER (tC a c o 0) R ∅ 0 ∗ atPos ER (tC a c o 1) R ∅ 0)
abbrev re2 (a : Fin 4) (c o : Dev nD) : sProp 𝕄 := iprop(reached ER (tC a c o 0) 0 ∗ reached ER (tC a c o 1) 0)
abbrev tk2 (a : Fin 4) (c o : Dev nD) : sProp 𝕄 := iprop(dutyTok ER (tC a c o 0) 0 true ∗ dutyTok ER (tC a c o 1) 0 true)
theorem cl2_past (a : Fin 4) (c o : Dev nD) : (at2 a c o 1 : sProp 𝕄) ⊢ cl2 Wp a c o := BIClass.sep_mono (cl_past Wp _) (cl_past Wp _)
theorem cl2_unused (a : Fin 4) (c o : Dev nD) (h : ∀ p, ¬ used c (dcell a o p)) : (at2 a c o 0 : sProp 𝕄) ⊢ cl2 Wp a c o :=
  BIClass.sep_mono (cl_unused Wp c _ (h 0)) (cl_unused Wp c _ (h 1))

theorem unused0 : ∀ (c : Dev nD), ∀ k < 16, 7 ≤ k → ∀ p, ¬ used c (dcell 0 (ro c k) p) := fun c k hk h p hu => by
  have := hu.2; rw [kindOf_dcell, if_pos (by rfl), orgOf_dcell, dR_ro c k hk] at this; omega
theorem unused1 : ∀ (c : Dev nD), ∀ k < 16, (k = 0 ∨ 8 ≤ k) → ∀ p, ¬ used c (dcell 1 (ro c k) p) := fun c k hk h p hu => by
  have := hu.2; rw [kindOf_dcell, if_neg (by decide), if_pos (by rfl), orgOf_dcell, dR_ro c k hk] at this; omega
theorem unused2 : ∀ (c : Dev nD), ∀ k < 16, 8 ≤ k → ∀ p, ¬ used c (dcell 2 (lo c k) p) := fun c k hk h p hu => by
  have := hu.2; rw [kindOf_dcell, if_neg (by decide), if_neg (by decide), if_pos (by rfl), orgOf_dcell, dL_lo c k hk] at this; omega
theorem unused3 : ∀ (c : Dev nD), ∀ k < 16, (k = 0 ∨ 9 ≤ k) → ∀ p, ¬ used c (dcell 3 (lo c k) p) := fun c k hk h p hu => by
  have := hu.2; rw [kindOf_dcell, if_neg (by decide), if_neg (by decide), if_neg (by decide), orgOf_dcell, dL_lo c k hk] at this; omega

/-- The cells the body never touches. -/
def Rest (c : Dev nD) : sProp 𝕄 :=
  iprop((bigSep (Finset.Ico 7 16) fun k => cl2 Wp 0 c (ro c k)) ∗ (cl2 Wp 1 c (ro c 0) ∗ bigSep (Finset.Ico 8 16) fun k => cl2 Wp 1 c (ro c k))
    ∗ (bigSep (Finset.Ico 8 16) fun k => cl2 Wp 2 c (lo c k)) ∗ (cl2 Wp 3 c (lo c 0) ∗ bigSep (Finset.Ico 9 16) fun k => cl2 Wp 3 c (lo c k)))

theorem cells_split (c : Dev nD) (a : Fin 4) :
    (fam (fun o p => iprop(atPos ER ((c : Thread nD τ), keySem (some (a, o, p))) 0 ∅ 0 ∗ reached ER ((c : Thread nD τ), keySem (some (a, o, p))) 0)) : sProp 𝕄)
      ⊢ iprop(fam (fun o p => atPos ER (tC a c o p) 0 ∅ 0) ∗ fam (fun o p => reached ER (tC a c o p) 0)) := fam_sep _ _

theorem split0 (c : Dev nD) : (fam (fun o p => atPos ER (tC 0 c o p) 0 ∅ 0) : sProp 𝕄)
    ⊢ iprop((bigSep (Finset.Ico 0 7) fun k => at2 0 c (ro c k) 0) ∗ bigSep (Finset.Ico 7 16) fun k => cl2 Wp 0 c (ro c k)) := by
  rw [fam_ro c, cut (show 0 ≤ 7 by omega) (show 7 ≤ 16 by omega)]
  exact BIClass.sep_mono .rfl (mono7 fun k hk => cl2_unused Wp 0 c _ (unused0 c k (Finset.mem_Ico.1 hk).2 (Finset.mem_Ico.1 hk).1))
theorem split1 (c : Dev nD) : (fam (fun o p => atPos ER (tC 1 c o p) 0 ∅ 0) : sProp 𝕄)
    ⊢ iprop((cl2 Wp 1 c (ro c 0) ∗ bigSep (Finset.Ico 8 16) fun k => cl2 Wp 1 c (ro c k)) ∗ bigSep (Finset.Ico 0 7) fun k => at2 1 c (ro c (k + 1)) 0) := by
  rw [fam_ro c, cut (show 0 ≤ 1 by omega) (show 1 ≤ 16 by omega), cut (show 1 ≤ 8 by omega) (show 8 ≤ 16 by omega), one 0, shift 0 7 1]
  iintro ⟨H0, H1, H2⟩
  isplitr [H1]
  · isplitl [H0]; · iapply (cl2_unused Wp 1 c _ (unused1 c 0 (by omega) (.inl rfl))); iexact H0
    iapply (mono7 fun k hk => cl2_unused Wp 1 c _ (unused1 c k (Finset.mem_Ico.1 hk).2 (.inr (Finset.mem_Ico.1 hk).1))); iexact H2
  iexact H1
theorem split2 (c : Dev nD) : (fam (fun o p => atPos ER (tC 2 c o p) 0 ∅ 0) : sProp 𝕄)
    ⊢ iprop((bigSep (Finset.Ico 0 8) fun k => at2 2 c (lo c k) 0) ∗ bigSep (Finset.Ico 8 16) fun k => cl2 Wp 2 c (lo c k)) := by
  rw [fam_lo c, cut (show 0 ≤ 8 by omega) (show 8 ≤ 16 by omega)]
  exact BIClass.sep_mono .rfl (mono7 fun k hk => cl2_unused Wp 2 c _ (unused2 c k (Finset.mem_Ico.1 hk).2 (Finset.mem_Ico.1 hk).1))
theorem split3 (c : Dev nD) : (fam (fun o p => atPos ER (tC 3 c o p) 0 ∅ 0) : sProp 𝕄)
    ⊢ iprop((cl2 Wp 3 c (lo c 0) ∗ bigSep (Finset.Ico 9 16) fun k => cl2 Wp 3 c (lo c k)) ∗ bigSep (Finset.Ico 0 8) fun k => at2 3 c (lo c (k + 1)) 0) := by
  rw [fam_lo c, cut (show 0 ≤ 1 by omega) (show 1 ≤ 16 by omega), cut (show 1 ≤ 9 by omega) (show 9 ≤ 16 by omega), one 0, shift 0 8 1]
  iintro ⟨H0, H1, H2⟩
  isplitr [H1]
  · isplitl [H0]; · iapply (cl2_unused Wp 3 c _ (unused3 c 0 (by omega) (.inl rfl))); iexact H0
    iapply (mono7 fun k hk => cl2_unused Wp 3 c _ (unused3 c k (Finset.mem_Ico.1 hk).2 (.inr (Finset.mem_Ico.1 hk).1))); iexact H2
  iexact H1

theorem first {a b d : ℕ} (h : a ≤ b) (h' : b ≤ d) (Φ : ℕ → sProp 𝕄) : bigSep (Finset.Ico a d) Φ ⊢ bigSep (Finset.Ico a b) Φ := by
  rw [cut h h']
  iintro ⟨H, -⟩
  iexact H
theorem after1 {n : ℕ} (h : n + 1 ≤ 16) (Φ : ℕ → sProp 𝕄) : bigSep (Finset.Ico 0 16) Φ ⊢ bigSep (Finset.Ico 0 n) fun k => Φ (k + 1) := by
  rw [cut (show 0 ≤ 1 by omega) (show 1 ≤ 16 by omega), cut (show 1 ≤ n + 1 by omega) h, ← shift 0 n 1]
  iintro ⟨-, H, -⟩
  iexact H

theorem join2 (S : Finset ℕ) (A B : ℕ → sProp 𝕄) : iprop(bigSep S A ∗ bigSep S B) ⊢ bigSep S fun k => iprop(A k ∗ B k) :=
  Entails.of_eq (bigSep_both S A B).symm
theorem join4 (S : Finset ℕ) (A B C D : ℕ → sProp 𝕄) : iprop(bigSep S A ∗ bigSep S B ∗ bigSep S C ∗ bigSep S D) ⊢ bigSep S fun k => iprop(A k ∗ B k ∗ C k ∗ D k) := by
  iintro ⟨HA, HB, HC, HD⟩
  iapply (join2 S A fun k => iprop(B k ∗ C k ∗ D k))
  isplitl [HA]; · iexact HA
  iapply (join2 S B fun k => iprop(C k ∗ D k))
  isplitl [HB]; · iexact HB
  iapply (join2 S C D)
  isplitl [HC]; · iexact HC
  iexact HD

/-- The rightward sendings' tokens and positions, hop by hop. -/
theorem deal_TR (c : Dev nD) :
    (iprop((bigSep (Finset.Ico 0 7) fun k => at2 0 c (ro c k) 0) ∗ fam (fun o p => reached ER (tC 0 c o p) 0)
      ∗ fam (fun o p => dutyTok ER (tC 0 c o p) 0 true) ∗ fam (fun o p => dutyTok ER (tC 1 (rt c) o p) 0 true)) : sProp 𝕄)
      ⊢ bigSep (Finset.Ico 0 7) fun k => iprop(TR c k 0 ∗ TR c k 1) := by
  rw [fam_ro c, fam_ro c, fam_ro c]
  iintro ⟨Ha, Hr, Ht, Hu⟩
  ihave Hr := (first (show 0 ≤ 7 by omega) (show 7 ≤ 16 by omega) (fun k => re2 0 c (ro c k))) $$ Hr
  ihave Ht := (first (show 0 ≤ 7 by omega) (show 7 ≤ 16 by omega) (fun k => tk2 0 c (ro c k))) $$ Ht
  ihave Hu := (first (show 0 ≤ 7 by omega) (show 7 ≤ 16 by omega) (fun k => tk2 1 (rt c) (ro c k))) $$ Hu
  ihave H := (join4 (Finset.Ico 0 7) (fun k => at2 0 c (ro c k) 0) (fun k => re2 0 c (ro c k)) (fun k => tk2 0 c (ro c k)) (fun k => tk2 1 (rt c) (ro c k))) $$ [Ha Hr Ht Hu]
  · isplitl [Ha]; · iexact Ha
    isplitl [Hr]; · iexact Hr
    isplitl [Ht]; · iexact Ht
    iexact Hu
  iapply (mono7 (Φ := fun k => iprop(at2 0 c (ro c k) 0 ∗ re2 0 c (ro c k) ∗ tk2 0 c (ro c k) ∗ tk2 1 (rt c) (ro c k)))
    (Ψ := fun k => iprop(TR c k 0 ∗ TR c k 1)) fun k _ => by
      unfold TR
      iintro ⟨⟨A0, A1⟩, ⟨R0, R1⟩, ⟨T0, T1⟩, U0, U1⟩
      isplitl [A0 R0 T0 U0]
      · isplitl [T0 R0]
        · isplitl [T0]; · iexact T0
          iexact R0
        isplitl [U0]; · iexact U0
        iexact A0
      isplitl [T1 R1]
      · isplitl [T1]; · iexact T1
        iexact R1
      isplitl [U1]; · iexact U1
      iexact A1)
  iexact H

/-- The leftward sendings' tokens and positions, hop by hop. -/
theorem deal_TL (c : Dev nD) :
    (iprop((bigSep (Finset.Ico 0 8) fun k => at2 2 c (lo c k) 0) ∗ fam (fun o p => reached ER (tC 2 c o p) 0)
      ∗ fam (fun o p => dutyTok ER (tC 2 c o p) 0 true) ∗ fam (fun o p => dutyTok ER (tC 3 (lf c) o p) 0 true)) : sProp 𝕄)
      ⊢ bigSep (Finset.Ico 0 8) fun k => iprop(TL c k 0 ∗ TL c k 1) := by
  rw [fam_lo c, fam_lo c, fam_lo c]
  iintro ⟨Ha, Hr, Ht, Hu⟩
  ihave Hr := (first (show 0 ≤ 8 by omega) (show 8 ≤ 16 by omega) (fun k => re2 2 c (lo c k))) $$ Hr
  ihave Ht := (first (show 0 ≤ 8 by omega) (show 8 ≤ 16 by omega) (fun k => tk2 2 c (lo c k))) $$ Ht
  ihave Hu := (first (show 0 ≤ 8 by omega) (show 8 ≤ 16 by omega) (fun k => tk2 3 (lf c) (lo c k))) $$ Hu
  ihave H := (join4 (Finset.Ico 0 8) (fun k => at2 2 c (lo c k) 0) (fun k => re2 2 c (lo c k)) (fun k => tk2 2 c (lo c k)) (fun k => tk2 3 (lf c) (lo c k))) $$ [Ha Hr Ht Hu]
  · isplitl [Ha]; · iexact Ha
    isplitl [Hr]; · iexact Hr
    isplitl [Ht]; · iexact Ht
    iexact Hu
  iapply (mono7 (Φ := fun k => iprop(at2 2 c (lo c k) 0 ∗ re2 2 c (lo c k) ∗ tk2 2 c (lo c k) ∗ tk2 3 (lf c) (lo c k)))
    (Ψ := fun k => iprop(TL c k 0 ∗ TL c k 1)) fun k _ => by
      unfold TL
      iintro ⟨⟨A0, A1⟩, ⟨R0, R1⟩, ⟨T0, T1⟩, U0, U1⟩
      isplitl [A0 R0 T0 U0]
      · isplitl [T0 R0]
        · isplitl [T0]; · iexact T0
          iexact R0
        isplitl [U0]; · iexact U0
        iexact A0
      isplitl [T1 R1]
      · isplitl [T1]; · iexact T1
        iexact R1
      isplitl [U1]; · iexact U1
      iexact A1)
  iexact H

theorem deal_AR (c : Dev nD) :
    (iprop((bigSep (Finset.Ico 0 7) fun k => at2 1 c (ro c (k + 1)) 0)
      ∗ bigSep (Finset.Ico 0 7) fun k => iprop(cred (tallyAt (tC 1 c (ro c (k + 1)) 0) () N) ∗ cred (tallyAt (tC 1 c (ro c (k + 1)) 1) () N))) : sProp 𝕄)
      ⊢ bigSep (Finset.Ico 0 7) fun k => iprop(AR c (k + 1) 0 ∗ AR c (k + 1) 1) := by
  rw [← bigSep_both]
  refine mono7 fun k _ => ?_
  unfold AR
  iintro ⟨⟨A0, A1⟩, C0, C1⟩
  isplitl [A0 C0]
  · isplitl [C0]; · iexact C0
    iexact A0
  isplitl [C1]; · iexact C1
  iexact A1

theorem deal_AL (c : Dev nD) :
    (iprop((bigSep (Finset.Ico 0 8) fun k => at2 3 c (lo c (k + 1)) 0)
      ∗ bigSep (Finset.Ico 0 8) fun k => iprop(cred (tallyAt (tC 3 c (lo c (k + 1)) 0) () N) ∗ cred (tallyAt (tC 3 c (lo c (k + 1)) 1) () N))) : sProp 𝕄)
      ⊢ bigSep (Finset.Ico 0 8) fun k => iprop(AL c (k + 1) 0 ∗ AL c (k + 1) 1) := by
  rw [← bigSep_both]
  refine mono7 fun k _ => ?_
  unfold AL
  iintro ⟨⟨A0, A1⟩, C0, C1⟩
  isplitl [A0 C0]
  · isplitl [C0]; · iexact C0
    iexact A0
  isplitl [C1]; · iexact C1
  iexact A1

/-- What `c`'s own barrier signal to the left carries: its own slots for the blocks coming round rightwards. -/
theorem deal_barR (c : Dev nD) :
    (iprop((bigSep (Finset.Ico 0 7) fun k => iprop((∃ f, hPts c (ro c (k + 1)) 0 fullShare f) ∗ (∃ f, hPts c (ro c (k + 1)) 1 fullShare f)))
      ∗ fam (fun o p => reached ER (tC 1 c o p) 0) ∗ reached ER (exitC c) 0) : sProp 𝕄) ⊢ barR (lf c) := by
  unfold barR
  rw [rt_lf, fam_ro c, Finset.range_eq_Ico]
  iintro ⟨Hs, Hr, He⟩
  isplitr [He]
  · ihave Hr := (after1 (n := 7) (by omega) (fun k => re2 1 c (ro c k))) $$ Hr
    ihave H := (join2 (Finset.Ico 0 7) (fun k => iprop((∃ f, hPts c (ro c (k + 1)) 0 fullShare f) ∗ (∃ f, hPts c (ro c (k + 1)) 1 fullShare f))) (fun k => re2 1 c (ro c (k + 1)))) $$ [Hs Hr]
    · isplitl [Hs]; · iexact Hs
      iexact Hr
    iapply (mono7 (Φ := fun k => iprop(((∃ f, hPts c (ro c (k + 1)) 0 fullShare f) ∗ (∃ f, hPts c (ro c (k + 1)) 1 fullShare f)) ∗ re2 1 c (ro c (k + 1))))
      (Ψ := fun k => bigSep Finset.univ fun p : Fin 2 => iprop((∃ f, hPts c (ro (lf c) k) p fullShare f) ∗ reached ER (tC 1 c (ro (lf c) k) p) 0)) fun k _ => by
        rw [two, ro_lf]
        iintro ⟨⟨H0, H1⟩, R0, R1⟩
        isplitl [H0 R0]
        · isplitl [H0]; · iexact H0
          iexact R0
        isplitl [H1]; · iexact H1
        iexact R1)
    iexact H
  iexact He

/-- What `c`'s own barrier signal to the right carries: its own slots for the blocks coming round leftwards. -/
theorem deal_barL (c : Dev nD) :
    (iprop((bigSep (Finset.Ico 0 8) fun k => iprop((∃ f, hPts c (lo c (k + 1)) 0 fullShare f) ∗ (∃ f, hPts c (lo c (k + 1)) 1 fullShare f)))
      ∗ fam (fun o p => reached ER (tC 3 c o p) 0) ∗ reached ER (exitC c) 0) : sProp 𝕄) ⊢ barL (rt c) := by
  unfold barL
  rw [lf_rt, fam_lo c, Finset.range_eq_Ico]
  iintro ⟨Hs, Hr, He⟩
  isplitr [He]
  · ihave Hr := (after1 (n := 8) (by omega) (fun k => re2 3 c (lo c k))) $$ Hr
    ihave H := (join2 (Finset.Ico 0 8) (fun k => iprop((∃ f, hPts c (lo c (k + 1)) 0 fullShare f) ∗ (∃ f, hPts c (lo c (k + 1)) 1 fullShare f))) (fun k => re2 3 c (lo c (k + 1)))) $$ [Hs Hr]
    · isplitl [Hs]; · iexact Hs
      iexact Hr
    iapply (mono7 (Φ := fun k => iprop(((∃ f, hPts c (lo c (k + 1)) 0 fullShare f) ∗ (∃ f, hPts c (lo c (k + 1)) 1 fullShare f)) ∗ re2 3 c (lo c (k + 1))))
      (Ψ := fun k => bigSep Finset.univ fun p : Fin 2 => iprop((∃ f, hPts c (lo (rt c) k) p fullShare f) ∗ reached ER (tC 3 c (lo (rt c) k) p) 0)) fun k _ => by
        rw [two, lo_rt]
        iintro ⟨⟨H0, H1⟩, R0, R1⟩
        isplitl [H0 R0]
        · isplitl [H0]; · iexact H0
          iexact R0
        isplitl [H1]; · iexact H1
        iexact R1)
    iexact H
  iexact He

/-- The whole buffer, cut from `c`'s side. -/
theorem whole_mix (c : Dev nD) (f : Buf (Elt F) ((c : Thread nD τ).loc cc0_scratch0)) :
    (((c : Thread nD τ).loc cc0_scratch0) ↦{fullShare} f : sProp 𝕄)
      = iprop((hPts c c 0 fullShare f ∗ hPts c c 1 fullShare f)
        ∗ (bigSep (Finset.Ico 0 7) fun k => iprop(hPts c (ro c (k + 1)) 0 fullShare f ∗ hPts c (ro c (k + 1)) 1 fullShare f))
        ∗ bigSep (Finset.Ico 0 8) fun k => iprop(hPts c (lo c (k + 1)) 0 fullShare f ∗ hPts c (lo c (k + 1)) 1 fullShare f)) := by
  rw [whole_cut]
  simp only [bigSep_fin_two]
  rw [by_hop (mix c) (mix_bij c), cut (show 0 ≤ 1 by omega) (show 1 ≤ 16 by omega), cut (show 1 ≤ 8 by omega) (show 8 ≤ 16 by omega), one 0, shift 0 7 1, shift 0 8 8]
  rw [show mix c 0 = c from ro_zero c,
    bigSep_congr (s := Finset.Ico 0 7) (fun k hk => by
      rw [show mix c (k + 1) = ro c (k + 1) from if_pos (by have := (Finset.mem_Ico.1 hk).2; omega)]),
    bigSep_congr (s := Finset.Ico 0 8) (fun k hk => by
      rw [show mix c (k + 8) = lo c (k + 1) from (if_neg (by omega)).trans (congrArg (lo c) (by omega))])]
  rfl

theorem some_slots (S : Finset ℕ) (c : Dev nD) (e : ℕ → Dev nD) (f : Buf (Elt F) ((c : Thread nD τ).loc cc0_scratch0)) :
    (bigSep S fun k => iprop(hPts c (e k) 0 fullShare f ∗ hPts c (e k) 1 fullShare f) : sProp 𝕄)
      ⊢ bigSep S fun k => iprop((∃ f, hPts c (e k) 0 fullShare f) ∗ (∃ f, hPts c (e k) 1 fullShare f)) :=
  mono7 fun k _ => by
    iintro ⟨H0, H1⟩
    isplitl [H0]; · iexists f; iexact H0
    iexists f; iexact H1

/-- Everything the body asks for. -/
theorem deal (c : Dev nD) (f : Buf (Elt F) ((c : Thread nD τ).loc cc0_scratch0)) :
    iprop(Pays c ∗ (reached ER (barC (lf c)) 0 ∗ reached ER (barC (rt c)) 0) ∗ atPos ER (barC c) 0 ∅ 0 ∗ Cells c ∗ Creds c
        ∗ (((c : Thread nD τ).loc cc0_scratch0) ↦{fullShare} f))
      ⊢ iprop(Toks c ∗ barR (lf c) ∗ barL (rt c) ∗ (hPts c c 0 fullShare f ∗ hPts c c 1 fullShare f) ∗ Rest Wp c) := by
  rw [whole_mix]
  unfold Pays Cells Creds Toks Rest
  rw [keys_eq]
  iintro ⟨⟨⟨Tb1, Tb2⟩, ⟨Te1, Te2⟩, P0, P1, P2, P3⟩, ⟨Rb1, Rb2⟩, Hbar, ⟨⟨Hexit, #Hre⟩, K0, K1, K2, K3⟩, ⟨Cb, Ce, CR, CL⟩, Hown, HsR, HsL⟩
  ihave K0 := (cells_split c 0) $$ K0
  ihave K1 := (cells_split c 1) $$ K1
  ihave K2 := (cells_split c 2) $$ K2
  ihave K3 := (cells_split c 3) $$ K3
  icases K0 with ⟨A0, R0⟩
  icases K1 with ⟨A1, R1⟩
  icases K2 with ⟨A2, R2⟩
  icases K3 with ⟨A3, R3⟩
  ihave A0 := (split0 Wp c) $$ A0
  ihave A1 := (split1 Wp c) $$ A1
  ihave A2 := (split2 Wp c) $$ A2
  ihave A3 := (split3 Wp c) $$ A3
  icases A0 with ⟨A0, X0⟩
  icases A1 with ⟨X1, A1⟩
  icases A2 with ⟨A2, X2⟩
  icases A3 with ⟨X3, A3⟩
  ihave TR := (deal_TR c) $$ [A0 R0 P0 P1]
  · isplitl [A0]; · iexact A0
    isplitl [R0]; · iexact R0
    isplitl [P0]; · iexact P0
    iexact P1
  ihave TL := (deal_TL c) $$ [A2 R2 P2 P3]
  · isplitl [A2]; · iexact A2
    isplitl [R2]; · iexact R2
    isplitl [P2]; · iexact P2
    iexact P3
  ihave AR := (deal_AR c) $$ [A1 CR]
  · isplitl [A1]; · iexact A1
    iexact CR
  ihave AL := (deal_AL c) $$ [A3 CL]
  · isplitl [A3]; · iexact A3
    iexact CL
  ihave HsR := (some_slots (Finset.Ico 0 7) c (fun k => ro c (k + 1)) f) $$ HsR
  ihave HsL := (some_slots (Finset.Ico 0 8) c (fun k => lo c (k + 1)) f) $$ HsL
  ihave BR := (deal_barR c) $$ [HsR R1]
  · isplitl [HsR]; · iexact HsR
    isplitl [R1]; · iexact R1
    iexact Hre
  ihave BL := (deal_barL c) $$ [HsL R3]
  · isplitl [HsL]; · iexact HsL
    isplitl [R3]; · iexact R3
    iexact Hre
  isplitl [Tb1 Rb1 Tb2 Rb2 Te1 Te2 Cb Hbar Ce Hexit TR TL AR AL]
  · isplitl [Tb1 Rb1]
    · isplitl [Tb1]; · iexact Tb1
      iexact Rb1
    isplitl [Tb2 Rb2]
    · isplitl [Tb2]; · iexact Tb2
      iexact Rb2
    isplitl [Te1]; · iexact Te1
    isplitl [Te2]; · iexact Te2
    isplitl [Cb Hbar]
    · isplitl [Cb]; · iexact Cb
      iexact Hbar
    isplitl [Ce Hexit]
    · isplitl [Ce]; · iexact Ce
      iexact Hexit
    isplitl [TR]; · iexact TR
    isplitl [TL]; · iexact TL
    isplitl [AR]; · iexact AR
    iexact AL
  isplitl [BR]; · iexact BR
  isplitl [BL]; · iexact BL
  isplitl [Hown]; · iexact Hown
  isplitl [X0]; · iexact X0
  isplitl [X1]; · iexact X1
  isplitl [X2]; · iexact X2
  iexact X3

/-! ## Gathering up -/

theorem past (S : Finset ℕ) (a : Fin 4) (c : Dev nD) (e : ℕ → Dev nD) :
    (bigSep S fun k => at2 a c (e k) 1 : sProp 𝕄) ⊢ bigSep S fun k => cl2 Wp a c (e k) := mono7 fun k _ => cl2_past Wp a c (e k)

theorem ROUT_split (c : Dev nD) :
    (bigSep (Finset.Ico 1 8) (ROUT Wp c) : sProp 𝕄)
      ⊢ iprop((bigSep (Finset.Ico 0 7) fun k => iprop(hPts c (ro c (k + 1)) 0 fullShare (Wall Wp) ∗ hPts c (ro c (k + 1)) 1 fullShare (Wall Wp)))
        ∗ (bigSep (Finset.Ico 1 8) fun k => at2 1 c (ro c k) 1) ∗ (bigSep (Finset.Ico 1 7) fun k => at2 0 c (ro c k) 1)) := by
  have h : (bigSep (Finset.Ico 1 8) (ROUT Wp c) : sProp 𝕄)
      = iprop((bigSep (Finset.Ico 1 8) fun k => BR Wp c k) ∗ bigSep (Finset.Ico 1 8) fun k => if k < 7 then iprop(DSR c k 0 ∗ DSR c k 1) else iprop(emp)) := by
    exact bigSep_both _ _ _
  rw [h, cut (a := 1) (b := 7) (d := 8) (by omega) (by omega) (fun k => if k < 7 then iprop(DSR c k 0 ∗ DSR c k 1) else iprop(emp)),
    show (bigSep (Finset.Ico 1 8) (fun k => BR Wp c k) : sProp 𝕄)
      = iprop((bigSep (Finset.Ico 1 8) fun k => iprop(hPts c (ro c k) 0 fullShare (Wall Wp) ∗ hPts c (ro c k) 1 fullShare (Wall Wp))) ∗ bigSep (Finset.Ico 1 8) fun k => at2 1 c (ro c k) 1) from bigSep_both _ _ _,
    shift 0 7 1 (fun k => iprop(hPts c (ro c k) 0 fullShare (Wall Wp) ∗ hPts c (ro c k) 1 fullShare (Wall Wp)))]
  iintro ⟨⟨Hs, Ha⟩, Hd, -⟩
  isplitl [Hs]; · iexact Hs
  isplitl [Ha]; · iexact Ha
  iapply (mono7 (Φ := fun k => if k < 7 then iprop(DSR c k 0 ∗ DSR c k 1) else iprop(emp)) (Ψ := fun k => at2 0 c (ro c k) 1) fun k hk => by
    rw [if_pos (Finset.mem_Ico.1 hk).2]
    exact .rfl)
  iexact Hd

theorem LOUT_split (c : Dev nD) :
    (bigSep (Finset.Ico 1 8) (LOUT Wp c) : sProp 𝕄)
      ⊢ iprop((bigSep (Finset.Ico 0 7) fun k => iprop(hPts c (lo c (k + 1)) 0 fullShare (Wall Wp) ∗ hPts c (lo c (k + 1)) 1 fullShare (Wall Wp)))
        ∗ (bigSep (Finset.Ico 1 8) fun k => at2 3 c (lo c k) 1) ∗ (bigSep (Finset.Ico 1 8) fun k => at2 2 c (lo c k) 1)) := by
  have h : (bigSep (Finset.Ico 1 8) (LOUT Wp c) : sProp 𝕄)
      = iprop((bigSep (Finset.Ico 1 8) fun k => BL Wp c k) ∗ bigSep (Finset.Ico 1 8) fun k => at2 2 c (lo c k) 1) := bigSep_both _ _ _
  rw [h, show (bigSep (Finset.Ico 1 8) (fun k => BL Wp c k) : sProp 𝕄)
      = iprop((bigSep (Finset.Ico 1 8) fun k => iprop(hPts c (lo c k) 0 fullShare (Wall Wp) ∗ hPts c (lo c k) 1 fullShare (Wall Wp))) ∗ bigSep (Finset.Ico 1 8) fun k => at2 3 c (lo c k) 1) from bigSep_both _ _ _,
    shift 0 7 1 (fun k => iprop(hPts c (lo c k) 0 fullShare (Wall Wp) ∗ hPts c (lo c k) 1 fullShare (Wall Wp)))]
  iintro ⟨⟨Hs, Ha⟩, Hd⟩
  isplitl [Hs]; · iexact Hs
  isplitl [Ha]; · iexact Ha
  iexact Hd

/-- The end: the buffer whole and full, every cell ready to close. -/
theorem gather (c : Dev nD) :
    iprop(Done Wp c ∗ Rest Wp c)
      ⊢ iprop((((c : Thread nD τ).loc cc0_scratch0) ↦{fullShare} (Wall Wp)) ∗ Cl Wp (barC c) ∗ bigSep Finset.univ fun k : Key => Cl Wp ((c : Thread nD τ), keySem k)) := by
  rw [whole_mix, keys_eq]
  unfold Done Rest BL
  iintro ⟨⟨Hbar, Hexit, DR0, DL0, Hown, ⟨H8, D8⟩, HR, HL⟩, X0, ⟨X1, X1'⟩, X2, X3, X3'⟩
  ihave HR := (ROUT_split Wp c) $$ HR
  ihave HL := (LOUT_split Wp c) $$ HL
  icases HR with ⟨SR, A1, A0⟩
  icases HL with ⟨SL, A3, A2⟩
  ihave DR0 := (show iprop(DSR c 0 0 ∗ DSR c 0 1) ⊢ cl2 Wp 0 c (ro c 0) from cl2_past Wp 0 c (ro c 0)) $$ DR0
  ihave DL0 := (show iprop(DSL c 0 0 ∗ DSL c 0 1) ⊢ cl2 Wp 2 c (lo c 0) from cl2_past Wp 2 c (lo c 0)) $$ DL0
  ihave D8 := (show iprop(DEL c 8 0 ∗ DEL c 8 1) ⊢ cl2 Wp 3 c (lo c 8) from cl2_past Wp 3 c (lo c 8)) $$ D8
  ihave A0 := (past Wp (Finset.Ico 1 7) 0 c (ro c)) $$ A0
  ihave A1 := (past Wp (Finset.Ico 1 8) 1 c (ro c)) $$ A1
  ihave A2 := (past Wp (Finset.Ico 1 8) 2 c (lo c)) $$ A2
  ihave A3 := (past Wp (Finset.Ico 1 8) 3 c (lo c)) $$ A3
  isplitl [Hown SR SL H8]
  · isplitl [Hown]; · iexact Hown
    isplitl [SR]; · iexact SR
    rw [cut (a := 0) (b := 7) (d := 8) (by omega) (by omega), one 7]
    isplitl [SL]; · iexact SL
    iexact H8
  isplitl [Hbar]; · iapply (cl_past Wp (barC c)); iexact Hbar
  isplitl [Hexit]; · iapply (cl_past Wp (exitC c)); iexact Hexit
  isplitl [DR0 A0 X0]
  · rw [fam_ro c, cut (a := 0) (b := 1) (d := 16) (by omega) (by omega), cut (a := 1) (b := 7) (d := 16) (by omega) (by omega), one 0]
    isplitl [DR0]; · iexact DR0
    isplitl [A0]; · iexact A0
    iexact X0
  isplitl [A1 X1 X1']
  · rw [fam_ro c, cut (a := 0) (b := 1) (d := 16) (by omega) (by omega), cut (a := 1) (b := 8) (d := 16) (by omega) (by omega), one 0]
    isplitl [X1]; · iexact X1
    isplitl [A1]; · iexact A1
    iexact X1'
  isplitl [DL0 A2 X2]
  · rw [fam_lo c, cut (a := 0) (b := 1) (d := 16) (by omega) (by omega), cut (a := 1) (b := 8) (d := 16) (by omega) (by omega), one 0]
    isplitl [DL0]; · iexact DL0
    isplitl [A2]; · iexact A2
    iexact X2
  rw [fam_lo c, cut (a := 0) (b := 1) (d := 16) (by omega) (by omega), cut (a := 1) (b := 8) (d := 16) (by omega) (by omega), cut (a := 8) (b := 9) (d := 16) (by omega) (by omega), one 0, one 8]
  isplitl [X3]; · iexact X3
  isplitl [A3]; · iexact A3
  isplitl [D8]; · iexact D8
  iexact X3'

end Cert.KernelIdeal.Run
-- ==== Proof.Run.Region.lean ====
/- The kernel call as one region of the program: what it takes, what the body leaves, what the result array holds after it. -/
module

public import proofs.«01_k».proof.Proof.Run.Open
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionTalk
public import Idealize.ShloMosaic.Lib.Pipeline.Kit
public import Idealize.ShloMosaic.Lib.StableHlo

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)
open Cert.KernelIdeal.Gen

variable (m : (ℓ : Loc nD τ sig) → Buf (Elt F) ℓ)

/-! ## What the kernel reads and leaves -/

/-- The four inputs on device `c`, and the packed weights of every device. -/
def xV (c : Dev nD) : Vec F S2x256x512 .bf16 := V5 m c main_arg0
def pV (c : Dev nD) : Vec F S1024x256 .i8 := V5 m c main_v13
def kV (c : Dev nD) : Vec F S128x64x256 .bf16 := V5 m c main_v25
def vV (c : Dev nD) : Vec F S128x256x64 .bf16 := V5 m c main_v27
/-- The result. -/
def outV (c : Dev nD) : Vec F S2x256x512 .f32 := outEnd (Wall (pV m)) (xV m c) (kV m c) (vV m c) c
def outs : Outs (F := F) := fun _ r c => if h : r = main_v28 then h ▸ outV m c else m ((c : Thread nD τ).loc r)
theorem outs_eq (c : Dev nD) : outs m 6 main_v28 c = outV m c := dif_pos rfl

/-! ## The region's state -/

/-- What the launch keeps for the kernel on device `c`. -/
def Tk (c : Dev nD) : sProp 𝕄 :=
  iprop((∃ K, invAll (pV m) K ∗ Pays c ∗ (reached ER (barC (lf c)) 0 ∗ reached ER (barC (rt c)) 0) ∗ atPos ER (barC c) 0 ∅ 0
    ∗ bigSep Finset.univ fun k : Key => openTok ER ((c : Thread nD τ), keySem k)) ∗ Creds c)
/-- The same with the kernel's own cells open. -/
def Xk (c : Dev nD) : sProp 𝕄 :=
  iprop((∃ K, ctx (pV m) K ∗ Pays c ∗ (reached ER (barC (lf c)) 0 ∗ reached ER (barC (rt c)) 0) ∗ atPos ER (barC c) 0 ∅ 0 ∗ Cells c) ∗ Creds c)
def Yk (c : Dev nD) : sProp 𝕄 := semVal (barC c) 0

def scr (c : Dev nD) : sProp 𝕄 := iprop(∃ f : Buf (Elt F) ((c : Thread nD τ).loc cc0_scratch0), ((c : Thread nD τ).loc cc0_scratch0) ↦{fullShare} f)

def dat0 (c : Dev nD) : Dat τ (Elt F) Unit ℕ UU ℕ cfg0 c where
  A w := V5 m c (Proc.devRef .tc (Pipeline.arrRef spec0 w))
  after w _ := match w with
    | ⟨0, _⟩ => xV m c
    | ⟨1, _⟩ => pV m c
    | ⟨2, _⟩ => kV m c
    | ⟨3, _⟩ => vV m c
    | ⟨4, _⟩ => outV m c
  Φ t := if t.val = 0 then iprop(Xk m c ∗ scr c ∗ ∃ r, prngReg c r) else iprop(Yk c ∗ Pipeline.ownSems0 keySem c ∗ scr c ∗ ∃ r, prngReg c r)
  q _ := fullShare
  owed t := if t.val = 0 then O₀ c else 0

theorem Φ_at (c : Dev nD) (t : Fin (cfg0.N + 1)) : (dat0 m c).Φ t
    = if t.val = 0 then iprop(Xk m c ∗ scr c ∗ ∃ r, prngReg c r) else iprop(Yk c ∗ Pipeline.ownSems0 keySem c ∗ scr c ∗ ∃ r, prngReg c r) := rfl
theorem owed_at (c : Dev nD) (t : Fin (cfg0.N + 1)) : (dat0 m c).owed t = if t.val = 0 then O₀ c else 0 := rfl
theorem last_ne : ((Fin.last cfg0.N).val = 0) → False := by decide

def pdats : (p : Fin 1) → (c : Dev nD) → Dat τ (Elt F) Unit ℕ UU ℕ (cfgs p) c
  | 0 => dat0 m

theorem blk_0 (f : main_arg0.ty.Contents (Elt F)) : (win0_0.blk t0_0).view.read (Elt F) f = f :=
  funext fun y => congrArg f (funext fun a => Fin.ext (Pipeline.Window.rect_emb_val_of_index_zero win0_0 t0_0 a (by revert a; decide) y))
theorem blk_1 (f : main_v13.ty.Contents (Elt F)) : (win0_1.blk t0_0).view.read (Elt F) f = f :=
  funext fun y => congrArg f (funext fun a => Fin.ext (Pipeline.Window.rect_emb_val_of_index_zero win0_1 t0_0 a (by revert a; decide) y))
theorem blk_2 (f : main_v25.ty.Contents (Elt F)) : (win0_2.blk t0_0).view.read (Elt F) f = f :=
  funext fun y => congrArg f (funext fun a => Fin.ext (Pipeline.Window.rect_emb_val_of_index_zero win0_2 t0_0 a (by revert a; decide) y))
theorem blk_3 (f : main_v27.ty.Contents (Elt F)) : (win0_3.blk t0_0).view.read (Elt F) f = f :=
  funext fun y => congrArg f (funext fun a => Fin.ext (Pipeline.Window.rect_emb_val_of_index_zero win0_3 t0_0 a (by revert a; decide) y))
theorem blk_4 (f : main_v28.ty.Contents (Elt F)) : (win0_4.blk t0_0).view.read (Elt F) f = f :=
  funext fun y => congrArg f (funext fun a => Fin.ext (Pipeline.Window.rect_emb_val_of_index_zero win0_4 t0_0 a (by revert a; decide) y))

theorem before_0 (c : Dev nD) (d : (cfg0.win 0).block.Idx → Elt F (cfg0.win 0).elt) : (dat0 m c).before 0 t0_0 d = xV m c := by
  unfold Pipeline.Dat.before; rw [if_pos (by decide)]; exact blk_0 (F := F) (V5 m c main_arg0)
theorem before_1 (c : Dev nD) (d : (cfg0.win 1).block.Idx → Elt F (cfg0.win 1).elt) : (dat0 m c).before 1 t0_0 d = pV m c := by
  unfold Pipeline.Dat.before; rw [if_pos (by decide)]; exact blk_1 (F := F) (V5 m c main_v13)
theorem before_2 (c : Dev nD) (d : (cfg0.win 2).block.Idx → Elt F (cfg0.win 2).elt) : (dat0 m c).before 2 t0_0 d = kV m c := by
  unfold Pipeline.Dat.before; rw [if_pos (by decide)]; exact blk_2 (F := F) (V5 m c main_v25)
theorem before_3 (c : Dev nD) (d : (cfg0.win 3).block.Idx → Elt F (cfg0.win 3).elt) : (dat0 m c).before 3 t0_0 d = vV m c := by
  unfold Pipeline.Dat.before; rw [if_pos (by decide)]; exact blk_3 (F := F) (V5 m c main_v27)

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem owed_first (c : Dev nD) : (dat0 m c).owed t0_0.castSucc = O₀ c := (owed_at m c _).trans (if_pos rfl)
theorem owed_last (c : Dev nD) : (dat0 m c).owed t0_0.succ = 0 := (owed_at m c _).trans (if_neg (by decide))

theorem owes_out (c : Dev nD) : ((dat0 m c).owesAt () t0_0.castSucc : sProp 𝕄) ⊢ ow c (O₀ c) := by
  unfold Dat.owesAt Pipeline.owesWithin ow
  rw [owed_first]
  iintro ⟨%W, -, HO⟩
  iexists W; iexact HO
theorem owes_in (c : Dev nD) : (ow c 0 : sProp 𝕄) ⊢ (dat0 m c).owesAt () t0_0.succ := by
  unfold Dat.owesAt Pipeline.owesWithin Dat.bound ow
  rw [owed_last]
  iintro ⟨%W, HO⟩
  iexists W; isplitr; · ipureintro; exact fun _ _ => Or.inl trivial
  iexact HO

theorem own_eq (c : Dev nD) : (Pipeline.ownSems0 keySem c : sProp 𝕄) = bigSep Finset.univ fun k : Key => semVal ((c : Thread nD τ), keySem k) 0 := rfl

/-- The body's end may take a step. -/
theorem wp_fupd_body (c : Dev nD) (p : Prog (TpuEff nD τ sig (Elt F) Λ₀ .tc) PUnit) (Q : PUnit → sProp 𝕄) :
    wp frame (wpE (defs₀ (F := F)) 𝒱₀ (c : Thread nD τ) none) Set.univ p (fun a => iprop(|={Set.univ}=> Q a)) ⊢ wp frame (wpE (defs₀ (F := F)) 𝒱₀ (c : Thread nD τ) none) Set.univ p Q :=
  wp_fupd _ _ _ p Q

/-- The body from its windows and the protocol's state. -/
theorem body0 (c : Dev nD) : BodyObligation (dat0 (F := F) m c) defs₀ 𝒱₀ () Set.univ := fun t => by
  obtain rfl := fin_N0 t
  rw [bigSep_W0, bigSep_W0]
  simp only [owns_whole]
  rw [show (dat0 m c).Φ t0_0.castSucc = iprop(Xk m c ∗ scr c ∗ ∃ r, prngReg c r) from (Φ_at m c _).trans (if_pos rfl),
    show (dat0 m c).Φ t0_0.succ = iprop(Yk c ∗ Pipeline.ownSems0 keySem c ∗ scr c ∗ ∃ r, prngReg c r) from (Φ_at m c _).trans (if_neg (by decide))]
  unfold Xk scr
  iintro ⟨⟨⟨⟨%K, #Hctx, HP, Hr, Hb, HC⟩, Hcr⟩, ⟨%f, Hs⟩, Hreg⟩, HO, ⟨%d0, %f0, %h0, H0⟩, ⟨%d1, %f1, %h1, H1⟩, ⟨%d2, %f2, %h2, H2⟩, ⟨%d3, %f3, %h3, H3⟩, ⟨%d4, %f4, %h4, H4⟩⟩
  rw [before_0] at h0; subst h0
  rw [before_1] at h1; subst h1
  rw [before_2] at h2; subst h2
  rw [before_3] at h3; subst h3
  ihave HO := (owes_out m c) $$ HO
  ihave HD := (deal (pV m) c f) $$ [HP Hr Hb HC Hcr Hs]
  · isplitl [HP]; · iexact HP
    isplitl [Hr]; · iexact Hr
    isplitl [Hb]; · iexact Hb
    isplitl [HC]; · iexact HC
    isplitl [Hcr]; · iexact Hcr
    iexact Hs
  icases HD with ⟨HT, HbR, HbL, Hown, HX⟩
  iapply (wp_fupd_body c)
  iapply (run_body (pV m) K c (xV m c) (kV m c) (vV m c) f f4 _)
  isplitr; · iexact Hctx
  isplitl [HO]; · iexact HO
  isplitl [HT]; · iexact HT
  isplitl [HbR]; · iexact HbR
  isplitl [HbL]; · iexact HbL
  isplitl [H1]; · iexact H1
  isplitl [Hown]; · iexact Hown
  isplitl [H0 H2 H3 H4]
  · unfold loc
    isplitl [H0]; · iexact H0
    isplitl [H2]; · iexact H2
    isplitl [H3]; · iexact H3
    iexact H4
  iintro ⟨HO, HD, H1, HL⟩
  ihave HG := (gather (pV m) c) $$ [HD HX]
  · isplitl [HD]; · iexact HD
    iexact HX
  icases HG with ⟨Hs, Hb, HK⟩
  ihave Hctx' := (Entails.of_eq (ctx.eq_1 (pV m) K)) $$ Hctx
  icases Hctx' with ⟨#HI, -⟩
  imod (cl_close (pV m) K (barC c) (bar_mem c)) $$ [Hb] with Hb
  · isplitr; · iexact HI
    iexact Hb
  imod (close_keys (pV m) K c) $$ [HK] with HK
  · isplitr; · iexact HI
    iexact HK
  ihave HL := (Entails.of_eq (loc.eq_1 c (xV m c) (kV m c) (vV m c) _)) $$ HL
  icases HL with ⟨H0, H2, H3, H4⟩
  ihave Hb := (show (semVal (barC c) 0 : sProp 𝕄) ⊢ Yk c from .rfl) $$ Hb
  ihave HK := (Entails.of_eq (own_eq (F := F) c).symm) $$ HK
  imodintro
  isplitl [Hb HK Hs Hreg]
  · isplitl [Hb]; · iexact Hb
    isplitl [HK]; · iexact HK
    isplitl [Hs]; · iexists (Wall (pV m)); iexact Hs
    iexact Hreg
  isplitl [HO]; · iapply (owes_in m c); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  iexists _; isplitr; swap; (· iexact H4); ipureintro; rfl

/-! ## The record -/

theorem keys_both (Φ Ψ : Key → sProp 𝕄) : bigSep Finset.univ (fun k => iprop(Φ k ∗ Ψ k)) = iprop(bigSep Finset.univ Φ ∗ bigSep Finset.univ Ψ) := bigSep_sep _ _ _
theorem hopen (c : Dev nD) : iprop(Tk m c ∗ Pipeline.ownSems0 keySem c ∗ levAts L lv) ⊢ (|={Set.univ}=> Xk m c : sProp 𝕄) := by
  rw [own_eq]
  unfold Tk Xk ctx Cells
  iintro ⟨⟨⟨%K, #HI, HP, Hr, Hb, Ho⟩, Hcr⟩, Hv, #Hl⟩
  imod (open_keys (pV m) K c) $$ [Ho Hv] with HC
  · isplitr; · iexact HI
    iapply (Entails.of_eq (keys_both (fun k : Key => openTok ER ((c : Thread nD τ), keySem k)) (fun k : Key => semVal ((c : Thread nD τ), keySem k) 0)).symm)
    isplitl [Ho]; · iexact Ho
    iexact Hv
  imodintro
  isplitr [Hcr]
  · iexists K
    isplitr
    · isplitr; · iexact HI
      iexact Hl
    isplitl [HP]; · iexact HP
    isplitl [Hr]; · iexact Hr
    isplitl [Hb]; · iexact Hb
    iexact HC
  iexact Hcr

theorem above_O₀ (c : Dev nD) : Above 0 (O₀ c) := by
  unfold O₀
  exact ((((above_OR c 0 0 (by omega)).add (above_OL c 0 0 (by omega))).add (above_OX c 0 (by omega))).add (Above.tally rfl (by rw [lv_bar]; omega))).add (Above.tally rfl (by rw [lv_bar]; omega))

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨ht, hl⟩ := above_O₀ c g i h
    exact ⟨by unfold L; rw [if_pos ht]; exact Finset.mem_singleton_self _, hl⟩
  · exact absurd h (Nat.lt_irrefl 0)

abbrev Sr : Finset (DevRef τ sig) := Pipeline.ucRefs τ sig \ Pipeline.arrRefs spec0

theorem hin (c : Dev nD) : iprop(Pipeline.scopedRest (Pipeline.pin (pcfgs (F := F)) adm 0).spec c ∗ (∃ r, prngReg c r) ∗ StableHlo.held (c.tc : Thread nD τ) ∅ (V5 m c) ∗ Xk m c)
    ⊢ (pdats m 0 c).Φ 0 := by
  rw [show (pdats m 0 c).Φ 0 = iprop(Xk m c ∗ scr c ∗ ∃ r, prngReg c r) from (Φ_at m c _).trans (if_pos rfl),
    show (Pipeline.scopedRest (Pipeline.pin (pcfgs (F := F)) adm 0).spec c : sProp 𝕄) = scr c from scopedRest0_eq c]
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V6 m (outs m) c) ∗ Pipeline.ownSems0 keySem c ∗ Yk c) := by
  rw [show (pdats m 0 c).Φ (Fin.last _) = iprop(Yk c ∗ Pipeline.ownSems0 keySem c ∗ scr c ∗ ∃ r, prngReg c r) from (Φ_at m c _).trans (if_neg (by decide)),
    show (Pipeline.scopedRest (Pipeline.pin (pcfgs (F := F)) adm 0).spec c : sProp 𝕄) = scr c from scopedRest0_eq c]
  iintro ⟨HY, Hk, Hs, Hp⟩
  isplitl [Hs]; · iexact Hs
  isplitl [Hp]; · iexact Hp
  isplitr
  · unfold StableHlo.held
    rw [bigSep_empty]
    iempintro
  isplitl [Hk]; · iexact Hk
  iexact HY

theorem arr_first (c : Dev nD) (w) : (pdats m 0 c).arrAt w 0 = V5 m c (Proc.devRef .tc (Pipeline.arrRef (Pipeline.pin (pcfgs (F := F)) adm 0).spec w)) := rfl

theorem last_4 (c : Dev nD) : (dat0 m c).arrAt 4 cfg0.N = outV m c := by
  rw [show cfg0.N = t0_0.val + 1 from by decide, (dat0 m c).arrAt_succ 4 t0_0, if_pos (flush0_4 t0_0)]
  have h := blk_4 (F := F) (((cfg0.win 4).blk t0_0).view.write (Elt F) ((dat0 m c).arrAt 4 t0_0) ((dat0 m c).flushed 4 t0_0) Finset.univ)
  refine h.symm.trans ?_
  exact View.read_write_univ _ _

theorem last_0 (c : Dev nD) : (dat0 m c).arrAt 0 cfg0.N = V6 m (outs m) c main_arg0 := ((dat0 m c).arrAt_in 0 rfl _).trans (V6_of m (outs m) c main_arg0 (by decide)).symm
theorem last_1 (c : Dev nD) : (dat0 m c).arrAt 1 cfg0.N = V6 m (outs m) c main_v13 := ((dat0 m c).arrAt_in 1 rfl _).trans (V6_of m (outs m) c main_v13 (by decide)).symm
theorem last_2 (c : Dev nD) : (dat0 m c).arrAt 2 cfg0.N = V6 m (outs m) c main_v25 := ((dat0 m c).arrAt_in 2 rfl _).trans (V6_of m (outs m) c main_v25 (by decide)).symm
theorem last_3 (c : Dev nD) : (dat0 m c).arrAt 3 cfg0.N = V6 m (outs m) c main_v27 := ((dat0 m c).arrAt_in 3 rfl _).trans (V6_of m (outs m) c main_v27 (by decide)).symm
theorem V6_v28 (c : Dev nD) : V6 m (outs m) c main_v28 = outV m c :=
  (Function.update_self (Proc.devRef .tc main_v28) (outs m 6 main_v28 c) (V5 m c)).trans (outs_eq m c)

theorem arr_last (c : Dev nD) (w : Fin 5) : (dat0 m c).arrAt w cfg0.N = V6 m (outs m) c (Proc.devRef .tc (Pipeline.arrRef spec0 w)) := by
  fin_cases w
  · exact last_0 m c
  · exact last_1 m c
  · exact last_2 m c
  · exact last_3 m c
  · exact (last_4 m c).trans (V6_v28 m c).symm

theorem stg_lv : ∀ (c : Dev nD) (w : Fin 5) (s : Fin (win0 w).nbuf), lv ((c : Thread nD τ), SemLoc.dma ((win0 w).sem s)) () ≤ 0 := by decide +kernel
theorem v28_rest : Proc.devRef (τ := τ) .tc main_v28 ∉ Sr \ ∅ := by decide +kernel
theorem rest_same (c : Dev nD) : ∀ b ∈ Sr \ ∅, V6 m (outs m) c b = V5 m c b := fun b hb => by
  refine Function.update_of_ne (fun h => ?_) _ _
  subst h
  exact v28_rest hb

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 keySem (by decide +kernel : Pipeline.OwnSemFacts spec0 keySem)
    ∅ Sr (Finset.empty_subset _) launch0.toP rfl (fun c => (body0 m c).loose)
    (fun _ => 0) O₀ (fun c => (show (pdats m 0 c).owed 0 = O₀ c from (owed_at m c _).trans (if_pos rfl)).trans (zero_add _).symm) (fun c => (owed_at m c _).trans (if_neg last_ne)) (fun _ => rfl) (fun c w => (dat0 m c).share_full (fun _ => rfl) w)
    (V5 m) (V6 m (outs m)) (rest_same m)
    (Tk m) Yk (Xk m) Yk (hopen m) (hin m) (hout m)
    (fun c => by iintro H; imodintro; iexact H)
    (fun _ => 0)
    ⟨fun c w s => by rw [L_tc]; exact Finset.mem_singleton_self _, fun c w s => stg_lv c w s, fun c t g i h => cutD m c t g i h⟩
    (fun _ => iprop(emp))
    (fun c w => rfl) (arr_last m)

/-- The rest of a device's state before and after the kernel. -/
def E : Fin 2 → Dev nD → sProp 𝕄
  | 0, c => iprop((∃ r, prngReg c r) ∗ Tk m c ∗ ∃ W, owes (c : Thread nD τ) (O₀ c) W)
  | 1, c => iprop(semVal (barC c) 0 ∗ ∃ W, owes (c : Thread nD τ) (0 : CellTallies nD τ sig Unit) W)

theorem arrs_sub : Pipeline.arrRefs (τ := τ) spec0 ⊆ Pipeline.ucRefs τ sig := by decide +kernel

theorem hpre0 (c : Dev nD) : iprop(StableHlo.held (c : Thread nD τ) (Pipeline.ucRefs τ sig) (V5 m c) ∗ E m 0 c) ⊢ (reg0 m).pre c := by
  show _ ⊢ iprop(StableHlo.held (c.tc : Thread nD τ) (Pipeline.arrRefs (τ := τ) spec0) (V5 m c) ∗ (∃ r, prngReg c r)
    ∗ (StableHlo.held (c.tc : Thread nD τ) Sr (V5 m c) ∗ emp) ∗ Tk m c ∗ ∃ Wd, owes (c : Thread nD τ) (0 + O₀ c) Wd)
  rw [zero_add, StableHlo.held_sub_split (c.tc : Thread nD τ) arrs_sub (V5 m c)]
  unfold E
  iintro ⟨⟨Ha, Hs⟩, Hp, HT, HO⟩
  isplitl [Ha]; · iexact Ha
  isplitl [Hp]; · iexact Hp
  isplitl [Hs]
  · isplitl [Hs]; · iexact Hs
    iempintro
  isplitl [HT]; · iexact HT
  iexact HO

theorem hpost0 (c : Dev nD) : (reg0 m).post c ⊢ iprop(StableHlo.held (c : Thread nD τ) (Pipeline.ucRefs τ sig) (V6 m (outs m) c) ∗ E m 1 c) := by
  show iprop(StableHlo.held (c.tc : Thread nD τ) (Pipeline.arrRefs (τ := τ) spec0) (V6 m (outs m) c) ∗ (∃ r, prngReg c r)
    ∗ (StableHlo.held (c.tc : Thread nD τ) Sr (V6 m (outs m) c) ∗ emp) ∗ Yk c ∗ ∃ Wd, owes (c : Thread nD τ) (0 : CellTallies nD τ sig Unit) Wd) ⊢ _
  rw [StableHlo.held_sub_split (c.tc : Thread nD τ) arrs_sub (V6 m (outs m) c)]
  unfold E Yk
  iintro ⟨Ha, -, ⟨Hs, -⟩, Hb, HO⟩
  isplitl [Ha Hs]
  · isplitl [Ha]; · iexact Ha
    iexact Hs
  isplitl [Hb]; · iexact Hb
  iexact HO

end Cert.KernelIdeal.Run
-- ==== Proof.Run.Tokens.lean ====
/- What the launch hands out: the tokens of the duties a device pays, the credits of the arrivals
   it waits for. -/
module

public import proofs.«01_k».proof.Proof.Run.Open
public import Idealize.ShloMosaic.Lib.Pipeline.Launch

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem apart {Φ Ψ : Dev nD → sProp 𝕄} : (bigSep Finset.univ fun c => iprop(Φ c ∗ Ψ c)) ⊢ iprop(bigSep Finset.univ Φ ∗ bigSep Finset.univ Ψ) :=
  Entails.of_eq (bigSep_sep _ _ _)
theorem pair {Φ Ψ : Dev nD → sProp 𝕄} : iprop(bigSep Finset.univ Φ ∗ bigSep Finset.univ Ψ) ⊢ (bigSep Finset.univ fun c => iprop(Φ c ∗ Ψ c)) :=
  Entails.of_eq (bigSep_sep _ _ _).symm

/-! ## Tokens -/

/-- A device's cells: the barrier and its own. -/
def tsem : Option Key → SemLoc sig
  | none => .reg barS
  | some k => keySem k
theorem tsem_inj : Function.Injective tsem := fun x y h => by
  rcases x with _ | x <;> rcases y with _ | y
  · rfl
  · exact absurd h (bar_ne_key y)
  · exact absurd h.symm (bar_ne_key x)
  · exact congrArg some (keySem_inj h)

def toks : Finset (GSem nD τ sig × ℕ × Bool) :=
  Finset.univ.map ⟨fun x : Dev nD × Option Key × Bool => (((x.1 : Thread nD τ), tsem x.2.1), 0, x.2.2), fun x y h => by
    have h1 := tc_inj (congrArg (fun t : GSem nD τ sig × ℕ × Bool => t.1.1) h)
    have h2 := tsem_inj (congrArg (fun t : GSem nD τ sig × ℕ × Bool => t.1.2) h)
    have h3 := congrArg (fun t : GSem nD τ sig × ℕ × Bool => t.2.2) h
    exact Prod.ext h1 (Prod.ext h2 h3)⟩

theorem disjoint_cells : Disjoint barCells scCells := by
  rw [Finset.disjoint_left]
  rintro g h1 h2
  obtain ⟨c, -, rfl⟩ := Finset.mem_map.mp h1
  obtain ⟨q, -, h⟩ := Finset.mem_map.mp h2
  exact bar_ne_key q.2 (congrArg Prod.snd h).symm

theorem bools (Φ : Bool → sProp 𝕄) : bigSep Finset.univ Φ = iprop(Φ true ∗ Φ false) := by
  rw [bigSep_univ_eq_bigSepL [true, false] (by decide) (by decide)]; rfl
theorem opts (Φ : Option Key → sProp 𝕄) : bigSep Finset.univ Φ = iprop(Φ none ∗ bigSep Finset.univ fun k : Key => Φ (some k)) := by
  rw [show (Finset.univ : Finset (Option Key)) = insert none (Finset.univ.map Function.Embedding.some) from by ext x; cases x <;> simp,
    bigSep_insert (by simp), bigSep_map]
  rfl

/-- The tokens of one device's own cells. -/
def mine (c : Dev nD) : sProp 𝕄 :=
  iprop((dutyTok ER (barC c) 0 true ∗ dutyTok ER (barC c) 0 false) ∗ (dutyTok ER (exitC c) 0 true ∗ dutyTok ER (exitC c) 0 false)
    ∗ fam (fun o p => dutyTok ER (tC 0 c o p) 0 true) ∗ fam (fun o p => dutyTok ER (tC 1 c o p) 0 true)
    ∗ fam (fun o p => dutyTok ER (tC 2 c o p) 0 true) ∗ fam (fun o p => dutyTok ER (tC 3 c o p) 0 true))

theorem toks_mine (c : Dev nD) : (bigSep Finset.univ fun x : Option Key × Bool => (dutyTok ER ((c : Thread nD τ), tsem x.1) 0 x.2 : sProp 𝕄)) ⊢ mine c := by
  unfold mine
  rw [bigSep_univ_prod, opts, bools]
  have h (a : Fin 4) : fam (fun o p => bigSep Finset.univ fun b : Bool => (dutyTok ER (tC a c o p) 0 b : sProp 𝕄)) ⊢ fam (fun o p => (dutyTok ER (tC a c o p) 0 true : sProp 𝕄)) := by
    unfold fam
    refine bigSep_mono fun o _ => ?_
    show iprop((bigSep Finset.univ fun b : Bool => (dutyTok ER (tC a c o 0) 0 b : sProp 𝕄)) ∗ (bigSep Finset.univ fun b : Bool => (dutyTok ER (tC a c o 1) 0 b : sProp 𝕄)))
      ⊢ iprop(dutyTok ER (tC a c o 0) 0 true ∗ dutyTok ER (tC a c o 1) 0 true)
    rw [bools, bools]
    iintro ⟨⟨H0, -⟩, H1, -⟩
    isplitl [H0]; · iexact H0
    iexact H1
  have hk : (bigSep Finset.univ fun k : Key => bigSep Finset.univ fun b : Bool => (dutyTok ER ((c : Thread nD τ), tsem (some k)) 0 b : sProp 𝕄))
      = iprop((bigSep Finset.univ fun b : Bool => (dutyTok ER (exitC c) 0 b : sProp 𝕄))
        ∗ fam (fun o p => bigSep Finset.univ fun b : Bool => (dutyTok ER (tC 0 c o p) 0 b : sProp 𝕄)) ∗ fam (fun o p => bigSep Finset.univ fun b : Bool => (dutyTok ER (tC 1 c o p) 0 b : sProp 𝕄))
        ∗ fam (fun o p => bigSep Finset.univ fun b : Bool => (dutyTok ER (tC 2 c o p) 0 b : sProp 𝕄)) ∗ fam (fun o p => bigSep Finset.univ fun b : Bool => (dutyTok ER (tC 3 c o p) 0 b : sProp 𝕄))) := keys_eq _
  rw [hk, bools]
  iintro ⟨HB, HE, H0, H1, H2, H3⟩
  isplitl [HB]; · iexact HB
  isplitl [HE]; · iexact HE
  isplitl [H0]; · iapply (h 0); iexact H0
  isplitl [H1]; · iapply (h 1); iexact H1
  isplitl [H2]; · iapply (h 2); iexact H2
  iapply (h 3); iexact H3

theorem toks_all : bigSep toks (fun x => (dutyTok ER x.1 x.2.1 x.2.2 : sProp 𝕄)) ⊢ bigSep Finset.univ fun c : Dev nD => mine c := by
  unfold toks
  rw [bigSep_map, bigSep_univ_prod]
  exact bigSep_mono fun c _ => toks_mine c

/-- What the neighbours pay, handed to them. -/
theorem around (A B C D X Y Z T : Dev nD → sProp 𝕄) :
    (bigSep Finset.univ fun c => iprop((A c ∗ B c) ∗ (C c ∗ D c) ∗ X c ∗ Y c ∗ Z c ∗ T c))
      ⊢ bigSep Finset.univ fun c => iprop((A (lf c) ∗ B (rt c)) ∗ (C (lf c) ∗ D (rt c)) ∗ X c ∗ Y (rt c) ∗ Z c ∗ T (lf c)) := by
  have hl (P : Dev nD → sProp 𝕄) : bigSep Finset.univ P = bigSep Finset.univ fun c => P (lf c) := bigSep_univ_equiv lfE P
  have hr (P : Dev nD → sProp 𝕄) : bigSep Finset.univ P = bigSep Finset.univ fun c => P (rt c) := bigSep_univ_equiv rtE P
  iintro H
  ihave H := apart $$ H; icases H with ⟨HAB, H⟩
  ihave HAB := apart $$ HAB; icases HAB with ⟨HA, HB⟩
  ihave H := apart $$ H; icases H with ⟨HCD, H⟩
  ihave HCD := apart $$ HCD; icases HCD with ⟨HC, HD⟩
  ihave H := apart $$ H; icases H with ⟨HX, H⟩
  ihave H := apart $$ H; icases H with ⟨HY, H⟩
  ihave H := apart $$ H; icases H with ⟨HZ, HT⟩
  iapply pair; isplitl [HA HB]
  · iapply pair; isplitl [HA]
    · iapply (Entails.of_eq (hl A)); iexact HA
    iapply (Entails.of_eq (hr B)); iexact HB
  iapply pair; isplitl [HC HD]
  · iapply pair; isplitl [HC]
    · iapply (Entails.of_eq (hl C)); iexact HC
    iapply (Entails.of_eq (hr D)); iexact HD
  iapply pair; isplitl [HX]; · iexact HX
  iapply pair; isplitl [HY]; · iapply (Entails.of_eq (hr Y)); iexact HY
  iapply pair; isplitl [HZ]; · iexact HZ
  iapply (Entails.of_eq (hl T)); iexact HT

theorem mine_pays : (bigSep Finset.univ fun c : Dev nD => (mine c : sProp 𝕄)) ⊢ bigSep Finset.univ fun c : Dev nD => Pays c := by
  unfold mine Pays
  exact around (fun c => dutyTok ER (barC c) 0 true) (fun c => dutyTok ER (barC c) 0 false) (fun c => dutyTok ER (exitC c) 0 true) (fun c => dutyTok ER (exitC c) 0 false)
    (fun c => fam (fun o p => dutyTok ER (tC 0 c o p) 0 true)) (fun c => fam (fun o p => dutyTok ER (tC 1 c o p) 0 true))
    (fun c => fam (fun o p => dutyTok ER (tC 2 c o p) 0 true)) (fun c => fam (fun o p => dutyTok ER (tC 3 c o p) 0 true))

/-! ## Credits -/

def TRo (c : Dev nD) : CellTallies nD τ sig Unit :=
  ∑ k ∈ Finset.Ico 0 7, (tallyAt (tC 1 c (ro c (k + 1)) 0) () N + tallyAt (tC 1 c (ro c (k + 1)) 1) () N)
def TLo (c : Dev nD) : CellTallies nD τ sig Unit :=
  ∑ k ∈ Finset.Ico 0 8, (tallyAt (tC 3 c (lo c (k + 1)) 0) () N + tallyAt (tC 3 c (lo c (k + 1)) 1) () N)
/-- What the others owe device `c`'s cells. -/
def To (c : Dev nD) : CellTallies nD τ sig Unit :=
  TRo c + TLo c + (tallyAt (exitC c) () 1 + tallyAt (exitC c) () 1) + tallyAt (barC c) () 1 + tallyAt (barC c) () 1

theorem OR_at (c : Dev nD) : OR c 0 = TRo (rt c) := by
  unfold OR TRo; exact Finset.sum_congr rfl fun k _ => by rw [ro_rt]
theorem OL_at (c : Dev nD) : OL c 0 = TLo (lf c) := by
  unfold OL TLo; exact Finset.sum_congr rfl fun k _ => by rw [lo_lf]

theorem sum_rt (f : Dev nD → CellTallies nD τ sig Unit) : (∑ d, f (rt d)) = ∑ d, f d := Equiv.sum_comp rtE f
theorem sum_lf (f : Dev nD → CellTallies nD τ sig Unit) : (∑ d, f (lf d)) = ∑ d, f d := Equiv.sum_comp lfE f

theorem sum_O₀ : (∑ d, O₀ d) = ∑ d, To d := by
  unfold O₀ To OX
  simp only [OR_at, OL_at, Finset.sum_add_distrib]
  rw [sum_rt TRo, sum_lf TLo, sum_rt (fun d => tallyAt (exitC d) () 1), sum_lf (fun d => tallyAt (exitC d) () 1), sum_rt (fun d => tallyAt (barC d) () 1), sum_lf (fun d => tallyAt (barC d) () 1)]

/-- Owed on one device's cells alone. -/
def On (c : Dev nD) (T : CellTallies nD τ sig Unit) : Prop := ∀ g : GSem nD τ sig, g.1 ≠ (c : Thread nD τ) → T g = 0
theorem On.add {c : Dev nD} {T T' : CellTallies nD τ sig Unit} (h : On c T) (h' : On c T') : On c (T + T') := fun g hg => by
  rw [Pi.add_apply, h g hg, h' g hg, add_zero]
theorem On.sum {c : Dev nD} {s : Finset ℕ} {T : ℕ → CellTallies nD τ sig Unit} (h : ∀ k, On c (T k)) : On c (∑ k ∈ s, T k) := fun g hg => by
  rw [Finset.sum_apply]; exact Finset.sum_eq_zero fun k _ => h k g hg
theorem On.at (c : Dev nD) (s : SemLoc sig) (n : ℕ) : On c (tallyAt ((c : Thread nD τ), s) () n) := fun g hg =>
  tallyAt_ne_cell (fun h => hg (congrArg Prod.fst h)) () n
theorem on_To (c : Dev nD) : On c (To c) := by
  unfold To TRo TLo
  exact ((((On.sum fun k => (On.at c _ _).add (On.at c _ _)).add (On.sum fun k => (On.at c _ _).add (On.at c _ _))).add ((On.at c _ _).add (On.at c _ _))).add (On.at c _ _)).add (On.at c _ _)

theorem cred_two (a b : CellTallies nD τ sig Unit) : (cred (a + b) : sProp 𝕄) = iprop(cred a ∗ cred b) :=
  BI.Entails.antisymm (cred_add a b).1 (cred_add a b).2

theorem creds (c : Dev nD) : (Pipeline.launchCred O₀ c : sProp 𝕄) ⊢ Creds c := by
  rw [Pipeline.launchCred_of_sum O₀ To sum_O₀ (fun d g h => by by_contra hg; exact h (on_To d g hg)) c]
  unfold To Creds TRo TLo
  rw [cred_two, cred_two, cred_two, cred_two, tallyAt_add, Pipeline.cred_finsetSum, Pipeline.cred_finsetSum]
  simp only [cred_two]
  iintro ⟨⟨⟨⟨HR, HL⟩, HE⟩, H0⟩, H1⟩
  isplitl [H0 H1]
  · iapply (Entails.of_eq ((cred_two (F := F) (tallyAt (barC c) () 1) (tallyAt (barC c) () 1)).symm.trans (congrArg cred (tallyAt_add (barC c) () 1 1))))
    isplitl [H0]; · iexact H0
    iexact H1
  isplitl [HE]; · iexact HE
  isplitl [HR]; · iexact HR
  iexact HL

end Cert.KernelIdeal.Run
-- ==== Proof.Run.Launch.lean ====
/- The whole run on the sixteen devices: it ends, each device's result is `outV` of the arguments, the
   arguments are unchanged, every counter is at zero. -/
module

public import proofs.«01_k».proof.Proof.Run.Region
public import proofs.«01_k».proof.Proof.Run.Tokens

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Seg RegionSeg)

variable (m : (ℓ : Loc nD τ sig) → Buf (Elt F) ℓ) (ρ : Dev nD → PrngReg)

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]
theorem unscoped_eq : ∀ sm : SemLoc sig, sm.isScoped .tc = false → sm = .reg barS := by decide +kernel

/-- The ghost state at launch. -/
def u₀ : UU :=
  (initOf (Pipeline.cells (Pipeline.pin (pcfgs (F := F)) adm) cellOf_inj) (Pipeline.launchToks (Pipeline.pin (pcfgs (F := F)) adm) cellOf_inj),
    launchOf barCells scCells toks)

/-- All of a resource at one device. -/
def atDev (c₀ : Dev nD) (X : sProp 𝕄) (c : Dev nD) : sProp 𝕄 := if c = c₀ then X else iprop(emp)
theorem atDev_all (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp
def G : Dev nD → sProp 𝕄 := atDev 0 (BI.own (ER (launchOf barCells scCells toks)))

/-- What every device may consult. -/
def records (K : GSem nD τ sig → ℕ) : sProp 𝕄 := iprop(invAll (pV m) K ∗ bigSep barCells fun g => reached ER g 0)
instance records_persistent (K : GSem nD τ sig → ℕ) : BI.Persistent (records m K) := by unfold records; infer_instance
theorem reached_bar (c : Dev nD) : (bigSep barCells fun g => (reached ER g 0 : sProp 𝕄)) ⊢ reached ER (barC c) 0 :=
  bigSep_elim (Finset.mem_map_of_mem barEmb (Finset.mem_univ c))

/-- What stays with device `c` alone. -/
def linear (c : Dev nD) : sProp 𝕄 :=
  iprop(atPos ER (barC c) 0 ∅ 0 ∗ (bigSep Finset.univ fun k : Key => openTok ER ((c : Thread nD τ), keySem k)) ∗ Pays c)
def bundle (c : Dev nD) : sProp 𝕄 :=
  iprop(StableHlo.held (c : Thread nD τ) (Pipeline.ucRefs τ sig) (V0 m c) ∗ Creds c ∗ owes (c : Thread nD τ) (O₀ c) ∅ ∗ ∃ r, prngReg c r)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V6 m (outs m) c) ∗ semVal (barC c) 0)

theorem T₀_intro (K : GSem nD τ sig → ℕ) (c : Dev nD) : iprop(records m K ∗ (linear c ∗ bundle m c)) ⊢ T₀ m c := by
  unfold bundle T₀ E Tk records linear
  iintro ⟨⟨#HI, #HR⟩, ⟨Hb, Ho, HP⟩, Hh, Hc, HO, Hp⟩
  isplitl [Hh]; · iexact Hh
  isplitl [Hp]; · iexact Hp
  isplitr [HO]
  · isplitr [Hc]
    · iexists K
      isplitr; · iexact HI
      isplitl [HP]; · iexact HP
      isplitr
      · isplitr; · iapply (reached_bar (F := F) (lf c)); iexact HR
        iapply (reached_bar (F := F) (rt c)); iexact HR
      isplitl [Hb]; · iexact Hb
      iexact Ho
    iexact Hc
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    unfold bundle
    rw [← Pipeline.unscopedBufs_held (Ix := Unit) (Name := ℕ) (U := UU) (Lvl := ℕ) c (V0 m c), unscopedSems0_eq]
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Key => (openTok ER ((c : Thread nD τ), keySem k) : sProp 𝕄)) :=
    Entails.of_eq (by
      unfold scCells
      rw [bigSep_map, bigSep_univ_prod]
      rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := apart $$ H'; icases H2 with ⟨HB, H3⟩
  ihave H4 := apart $$ H3; icases H4 with ⟨Hv, HG⟩
  ihave Hu := (show bigSep Finset.univ (G (F := F)) ⊢ BI.own (ER (launchOf barCells scCells toks)) from
    Entails.of_eq (atDev_all (F := F) 0 (BI.own (ER (launchOf barCells scCells toks))))) $$ HG
  imod (Rounds.fund_launch ER (Rd (pV m)) disjoint_cells (fun g _ h => h) toks) $$ [Hv Hu] with ⟨%K, -, #HI, #Hr, Hat, Hopen, Htok⟩
  · isplitl [Hv]
    · iapply hv; iexact Hv
    iexact Hu
  imodintro
  iapply (bigSep_with_persistent (R := records m K) (Φ := fun c => iprop(linear c ∗ bundle m c)) fun c _ => T₀_intro m K c)
  isplitr
  · unfold records invAll
    isplitr; · iexact HI
    iexact Hr
  iapply pair
  isplitr [HB]
  · unfold linear
    iapply pair; isplitl [Hat]; · iapply hat; iexact Hat
    iapply pair; isplitl [Hopen]; · iapply hop; iexact Hopen
    iapply (mine_pays (F := F))
    iapply (toks_all (F := F)); iexact Htok
  iexact HB

set_option backward.isDefEq.respectTransparency.types false in
theorem run_main : θ_run defs (onTc (τ := τ) (main (F := F))) ⟨m, fun _ => 0, ρ⟩
    (fun r => (∀ c : Dev nD, r.2.mem ((c.tc : Thread nD τ).loc main_v28) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Seg.run_eq_chain,
        show (segs m 𝒱₀ L lv (E m) () (pdats m) (reg0 m) c).map Seg.prog = [
          StableHlo.seq (hostOps0 c), StableHlo.seq hostOps0_1, StableHlo.seq hostOps0_2, StableHlo.seq hostOps0_3,
          StableHlo.seq hostOps0_4, Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G (F := F)) (u₀ (F := F)) ?_
    (T₀ := T₀ m) (Tₙ := Tₙ m)
    (hch := fun c => ⟨.rfl, .rfl, .rfl, .rfl, .rfl, hpre0 m c, (hpost0 m c).trans ?_⟩)
    (hinit := init m ρ)
    (QY := fun c s => (s.mem ((c.tc : Thread nD τ).loc main_v28) = outV m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barC c) = 0)
    (hfin := fun c s' => ?_)
    (hQ := fun s h hs => ⟨fun c => (h c).1, sem_eq_zero hs fun c sm hsm => by
        obtain rfl := unscoped_eq sm hsm
        exact (h c).2⟩)
  · unfold u₀ G
    iintro Hu
    ihave H := (ownU_pair _ _) $$ Hu
    icases H with ⟨HP, HX⟩
    imodintro
    isplitl [HP]; · iexact HP
    rw [atDev_all]; iexact HX
  · unfold E
    iintro ⟨Hh, Hb, HO⟩
    isplitr [HO]
    · isplitl [Hh]; · iexact Hh
      iexact Hb
    iexact HO
  · dsimp only [Tₙ]
    unfold StableHlo.held
    iintro ⟨⟨Hh, Hb⟩, HSI⟩
    icombine HSI Hb gives %hb
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨⟨(h (Proc.devRef .tc main_v28) (Finset.mem_filter.mpr ⟨StableHlo.devRef_mem_tcRefs main_v28, by decide⟩)).trans (V6_v28 m c),
        (h (Proc.devRef .tc main_arg0) (Finset.mem_filter.mpr ⟨StableHlo.devRef_mem_tcRefs main_arg0, by decide⟩)).trans (V6_main_arg0 m (outs m) c),
        (h (Proc.devRef .tc main_arg1) (Finset.mem_filter.mpr ⟨StableHlo.devRef_mem_tcRefs main_arg1, by decide⟩)).trans (V6_main_arg1 m (outs m) c),
        (h (Proc.devRef .tc main_arg2) (Finset.mem_filter.mpr ⟨StableHlo.devRef_mem_tcRefs main_arg2, by decide⟩)).trans (V6_main_arg2 m (outs m) c),
        (h (Proc.devRef .tc main_arg3) (Finset.mem_filter.mpr ⟨StableHlo.devRef_mem_tcRefs main_arg3, by decide⟩)).trans (V6_main_arg3 m (outs m) c),
        (h (Proc.devRef .tc main_arg4) (Finset.mem_filter.mpr ⟨StableHlo.devRef_mem_tcRefs main_arg4, by decide⟩)).trans (V6_main_arg4 m (outs m) c)⟩,
        by simpa using hb⟩
    iexact HSI

end Cert.KernelIdeal.Run
-- ==== Proof.Run.Same.lean ====
/- The kernel as printed and the kernel printed for the reals are one program: no rule rewrote anything, and
   only the names differ. So the run, stated for any floats at the latter's names, holds of the former. -/
module

public import proofs.«01_k».proof.Proof.Run.Launch
public import proofs.«01_k».proof.Proof.Gen.Kernel

@[expose] public section

set_option maxRecDepth 100000

noncomputable section

namespace Cert.Proof

open Idealize.ShloMosaic

variable {F : FTy → Type} [FloatOps F]

/-- The two tables of kernel bodies agree: each has one label, and the bodies there are the same text. -/
theorem same_bodies : (Cert.Kernel.defs₀ (F := F)) = (Cert.KernelIdeal.defs₀ (F := F)) := by
  funext p ℓ a
  obtain ⟨l, hl⟩ := ℓ
  cases l with
  | zero => cases p <;> rfl
  | succ n => exact absurd hl (Nat.not_lt.2 (Nat.le_add_left _ _))

/-- So do the tables with the pallas_call's pipeline added. -/
theorem same_defs : (Cert.Kernel.defs (F := F)) = (Cert.KernelIdeal.defs (F := F)) :=
  congrArg (Pipeline.defs Cert.KernelIdeal.pcfgs) same_bodies

end Cert.Proof
-- ==== Proof.Value.Scalar.lean ====
/- The scalar facts of the value claim: the quantiser's codes, the literals, and the softmax with and without its maximum. -/
module

public import Idealize.ShloMosaic.Lib.Pointwise
public import Idealize.ShloMosaic.Lib.IdealHost

@[expose] public section

set_option maxRecDepth 16384

noncomputable section

namespace Cert.Value

open Idealize.ShloMosaic
open scoped BigOperators

/-- The quantiser's scale, the kernel's scale of the queries, and the reference's scale of the scores. -/
def scale : EReal := Ideal.ofBits .f32 0x3A200000#32
def qscale : EReal := Ideal.ofBits .f32 0x38A00000#32
def eighth : EReal := Ideal.ofBits .f32 0x3E000000#32

theorem scale_eq : scale = ((10 / 16384 : ℝ) : EReal) := by
  unfold scale; simp [Ideal.ofBits, Ideal.ieee, -EReal.coe_mul]; norm_num
theorem qscale_eq : qscale = ((10 / 131072 : ℝ) : EReal) := by
  unfold qscale; simp [Ideal.ofBits, Ideal.ieee, -EReal.coe_mul]; norm_num
theorem eighth_eq : eighth = ((1 / 8 : ℝ) : EReal) := by
  unfold eighth; simp [Ideal.ofBits, Ideal.ieee, -EReal.coe_mul]; norm_num
theorem ofBits_neg_inf : Ideal.ofBits .f32 0xFF800000#32 = ⊥ := by
  simp [Ideal.ofBits, Ideal.ieee]

/-- The code of a weight: rounded to the nearest multiple of the scale, clipped. -/
def code (w : EReal) : EReal :=
  min (FloatOps.sitofp (F := Ideal) .bf16 127#32) (max (FloatOps.sitofp (F := Ideal) .bf16 4294967169#32)
    (Ideal.liftRound Ideal.roundHalfEven (Ideal.div w (Ideal.ofBits .bf16 0x3A20#16))))

theorem sitofp_eq {w : ℕ} (φ : FTy) (b : BitVec w) : FloatOps.sitofp (F := Ideal) φ b = ((b.toInt : ℝ) : EReal) := rfl

/-- A code is an integer between -127 and 127. -/
theorem code_int (w : EReal) : ∃ t : ℤ, -127 ≤ t ∧ t ≤ 127 ∧ code w = ((t : ℝ) : EReal) := by
  unfold code
  rw [sitofp_eq, sitofp_eq, show (127#32 : BitVec 32).toInt = 127 by decide, show (4294967169#32 : BitVec 32).toInt = -127 by decide]
  generalize Ideal.div w _ = y
  induction y using EReal.rec with
  | bot => exact ⟨-127, by omega, by omega, by rw [Ideal.liftRound_bot, max_eq_left bot_le, min_eq_right (EReal.coe_le_coe_iff.mpr (by norm_num))]⟩
  | top => exact ⟨127, by omega, by omega, by rw [Ideal.liftRound_top, max_eq_right le_top, min_eq_left le_top]⟩
  | coe r =>
    refine ⟨min 127 (max (-127) (Ideal.roundHalfEven r)), by omega, by omega, ?_⟩
    rw [Ideal.liftRound_coe, ← EReal.coe_strictMono.monotone.map_max, ← EReal.coe_strictMono.monotone.map_min]
    push_cast; rfl

/-- The code as a signed byte is the code again. -/
theorem code_byte (w : EReal) :
    ((((Ideal.fptosi 32 (code w)).setWidth 8).toInt : ℝ) : EReal) = code w := by
  obtain ⟨t, h1, h2, e⟩ := code_int w
  have ht : Ideal.fptosi 32 (code w) = BitVec.ofInt 32 t := by
    rw [e]; unfold Ideal.fptosi
    congr 1
    rw [Ideal.toIntClamped_coe]
    have : (if 0 ≤ (t : ℝ) then ⌊(t : ℝ)⌋ else ⌈(t : ℝ)⌉) = t := by split <;> simp
    rw [this]; omega
  rw [ht, e]
  have : ((BitVec.ofInt 32 t).setWidth 8).toInt = t := by
    have : ∀ n : Fin 255, ((BitVec.ofInt 32 ((n.val : ℤ) - 127)).setWidth 8).toInt = (n.val : ℤ) - 127 := by decide +kernel
    have h := this ⟨(t + 127).toNat, by omega⟩
    have hn : (((t + 127).toNat : ℕ) : ℤ) - 127 = t := by omega
    simpa only [hn] using h
  rw [this]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- Whether a key lies in a query's window, as the programs compute it. -/
def near (i j : Fin 256) : BitVec 1 :=
  IntOp.cmpi CmpIPredicate.sle (IntOp.absi (IntOp.subi (BitVec.ofNat 32 i.val) (BitVec.ofNat 32 j.val))) 128#32
theorem near_self (i : Fin 256) : near i i = 1#1 := by revert i; decide +kernel

theorem any_near (i : Fin 256) : Finset.fold IntOp.ori (0#1) (fun j => near i j) Finset.univ = 1#1 := by
  have : ∀ s : Finset (Fin 256), i ∈ s → Finset.fold IntOp.ori (0#1) (fun j => near i j) s = 1#1 := by
    intro s
    induction s using Finset.induction_on with
    | empty => intro h; simp at h
    | insert a s ha ih =>
      intro h
      rw [Finset.fold_insert ha]
      have one : ∀ x y : BitVec 1, x = 1#1 ∨ y = 1#1 → IntOp.ori x y = 1#1 := by decide
      apply one
      rcases Finset.mem_insert.mp h with h | h
      · left; rw [← h]; exact near_self i
      · right; exact ih h
  exact this _ (Finset.mem_univ i)

/-- The maximum of a row is a real number. -/
theorem max_real (b : Fin 256 → BitVec 1) (s : Fin 256 → ℝ) (i : Fin 256) (hi : b i = 1#1) :
    ∃ μ : ℝ, Finset.fold max (⊥ : EReal) (fun j => Scalar.select (b j) (s j : EReal) ⊥) Finset.univ = (μ : EReal) := by
  have h1 : (s i : EReal) ≤ Finset.fold max (⊥ : EReal) (fun j => Scalar.select (b j) (s j : EReal) ⊥) Finset.univ :=
    (Finset.le_fold_max _).mpr (Or.inr ⟨i, Finset.mem_univ i, by rw [hi]; exact le_refl _⟩)
  have h2 : Finset.fold max (⊥ : EReal) (fun j => Scalar.select (b j) (s j : EReal) ⊥) Finset.univ < ⊤ := by
    rw [Finset.fold_max_lt]
    refine ⟨bot_lt_top, fun j _ => ?_⟩
    unfold Scalar.select; split
    · exact EReal.coe_lt_top _
    · exact bot_lt_top
  revert h1 h2
  generalize Finset.fold max (⊥ : EReal) (fun j => Scalar.select (b j) (s j : EReal) ⊥) Finset.univ = M
  intro h1 h2
  induction M using EReal.rec with
  | bot => exact absurd h1 (not_le.mpr (EReal.bot_lt_coe _))
  | top => exact absurd h2 (lt_irrefl _)
  | coe μ => exact ⟨μ, rfl⟩

theorem sel_one {α : Type} {b : BitVec 1} (h : b = 1#1) (x y : α) : Scalar.select b x y = x := by rw [h]; rfl
theorem sel_zero {α : Type} {b : BitVec 1} (h : ¬b = 1#1) (x y : α) : Scalar.select b x y = y := if_neg h

/-- The weights of a row after subtraction of its maximum, divided by their sum, against the plain exponentials. -/
theorem softmax (b : Fin 256 → BitVec 1) (s : Fin 256 → ℝ) (v : Fin 256 → EReal) (i : Fin 256) (hi : b i = 1#1) :
    (∑ j, v j * Ideal.div (Ideal.exp (Scalar.select (b j) (s j : EReal) ⊥ - Finset.fold max (⊥ : EReal) (fun j => Scalar.select (b j) (s j : EReal) ⊥) Finset.univ))
        (∑ j, Ideal.exp (Scalar.select (b j) (s j : EReal) ⊥ - Finset.fold max (⊥ : EReal) (fun j => Scalar.select (b j) (s j : EReal) ⊥) Finset.univ)))
      = (∑ j, Scalar.select (b j) (Ideal.exp (s j : EReal) * v j) 0) * Ideal.div 1 (∑ j, Scalar.select (b j) (Ideal.exp (s j : EReal)) 0) := by
  obtain ⟨μ, hμ⟩ := max_real b s i hi
  rw [hμ]
  let e : Fin 256 → ℝ := fun j => if b j = 1#1 then Real.exp (s j) else 0
  have he : ∀ j, 0 ≤ e j := fun j => by show 0 ≤ (if b j = 1#1 then Real.exp (s j) else 0); split; exacts [(Real.exp_pos _).le, le_refl _]
  have hA : ∀ j, Ideal.exp (Scalar.select (b j) (s j : EReal) ⊥ - (μ : EReal)) = ((e j * Real.exp (-μ) : ℝ) : EReal) := by
    intro j
    show _ = (((if b j = 1#1 then Real.exp (s j) else 0) * Real.exp (-μ) : ℝ) : EReal)
    by_cases h : b j = 1#1
    · rw [sel_one h, if_pos h, ← EReal.coe_sub, Ideal.exp_coe, ← Real.exp_add, sub_eq_add_neg]
    · rw [sel_zero h, if_neg h, EReal.bot_sub, Ideal.exp_bot, zero_mul, EReal.coe_zero]
  have hB : ∀ j, Scalar.select (b j) (Ideal.exp (s j : EReal)) 0 = ((e j : ℝ) : EReal) := by
    intro j
    show _ = (((if b j = 1#1 then Real.exp (s j) else 0) : ℝ) : EReal)
    by_cases h : b j = 1#1
    · rw [sel_one h, if_pos h, Ideal.exp_coe]
    · rw [sel_zero h, if_neg h, EReal.coe_zero]
  have hC : ∀ j, Scalar.select (b j) (Ideal.exp (s j : EReal) * v j) 0 = ((e j : ℝ) : EReal) * v j := by
    intro j
    show _ = (((if b j = 1#1 then Real.exp (s j) else 0) : ℝ) : EReal) * v j
    by_cases h : b j = 1#1
    · rw [sel_one h, if_pos h, Ideal.exp_coe]
    · rw [sel_zero h, if_neg h, EReal.coe_zero, zero_mul]
  simp only [hA, hB, hC]
  rw [← coe_sum, ← coe_sum]
  have hE : 0 < ∑ j, e j := Finset.sum_pos' (fun j _ => he j) ⟨i, Finset.mem_univ i, by
    show 0 < (if b i = 1#1 then Real.exp (s i) else 0); rw [if_pos hi]; exact Real.exp_pos _⟩
  have hM : 0 < Real.exp (-μ) := Real.exp_pos _
  rw [← Finset.sum_mul, Ideal.div_coe hE.ne', one_mul, sum_mul_coe _ _ (one_div_pos.mpr hE).le]
  refine Finset.sum_congr rfl fun j _ => ?_
  rw [Ideal.div_coe (mul_pos hE hM).ne', ← EReal.coe_mul, mul_comm (v j), mul_assoc ((e j : ℝ) : EReal) (v j), mul_comm (v j) ((1 / ∑ j, e j : ℝ) : EReal), ← mul_assoc, ← EReal.coe_mul]
  congr 2
  rw [one_div, one_div, mul_inv, mul_assoc, mul_comm (∑ j, e j)⁻¹, ← mul_assoc (Real.exp (-μ)), mul_inv_cancel₀ hM.ne', one_mul]

/-- The whole attention, written once over the arguments: queries scaled, scores, contexts, result. -/
def col (H e : Fin 64) : Fin 4096 := ⟨H.val * 64 + e.val, by omega⟩
def hd (x : Fin 4096) : Fin 64 := ⟨x.val / 64, by omega⟩
def wi (x : Fin 4096) : Fin 64 := ⟨x.val % 64, by omega⟩

section Spec
variable (X : (⟨3, ![32, 256, 512]⟩ : Shape).Idx → EReal) (Wq : (⟨2, ![512, 4096]⟩ : Shape).Idx → EReal)
  (K V : (⟨4, ![32, 256, 64, 64]⟩ : Shape).Idx → EReal) (Wo : (⟨2, ![4096, 512]⟩ : Shape).Idx → EReal)

def query (B : Fin 32) (i : Fin 256) (h : Fin 4096) : EReal := (∑ m : Fin 512, X (ix3 B i m) * code (Wq (ix2 m h))) * qscale
def score (B : Fin 32) (H : Fin 64) (i j : Fin 256) : EReal := ∑ e : Fin 64, query X Wq B i (col H e) * K (ix4 B j H e)
def context (B : Fin 32) (i : Fin 256) (H d : Fin 64) : EReal :=
  (∑ j : Fin 256, Scalar.select (near i j) (Ideal.exp (score X Wq K B H i j) * V (ix4 B j H d)) 0)
    * Ideal.div 1 (∑ j : Fin 256, Scalar.select (near i j) (Ideal.exp (score X Wq K B H i j)) 0)
def result (B : Fin 32) (i : Fin 256) (n : Fin 512) : EReal :=
  ∑ x : Fin 4096, context X Wq K V B i (hd x) (wi x) * (code (Wo (ix2 x n)) * scale)

/-- The scores as the reference writes them. -/
def scoreR (B : Fin 32) (H : Fin 64) (i j : Fin 256) : EReal :=
  (∑ e : Fin 64, (∑ m : Fin 512, X (ix3 B i m) * (code (Wq (ix2 m (col H e))) * scale)) * K (ix4 B j H e)) * eighth

/-- At finite inputs and keys the scores are real, and the two ways of writing them agree. -/
theorem score_real (hX : ∀ a, ∃ r : ℝ, X a = (r : EReal)) (hK : ∀ a, ∃ r : ℝ, K a = (r : EReal)) (B : Fin 32) (H : Fin 64) (i j : Fin 256) :
    ∃ r : ℝ, score X Wq K B H i j = (r : EReal) ∧ scoreR X Wq K B H i j = (r : EReal) := by
  choose x hx using hX
  choose k hk using hK
  have hc : ∀ w, ∃ r : ℝ, code w = (r : EReal) := fun w => by obtain ⟨t, _, _, e⟩ := code_int w; exact ⟨(t : ℝ), e⟩
  choose g hg using hc
  refine ⟨∑ e : Fin 64, ((∑ m : Fin 512, x (ix3 B i m) * g (Wq (ix2 m (col H e)))) * (10 / 131072)) * k (ix4 B j H e), ?_, ?_⟩
  · unfold score query
    simp only [hx, hk, hg, qscale_eq, ← EReal.coe_mul, ← coe_sum]
  · unfold scoreR
    simp only [hx, hk, hg, scale_eq, eighth_eq, ← EReal.coe_mul, ← coe_sum]
    congr 1
    rw [Finset.sum_mul]
    refine Finset.sum_congr rfl fun e _ => ?_
    have : ∀ m : Fin 512, x (ix3 B i m) * (g (Wq (ix2 m (col H e))) * (10 / 16384)) = (x (ix3 B i m) * g (Wq (ix2 m (col H e)))) * (10 / 16384) :=
      fun m => (mul_assoc _ _ _).symm
    simp only [this]
    rw [← Finset.sum_mul, show (10 / 131072 : ℝ) = 10 / 16384 * (1 / 8) by norm_num, ← mul_assoc, mul_right_comm]

end Spec

end Cert.Value
-- ==== Proof.Value.Kern.lean ====
/- The kernel's steps read at an index. -/
module

public import proofs.«01_k».proof.Proof.Run.Acc
public import proofs.«01_k».proof.Proof.Value.Scalar
public import Idealize.ShloMosaic.Lib.Pointwise
public import Idealize.ShloMosaic.Lib.WritesUnit

@[expose] public section

set_option maxRecDepth 16384

noncomputable section

namespace Cert.Value

open Idealize.ShloMosaic
open scoped BigOperators

open Cert.KernelIdeal Cert.KernelIdeal.Gen Cert.KernelIdeal.Run

/-- One head of one query row: masked exponentials times values, over the sum of the masked exponentials. -/
def headC (q : Fin 64 → EReal) (k : Fin 64 → Fin 256 → EReal) (v : Fin 256 → Fin 64 → EReal) (i : Fin 256) (d : Fin 64) : EReal :=
  (∑ j, Scalar.select (near i j) (Ideal.exp (∑ e, q e * k e j) * v j d) 0) * Ideal.div 1 (∑ j, Scalar.select (near i j) (Ideal.exp (∑ e, q e * k e j)) 0)

theorem head_apply (k : Vec Ideal S1x64x256 .bf16) (v : Vec Ideal S1x256x64 .bf16) (q : FVec Ideal S256x64 .bf16) (i : Fin 256) (d : Fin 64) :
    k0_pay76 (F := Ideal) k0_pay59 (k0_pay73 k) (k0_pay74 v) q (ix2 i d) = headC (fun e => q (ix2 i e)) (fun e j => k (ix3 0 e j)) (fun j d => v (ix3 0 j d)) i d := by
  generalize hR : headC (fun e => q (ix2 i e)) (fun e j => k (ix3 0 e j)) (fun j d => v (ix3 0 j d)) i d = R
  pointwise [k0_pay76, k0_pay73, k0_pay74, k0_pay59]
  rw [← hR]; rfl

/-- One query entry. -/
def queryC (w : Vec Ideal S1x512x256 .i8) (x : Vec Ideal S1x256x512 .bf16) (i d : Fin 256) : EReal :=
  (∑ m, x (ix3 0 i m) * FloatOps.sitofp (F := Ideal) .bf16 (w (ix3 0 m d))) * qscale

theorem q_apply (w : Vec Ideal S1x512x256 .i8) (x : Vec Ideal S1x256x512 .bf16) (i : Fin 256) (d : Fin 256) :
    k0_pay63 (F := Ideal) (k0_pay60 w) (k0_pay62 x) (ix2 i d) = queryC w x i d := by
  generalize hR : queryC w x i d = R
  pointwise [k0_pay63, k0_pay60, k0_pay62]
  rw [← hR]; rfl

theorem cut0 (Q : FVec Ideal S256x256 .bf16) (i : Fin 256) (e : Fin 64) : extractStridedSlice S256x64 ![0, 0] Q slices_S256x256_o0_0_S256x64 (ix2 i e) = Q (ix2 i ⟨64 * 0 + e.val, by omega⟩) := by
  refine congrArg Q (funext fun a => ?_)
  fin_cases a <;> (apply Fin.ext; simp)
theorem cut1 (Q : FVec Ideal S256x256 .bf16) (i : Fin 256) (e : Fin 64) : extractStridedSlice S256x64 ![0, 64] Q slices_S256x256_o0_64_S256x64 (ix2 i e) = Q (ix2 i ⟨64 * 1 + e.val, by omega⟩) := by
  refine congrArg Q (funext fun a => ?_)
  fin_cases a <;> (apply Fin.ext; simp)
theorem cut2 (Q : FVec Ideal S256x256 .bf16) (i : Fin 256) (e : Fin 64) : extractStridedSlice S256x64 ![0, 128] Q slices_S256x256_o0_128_S256x64 (ix2 i e) = Q (ix2 i ⟨64 * 2 + e.val, by omega⟩) := by
  refine congrArg Q (funext fun a => ?_)
  fin_cases a <;> (apply Fin.ext; simp)
theorem cut3 (Q : FVec Ideal S256x256 .bf16) (i : Fin 256) (e : Fin 64) : extractStridedSlice S256x64 ![0, 192] Q slices_S256x256_o0_192_S256x64 (ix2 i e) = Q (ix2 i ⟨64 * 3 + e.val, by omega⟩) := by
  refine congrArg Q (funext fun a => ?_)
  fin_cases a <;> (apply Fin.ext; simp)

theorem pick (f : Fin 4 → Fin 64 → EReal) (y : Fin 256) :
    (if h : y.val < 64 then f 0 ⟨y.val, h⟩ else if h : y.val - 64 < 64 then f 1 ⟨y.val - 64, h⟩ else if h : y.val - 64 - 64 < 64 then f 2 ⟨y.val - 64 - 64, h⟩
      else f 3 ⟨y.val - 64 - 64 - 64, by omega⟩) = f ⟨y.val / 64, by omega⟩ ⟨y.val % 64, by omega⟩ := by
  have key : ∀ (a : Fin 4) (d : Fin 64), y.val / 64 = a.val → y.val % 64 = d.val → f a d = f ⟨y.val / 64, by omega⟩ ⟨y.val % 64, by omega⟩ := fun a d ha hd => by
    congr 1
    · congr 1; exact Fin.ext ha.symm
    · exact Fin.ext hd.symm
  split_ifs
  · exact key 0 _ (by show _ = 0; omega) (by show _ = y.val; omega)
  · exact key 1 _ (by show _ = 1; omega) (by show _ = y.val - 64; omega)
  · exact key 2 _ (by show _ = 2; omega) (by show _ = y.val - 64 - 64; omega)
  · exact key 3 _ (by show _ = 3; omega) (by show _ = y.val - 64 - 64 - 64; omega)

theorem accEnd_apply (wo : FVec Ideal S512x256 .bf16) (h0 h1 h2 h3 : FVec Ideal S256x64 .bf16) (O : Vec Ideal S1x256x512 .f32) (i : Fin 256) (n : Fin 512) :
    accEnd wo h0 h1 h2 h3 O (ix3 0 i n)
      = O (ix3 0 i n) + (∑ y : Fin 256, (![h0, h1, h2, h3] : Fin 4 → FVec Ideal S256x64 .bf16) ⟨y.val / 64, by omega⟩ (ix2 i ⟨y.val % 64, by omega⟩) * wo (ix2 n y)) * scale := by
  have e : ∀ y : Fin 256, (![h0, h1, h2, h3] : Fin 4 → FVec Ideal S256x64 .bf16) ⟨y.val / 64, by omega⟩ (ix2 i ⟨y.val % 64, by omega⟩)
      = if h : y.val < 64 then h0 (ix2 i ⟨y.val, h⟩) else if h : y.val - 64 < 64 then h1 (ix2 i ⟨y.val - 64, h⟩) else if h : y.val - 64 - 64 < 64 then h2 (ix2 i ⟨y.val - 64 - 64, h⟩)
      else h3 (ix2 i ⟨y.val - 64 - 64 - 64, by omega⟩) := fun y => (pick (fun a d => (![h0, h1, h2, h3] : Fin 4 → FVec Ideal S256x64 .bf16) a (ix2 i d)) y).symm
  simp only [e]
  generalize hR : O (ix3 0 i n) + (∑ y : Fin 256, _) * scale = R
  pointwise [accEnd]
  rw [← hR]; rfl

theorem owo_apply (ow : Vec Ideal S1x512x256 .i8) (n : Fin 512) (y : Fin 256) : k0_pay61 (F := Ideal) ow (ix2 n y) = FloatOps.sitofp (F := Ideal) .bf16 (ow (ix3 0 n y)) := by
  pointwise [k0_pay61]

/-- What one block of weights adds to one entry. -/
def addC (qw ow : Vec Ideal S1x512x256 .i8) (x : Vec Ideal S1x256x512 .bf16) (k : Fin 4 → Vec Ideal S1x64x256 .bf16) (v : Fin 4 → Vec Ideal S1x256x64 .bf16) (i : Fin 256) (n : Fin 512) : EReal :=
  (∑ y : Fin 256, headC (fun e => queryC qw x i ⟨64 * (y.val / 64) + e.val, by omega⟩) (fun e j => k ⟨y.val / 64, by omega⟩ (ix3 0 e j)) (fun j d => v ⟨y.val / 64, by omega⟩ (ix3 0 j d)) i ⟨y.val % 64, by omega⟩
    * FloatOps.sitofp (F := Ideal) .bf16 (ow (ix3 0 n y))) * scale

theorem accWith_apply (qw ow : Vec Ideal S1x512x256 .i8) (x : Vec Ideal S1x256x512 .bf16) (k : Fin 4 → Vec Ideal S1x64x256 .bf16) (v : Fin 4 → Vec Ideal S1x256x64 .bf16)
    (O : Vec Ideal S1x256x512 .f32) (i : Fin 256) (n : Fin 512) :
    accWith qw ow x (k 0) (k 1) (k 2) (k 3) (v 0) (v 1) (v 2) (v 3) O (ix3 0 i n) = O (ix3 0 i n) + addC qw ow x k v i n := by
  unfold accWith addC
  rw [accEnd_apply]
  congr 2
  refine Finset.sum_congr rfl fun y _ => ?_
  rw [owo_apply]
  congr 1
  rw [← pick (fun a d => headC (fun e => queryC qw x i ⟨64 * a.val + e.val, by omega⟩) (fun e j => k a (ix3 0 e j)) (fun j d => v a (ix3 0 j d)) i d) y,
    ← pick (fun a d => (![_, _, _, _] : Fin 4 → FVec Ideal S256x64 .bf16) a (ix2 i d)) y]
  split_ifs
  · refine (head_apply _ _ _ _ _).trans ?_; simp only [cut0, q_apply]; rfl
  · refine (head_apply _ _ _ _ _).trans ?_; simp only [cut1, q_apply]; rfl
  · refine (head_apply _ _ _ _ _).trans ?_; simp only [cut2, q_apply]; rfl
  · refine (head_apply _ _ _ _ _).trans ?_; simp only [cut3, q_apply]; rfl

/-- The place in the whole of a place in one batch. -/
theorem emb_ix3 (b : Fin 2) (h) (i : Fin 256) (n : Fin 512) : (Rect.unit (s := S2x256x512) ![b.val, 0, 0] S1x256x512.size h).emb (ix3 0 i n) = ix3 b i n := by
  funext a
  apply Fin.ext
  fin_cases a
  · show b.val + 1 * 0 = b.val; omega
  · show 0 + 1 * i.val = i.val; omega
  · show 0 + 1 * n.val = n.val; omega

theorem wr_in {κ : Kind} (w : View sig κ .vmem S2x256x512 .f32) (f : w.ty.Contents (Elt Ideal)) (b : Fin 2) (h) (y : (Rect.unit (s := S2x256x512) ![b.val, 0, 0] S1x256x512.size h).shape.Idx → Elt Ideal .f32) (i : Fin 256) (n : Fin 512) :
    w.read (Elt Ideal) ((w.slice (Rect.unit (s := S2x256x512) ![b.val, 0, 0] S1x256x512.size h)).write (Elt Ideal) f y Finset.univ) (ix3 b i n) = y (ix3 0 i n) := by
  have e := View.read_slice_write_emb (Val := Elt Ideal) (v := w) (Rect.unit (s := S2x256x512) ![b.val, 0, 0] S1x256x512.size h) f y (Finset.mem_univ (ix3 0 i n))
  rw [emb_ix3] at e
  exact e

theorem wr_out {κ : Kind} (w : View sig κ .vmem S2x256x512 .f32) (f : w.ty.Contents (Elt Ideal)) (b b' : Fin 2) (hb : b' ≠ b) (h) (y : (Rect.unit (s := S2x256x512) ![b.val, 0, 0] S1x256x512.size h).shape.Idx → Elt Ideal .f32) (i : Fin 256) (n : Fin 512) :
    w.read (Elt Ideal) ((w.slice (Rect.unit (s := S2x256x512) ![b.val, 0, 0] S1x256x512.size h)).write (Elt Ideal) f y Finset.univ) (ix3 b' i n) = w.read (Elt Ideal) f (ix3 b' i n) := by
  refine View.read_slice_write_of_not_mem (Val := Elt Ideal) (v := w) (Rect.unit (s := S2x256x512) ![b.val, 0, 0] S1x256x512.size h) f y Finset.univ ?_
  intro hm
  obtain ⟨z, -, hz⟩ := Finset.mem_map.mp hm
  have h0 : b.val + 1 * (z 0).val = b'.val := congrArg (fun w : S2x256x512.Idx => (w 0).val) hz
  have h1 : (z 0).val < 1 := (z 0).isLt
  exact hb (Fin.ext (by omega))

theorem wr_same (O : Vec Ideal S2x256x512 .f32) (b : Fin 2) (h) (y : Vec Ideal S1x256x512 .f32) (i : Fin 256) (n : Fin 512) : wr O ![b.val, 0, 0] h y (ix3 b i n) = y (ix3 0 i n) :=
  (congrFun (View.read_whole (Val := Elt Ideal) cc0_stg4_0 (wr O ![b.val, 0, 0] h y)) (ix3 b i n)).symm.trans (wr_in (View.whole cc0_stg4_0) O b h y i n)

theorem wr_other (O : Vec Ideal S2x256x512 .f32) (b b' : Fin 2) (hb : b' ≠ b) (h) (y : Vec Ideal S1x256x512 .f32) (i : Fin 256) (n : Fin 512) : wr O ![b.val, 0, 0] h y (ix3 b' i n) = O (ix3 b' i n) :=
  (congrFun (View.read_whole (Val := Elt Ideal) cc0_stg4_0 (wr O ![b.val, 0, 0] h y)) (ix3 b' i n)).symm.trans (wr_out (View.whole cc0_stg4_0) O b b' hb h y i n)

theorem rd_apply (O : Vec Ideal S2x256x512 .f32) (b : Fin 2) (h) (i : Fin 256) (n : Fin 512) : rd O ![b.val, 0, 0] h (ix3 0 i n) = O (ix3 b i n) := by
  refine congrArg O (funext fun a => Fin.ext ?_)
  fin_cases a
  · show b.val + 1 * 0 = b.val; omega
  · show 0 + 1 * i.val = i.val; omega
  · show 0 + 1 * n.val = n.val; omega
theorem rx_apply (O : Vec Ideal S2x256x512 .bf16) (b : Fin 2) (h) (i : Fin 256) (n : Fin 512) : rx O ![b.val, 0, 0] h (ix3 0 i n) = O (ix3 b i n) := by
  refine congrArg O (funext fun a => Fin.ext ?_)
  fin_cases a
  · show b.val + 1 * 0 = b.val; omega
  · show 0 + 1 * i.val = i.val; omega
  · show 0 + 1 * n.val = n.val; omega
theorem kAt_apply (k : Vec Ideal S128x64x256 .bf16) (o : Dev nD) (b : Fin 2) (a : Fin 4) (e : Fin 64) (j : Fin 256) : kAt k o b a (ix3 0 e j) = k (ix3 ⟨64 * b.val + 4 * o.val + a.val, by have := o.isLt; have : nD = 16 := rfl; omega⟩ e j) := by
  refine congrArg k (funext fun r => Fin.ext ?_)
  fin_cases r
  · show 64 * b.val + 4 * o.val + a.val + 1 * 0 = 64 * b.val + 4 * o.val + a.val; omega
  · show 0 + 1 * e.val = e.val; omega
  · show 0 + 1 * j.val = j.val; omega
theorem vAt_apply (k : Vec Ideal S128x256x64 .bf16) (o : Dev nD) (b : Fin 2) (a : Fin 4) (j : Fin 256) (e : Fin 64) : vAt k o b a (ix3 0 j e) = k (ix3 ⟨64 * b.val + 4 * o.val + a.val, by have := o.isLt; have : nD = 16 := rfl; omega⟩ j e) := by
  refine congrArg k (funext fun r => Fin.ext ?_)
  fin_cases r
  · show 64 * b.val + 4 * o.val + a.val + 1 * 0 = 64 * b.val + 4 * o.val + a.val; omega
  · show 0 + 1 * j.val = j.val; omega
  · show 0 + 1 * e.val = e.val; omega
theorem wAt_apply (W : Vec Ideal S16x1024x256 .i8) (o : Dev nD) (p : Fin 2) (m : Fin 512) (d : Fin 256) : wAt (F := Ideal) W o p (ix3 0 m d) = W (ix3 (o : Fin 16) ⟨512 * p.val + m.val, by omega⟩ d) := by
  refine congrArg W (funext fun a => Fin.ext ?_)
  fin_cases a
  · show o.val + 1 * 0 = o.val; omega
  · show 512 * p.val + 1 * m.val = 512 * p.val + m.val; omega
  · show 0 + 1 * d.val = d.val; omega

/-- What device `o`'s block adds to one entry of batch `b`. -/
def part (W : Vec Ideal S16x1024x256 .i8) (x : Vec Ideal S2x256x512 .bf16) (k : Vec Ideal S128x64x256 .bf16) (v : Vec Ideal S128x256x64 .bf16) (b : Fin 2) (i : Fin 256) (n : Fin 512) (o : Dev nD) : EReal :=
  addC (wAt W o 0) (wAt W o 1) (rx x ![b.val, 0, 0] (by revert b; decide +kernel)) (kAt k o b) (vAt v o b) i n

variable (W : Vec Ideal S16x1024x256 .i8) (x : Vec Ideal S2x256x512 .bf16) (k : Vec Ideal S128x64x256 .bf16) (v : Vec Ideal S128x256x64 .bf16)

theorem bin (b : Fin 2) : ∀ a, (![b.val, 0, 0] : Fin 3 → ℕ) a + S1x256x512.size a ≤ S2x256x512.size a := by revert b; decide +kernel
/-- The result with the block of device `o` added, for batch `b`. -/
def accB (b : Fin 2) (o : Dev nD) (O : Vec Ideal S2x256x512 .f32) : Vec Ideal S2x256x512 .f32 :=
  wr O ![b.val, 0, 0] (bin b)
    (accWith (wAt W o 0) (wAt W o 1) (rx x ![b.val, 0, 0] (bin b)) (kAt k o b 0) (kAt k o b 1) (kAt k o b 2) (kAt k o b 3)
      (vAt v o b 0) (vAt v o b 1) (vAt v o b 2) (vAt v o b 3) (rd O ![b.val, 0, 0] (bin b)))
theorem acc0_eq (o : Dev nD) (O : Vec Ideal S2x256x512 .f32) : acc0 W x k v o O = accB W x k v 0 o O := by unfold acc0 accB; rfl
theorem acc1_eq (o : Dev nD) (O : Vec Ideal S2x256x512 .f32) : acc1 W x k v o O = accB W x k v 1 o O := by unfold acc1 accB; rfl

theorem accB_same (o : Dev nD) (O : Vec Ideal S2x256x512 .f32) (b : Fin 2) (i : Fin 256) (n : Fin 512) :
    accB W x k v b o O (ix3 b i n) = O (ix3 b i n) + part W x k v b i n o := by
  unfold accB part
  rw [wr_same]
  refine (accWith_apply _ _ _ (kAt k o b) (vAt v o b) _ i n).trans ?_
  rw [rd_apply]
theorem accB_other (o : Dev nD) (O : Vec Ideal S2x256x512 .f32) (b b' : Fin 2) (hb : b' ≠ b) (i : Fin 256) (n : Fin 512) :
    accB W x k v b o O (ix3 b' i n) = O (ix3 b' i n) := by
  unfold accB
  rw [wr_other _ _ _ hb]

theorem acc_apply (o : Dev nD) (O : Vec Ideal S2x256x512 .f32) (b : Fin 2) (i : Fin 256) (n : Fin 512) :
    acc1 W x k v o (acc0 W x k v o O) (ix3 b i n) = O (ix3 b i n) + part W x k v b i n o := by
  rw [acc0_eq, acc1_eq]
  rcases (by revert b; decide : b = 0 ∨ b = 1) with rfl | rfl
  · rw [accB_other _ _ _ _ _ _ _ _ (by decide), accB_same]
  · rw [accB_same, accB_other _ _ _ _ _ _ _ _ (by decide)]

theorem zero_apply (b : Fin 2) (i : Fin 256) (n : Fin 512) : k0_pay58 (F := Ideal) (ix3 b i n) = 0 := by
  pointwise [k0_pay58]

/-- The devices in the order their blocks are added. -/
def order (c : Dev nD) : List (Dev nD) :=
  [c, ro c 1, lo c 1, ro c 2, lo c 2, ro c 3, lo c 3, ro c 4, lo c 4, ro c 5, lo c 5, ro c 6, lo c 6, ro c 7, lo c 7, lo c 8]

theorem order_perm (c : Dev nD) : (order c).Perm (List.finRange nD) := by revert c; decide +kernel

/-- The kernel's result: every device's block once. -/
theorem outEnd_apply (c : Dev nD) (b : Fin 2) (i : Fin 256) (n : Fin 512) :
    outEnd W x k v c (ix3 b i n) = ∑ o : Dev nD, part W x k v b i n o := by
  have e : ∑ o : Dev nD, part W x k v b i n o = ((order c).map (part W x k v b i n)).sum := by
    rw [((order_perm c).map _).sum_eq]
    exact (List.sum_ofFn ..).symm.trans (by rw [List.ofFn_eq_map])
  rw [e]
  simp only [outEnd, outAt, acc_apply, zero_apply, order, List.map_cons, List.map_nil, List.sum_cons, List.sum_nil, add_zero, zero_add, add_assoc, Nat.reduceAdd]

end Cert.Value
-- ==== Proof.Value.Host.lean ====
/- What the kernel is handed: the packed weights, and each device's batches of keys and values. -/
module

public import proofs.«01_k».proof.Proof.Run.Region
public import proofs.«01_k».proof.Proof.Value.Scalar
public import Idealize.ShloMosaic.Lib.Pointwise
public import Idealize.ShloMosaic.Lib.DynamicIndex

@[expose] public section

set_option maxRecDepth 16384

noncomputable section

namespace Cert.Value

open Idealize.ShloMosaic
open scoped BigOperators

open Cert.KernelIdeal Cert.KernelIdeal.Gen Cert.KernelIdeal.Run Idealize.ShloMosaic.TcCoe

variable (m : (ℓ : Loc nD τ sig) → Buf (Elt Ideal) ℓ)

/-- The kernel's arguments on device `c` as arrays of extended reals. -/
abbrev aX (c : Dev nD) : (⟨3, ![2, 256, 512]⟩ : Shape).Idx → EReal := m (c.tc.loc main_arg0)
abbrev aWq (c : Dev nD) : (⟨2, ![512, 256]⟩ : Shape).Idx → EReal := m (c.tc.loc main_arg1)
abbrev aK (c : Dev nD) : (⟨4, ![32, 256, 64, 64]⟩ : Shape).Idx → EReal := m (c.tc.loc main_arg2)
abbrev aV (c : Dev nD) : (⟨4, ![32, 256, 64, 64]⟩ : Shape).Idx → EReal := m (c.tc.loc main_arg3)
abbrev aWo (c : Dev nD) : (⟨2, ![256, 512]⟩ : Shape).Idx → EReal := m (c.tc.loc main_arg4)

theorem xV_eq (c : Dev nD) : xV m c = m (c.tc.loc main_arg0) := by
  unfold xV
  rw [V5_of m c main_arg0 (by decide), V4_of m c main_arg0 (by decide), V3_of m c main_arg0 (by decide), V2_of m c main_arg0 (by decide), V1_of m c main_arg0 (by decide)]

/-- The two weight matrices, one over the other, the second transposed. -/
def both (c : Dev nD) : FVec Ideal S1024x256 .bf16 :=
  concatenate S1024x256 0 [⟨S512x256, (m (c.tc.loc main_arg1) : FVec Ideal S512x256 .bf16)⟩, ⟨S512x256, transpose S512x256 [1, 0] (m (c.tc.loc main_arg4) : FVec Ideal S256x512 .bf16) transposes_S256x512_S512x256_1_0⟩] concatenates_S512x256_S512x256_S1024x256_d0

/-- The packing: divided by the scale, rounded, clipped, to bytes. -/
def packed (w : FVec Ideal S1024x256 .bf16) : IVec S1024x256 8 :=
  trunci 8 (fptosi 32 (extf .f32 (minimumf (broadcastInDim S1024x256 ![] bcast_S_S1024x256 (sitofp (F := Ideal) .bf16 (constantI S_ 32 127#32)))
    (maximumf (broadcastInDim S1024x256 ![] bcast_S_S1024x256 (sitofp (F := Ideal) .bf16 (constantI S_ 32 4294967169#32)))
      (Host.roundeven (Host.divf w (broadcastInDim S1024x256 ![] bcast_S_S1024x256 (constant (F := Ideal) S_ .bf16 0x3A20#16)))))) bitsLt_bf16_f32)) natLt_8_32

theorem v8_eq (c : Dev nD) : V1 m c main_v8 = Host.divf (both m c) (broadcastInDim S1024x256 ![] bcast_S_S1024x256 (constant (F := Ideal) S_ .bf16 0x3A20#16)) := by
  show StableHlo.after (hostOps0 c) (V0 m c) _ = _
  unfold both
  after_results

theorem v4_eq (c : Dev nD) : V1 m c main_v4 = Host.remui (Host.divui (constantI S_ 32 (Dev.word c)) (constantI S_ 32 1#32)) (constantI S_ 32 16#32) := by
  show StableHlo.after (hostOps0 c) (V0 m c) _ = _
  after_results
  rfl

theorem v9_eq (c : Dev nD) : @Eq (FVec Ideal S1024x256 .bf16) (V2 m c main_v9) (Host.roundeven (F := Ideal) (V1 m c main_v8 : FVec Ideal S1024x256 .bf16)) := by
  show StableHlo.after hostOps0_1 (V1 m c) _ = _
  after_results
  rfl

theorem v10_eq (c : Dev nD) : V4 m c main_v10 = minimumf (broadcastInDim S1024x256 ![] bcast_S_S1024x256 (sitofp (F := Ideal) .bf16 (constantI S_ 32 127#32)))
    (maximumf (broadcastInDim S1024x256 ![] bcast_S_S1024x256 (sitofp (F := Ideal) .bf16 (constantI S_ 32 4294967169#32))) (V3 m c main_v9)) := by
  have h1 : V3 m c main_c_1 = constantI S_ 32 4294967169#32 := by
    show StableHlo.after hostOps0_2 (V2 m c) _ = _
    after_results
  have h2 : V3 m c main_c_2 = constantI S_ 32 127#32 := by
    show StableHlo.after hostOps0_2 (V2 m c) _ = _
    after_results
  rw [← h1, ← h2]
  show StableHlo.after hostOps0_3 (V3 m c) _ = _
  after_results
  rfl

theorem pV_eq (c : Dev nD) : pV m c = packed (both m c) := by
  have h : (V5 m c main_v13 : IVec S1024x256 8) = trunci 8 (fptosi 32 (extf (F := Ideal) .f32 (V4 m c main_v10 : FVec Ideal S1024x256 .bf16) bitsLt_bf16_f32)) natLt_8_32 := by
    show StableHlo.after hostOps0_4 (V4 m c) _ = _
    after_results
  refine h.trans ?_
  rw [v10_eq, V3_of m c main_v9 (by decide), v9_eq, v8_eq]
  rfl

/-- The first of a device's two batches, as the word the slices start at, from the device's number as a word. -/
def start (w : IVec S_ 32) : IVec S_ 32 :=
  select (cmpi .slt (muli w (constantI S_ 32 2#32)) (constantI S_ 32 0#32)) (addi (muli w (constantI S_ 32 2#32)) (constantI S_ 32 32#32)) (muli w (constantI S_ 32 2#32))

theorem k_of (V : Valuation τ sig (Elt Ideal)) : StableHlo.after hostOps0_4 V main_v25 = shapeCast S128x64x256 (transpose S2x64x64x256 [0, 2, 3, 1]
      (Host.dynamicSlice S2x256x64x64 (V main_arg2 : FVec Ideal S32x256x64x64 .bf16) (fun k => ((![start (V main_v4), constantI S_ 32 0#32, constantI S_ 32 0#32, constantI S_ 32 0#32] : Fin 4 → IVec S_ 32) k (Shape.Idx.first h_S_)).toInt) sliceFits_S32x256x64x64_S2x256x64x64)
      transposes_S2x256x64x64_S2x64x64x256_0_2_3_1) shapeCasts_S2x64x64x256_S128x64x256 := by
  after_results
  refine congrArg (fun f => shapeCast S128x64x256 (transpose S2x64x64x256 [0, 2, 3, 1]
      (Host.dynamicSlice S2x256x64x64 (V main_arg2 : FVec Ideal S32x256x64x64 .bf16) f sliceFits_S32x256x64x64_S2x256x64x64)
      transposes_S2x256x64x64_S2x64x64x256_0_2_3_1) shapeCasts_S2x64x64x256_S128x64x256) (funext fun k => ?_)
  refine congrArg (fun f : IVec S_ 32 => (f (Shape.Idx.first h_S_)).toInt) ?_
  fin_cases k
  · refine (cast_eq rfl _).trans ?_
    change @Eq (IVec S_ 32) (HloOp.result (Val := Elt Ideal) _ _ (Proc.tc.devRef main_v17)) (start (V main_v4))
    after_results_simp
    rfl
  · refine (cast_eq rfl _).trans ?_
    change @Eq (IVec S_ 32) (HloOp.result (Val := Elt Ideal) _ _ (Proc.tc.devRef main_c_6)) (constantI S_ 32 0#32)
    after_results_simp
  · refine (cast_eq rfl _).trans ?_
    change @Eq (IVec S_ 32) (HloOp.result (Val := Elt Ideal) _ _ (Proc.tc.devRef main_c_7)) (constantI S_ 32 0#32)
    after_results_simp
  · refine (cast_eq rfl _).trans ?_
    change @Eq (IVec S_ 32) (HloOp.result (Val := Elt Ideal) _ _ (Proc.tc.devRef main_c_8)) (constantI S_ 32 0#32)
    after_results_simp

theorem v_of (V : Valuation τ sig (Elt Ideal)) : StableHlo.after hostOps0_4 V main_v27 = shapeCast S128x256x64 (transpose S2x64x256x64 [0, 2, 1, 3]
      (Host.dynamicSlice S2x256x64x64 (V main_arg3 : FVec Ideal S32x256x64x64 .bf16) (fun k => ((![start (V main_v4), constantI S_ 32 0#32, constantI S_ 32 0#32, constantI S_ 32 0#32] : Fin 4 → IVec S_ 32) k (Shape.Idx.first h_S_)).toInt) sliceFits_S32x256x64x64_S2x256x64x64)
      transposes_S2x256x64x64_S2x64x256x64_0_2_1_3) shapeCasts_S2x64x256x64_S128x256x64 := by
  after_results
  refine congrArg (fun f => shapeCast S128x256x64 (transpose S2x64x256x64 [0, 2, 1, 3]
      (Host.dynamicSlice S2x256x64x64 (V main_arg3 : FVec Ideal S32x256x64x64 .bf16) f sliceFits_S32x256x64x64_S2x256x64x64)
      transposes_S2x256x64x64_S2x64x256x64_0_2_1_3) shapeCasts_S2x64x256x64_S128x256x64) (funext fun k => ?_)
  refine congrArg (fun f : IVec S_ 32 => (f (Shape.Idx.first h_S_)).toInt) ?_
  fin_cases k
  · refine (cast_eq rfl _).trans ?_
    change @Eq (IVec S_ 32) (HloOp.result (Val := Elt Ideal) _ _ (Proc.tc.devRef main_v22)) (start (V main_v4))
    after_results_simp
    rfl
  · refine (cast_eq rfl _).trans ?_
    change @Eq (IVec S_ 32) (HloOp.result (Val := Elt Ideal) _ _ (Proc.tc.devRef main_c_12)) (constantI S_ 32 0#32)
    after_results_simp
  · refine (cast_eq rfl _).trans ?_
    change @Eq (IVec S_ 32) (HloOp.result (Val := Elt Ideal) _ _ (Proc.tc.devRef main_c_13)) (constantI S_ 32 0#32)
    after_results_simp
  · refine (cast_eq rfl _).trans ?_
    change @Eq (IVec S_ 32) (HloOp.result (Val := Elt Ideal) _ _ (Proc.tc.devRef main_c_14)) (constantI S_ 32 0#32)
    after_results_simp

theorem key : ∀ c : Fin 16, (if (BitVec.ofBool ((BitVec.ofNat 32 c.val / 1#32 % 16#32 * 2#32).slt 0#32)) = 1 then (BitVec.ofNat 32 c.val / 1#32 % 16#32 * 2#32 + 32#32) else (BitVec.ofNat 32 c.val / 1#32 % 16#32 * 2#32)).toInt = 2 * (c.val : ℤ) := by
  decide +kernel

theorem start_toInt (m : (ℓ : Loc nD τ sig) → Buf (Elt Ideal) ℓ) (c : Dev nD) (z) : (start (V1 m c main_v4) z).toInt = 2 * (c.val : ℤ) := by
  rw [v4_eq]
  exact key c

theorem packed_apply (w : FVec Ideal S1024x256 .bf16) (j : Fin 1024) (d : Fin 256) : FloatOps.sitofp (F := Ideal) .bf16 (packed w (ix2 j d)) = code (w (ix2 j d)) := by
  have h : packed w (ix2 j d) = (Ideal.fptosi 32 (code (w (ix2 j d)))).setWidth 8 := by
    generalize hR : (Ideal.fptosi 32 (code (w (ix2 j d)))).setWidth 8 = R
    pointwise [packed]
    rw [← hR]; rfl
  rw [h]
  exact code_byte _

theorem both_top (c : Dev nD) (j : Fin 512) (d : Fin 256) : both m c (ix2 ⟨j.val, by omega⟩ d) = aWq m c (ix2 j d) := by
  pointwise [both]
theorem both_low (c : Dev nD) (n : Fin 512) (d : Fin 256) : both m c (ix2 ⟨512 + n.val, by omega⟩ d) = aWo m c (ix2 d n) := by
  pointwise [both]

/-- A byte of the packed weights read as a number is the code of the weight. -/
theorem pV_top (c : Dev nD) (j : Fin 512) (d : Fin 256) : FloatOps.sitofp (F := Ideal) .bf16 (pV m c (ix2 ⟨j.val, by omega⟩ d)) = code (aWq m c (ix2 j d)) := by
  rw [pV_eq, packed_apply, both_top]
theorem pV_low (c : Dev nD) (n : Fin 512) (d : Fin 256) : FloatOps.sitofp (F := Ideal) .bf16 (pV m c (ix2 ⟨512 + n.val, by omega⟩ d)) = code (aWo m c (ix2 d n)) := by
  rw [pV_eq, packed_apply, both_low]

theorem cin (c : Dev nD) : S32x256x64x64.Slices (![2 * c.val, 0, 0, 0] : Fin 4 → ℕ) S2x256x64x64 := by revert c; decide +kernel

theorem slice_of (A : FVec Ideal S32x256x64x64 .bf16) (w : IVec S_ 32) (c : Dev nD) (hw : ∀ z, (start w z).toInt = 2 * (c.val : ℤ)) :
    Host.dynamicSlice S2x256x64x64 A (fun k => ((![start w, constantI S_ 32 0#32, constantI S_ 32 0#32, constantI S_ 32 0#32] : Fin 4 → IVec S_ 32) k (Shape.Idx.first h_S_)).toInt) sliceFits_S32x256x64x64_S2x256x64x64
      = extractStridedSlice S2x256x64x64 ![2 * c.val, 0, 0, 0] A (cin c) := by
  refine Host.dynamicSlice_eq_extractStridedSlice (s := S32x256x64x64) S2x256x64x64 _ _ ![2 * c.val, 0, 0, 0] _ (cin c) fun a => ?_
  fin_cases a
  · exact hw _
  · rfl
  · rfl
  · rfl

theorem k_cut (V : Valuation τ sig (Elt Ideal)) (A : FVec Ideal S32x256x64x64 .bf16) (hA : V main_arg2 = A) (c : Dev nD) (hw : ∀ z, (start (V main_v4) z).toInt = 2 * (c.val : ℤ)) :
    StableHlo.after hostOps0_4 V main_v25 = shapeCast S128x64x256 (transpose S2x64x64x256 [0, 2, 3, 1] (extractStridedSlice S2x256x64x64 ![2 * c.val, 0, 0, 0] A (cin c)) transposes_S2x256x64x64_S2x64x64x256_0_2_3_1) shapeCasts_S2x64x64x256_S128x64x256 := by
  subst hA
  exact (k_of V).trans (congrArg (fun f => shapeCast S128x64x256 (transpose S2x64x64x256 [0, 2, 3, 1] f transposes_S2x256x64x64_S2x64x64x256_0_2_3_1) shapeCasts_S2x64x64x256_S128x64x256) (slice_of _ _ c hw))

theorem v_cut (V : Valuation τ sig (Elt Ideal)) (A : FVec Ideal S32x256x64x64 .bf16) (hA : V main_arg3 = A) (c : Dev nD) (hw : ∀ z, (start (V main_v4) z).toInt = 2 * (c.val : ℤ)) :
    StableHlo.after hostOps0_4 V main_v27 = shapeCast S128x256x64 (transpose S2x64x256x64 [0, 2, 1, 3] (extractStridedSlice S2x256x64x64 ![2 * c.val, 0, 0, 0] A (cin c)) transposes_S2x256x64x64_S2x64x256x64_0_2_1_3) shapeCasts_S2x64x256x64_S128x256x64 := by
  subst hA
  exact (v_of V).trans (congrArg (fun f => shapeCast S128x256x64 (transpose S2x64x256x64 [0, 2, 1, 3] f transposes_S2x256x64x64_S2x64x256x64_0_2_1_3) shapeCasts_S2x64x256x64_S128x256x64) (slice_of _ _ c hw))

theorem start_dev (c : Dev nD) (z) : (start (V4 m c main_v4) z).toInt = 2 * (c.val : ℤ) := by
  rw [V4_of m c main_v4 (by decide), V3_of m c main_v4 (by decide), V2_of m c main_v4 (by decide)]
  exact start_toInt m c z

theorem kV_slice (c : Dev nD) : kV m c = shapeCast S128x64x256 (transpose S2x64x64x256 [0, 2, 3, 1]
      (extractStridedSlice S2x256x64x64 ![2 * c.val, 0, 0, 0] (m (c.tc.loc main_arg2) : FVec Ideal S32x256x64x64 .bf16) (cin c))
      transposes_S2x256x64x64_S2x64x64x256_0_2_3_1) shapeCasts_S2x64x64x256_S128x64x256 := by
  have h1 : V4 m c main_arg2 = m (c.tc.loc main_arg2) := by
    rw [V4_of m c main_arg2 (by decide), V3_of m c main_arg2 (by decide), V2_of m c main_arg2 (by decide), V1_of m c main_arg2 (by decide)]
  exact k_cut (V4 m c) _ h1 c (start_dev m c)

theorem kV_apply (c : Dev nD) (h : Fin 128) (e : Fin 64) (j : Fin 256) : kV m c (ix3 h e j) =
    aK m c (ix4 ⟨2 * c.val + h.val / 64, by have := c.isLt; have : nD = 16 := rfl; omega⟩ j ⟨h.val % 64, by omega⟩ e) := by
  rw [kV_slice]
  pointwise

theorem vV_slice (c : Dev nD) : vV m c = shapeCast S128x256x64 (transpose S2x64x256x64 [0, 2, 1, 3]
      (extractStridedSlice S2x256x64x64 ![2 * c.val, 0, 0, 0] (m (c.tc.loc main_arg3) : FVec Ideal S32x256x64x64 .bf16) (cin c))
      transposes_S2x256x64x64_S2x64x256x64_0_2_1_3) shapeCasts_S2x64x256x64_S128x256x64 := by
  have h1 : V4 m c main_arg3 = m (c.tc.loc main_arg3) := by
    rw [V4_of m c main_arg3 (by decide), V3_of m c main_arg3 (by decide), V2_of m c main_arg3 (by decide), V1_of m c main_arg3 (by decide)]
  exact v_cut (V4 m c) _ h1 c (start_dev m c)

theorem vV_apply (c : Dev nD) (h : Fin 128) (j : Fin 256) (e : Fin 64) : vV m c (ix3 h j e) =
    aV m c (ix4 ⟨2 * c.val + h.val / 64, by have := c.isLt; have : nD = 16 := rfl; omega⟩ j ⟨h.val % 64, by omega⟩ e) := by
  rw [vV_slice]
  pointwise

end Cert.Value
-- ==== Proof.Value.Agree.lean ====
/- The kernel's result, device by device, is the attention of the whole arguments. -/
module

public import proofs.«01_k».proof.Proof.Value.Kern
public import proofs.«01_k».proof.Proof.Value.Host

@[expose] public section

set_option maxRecDepth 16384

noncomputable section

namespace Cert.Value

open Idealize.ShloMosaic
open scoped BigOperators

open Cert.KernelIdeal Cert.KernelIdeal.Gen Cert.KernelIdeal.Run

theorem dev_lt (c : Dev nD) : c.val < 16 := c.isLt

/-- The whole index of batch `b` of device `c`. -/
def batch (c : Dev nD) (b : Fin 2) : Fin 32 := ⟨2 * c.val + b.val, by have := dev_lt c; omega⟩
/-- The whole index of place `y` of the block of device `o`. -/
def place (o : Dev nD) (y : Fin 256) : Fin 4096 := ⟨256 * o.val + y.val, by have := dev_lt o; omega⟩

/-- A sum over the devices and the places of a block is a sum over all places. -/
theorem sum_places (g : Fin 4096 → EReal) : ∑ o : Dev nD, ∑ y : Fin 256, g (place o y) = ∑ x : Fin 4096, g x := by
  have e : ∑ o : Fin 16, ∑ y : Fin 256, g (place o y) = ∑ p : Fin 16 × Fin 256, g (place p.1 p.2) := (Fintype.sum_prod_type (fun p : Fin 16 × Fin 256 => g (place p.1 p.2))).symm
  refine e.trans ?_
  refine Fintype.sum_equiv (finProdFinEquiv (m := 16) (n := 256)) _ _ fun p => congrArg g (Fin.ext ?_)
  show 256 * p.1.val + p.2.val = p.2.val + 256 * p.1.val
  omega

theorem wall_apply (m : (ℓ : Loc nD τ sig) → Buf (Elt Ideal) ℓ) (o : Dev nD) (j : Fin 1024) (d : Fin 256) (j' : Fin 1024) (h : j.val = j'.val) :
    (Wall (pV m) : Vec Ideal S16x1024x256 .i8) (ix3 (o : Fin 16) j d) = pV m o (ix2 j' d) := by
  obtain rfl : j = j' := Fin.ext h
  refine congrArg (pV m o) (funext fun a => ?_)
  fin_cases a <;> rfl

section Parts

variable (W : Vec Ideal S16x1024x256 .i8) (x : Vec Ideal S2x256x512 .bf16) (k : Vec Ideal S128x64x256 .bf16) (v : Vec Ideal S128x256x64 .bf16)
variable (X : (⟨3, ![32, 256, 512]⟩ : Shape).Idx → EReal) (Wq : (⟨2, ![512, 4096]⟩ : Shape).Idx → EReal) (K V : (⟨4, ![32, 256, 64, 64]⟩ : Shape).Idx → EReal)
  (Wo : (⟨2, ![4096, 512]⟩ : Shape).Idx → EReal) (c : Dev nD)
variable (hx : ∀ b i n, x (ix3 b i n) = X (ix3 (batch c b) i n))
  (hq : ∀ (o : Dev nD) (j : Fin 512) (d : Fin 256), FloatOps.sitofp (F := Ideal) .bf16 (W (ix3 (o : Fin 16) ⟨512 * (0 : Fin 2).val + j.val, by show 512 * 0 + j.val < 1024; omega⟩ d)) = code (Wq (ix2 j (place o d))))
  (ho : ∀ (o : Dev nD) (n : Fin 512) (d : Fin 256), FloatOps.sitofp (F := Ideal) .bf16 (W (ix3 (o : Fin 16) ⟨512 * (1 : Fin 2).val + n.val, by show 512 * 1 + n.val < 1024; omega⟩ d)) = code (Wo (ix2 (place o d) n)))
  (hk : ∀ (h : Fin 128) (e : Fin 64) (j : Fin 256), k (ix3 h e j) = K (ix4 ⟨2 * c.val + h.val / 64, by have := dev_lt c; omega⟩ j ⟨h.val % 64, by omega⟩ e))
  (hv : ∀ (h : Fin 128) (j : Fin 256) (e : Fin 64), v (ix3 h j e) = V (ix4 ⟨2 * c.val + h.val / 64, by have := dev_lt c; omega⟩ j ⟨h.val % 64, by omega⟩ e))

include hx hq in
theorem queryC_eq (o : Dev nD) (b : Fin 2) (h) (i d : Fin 256) :
    queryC (wAt (F := Ideal) W o 0) (rx x ![b.val, 0, 0] h) i d = query X Wq (batch c b) i (place o d) := by
  unfold queryC query
  refine congrArg (· * qscale) (Finset.sum_congr rfl fun j _ => ?_)
  rw [rx_apply, wAt_apply, hx, hq]

include ho in
theorem owC_eq (o : Dev nD) (n : Fin 512) (y : Fin 256) :
    FloatOps.sitofp (F := Ideal) .bf16 (wAt (F := Ideal) W o 1 (ix3 0 n y)) = code (Wo (ix2 (place o y) n)) := by
  rw [wAt_apply, ho]

include hk in
theorem keyC_eq (o : Dev nD) (b : Fin 2) (a : Fin 4) (H : Fin 64) (hH : H.val = 4 * o.val + a.val) (e : Fin 64) (j : Fin 256) :
    kAt k o b a (ix3 0 e j) = K (ix4 (batch c b) j H e) := by
  have := dev_lt o
  rw [kAt_apply, hk]
  have e1 : (64 * b.val + 4 * o.val + a.val) / 64 = b.val := by omega
  have e2 : (64 * b.val + 4 * o.val + a.val) % 64 = H.val := by omega
  congr 2
  · exact Fin.ext (congrArg (2 * c.val + ·) e1)
  · exact Fin.ext e2
include hv in
theorem valC_eq (o : Dev nD) (b : Fin 2) (a : Fin 4) (H : Fin 64) (hH : H.val = 4 * o.val + a.val) (j : Fin 256) (e : Fin 64) :
    vAt v o b a (ix3 0 j e) = V (ix4 (batch c b) j H e) := by
  have := dev_lt o
  rw [vAt_apply, hv]
  have e1 : (64 * b.val + 4 * o.val + a.val) / 64 = b.val := by omega
  have e2 : (64 * b.val + 4 * o.val + a.val) % 64 = H.val := by omega
  congr 2
  · exact Fin.ext (congrArg (2 * c.val + ·) e1)
  · exact Fin.ext e2

include hx hq hk hv in
theorem head_eq (o : Dev nD) (b : Fin 2) (h) (i : Fin 256) (y : Fin 256) :
    headC (fun e => queryC (wAt (F := Ideal) W o 0) (rx x ![b.val, 0, 0] h) i ⟨64 * (y.val / 64) + e.val, by omega⟩) (fun e j => kAt k o b ⟨y.val / 64, by omega⟩ (ix3 0 e j)) (fun j d => vAt v o b ⟨y.val / 64, by omega⟩ (ix3 0 j d)) i ⟨y.val % 64, by omega⟩
      = context X Wq K V (batch c b) i (hd (place o y)) (wi (place o y)) := by
  have h16 := dev_lt o
  have hH : (hd (place o y)).val = 4 * o.val + (⟨y.val / 64, by omega⟩ : Fin 4).val := by
    show (256 * o.val + y.val) / 64 = 4 * o.val + y.val / 64; omega
  have hw : (⟨y.val % 64, by omega⟩ : Fin 64) = wi (place o y) := Fin.ext (by
    show y.val % 64 = (256 * o.val + y.val) % 64; omega)
  have h1 : (fun e : Fin 64 => queryC (wAt (F := Ideal) W o 0) (rx x ![b.val, 0, 0] h) i ⟨64 * (y.val / 64) + e.val, by omega⟩) = fun e => query X Wq (batch c b) i (col (hd (place o y)) e) := funext fun e => by
    rw [queryC_eq W x X Wq c hx hq]
    refine congrArg (query X Wq (batch c b) i) (Fin.ext ?_)
    show 256 * o.val + (64 * (y.val / 64) + e.val) = (256 * o.val + y.val) / 64 * 64 + e.val
    omega
  have h2 : (fun (e : Fin 64) (j : Fin 256) => kAt k o b ⟨y.val / 64, by omega⟩ (ix3 0 e j)) = fun e j => K (ix4 (batch c b) j (hd (place o y)) e) :=
    funext fun e => funext fun j => keyC_eq k K c hk o b _ _ hH e j
  have h3 : (fun (j : Fin 256) (d : Fin 64) => vAt v o b ⟨y.val / 64, by omega⟩ (ix3 0 j d)) = fun j d => V (ix4 (batch c b) j (hd (place o y)) d) :=
    funext fun j => funext fun d => valC_eq v V c hv o b _ _ hH j d
  rw [h1, h2, h3, hw]
  rfl

include hx hq ho hk hv in
theorem part_eq (o : Dev nD) (b : Fin 2) (i : Fin 256) (n : Fin 512) :
    part W x k v b i n o
      = ∑ y : Fin 256, context X Wq K V (batch c b) i (hd (place o y)) (wi (place o y)) * (code (Wo (ix2 (place o y) n)) * scale) := by
  unfold part addC
  rw [show scale = ((10 / 16384 : ℝ) : EReal) from scale_eq, sum_mul_coe _ _ (by norm_num)]
  refine Finset.sum_congr rfl fun y _ => ?_
  rw [head_eq W x k v X Wq K V c hx hq hk hv, owC_eq W Wo ho, mul_assoc]

include hx hq ho hk hv in
theorem outEnd_eq (b : Fin 2) (i : Fin 256) (n : Fin 512) :
    outEnd W x k v c (ix3 b i n) = result X Wq K V Wo (batch c b) i n := by
  rw [outEnd_apply]
  refine (Finset.sum_congr rfl fun o _ => part_eq W x k v X Wq K V Wo c hx hq ho hk hv o b i n).trans ?_
  exact sum_places (fun x => context X Wq K V (batch c b) i (hd x) (wi x) * (code (Wo (ix2 x n)) * scale))

end Parts

/-- Device `c`'s result is its two batches of the attention. -/
theorem out_eq (m : (ℓ : Loc nD τ sig) → Buf (Elt Ideal) ℓ)
    (X : (⟨3, ![32, 256, 512]⟩ : Shape).Idx → EReal) (Wq : (⟨2, ![512, 4096]⟩ : Shape).Idx → EReal) (K V : (⟨4, ![32, 256, 64, 64]⟩ : Shape).Idx → EReal)
    (Wo : (⟨2, ![4096, 512]⟩ : Shape).Idx → EReal)
    (hX : ∀ c b i n, aX m c (ix3 b i n) = X (ix3 (batch c b) i n)) (hWq : ∀ c j d, aWq m c (ix2 j d) = Wq (ix2 j (place c d)))
    (hK : ∀ c, aK m c = K) (hV : ∀ c, aV m c = V) (hWo : ∀ c d n, aWo m c (ix2 d n) = Wo (ix2 (place c d) n))
    (c : Dev nD) (b : Fin 2) (i : Fin 256) (n : Fin 512) :
    outV m c (ix3 b i n) = result X Wq K V Wo (batch c b) i n := by
  refine outEnd_eq (Wall (pV m)) (xV m c) (kV m c) (vV m c) X Wq K V Wo c ?_ ?_ ?_ ?_ ?_ b i n
  · intro b i n
    rw [xV_eq]
    exact hX c b i n
  · intro o j d
    refine Eq.trans ?_ ((pV_top m o j d).trans (congrArg code (hWq o j d)))
    refine congrArg (FloatOps.sitofp (F := Ideal) .bf16) (wall_apply m o _ d _ ?_)
    show 512 * 0 + j.val = j.val; omega
  · intro o j d
    refine Eq.trans ?_ ((pV_low m o j d).trans (congrArg code (hWo o d j)))
    refine congrArg (FloatOps.sitofp (F := Ideal) .bf16) (wall_apply m o _ d _ ?_)
    show 512 * 1 + j.val = 512 + j.val; omega
  · intro h e j
    rw [kV_apply, hK]
  · intro h j e
    rw [vV_apply, hV]

end Cert.Value
-- ==== Proof.Value.RefIdx.lean ====
/- The reference's result read at an index. -/
module

public import proofs.«01_k».proof.Proof.Gen.ReferenceIdeal.Run
public import proofs.«01_k».proof.Proof.Value.Scalar

@[expose] public section

set_option maxRecDepth 16384

noncomputable section

namespace Cert.Value

open Idealize.ShloMosaic
open scoped BigOperators

open Cert.ReferenceIdeal Cert.ReferenceIdeal.Gen Cert.ReferenceIdeal.Value

/-- The reference's arguments and result as arrays of extended reals. -/
abbrev rX (m : (ℓ : Loc nD τ sig) → Buf (Elt Ideal) ℓ) (c : Dev nD) : (⟨3, ![32, 256, 512]⟩ : Shape).Idx → EReal := m (c.tc.loc main_arg0)
abbrev rWq (m : (ℓ : Loc nD τ sig) → Buf (Elt Ideal) ℓ) (c : Dev nD) : (⟨2, ![512, 4096]⟩ : Shape).Idx → EReal := m (c.tc.loc main_arg1)
abbrev rK (m : (ℓ : Loc nD τ sig) → Buf (Elt Ideal) ℓ) (c : Dev nD) : (⟨4, ![32, 256, 64, 64]⟩ : Shape).Idx → EReal := m (c.tc.loc main_arg2)
abbrev rV (m : (ℓ : Loc nD τ sig) → Buf (Elt Ideal) ℓ) (c : Dev nD) : (⟨4, ![32, 256, 64, 64]⟩ : Shape).Idx → EReal := m (c.tc.loc main_arg3)
abbrev rWo (m : (ℓ : Loc nD τ sig) → Buf (Elt Ideal) ℓ) (c : Dev nD) : (⟨2, ![4096, 512]⟩ : Shape).Idx → EReal := m (c.tc.loc main_arg4)
abbrev rOut (m : (ℓ : Loc nD τ sig) → Buf (Elt Ideal) ℓ) (c : Dev nD) : (⟨3, ![32, 256, 512]⟩ : Shape).Idx → EReal := res_main_v51 m c

/-- What the reference returns, at an index, as a sum over the columns of the second weight matrix. -/
theorem res_apply (m : (ℓ : Loc nD τ sig) → Buf (Elt Ideal) ℓ) (c : Dev nD) (B : Fin 32) (i : Fin 256) (n : Fin 512) :
    rOut m c (ix3 B i n)
      = ∑ x : Fin 4096, (∑ j : Fin 256, rV m c (ix4 B j (hd x) (wi x)) *
        Scalar.select (Finset.fold IntOp.ori (0#1) (fun j => near i j) Finset.univ)
          (Ideal.div (Ideal.exp (Scalar.select (near i j) (scoreR (rX m c) (rWq m c) (rK m c) B (hd x) i j) (Ideal.ofBits .f32 0xFF800000#32)
              - Finset.fold max (Ideal.ofBits .f32 0xFF800000#32) (fun j => Scalar.select (near i j) (scoreR (rX m c) (rWq m c) (rK m c) B (hd x) i j) (Ideal.ofBits .f32 0xFF800000#32)) Finset.univ))
            (Scalar.select (Finset.fold IntOp.ori (0#1) (fun j => near i j) Finset.univ)
              (∑ j : Fin 256, Ideal.exp (Scalar.select (near i j) (scoreR (rX m c) (rWq m c) (rK m c) B (hd x) i j) (Ideal.ofBits .f32 0xFF800000#32)
                - Finset.fold max (Ideal.ofBits .f32 0xFF800000#32) (fun j => Scalar.select (near i j) (scoreR (rX m c) (rWq m c) (rK m c) B (hd x) i j) (Ideal.ofBits .f32 0xFF800000#32)) Finset.univ)) (Ideal.ofBits .f32 0x3F800000#32)))
          (Ideal.ofBits .f32 0x00000000#32))
        * (code (rWo m c (ix2 x n)) * scale) := by
  generalize hR : (∑ x : Fin 4096, (∑ j : Fin 256, rV m c (ix4 B j (hd x) (wi x)) *
        Scalar.select (Finset.fold IntOp.ori (0#1) (fun j => near i j) Finset.univ)
          (Ideal.div (Ideal.exp (Scalar.select (near i j) (scoreR (rX m c) (rWq m c) (rK m c) B (hd x) i j) (Ideal.ofBits .f32 0xFF800000#32)
              - Finset.fold max (Ideal.ofBits .f32 0xFF800000#32) (fun j => Scalar.select (near i j) (scoreR (rX m c) (rWq m c) (rK m c) B (hd x) i j) (Ideal.ofBits .f32 0xFF800000#32)) Finset.univ))
            (Scalar.select (Finset.fold IntOp.ori (0#1) (fun j => near i j) Finset.univ)
              (∑ j : Fin 256, Ideal.exp (Scalar.select (near i j) (scoreR (rX m c) (rWq m c) (rK m c) B (hd x) i j) (Ideal.ofBits .f32 0xFF800000#32)
                - Finset.fold max (Ideal.ofBits .f32 0xFF800000#32) (fun j => Scalar.select (near i j) (scoreR (rX m c) (rWq m c) (rK m c) B (hd x) i j) (Ideal.ofBits .f32 0xFF800000#32)) Finset.univ)) (Ideal.ofBits .f32 0x3F800000#32)))
          (Ideal.ofBits .f32 0x00000000#32))
        * (code (rWo m c (ix2 x n)) * scale) : EReal) = R
  pointwise [rOut, res_main_v51]
  rw [← hR]
  rfl

/-- At finite inputs and keys it is the attention of the arguments. -/
theorem res_eq (m : (ℓ : Loc nD τ sig) → Buf (Elt Ideal) ℓ) (c : Dev nD)
    (hX : ∀ a, ∃ r : ℝ, rX m c a = (r : EReal))
    (hK : ∀ a, ∃ r : ℝ, rK m c a = (r : EReal)) (B : Fin 32) (i : Fin 256) (n : Fin 512) :
    rOut m c (ix3 B i n)
      = result (rX m c) (rWq m c) (rK m c) (rV m c) (rWo m c) B i n := by
  rw [res_apply]
  unfold result
  refine Finset.sum_congr rfl fun x _ => ?_
  congr 1
  have hs := score_real _ (rWq m c) _ hX hK B (hd x) i
  choose s h1 h2 using hs
  unfold context
  simp only [any_near, h1, h2, ofBits_neg_inf]
  exact softmax (near i) s (fun j => rV m c (ix4 B j (hd x) (wi x))) i (near_self i)

end Cert.Value
-- ==== Proof.Value.Final.lean ====
/- What the precondition says, and how the arguments are cut over the devices. -/
module

public import proofs.«01_k».proof.Proof.Value.Agree
public import proofs.«01_k».proof.Proof.Value.RefIdx
public import proofs.«01_k».proof.Pre_finite_KernelIdeal
public import Idealize.ShloMosaic.Lib.ReduceAll
public import Idealize.ShloMosaic.Lib.Layout
public import Idealize.ShloMosaic.Lib.Pointwise

@[expose] public section

set_option maxRecDepth 16384

noncomputable section

namespace Cert.Value

open Idealize.ShloMosaic
open scoped BigOperators

instance : Subsingleton Cert.Pre_finite_KernelIdeal.S_.Idx := ⟨fun _ _ => funext fun i => i.elim0⟩

theorem and_one : ∀ a b : BitVec 1, IntOp.andi a b = 1#1 → a = 1#1 ∧ b = 1#1 := by decide

theorem finite_of [Cert.Pre_finite_KernelIdeal.Facts] (a0 : (⟨3, ![2, 256, 512]⟩ : Shape).Idx → EReal) (a1 : (⟨2, ![512, 256]⟩ : Shape).Idx → EReal) (a2 a3 : (⟨4, ![32, 256, 64, 64]⟩ : Shape).Idx → EReal) (a4 : (⟨2, ![256, 512]⟩ : Shape).Idx → EReal)
    (h : Cert.Pre_finite_KernelIdeal.fn (F := Ideal) a0 a1 a2 a3 a4 = fun _ => 1#1) :
    (∀ i, ∃ r : ℝ, a0 i = (r : EReal)) ∧ ∀ i, ∃ r : ℝ, a2 i = (r : EReal) := by
  have e := congrFun h (Shape.Idx.first Cert.Pre_finite_KernelIdeal.Facts.h_S_)
  obtain ⟨e0, e2⟩ := and_one _ _ e
  have f0 := Host.reduce_andi_all _ _ _ _ _ e0
  have f2 := Host.reduce_andi_all _ _ _ _ _ e2
  have key : ∀ y : EReal, FloatOps.cmpf (F := Ideal) (φ := .bf16) .olt (FloatOps.absf (F := Ideal) (φ := .bf16) y) (Ideal.ofBits .bf16 0x7F80#16) = 1#1 → ∃ r : ℝ, y = (r : EReal) := by
    intro y hy
    rw [show Ideal.ofBits .bf16 0x7F80#16 = ⊤ by simp [Ideal.ofBits, Ideal.ieee]] at hy
    have hlt : max y (-y) < ⊤ := by
      by_contra hn
      have : FloatOps.cmpf (F := Ideal) (φ := .bf16) .olt (FloatOps.absf (F := Ideal) (φ := .bf16) y) ⊤ = BitVec.ofBool (decide (max y (-y) < ⊤)) := rfl
      rw [this, decide_eq_false hn] at hy
      exact absurd hy (by decide)
    induction y using EReal.rec with
    | bot => simp at hlt
    | top => simp at hlt
    | coe r => exact ⟨r, rfl⟩
  exact ⟨fun i => key _ (f0 i), fun i => key _ (f2 i)⟩

theorem block_apply3 (c : Fin 16) (X : (⟨3, ![32, 256, 512]⟩ : Shape).Idx → EReal) (b : Fin 2) (i : Fin 256) (n : Fin 512) :
    (Layout.block ⟨3, ![2, 256, 512]⟩ ⟨3, ![32, 256, 512]⟩ 0 16 c X) (ix3 b i n) = X (ix3 (batch c b) i n) := by
  rw [Layout.block_apply]
  refine congrArg X (funext fun a => Fin.ext ?_)
  rw [Layout.Tiles.idx_val]
  fin_cases a
  · show c.val * 2 + b.val = 2 * c.val + b.val; omega
  · rfl
  · rfl
theorem block_applyQ (c : Fin 16) (W : (⟨2, ![512, 4096]⟩ : Shape).Idx → EReal) (j : Fin 512) (d : Fin 256) :
    (Layout.block ⟨2, ![512, 256]⟩ ⟨2, ![512, 4096]⟩ 1 16 c W) (ix2 j d) = W (ix2 j (place c d)) := by
  rw [Layout.block_apply]
  refine congrArg W (funext fun a => Fin.ext ?_)
  rw [Layout.Tiles.idx_val]
  fin_cases a
  · rfl
  · show c.val * 256 + d.val = 256 * c.val + d.val; omega
theorem block_applyO (c : Fin 16) (W : (⟨2, ![4096, 512]⟩ : Shape).Idx → EReal) (d : Fin 256) (n : Fin 512) :
    (Layout.block ⟨2, ![256, 512]⟩ ⟨2, ![4096, 512]⟩ 0 16 c W) (ix2 d n) = W (ix2 (place c d) n) := by
  rw [Layout.block_apply]
  refine congrArg W (funext fun a => Fin.ext ?_)
  rw [Layout.Tiles.idx_val]
  fin_cases a
  · show c.val * 256 + d.val = 256 * c.val + d.val; omega
  · rfl

/-- Every whole batch is a batch of some device. -/
theorem batch_onto (B : Fin 32) : ∃ (c : Fin 16) (b : Fin 2), batch c b = B :=
  ⟨⟨B.val / 2, by omega⟩, ⟨B.val % 2, by omega⟩, Fin.ext (by show 2 * (B.val / 2) + B.val % 2 = B.val; omega)⟩

theorem ix3_eta {a b c : ℕ} (z : (⟨3, ![a, b, c]⟩ : Shape).Idx) : z = ix3 (z 0) (z 1) (z 2) := by
  funext d; fin_cases d <;> rfl

theorem block_eta {p q r : ℕ} (f g : (⟨3, ![p, q, r]⟩ : Shape).Idx → EReal) (h : ∀ b i n, f (ix3 b i n) = g (ix3 b i n)) : f = g :=
  funext fun z => (congrArg f (ix3_eta z)).trans ((h _ _ _).trans (congrArg g (ix3_eta z)).symm)

/-- The kernel leaves on each device its block of what the reference returns. -/
theorem agree [Cert.Pre_finite_KernelIdeal.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : ∀ c, Cert.Pre_finite_KernelIdeal.fn (F := Ideal) (aX m c) (aWq m c) (aK m c) (aV m c) (aWo m c) = fun _ => 1#1)
    (h0 : ∀ c, aX m c = Layout.block ⟨3, ![2, 256, 512]⟩ ⟨3, ![32, 256, 512]⟩ 0 16 c (rX m' 0))
    (h1 : ∀ c, aWq m c = Layout.block ⟨2, ![512, 256]⟩ ⟨2, ![512, 4096]⟩ 1 16 c (rWq m' 0))
    (h2 : ∀ c, aK m c = rK m' 0) (h3 : ∀ c, aV m c = rV m' 0)
    (h4 : ∀ c, aWo m c = Layout.block ⟨2, ![256, 512]⟩ ⟨2, ![4096, 512]⟩ 0 16 c (rWo m' 0)) (c : Dev Cert.KernelIdeal.nD) :
    (Cert.KernelIdeal.Run.outV m c : (⟨3, ![2, 256, 512]⟩ : Shape).Idx → EReal) = Layout.block ⟨3, ![2, 256, 512]⟩ ⟨3, ![32, 256, 512]⟩ 0 16 c (rOut m' 0) := by
  have hX' : ∀ (B : Fin 32) (i : Fin 256) (n : Fin 512), ∃ r : ℝ, rX m' 0 (ix3 B i n) = (r : EReal) := fun B i n => by
    obtain ⟨d, b, hb⟩ := batch_onto B
    obtain ⟨r, hr⟩ := (finite_of _ _ _ _ _ (hp d)).1 (ix3 b i n)
    rw [h0 d, block_apply3, hb] at hr
    exact ⟨r, hr⟩
  have hX : ∀ a, ∃ r : ℝ, rX m' 0 a = (r : EReal) := fun a => by
    obtain ⟨r, hr⟩ := hX' (a 0) (a 1) (a 2)
    exact ⟨r, (congrArg (rX m' 0) (ix3_eta a)).trans hr⟩
  have hK : ∀ a, ∃ r : ℝ, rK m' 0 a = (r : EReal) := fun a => by
    obtain ⟨r, hr⟩ := (finite_of _ _ _ _ _ (hp 0)).2 a
    exact ⟨r, by rw [← h2 0]; exact hr⟩
  refine block_eta _ _ fun b i n => ?_
  refine (out_eq m (rX m' 0) (rWq m' 0) (rK m' 0) (rV m' 0) (rWo m' 0) ?_ ?_ h2 h3 ?_ c b i n).trans ?_
  · intro c b i n; rw [h0 c, block_apply3]
  · intro c j d; rw [h1 c, block_applyQ]
  · intro c d n; rw [h4 c, block_applyO]
  · rw [block_apply3]
    exact (res_eq m' 0 hX hK (batch c b) i n).symm

end Cert.Value
-- ==== Proof.lean ====
/- The claims of this certificate. -/
module

public import proofs.«01_k».proof.Defs
public import proofs.«01_k».proof.Proof.Run.Launch
public import proofs.«01_k».proof.Proof.Run.Same
public import proofs.«01_k».proof.Proof.Gen.ReferenceIdeal
public import proofs.«01_k».proof.Proof.Gen.ReferenceIdeal.Run
public import proofs.«01_k».proof.Proof.Value.Final
public import proofs.«01_k».proof.Proof.Gen.Kernel
public import proofs.«01_k».proof.Proof.Gen.KernelIdeal

@[expose] public section

set_option maxRecDepth 100000
set_option maxHeartbeats 4000000

noncomputable section

namespace Cert.Proof

open Idealize.ShloMosaic Idealize.SL.Sem

/-- In words: the run over any floats, read at the printed kernel's names. -/
theorem kernel_quiet : Cert.quiescent_Kernel := fun m g _ => by
  have h := Cert.KernelIdeal.Run.run_main (F := Bits) m g
  rw [← same_defs] at h
  exact (θ_run _ _ _).mono (fun _ h => ⟨fun c => (h.1 c).2, h.2⟩) h

/-- Over the reals: the same run. -/
theorem ideal_quiet : Cert.quiescent_KernelIdeal := fun m g _ =>
  (θ_run _ _ _).mono (fun _ h => ⟨fun c => (h.1 c).2, h.2⟩) (Cert.KernelIdeal.Run.run_main (F := Ideal) m g)

/-- The reference is a straight-line host program that declares no semaphore. -/
theorem reference_quiet : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The side conditions of the precondition, at one device's shapes and at the whole arguments'. -/
theorem finite_block : Cert.Pre_finite_KernelIdeal.Facts := ⟨by decide, by decide, by decide, by decide, by decide⟩
theorem finite_whole : Cert.Pre_finite_ReferenceIdeal.Facts := ⟨by decide, by decide, by decide, by decide, by decide⟩

theorem ideal_quiet_finite [Cert.Pre_finite_KernelIdeal.Facts] : Cert.quiescent_KernelIdeal_pre_finite_KernelIdeal := fun m g _ => ideal_quiet m g trivial

theorem reference_quiet_finite [Cert.Pre_finite_ReferenceIdeal.Facts] : Cert.quiescent_ReferenceIdeal_pre_finite_ReferenceIdeal := fun m g _ => reference_quiet m g trivial

/-- The kernel's blocks are the blocks of what the reference returns. -/
theorem value [Cert.Pre_finite_KernelIdeal.Facts] : Cert.algebraic_KernelIdeal_ReferenceIdeal_pre_finite_KernelIdeal := fun m g m' g' hp hag =>
  ⟨Cert.Value.rOut m' 0,
    (θ_run _ _ _).mono (fun _ h c => ⟨(h.1 c).1.trans (Cert.Value.agree m m' hp (fun c => (hag c).1) (fun c => (hag c).2.1) (fun c => (hag c).2.2.1) (fun c => (hag c).2.2.2.1) (fun c => (hag c).2.2.2.2) c), (h.1 c).2⟩)
      (Cert.KernelIdeal.Run.run_main (F := Ideal) m g),
    (θ_run Cert.ReferenceIdeal.defs _ _).mono (fun _ h => h 0) (Cert.ReferenceIdeal.Value.run (F := Ideal) m' g')⟩

theorem claim : Cert.Claim :=
  ⟨inferInstance, inferInstance, inferInstance, finite_block, finite_whole, kernel_quiet, ideal_quiet, (haveI := finite_block; ideal_quiet_finite), reference_quiet,
    (haveI := finite_whole; reference_quiet_finite), trivial, (haveI := finite_block; value)⟩

end Cert.Proof
